-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v27_0)) (v1 : (c : Dev Cert.Kernel3Ideal.nD) → Buf (Elt Ideal) ((c.tc : Thread Cert.Kernel3Ideal.nD Cert.Kernel3Ideal.τ).loc Cert.Kernel3Ideal.main_v27_1)) (v2 : (c : Dev Cert.Kernel3Ideal.nD) → Buf (Elt Ideal) ((c.tc : Thread Cert.Kernel3Ideal.nD Cert.Kernel3Ideal.τ).loc Cert.Kernel3Ideal.main_v27_2)) (v3 : (c : Dev Cert.Kernel3Ideal.nD) → Buf (Elt Ideal) ((c.tc : Thread Cert.Kernel3Ideal.nD Cert.Kernel3Ideal.τ).loc Cert.Kernel3Ideal.main_v27_3)) (v4 : (c : Dev Cert.Kernel3Ideal.nD) → Buf (Elt Ideal) ((c.tc : Thread Cert.Kernel3Ideal.nD Cert.Kernel3Ideal.τ).loc Cert.Kernel3Ideal.main_v27_4)) (v5 : (c : Dev Cert.Kernel3Ideal.nD) → Buf (Elt Ideal) ((c.tc : Thread Cert.Kernel3Ideal.nD Cert.Kernel3Ideal.τ).loc Cert.Kernel3Ideal.main_v27_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v27_0) = v0 c
          ∧ r.2.mem ((c.tc : Thread Cert.Kernel3Ideal.nD Cert.Kernel3Ideal.τ).loc Cert.Kernel3Ideal.main_v27_1) = v1 c
          ∧ r.2.mem ((c.tc : Thread Cert.Kernel3Ideal.nD Cert.Kernel3Ideal.τ).loc Cert.Kernel3Ideal.main_v27_2) = v2 c
          ∧ r.2.mem ((c.tc : Thread Cert.Kernel3Ideal.nD Cert.Kernel3Ideal.τ).loc Cert.Kernel3Ideal.main_v27_3) = v3 c
          ∧ r.2.mem ((c.tc : Thread Cert.Kernel3Ideal.nD Cert.Kernel3Ideal.τ).loc Cert.Kernel3Ideal.main_v27_4) = v4 c
          ∧ r.2.mem ((c.tc : Thread Cert.Kernel3Ideal.nD Cert.Kernel3Ideal.τ).loc Cert.Kernel3Ideal.main_v27_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v62) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_v63) = v3 c
          ∧ r.2.mem ((c.tc : Thread Cert.Reference3Ideal.nD Cert.Reference3Ideal.τ).loc Cert.Reference3Ideal.main_v24) = v4 c
          ∧ r.2.mem ((c.tc : Thread Cert.Reference3Ideal.nD Cert.Reference3Ideal.τ).loc Cert.Reference3Ideal.main_v64) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v96) = v0 c
          ∧ r.2.mem ((c.tc : Thread Cert.Reference4Ideal.nD Cert.Reference4Ideal.τ).loc Cert.Reference4Ideal.main_v77) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v50_5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v79) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
-- ==== Pre_finite.lean ====
abbrev S16384x1024 : Shape := ⟨2, ![16384, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x256 : Shape := ⟨4, ![1, 16, 1024, 256]⟩
abbrev S1x16x256x1024 : Shape := ⟨4, ![1, 16, 256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x4 : S_.BroadcastsInDim S1x1024x4 (![] : Fin 0 → Fin S1x1024x4.rank)
  reducesTo_S1x1024x4_S_d0_1_2 : S1x1024x4.ReducesTo [0, 1, 2] S_
  bcast_S_S1x4 : S_.BroadcastsInDim S1x4 (![] : Fin 0 → Fin S1x4.rank)
  reducesTo_S1x4_S_d0_1 : S1x4.ReducesTo [0, 1] S_
  bcast_S_S1x1024x16 : S_.BroadcastsInDim S1x1024x16 (![] : Fin 0 → Fin S1x1024x16.rank)
  reducesTo_S1x1024x16_S_d0_1_2 : S1x1024x16.ReducesTo [0, 1, 2] S_
  bcast_S_S1x16 : S_.BroadcastsInDim S1x16 (![] : Fin 0 → Fin S1x16.rank)
  reducesTo_S1x16_S_d0_1 : S1x16.ReducesTo [0, 1] S_
  bcast_S_S1x16x1024x256 : S_.BroadcastsInDim S1x16x1024x256 (![] : Fin 0 → Fin S1x16x1024x256.rank)
  reducesTo_S1x16x1024x256_S_d0_1_2_3 : S1x16x1024x256.ReducesTo [0, 1, 2, 3] S_

variable [Facts]

def fn_part1 {F : FTy → Type} [FloatOps F] (main_arg4 : FVec F S1x1024x16 .f32) (main_arg5 : FVec F S1x16 .f32) (main_arg6 : FVec F S1x16x1024x256 .f32) (main_v13 : IVec S_ 1) (main_v16 : IVec S1x4 1) : IVec S_ 1 :=
  let main_c_5 : IVec S_ 1 := constantI S_ 1 1#1
  let main_v17 : IVec S_ 1 := (fun x v => Host.reduce IntOp.andi x v reducesTo_S1x4_S_d0_1 h_S_) main_v16 main_c_5
  let main_v18 : IVec S_ 1 := andi main_v13 main_v17
  let main_v19 : FVec F S1x1024x16 .f32 := Host.absf main_arg4
  let main_cst_6 : FVec F S_ .f32 := constant S_ .f32 0x7F800000#32
  let main_v20 : FVec F S1x1024x16 .f32 := broadcastInDim S1x1024x16 ![] bcast_S_S1x1024x16 main_cst_6
  let main_v21 : IVec S1x1024x16 1 := cmpf .olt main_v19 main_v20
  let main_c_7 : IVec S_ 1 := constantI S_ 1 1#1
  let main_v22 : IVec S_ 1 := (fun x v => Host.reduce IntOp.andi x v reducesTo_S1x1024x16_S_d0_1_2 h_S_) main_v21 main_c_7
  let main_v23 : IVec S_ 1 := andi main_v18 main_v22
  let main_v24 : FVec F S1x16 .f32 := Host.absf main_arg5
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1x16x1024x256 .f32 := Host.absf main_arg6
  let main_cst_10 : FVec F S_ .f32 := constant S_ .f32 0x7F800000#32
  let main_v30 : FVec F S1x16x1024x256 .f32 := broadcastInDim S1x16x1024x256 ![] bcast_S_S1x16x1024x256 main_cst_10
  let main_v31 : IVec S1x16x1024x256 1 := cmpf .olt main_v29 main_v30
  let main_c_11 : IVec S_ 1 := constantI S_ 1 1#1
  let main_v32 : IVec S_ 1 := (fun x v => Host.reduce IntOp.andi x v reducesTo_S1x16x1024x256_S_d0_1_2_3 h_S_) main_v31 main_c_11
  let main_v33 : IVec S_ 1 := andi main_v28 main_v32
  main_v33

def fn {F : FTy → Type} [FloatOps F] (main_arg0 : FVec F S16384x1024 .f32) (main_arg1 : FVec F S1x1024 .f32) (main_arg2 : FVec F S1x1024x4 .f32) (main_arg3 : FVec F S1x4 .f32) (main_arg4 : FVec F S1x1024x16 .f32) (main_arg5 : FVec F S1x16 .f32) (main_arg6 : FVec F S1x16x1024x256 .f32) (main_arg7 : FVec F S1x16x1024x256 .f32) (main_arg8 : FVec F S1x16x256x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x4 .f32 := Host.absf main_arg2
  let main_cst_2 : FVec F S_ .f32 := constant S_ .f32 0x7F800000#32
  let main_v10 : FVec F S1x1024x4 .f32 := broadcastInDim S1x1024x4 ![] bcast_S_S1x1024x4 main_cst_2
  let main_v11 : IVec S1x1024x4 1 := cmpf .olt main_v9 main_v10
  let main_c_3 : IVec S_ 1 := constantI S_ 1 1#1
  let main_v12 : IVec S_ 1 := (fun x v => Host.reduce IntOp.andi x v reducesTo_S1x1024x4_S_d0_1_2 h_S_) main_v11 main_c_3
  let main_v13 : IVec S_ 1 := andi main_v8 main_v12
  let main_v14 : FVec F S1x4 .f32 := Host.absf main_arg3
  let main_cst_4 : FVec F S_ .f32 := constant S_ .f32 0x7F800000#32
  let main_v15 : FVec F S1x4 .f32 := broadcastInDim S1x4 ![] bcast_S_S1x4 main_cst_4
  let main_v16 : IVec S1x4 1 := cmpf .olt main_v14 main_v15
  fn_part1 (F := F) main_arg4 main_arg5 main_arg6 main_v13 main_v16
-- ==== Pre_finite3.lean ====
abbrev S16x1024 : Shape := ⟨2, ![16, 1024]⟩
abbrev S32x8x1024 : Shape := ⟨3, ![32, 8, 1024]⟩
abbrev S1x1024 : Shape := ⟨2, ![1, 1024]⟩
abbrev S1x1024x5632 : Shape := ⟨3, ![1, 1024, 5632]⟩
abbrev S1x64 : Shape := ⟨2, ![1, 64]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S32x8x1024 : S_.BroadcastsInDim S32x8x1024 (![] : Fin 0 → Fin S32x8x1024.rank)
  reducesTo_S32x8x1024_S_d0_1_2 : S32x8x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_

variable [Facts]

def fn_part1 {F : FTy → Type} [FloatOps F] (main_v13 : IVec S_ 1) (main_v16 : IVec S1x1024x5632 1) : IVec S_ 1 :=
  let main_c_5 : IVec S_ 1 := constantI S_ 1 1#1
  let main_v17 : IVec S_ 1 := (fun x v => Host.reduce IntOp.andi x v reducesTo_S1x1024x5632_S_d0_1_2 h_S_) main_v16 main_c_5
  let main_v18 : IVec S_ 1 := andi main_v13 main_v17
  main_v18

def fn {F : FTy → Type} [FloatOps F] (main_arg0 : FVec F S16x1024 .f32) (main_arg1 : FVec F S32x8x1024 .f32) (main_arg2 : FVec F S1x1024 .f32) (main_arg3 : FVec F S1x1024x5632 .f32) (main_arg4 : FVec F S1x64 .f32) (main_arg5 : FVec F S1x64 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S32x8x1024 .f32 := Host.absf main_arg1
  let main_cst_0 : FVec F S_ .f32 := constant S_ .f32 0x7F800000#32
  let main_v5 : FVec F S32x8x1024 .f32 := broadcastInDim S32x8x1024 ![] bcast_S_S32x8x1024 main_cst_0
  let main_v6 : IVec S32x8x1024 1 := cmpf .olt main_v4 main_v5
  let main_c_1 : IVec S_ 1 := constantI S_ 1 1#1
  let main_v7 : IVec S_ 1 := (fun x v => Host.reduce IntOp.andi x v reducesTo_S32x8x1024_S_d0_1_2 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x5632 .f32 := Host.absf main_arg3
  let main_cst_4 : FVec F S_ .f32 := constant S_ .f32 0x7F800000#32
  let main_v15 : FVec F S1x1024x5632 .f32 := broadcastInDim S1x1024x5632 ![] bcast_S_S1x1024x5632 main_cst_4
  let main_v16 : IVec S1x1024x5632 1 := cmpf .olt main_v14 main_v15
  fn_part1 (F := F) main_v13 main_v16
-- ==== Pre_finite4.lean ====
abbrev S32x8x2048 : Shape := ⟨3, ![32, 8, 2048]⟩
abbrev S2x512 : Shape := ⟨2, ![2, 512]⟩
abbrev S1x128 : Shape := ⟨2, ![1, 128]⟩
abbrev S1x32x4x128x128 : Shape := ⟨5, ![1, 32, 4, 128, 128]⟩
abbrev S32x8x512 : Shape := ⟨3, ![32, 8, 512]⟩
abbrev S_ : Shape := ⟨0, ![]⟩

class Facts : Prop where
  slices_S32x8x2048_S32x8x512_0_0_0 : S32x8x2048.Slices ![0, 0, 0] S32x8x512
  bcast_S_S32x8x512 : S_.BroadcastsInDim S32x8x512 (![] : Fin 0 → Fin S32x8x512.rank)
  reducesTo_S32x8x512_S_d0_1_2 : S32x8x512.ReducesTo [0, 1, 2] S_
  h_S_ : 0 < S_.numel
  slices_S32x8x2048_S32x8x512_0_0_1536 : S32x8x2048.Slices ![0, 0, 1536] S32x8x512
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S32x8x2048 .f32) (main_arg1 : FVec F S2x512 .f32) (main_arg2 : FVec F S1x128 .f32) (main_arg3 : FVec F S1x32x4x128x128 .f32) : IVec S_ 1 :=
  let main_v0 : FVec F S32x8x512 .f32 := (extractStridedSlice S32x8x512 ![0, 0, 0] · slices_S32x8x2048_S32x8x512_0_0_0) main_arg0
  let main_v1 : FVec F S32x8x512 .f32 := Host.absf main_v0
  let main_cst : FVec F S_ .f32 := constant S_ .f32 0x7F800000#32
  let main_v2 : FVec F S32x8x512 .f32 := broadcastInDim S32x8x512 ![] bcast_S_S32x8x512 main_cst
  let main_v3 : IVec S32x8x512 1 := cmpf .olt main_v1 main_v2
  let main_c : IVec S_ 1 := constantI S_ 1 1#1
  let main_v4 : IVec S_ 1 := (fun x v => Host.reduce IntOp.andi x v reducesTo_S32x8x512_S_d0_1_2 h_S_) main_v3 main_c
  let main_v5 : FVec F S32x8x512 .f32 := (extractStridedSlice S32x8x512 ![0, 0, 1536] · slices_S32x8x2048_S32x8x512_0_0_1536) main_arg0
  let main_v6 : FVec F S32x8x512 .f32 := Host.absf main_v5
  let main_cst_0 : FVec F S_ .f32 := constant S_ .f32 0x7F800000#32
  let main_v7 : FVec F S32x8x512 .f32 := broadcastInDim S32x8x512 ![] bcast_S_S32x8x512 main_cst_0
  let main_v8 : IVec S32x8x512 1 := cmpf .olt main_v6 main_v7
  let main_c_1 : IVec S_ 1 := constantI S_ 1 1#1
  let main_v9 : IVec S_ 1 := (fun x v => Host.reduce IntOp.andi x v reducesTo_S32x8x512_S_d0_1_2 h_S_) main_v8 main_c_1
  let main_v10 : IVec S_ 1 := andi main_v4 main_v9
  let main_v11 : FVec F S2x512 .f32 := Host.absf main_arg1
  let main_cst_2 : FVec F S_ .f32 := constant S_ .f32 0x7F800000#32
  let main_v12 : FVec F S2x512 .f32 := broadcastInDim S2x512 ![] bcast_S_S2x512 main_cst_2
  let main_v13 : IVec S2x512 1 := cmpf .olt main_v11 main_v12
  let main_c_3 : IVec S_ 1 := constantI S_ 1 1#1
  let main_v14 : IVec S_ 1 := (fun x v => Host.reduce IntOp.andi x v reducesTo_S2x512_S_d0_1 h_S_) main_v13 main_c_3
  let main_v15 : IVec S_ 1 := andi main_v10 main_v14
  main_v15
-- ==== Pre_finite5.lean ====
abbrev S2x8192x2048 : Shape := ⟨3, ![2, 8192, 2048]⟩
abbrev S2x512 : Shape := ⟨2, ![2, 512]⟩
abbrev S1x128 : Shape := ⟨2, ![1, 128]⟩
abbrev S1x4x128x128 : Shape := ⟨4, ![1, 4, 128, 128]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x8192x2048 .f32) (main_arg1 : FVec F S2x512 .f32) (main_arg2 : FVec F S1x128 .f32) (main_arg3 : FVec F S1x4x128x128 .f32) : IVec S_ 1 :=
  let main_v0 : FVec F S2x512 .f32 := Host.absf main_arg1
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== Kernel.lean ====
abbrev S16384x1024 : Shape := ⟨2, ![16384, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S1024x4 : Shape := ⟨2, ![1024, 4]⟩
abbrev S1024x16 : Shape := ⟨2, ![1024, 16]⟩
abbrev S_ : Shape := ⟨0, ![]⟩
abbrev S1024x108 : Shape := ⟨2, ![1024, 108]⟩
abbrev S1024x128 : Shape := ⟨2, ![1024, 128]⟩
abbrev S4 : Shape := ⟨1, ![4]⟩
abbrev S16 : Shape := ⟨1, ![16]⟩
abbrev S108 : Shape := ⟨1, ![108]⟩
abbrev S128 : Shape := ⟨1, ![128]⟩
abbrev S1x128 : Shape := ⟨2, ![1, 128]⟩
abbrev S16x1024x256 : Shape := ⟨3, ![16, 1024, 256]⟩
abbrev S16x256x1024 : Shape := ⟨3, ![16, 256, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 33
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x4, .f32⟩
  | .hbm, ⟨3, _⟩ => ⟨S1x4, .f32⟩
  | .hbm, ⟨4, _⟩ => ⟨S1x1024x16, .f32⟩
  | .hbm, ⟨5, _⟩ => ⟨S1x16, .f32⟩
  | .hbm, ⟨6, _⟩ => ⟨S1x16x1024x256, .f32⟩
  | .hbm, ⟨7, _⟩ => ⟨S1x16x1024x256, .f32⟩
  | .hbm, ⟨8, _⟩ => ⟨S1x16x256x1024, .f32⟩
  | .hbm, ⟨9, _⟩ => ⟨S1024, .f32⟩
  | .hbm, ⟨10, _⟩ => ⟨S1x1024, .f32⟩
  | .hbm, ⟨11, _⟩ => ⟨S1024x4, .f32⟩
  | .hbm, ⟨12, _⟩ => ⟨S1024x16, .f32⟩
  | .hbm, ⟨13, _⟩ => ⟨S_, .f32⟩
  | .hbm, ⟨14, _⟩ => ⟨S1024x108, .f32⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .f32⟩
  | .hbm, ⟨19, _⟩ => ⟨S1024x128, .bf16⟩
  | .hbm, ⟨20, _⟩ => ⟨S4, .f32⟩
  | .hbm, ⟨21, _⟩ => ⟨S16, .f32⟩
  | .hbm, ⟨22, _⟩ => ⟨S_, .f32⟩
  | .hbm, ⟨23, _⟩ => ⟨S108, .f32⟩
  | .hbm, ⟨24, _⟩ => ⟨S128, .f32⟩
  | .hbm, ⟨25, _⟩ => ⟨S1x128, .f32⟩
  | .hbm, ⟨26, _⟩ => ⟨S16x1024x256, .f32⟩
  | .hbm, ⟨27, _⟩ => ⟨S16x1024x256, .bf16⟩
  | .hbm, ⟨28, _⟩ => ⟨S16x1024x256, .f32⟩
  | .hbm, ⟨29, _⟩ => ⟨S16x1024x256, .bf16⟩
  | .hbm, ⟨30, _⟩ => ⟨S16x256x1024, .f32⟩
  | .hbm, ⟨31, _⟩ => ⟨S16x256x1024, .bf16⟩
  | .hbm, ⟨32, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .bf16⟩
  | .local _ .vmem, ⟨4, _⟩ => ⟨S1024x128, .bf16⟩
  | .local _ .vmem, ⟨5, _⟩ => ⟨S1x128, .f32⟩
  | .local _ .vmem, ⟨6, _⟩ => ⟨S16x1024x256, .bf16⟩
  | .local _ .vmem, ⟨7, _⟩ => ⟨S16x1024x256, .bf16⟩
  | .local _ .vmem, ⟨8, _⟩ => ⟨S16x256x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x1024 : Shape := ⟨2, ![16384, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1x16x1024x256 : Shape := ⟨4, ![1, 16, 1024, 256]⟩
abbrev S1x16x256x1024 : Shape := ⟨4, ![1, 16, 256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S16384x4 : Shape := ⟨2, ![16384, 4]⟩
abbrev S16384x1x1 : Shape := ⟨3, ![16384, 1, 1]⟩
abbrev S1 : Shape := ⟨1, ![1]⟩
abbrev S1x1x1 : Shape := ⟨3, ![1, 1, 1]⟩
abbrev S16384x16 : Shape := ⟨2, ![16384, 16]⟩
abbrev S16384x4x4 : Shape := ⟨3, ![16384, 4, 4]⟩
abbrev S16384x1x4 : Shape := ⟨3, ![16384, 1, 4]⟩
abbrev S16384x2 : Shape := ⟨2, ![16384, 2]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16x256 : Shape := ⟨3, ![16384, 16, 256]⟩
abbrev S16384x16x1 : Shape := ⟨3, ![16384, 16, 1]⟩

abbrev nBuf : Space → Nat
  | .hbm => 163
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x4, .f32⟩
  | 3 => ⟨S1x4, .f32⟩
  | 4 => ⟨S1x1024x16, .f32⟩
  | 5 => ⟨S1x16, .f32⟩
  | 6 => ⟨S1x16x1024x256, .f32⟩
  | 7 => ⟨S1x16x1024x256, .f32⟩
  | 8 => ⟨S1x16x256x1024, .f32⟩
  | 9 => ⟨S1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S1024x4, .f32⟩
  | 27 => ⟨S4, .f32⟩
  | 28 => ⟨S1024x16, .f32⟩
  | 29 => ⟨S16, .f32⟩
  | 30 => ⟨S16x1024x256, .f32⟩
  | 31 => ⟨S16x1024x256, .f32⟩
  | 32 => ⟨S16x256x1024, .f32⟩
  | 33 => ⟨S16384x4, .f32⟩
  | 34 => ⟨S1x4, .f32⟩
  | 35 => ⟨S16384x4, .f32⟩
  | 36 => ⟨S16384x4, .f32⟩
  | 37 => ⟨S_, .f32⟩
  | 38 => ⟨S16384, .f32⟩
  | 39 => ⟨S_, .f32⟩
  | 40 => ⟨S16384, .f32⟩
  | 41 => ⟨S16384, .f32⟩
  | 42 => ⟨S16384x1, .f32⟩
  | 43 => ⟨S16384x4, .f32⟩
  | 44 => ⟨S16384x4, .f32⟩
  | 45 => ⟨S16384x4, .f32⟩
  | 46 => ⟨S_, .f32⟩
  | 47 => ⟨S16384, .f32⟩
  | 48 => ⟨S16384x1, .f32⟩
  | 49 => ⟨S16384x4, .f32⟩
  | 50 => ⟨S16384x4, .f32⟩
  | 51 => ⟨S16384x1, .f32⟩
  | 52 => ⟨S16384x1, .i32⟩
  | 53 => ⟨S16384, .i32⟩
  | 54 => ⟨S16384x1, .i32⟩
  | 55 => ⟨S_, .i32⟩
  | 56 => ⟨S16384x1, .i32⟩
  | 57 => ⟨S16384x1, .i1⟩
  | 58 => ⟨S_, .i32⟩
  | 59 => ⟨S16384x1, .i32⟩
  | 60 => ⟨S16384x1, .i32⟩
  | 61 => ⟨S16384x1, .i32⟩
  | 62 => ⟨S16384x1x1, .i32⟩
  | 63 => ⟨S1, .i32⟩
  | 64 => ⟨S_, .i32⟩
  | 65 => ⟨S16384x1x1, .i32⟩
  | 66 => ⟨S16384x1x1, .i1⟩
  | 67 => ⟨S1x1x1, .i32⟩
  | 68 => ⟨S16384x1x1, .i32⟩
  | 69 => ⟨S16384x1x1, .i1⟩
  | 70 => ⟨S16384x1x1, .i1⟩
  | 71 => ⟨S_, .i1⟩
  | 72 => ⟨S16384x1, .i1⟩
  | 73 => ⟨S16384x1, .f32⟩
  | 74 => ⟨S_, .f32⟩
  | 75 => ⟨S16384x1, .f32⟩
  | 76 => ⟨S16384x1, .f32⟩
  | 77 => ⟨S16384x16, .f32⟩
  | 78 => ⟨S1x16, .f32⟩
  | 79 => ⟨S16384x16, .f32⟩
  | 80 => ⟨S16384x16, .f32⟩
  | 81 => ⟨S16384x4x4, .f32⟩
  | 82 => ⟨S16384x1x1, .i32⟩
  | 83 => ⟨S_, .i32⟩
  | 84 => ⟨S16384x1x1, .i32⟩
  | 85 => ⟨S16384x1x1, .i1⟩
  | 86 => ⟨S_, .i32⟩
  | 87 => ⟨S16384x1x1, .i32⟩
  | 88 => ⟨S16384x1x1, .i32⟩
  | 89 => ⟨S16384x1x1, .i32⟩
  | 90 => ⟨S1, .i32⟩
  | 91 => ⟨S_, .i32⟩
  | 92 => ⟨S16384x1x1, .i32⟩
  | 93 => ⟨S16384x1x1, .i1⟩
  | 94 => ⟨S1x1x1, .i32⟩
  | 95 => ⟨S16384x1x1, .i32⟩
  | 96 => ⟨S16384x1x1, .i1⟩
  | 97 => ⟨S16384x1x1, .i1⟩
  | 98 => ⟨S_, .i1⟩
  | 99 => ⟨S16384x1, .i1⟩
  | 100 => ⟨S16384x1x4, .f32⟩
  | 101 => ⟨S16384x1x4, .i1⟩
  | 102 => ⟨S_, .f32⟩
  | 103 => ⟨S16384x1x4, .f32⟩
  | 104 => ⟨S16384x1x4, .f32⟩
  | 105 => ⟨S16384x4, .f32⟩
  | 106 => ⟨S_, .f32⟩
  | 107 => ⟨S16384, .f32⟩
  | 108 => ⟨S_, .f32⟩
  | 109 => ⟨S16384, .f32⟩
  | 110 => ⟨S16384, .f32⟩
  | 111 => ⟨S16384x1, .f32⟩
  | 112 => ⟨S16384x4, .f32⟩
  | 113 => ⟨S16384x4, .f32⟩
  | 114 => ⟨S16384x4, .f32⟩
  | 115 => ⟨S_, .f32⟩
  | 116 => ⟨S16384, .f32⟩
  | 117 => ⟨S16384x1, .f32⟩
  | 118 => ⟨S16384x4, .f32⟩
  | 119 => ⟨S16384x4, .f32⟩
  | 120 => ⟨S16384x2, .f32⟩
  | 121 => ⟨S16384x2, .i32⟩
  | 122 => ⟨S16384x2, .f32⟩
  | 123 => ⟨S16384x2, .f32⟩
  | 124 => ⟨S_, .f32⟩
  | 125 => ⟨S16384, .f32⟩
  | 126 => ⟨S16384x1, .f32⟩
  | 127 => ⟨S16384x2, .f32⟩
  | _ => ⟨S16384x1024, .f32⟩

abbrev hbmTy0_1 (i : Nat) : BufTy := match i % 128 with
  | 0 => ⟨S16384x2, .f32⟩
  | 1 => ⟨S16384x1, .i32⟩
  | 2 => ⟨S_, .i32⟩
  | 3 => ⟨S16384x1, .i32⟩
  | 4 => ⟨S16384x1, .i32⟩
  | 5 => ⟨S16384x2, .i32⟩
  | 6 => ⟨S16384x2, .i32⟩
  | 7 => ⟨S16384x2x1, .i32⟩
  | 8 => ⟨S1x1x16, .i32⟩
  | 9 => ⟨S16384x2x16, .i32⟩
  | 10 => ⟨S16384x2x16, .i32⟩
  | 11 => ⟨S16384x2x16, .i1⟩
  | 12 => ⟨S16384x2x16, .f32⟩
  | 13 => ⟨S16384x2x1, .f32⟩
  | 14 => ⟨S16384x2x16, .f32⟩
  | 15 => ⟨S16384x2x16, .f32⟩
  | 16 => ⟨S_, .f32⟩
  | 17 => ⟨S16384x16, .f32⟩
  | 18 => ⟨S16384x16x256, .f32⟩
  | 19 => ⟨S16384x16x256, .f32⟩
  | 20 => ⟨S16384x16x256, .f32⟩
  | 21 => ⟨S_, .f32⟩
  | 22 => ⟨S16384x16x256, .f32⟩
  | 23 => ⟨S16384x16x256, .f32⟩
  | 24 => ⟨S_, .f32⟩
  | 25 => ⟨S16384x16x256, .f32⟩
  | 26 => ⟨S16384x16x256, .f32⟩
  | 27 => ⟨S16384x16x256, .f32⟩
  | 28 => ⟨S16384x16x256, .f32⟩
  | 29 => ⟨S16384x16x256, .f32⟩
  | 30 => ⟨S16384x16x1, .f32⟩
  | 31 => ⟨S16384x16x256, .f32⟩
  | 32 => ⟨S16384x16x256, .f32⟩
  | 33 => ⟨S16384x1024, .f32⟩
  | 34 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_values : Ref sig .tc := ⟨.hbm, 51, rfl⟩
abbrev main_indices : Ref sig .tc := ⟨.hbm, 52, rfl⟩
abbrev main_v36 : Ref sig .tc := ⟨.hbm, 53, rfl⟩
abbrev main_v37 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_c_1 : Ref sig .tc := ⟨.hbm, 63, rfl⟩
abbrev main_call0_c_2 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_c_3 : Ref sig .tc := ⟨.hbm, 71, rfl⟩
abbrev main_call0_v12 : Ref sig .tc := ⟨.hbm, 72, rfl⟩
abbrev main_call0_v13 : Ref sig .tc := ⟨.hbm, 73, rfl⟩
abbrev main_call0_cst : Ref sig .tc := ⟨.hbm, 74, rfl⟩
abbrev main_call0_v14 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_c_1 : Ref sig .tc := ⟨.hbm, 90, rfl⟩
abbrev main_call1_c_2 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_c_3 : Ref sig .tc := ⟨.hbm, 98, rfl⟩
abbrev main_call1_v11 : Ref sig .tc := ⟨.hbm, 99, rfl⟩
abbrev main_call1_v12 : Ref sig .tc := ⟨.hbm, 100, rfl⟩
abbrev main_call1_v13 : Ref sig .tc := ⟨.hbm, 101, rfl⟩
abbrev main_call1_cst : Ref sig .tc := ⟨.hbm, 102, rfl⟩
abbrev main_call1_v14 : Ref sig .tc := ⟨.hbm, 103, rfl⟩
abbrev main_v45 : Ref sig .tc := ⟨.hbm, 104, rfl⟩
abbrev main_v46 : Ref sig .tc := ⟨.hbm, 105, rfl⟩
abbrev main_cst_5 : Ref sig .tc := ⟨.hbm, 106, rfl⟩
abbrev main_v47 : Ref sig .tc := ⟨.hbm, 107, rfl⟩
abbrev main_cst_6 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_cst_7 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_values_8 : Ref sig .tc := ⟨.hbm, 120, rfl⟩
abbrev main_indices_9 : Ref sig .tc := ⟨.hbm, 121, rfl⟩
abbrev main_v58 : Ref sig .tc := ⟨.hbm, 122, rfl⟩
abbrev main_v59 : Ref sig .tc := ⟨.hbm, 123, rfl⟩
abbrev main_cst_10 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_c : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_call2_v0 : Ref sig .tc := ⟨.hbm, 135, rfl⟩
abbrev main_call2_v1 : Ref sig .tc := ⟨.hbm, 136, rfl⟩
abbrev main_call2_v2 : Ref sig .tc := ⟨.hbm, 137, rfl⟩
abbrev main_call2_v3 : Ref sig .tc := ⟨.hbm, 138, rfl⟩
abbrev main_call2_v4 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_cst_11 : Ref sig .tc := ⟨.hbm, 144, rfl⟩
abbrev main_v73 : Ref sig .tc := ⟨.hbm, 145, rfl⟩
abbrev main_v74 : Ref sig .tc := ⟨.hbm, 146, rfl⟩
abbrev main_call3_v0 : Ref sig .tc := ⟨.hbm, 147, rfl⟩
abbrev main_call3_v1 : Ref sig .tc := ⟨.hbm, 148, rfl⟩
abbrev main_call3_cst : Ref sig .tc := ⟨.hbm, 149, rfl⟩
abbrev main_call3_v2 : Ref sig .tc := ⟨.hbm, 150, rfl⟩
abbrev main_call3_v3 : Ref sig .tc := ⟨.hbm, 151, rfl⟩
abbrev main_call3_cst_0 : Ref sig .tc := ⟨.hbm, 152, rfl⟩
abbrev main_call3_v4 : Ref sig .tc := ⟨.hbm, 153, rfl⟩
abbrev main_call3_v5 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1x1024 : Shape := ⟨2, ![1, 1024]⟩
abbrev S1x1024x5632 : Shape := ⟨3, ![1, 1024, 5632]⟩
abbrev S1x512x1024 : Shape := ⟨3, ![1, 512, 1024]⟩
abbrev S1x1024x1024 : Shape := ⟨3, ![1, 1024, 1024]⟩
abbrev S1024x5632 : Shape := ⟨2, ![1024, 5632]⟩
abbrev S1024 : Shape := ⟨1, ![1024]⟩
abbrev S512x1024 : Shape := ⟨2, ![512, 1024]⟩
abbrev S1024x1024 : Shape := ⟨2, ![1024, 1024]⟩
abbrev S512x512 : Shape := ⟨2, ![512, 512]⟩
abbrev S1024x2048 : Shape := ⟨2, ![1024, 2048]⟩
abbrev S512 : Shape := ⟨1, ![512]⟩
abbrev S512x1 : Shape := ⟨2, ![512, 1]⟩
abbrev S512x2048 : Shape := ⟨2, ![512, 2048]⟩

abbrev nBuf : Space → Nat
  | .hbm => 19
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024, .f32⟩
  | .hbm, ⟨4, _⟩ => ⟨S1x1024x5632, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1024x5632, .f32⟩
  | .hbm, ⟨9, _⟩ => ⟨S1024x5632, .bf16⟩
  | .hbm, ⟨10, _⟩ => ⟨S1024, .f32⟩
  | .hbm, ⟨11, _⟩ => ⟨S1x1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c3584_i32 : BitVec 32 := 3584#32
  let c0_i32_0 : BitVec 32 := 0#32
  ![c0_i32.toNat, c3584_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S16384x512 : Shape := ⟨2, ![16384, 512]⟩
abbrev S1x1024 : Shape := ⟨2, ![1, 1024]⟩
abbrev S1x1024x5632 : Shape := ⟨3, ![1, 1024, 5632]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S512x1024 : Shape := ⟨2, ![512, 1024]⟩
abbrev S1024x1024 : Shape := ⟨2, ![1024, 1024]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024, .f32⟩
  | .hbm, ⟨4, _⟩ => ⟨S1x1024x5632, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1024x5632, .f32⟩
  | .hbm, ⟨26, _⟩ => ⟨S16384x5632, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x1024, .f32⟩
  | .hbm, ⟨35, _⟩ => ⟨S16384x1024, .f32⟩
  | .hbm, ⟨36, _⟩ => ⟨S16384x512, .f32⟩
  | .hbm, ⟨37, _⟩ => ⟨S512x1024, .f32⟩
  | .hbm, ⟨38, _⟩ => ⟨S16384x1024, .f32⟩
  | .hbm, ⟨39, _⟩ => ⟨S16384x512, .f32⟩
  | .hbm, ⟨40, _⟩ => ⟨S512x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S1024x1024, .f32⟩
  | .hbm, ⟨62, _⟩ => ⟨S16384x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel3.lean ====
abbrev S16x1024 : Shape := ⟨2, ![16, 1024]⟩
abbrev S32x8x1024 : Shape := ⟨3, ![32, 8, 1024]⟩
abbrev S1x1024 : Shape := ⟨2, ![1, 1024]⟩
abbrev S1x1024x5632 : Shape := ⟨3, ![1, 1024, 5632]⟩
abbrev S1x64 : Shape := ⟨2, ![1, 64]⟩
abbrev S1024x5632 : Shape := ⟨2, ![1024, 5632]⟩
abbrev S1024 : Shape := ⟨1, ![1024]⟩
abbrev S64 : Shape := ⟨1, ![64]⟩
abbrev S8x64 : Shape := ⟨2, ![8, 64]⟩
abbrev S512 : Shape := ⟨1, ![512]⟩
abbrev S_ : Shape := ⟨0, ![]⟩
abbrev S1x512 : Shape := ⟨2, ![1, 512]⟩
abbrev S512x1 : Shape := ⟨2, ![512, 1]⟩
abbrev S512x512 : Shape := ⟨2, ![512, 512]⟩
abbrev S256x1024 : Shape := ⟨2, ![256, 1024]⟩
abbrev S272x1024 : Shape := ⟨2, ![272, 1024]⟩
abbrev S272x2048 : Shape := ⟨2, ![272, 2048]⟩
abbrev S272x512 : Shape := ⟨2, ![272, 512]⟩
abbrev S1024x3584 : Shape := ⟨2, ![1024, 3584]⟩
abbrev S272 : Shape := ⟨1, ![272]⟩
abbrev S272x1 : Shape := ⟨2, ![272, 1]⟩
abbrev S1024x2048 : Shape := ⟨2, ![1024, 2048]⟩
abbrev S1024x512 : Shape := ⟨2, ![1024, 512]⟩

abbrev nBuf : Space → Nat
  | .hbm => 61
  | .vmem => 12
  | .smem => 0
  | _ => 0

abbrev bufTy : (tb : Table) → Fin (tcTables nBuf tb) → BufTy
  | .hbm, ⟨0, _⟩ => ⟨S16x1024, .f32⟩
  | .hbm, ⟨1, _⟩ => ⟨S32x8x1024, .f32⟩
  | .hbm, ⟨2, _⟩ => ⟨S1x1024, .f32⟩
  | .hbm, ⟨3, _⟩ => ⟨S1x1024x5632, .f32⟩
  | .hbm, ⟨4, _⟩ => ⟨S1x64, .f32⟩
  | .hbm, ⟨5, _⟩ => ⟨S1x64, .f32⟩
  | .hbm, ⟨6, _⟩ => ⟨S1024x5632, .f32⟩
  | .hbm, ⟨7, _⟩ => ⟨S1024x5632, .bf16⟩
  | .hbm, ⟨8, _⟩ => ⟨S1024, .f32⟩
  | .hbm, ⟨9, _⟩ => ⟨S1x1024, .f32⟩
  | .hbm, ⟨10, _⟩ => ⟨S64, .f32⟩
  | .hbm, ⟨11, _⟩ => ⟨S1x64, .f32⟩
  | .hbm, ⟨12, _⟩ => ⟨S8x64, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S1x512, .f32⟩
  | .hbm, ⟨18, _⟩ => ⟨S64, .f32⟩
  | .hbm, ⟨19, _⟩ => ⟨S1x64, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S512, .i32⟩
  | .hbm, ⟨24, _⟩ => ⟨S_, .i32⟩
  | .hbm, ⟨25, _⟩ => ⟨S_, .i32⟩
  | .hbm, ⟨26, _⟩ => ⟨S512, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S1x512, .i32⟩
  | .hbm, ⟨44, _⟩ => ⟨S512x512, .i32⟩
  | .hbm, ⟨45, _⟩ => ⟨S512x512, .i32⟩
  | .hbm, ⟨46, _⟩ => ⟨S512x512, .i1⟩
  | .hbm, ⟨47, _⟩ => ⟨S_, .f32⟩
  | .hbm, ⟨48, _⟩ => ⟨S_, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S512x512, .bf16⟩
  | .hbm, ⟨53, _⟩ => ⟨S256x1024, .f32⟩
  | .hbm, ⟨54, _⟩ => ⟨S272x1024, .f32⟩
  | .hbm, ⟨55, _⟩ => ⟨S272x2048, .f32⟩
  | .hbm, ⟨56, _⟩ => ⟨S272x512, .bf16⟩
  | .hbm, ⟨57, _⟩ => ⟨S272x512, .f32⟩
  | .hbm, ⟨58, _⟩ => ⟨S272x512, .bf16⟩
  | .hbm, ⟨59, _⟩ => ⟨S272x512, .f32⟩
  | .hbm, ⟨60, _⟩ => ⟨S272x512, .bf16⟩
  | .local _ .vmem, ⟨0, _⟩ => ⟨S272x1024, .f32⟩
  | .local _ .vmem, ⟨1, _⟩ => ⟨S1x1024, .f32⟩
  | .local _ .vmem, ⟨2, _⟩ => ⟨S1024x3584, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S272x2048, .f32⟩
  | .local _ .vmem, ⟨7, _⟩ => ⟨S272x512, .bf16⟩
  | .local _ .vmem, ⟨8, _⟩ => ⟨S272x512, .f32⟩
  | .local _ .vmem, ⟨9, _⟩ => ⟨S272x512, .bf16⟩
  | .local _ .vmem, ⟨10, _⟩ => ⟨S272x512, .f32⟩
  | .local _ .vmem, ⟨11, _⟩ => ⟨S272x512, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_0 : Ref sig .tc := ⟨.hbm, 47, rfl⟩
abbrev main_cst_1 : Ref sig .tc := ⟨.hbm, 48, rfl⟩
abbrev main_call1_v0 : Ref sig .tc := ⟨.hbm, 49, rfl⟩
abbrev main_call1_v1 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27_0 : Ref sig .tc := ⟨.hbm, 55, rfl⟩
abbrev main_v27_1 : Ref sig .tc := ⟨.hbm, 56, rfl⟩
abbrev main_v27_2 : Ref sig .tc := ⟨.hbm, 57, rfl⟩
abbrev main_v27_3 : Ref sig .tc := ⟨.hbm, 58, rfl⟩
abbrev main_v27_4 : Ref sig .tc := ⟨.hbm, 59, rfl⟩
abbrev main_v27_5 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S272x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S272x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S272x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S272x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S272x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S272x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S272x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S16x1024 : Shape := ⟨2, ![16, 1024]⟩
abbrev S32x8x1024 : Shape := ⟨3, ![32, 8, 1024]⟩
abbrev S1x1024 : Shape := ⟨2, ![1, 1024]⟩
abbrev S1x1024x5632 : Shape := ⟨3, ![1, 1024, 5632]⟩
abbrev S1x64 : Shape := ⟨2, ![1, 64]⟩
abbrev S256x1024 : Shape := ⟨2, ![256, 1024]⟩
abbrev S272x1024 : Shape := ⟨2, ![272, 1024]⟩
abbrev S1024 : Shape := ⟨1, ![1024]⟩
abbrev S_ : Shape := ⟨0, ![]⟩
abbrev S272 : Shape := ⟨1, ![272]⟩
abbrev S272x1 : Shape := ⟨2, ![272, 1]⟩
abbrev S1024x5632 : Shape := ⟨2, ![1024, 5632]⟩
abbrev S272x5632 : Shape := ⟨2, ![272, 5632]⟩
abbrev S272x512 : Shape := ⟨2, ![272, 512]⟩
abbrev S272x4x2x64 : Shape := ⟨4, ![272, 4, 2, 64]⟩
abbrev S64 : Shape := ⟨1, ![64]⟩
abbrev S272x4x2 : Shape := ⟨3, ![272, 4, 2]⟩
abbrev S272x4x2x1 : Shape := ⟨4, ![272, 4, 2, 1]⟩
abbrev S1x1x1x64 : Shape := ⟨4, ![1, 1, 1, 64]⟩
abbrev S272x2048 : Shape := ⟨2, ![272, 2048]⟩

abbrev nBuf : Space → Nat
  | .hbm => 81
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S32x8x1024, .f32⟩
  | .hbm, ⟨2, _⟩ => ⟨S1x1024, .f32⟩
  | .hbm, ⟨3, _⟩ => ⟨S1x1024x5632, .f32⟩
  | .hbm, ⟨4, _⟩ => ⟨S1x64, .f32⟩
  | .hbm, ⟨5, _⟩ => ⟨S1x64, .f32⟩
  | .hbm, ⟨6, _⟩ => ⟨S256x1024, .f32⟩
  | .hbm, ⟨7, _⟩ => ⟨S272x1024, .f32⟩
  | .hbm, ⟨8, _⟩ => ⟨S1024, .f32⟩
  | .hbm, ⟨9, _⟩ => ⟨S272x1024, .f32⟩
  | .hbm, ⟨10, _⟩ => ⟨S_, .f32⟩
  | .hbm, ⟨11, _⟩ => ⟨S272, .f32⟩
  | .hbm, ⟨12, _⟩ => ⟨S272x1, .f32⟩
  | .hbm, ⟨13, _⟩ => ⟨S_, .f32⟩
  | .hbm, ⟨14, _⟩ => ⟨S272x1, .f32⟩
  | .hbm, ⟨15, _⟩ => ⟨S272x1, .f32⟩
  | .hbm, ⟨16, _⟩ => ⟨S_, .f32⟩
  | .hbm, ⟨17, _⟩ => ⟨S272x1, .f32⟩
  | .hbm, ⟨18, _⟩ => ⟨S272x1, .f32⟩
  | .hbm, ⟨19, _⟩ => ⟨S272x1, .f32⟩
  | .hbm, ⟨20, _⟩ => ⟨S272x1024, .f32⟩
  | .hbm, ⟨21, _⟩ => ⟨S272x1024, .f32⟩
  | .hbm, ⟨22, _⟩ => ⟨S1x1024, .f32⟩
  | .hbm, ⟨23, _⟩ => ⟨S272x1024, .f32⟩
  | .hbm, ⟨24, _⟩ => ⟨S272x1024, .f32⟩
  | .hbm, ⟨25, _⟩ => ⟨S1024x5632, .f32⟩
  | .hbm, ⟨26, _⟩ => ⟨S272x5632, .f32⟩
  | .hbm, ⟨27, _⟩ => ⟨S272x512, .f32⟩
  | .hbm, ⟨28, _⟩ => ⟨S272x512, .f32⟩
  | .hbm, ⟨29, _⟩ => ⟨S272x512, .f32⟩
  | .hbm, ⟨30, _⟩ => ⟨S272x512, .f32⟩
  | .hbm, ⟨31, _⟩ => ⟨S272x512, .f32⟩
  | .hbm, ⟨32, _⟩ => ⟨S272x512, .f32⟩
  | .hbm, ⟨33, _⟩ => ⟨S272x512, .f32⟩
  | .hbm, ⟨34, _⟩ => ⟨S272x1024, .f32⟩
  | .hbm, ⟨35, _⟩ => ⟨S272x1024, .f32⟩
  | .hbm, ⟨36, _⟩ => ⟨S272x4x2x64, .f32⟩
  | .hbm, ⟨37, _⟩ => ⟨S64, .f32⟩
  | .hbm, ⟨38, _⟩ => ⟨S272x4x2x64, .f32⟩
  | .hbm, ⟨39, _⟩ => ⟨S_, .f32⟩
  | .hbm, ⟨40, _⟩ => ⟨S272x4x2, .f32⟩
  | .hbm, ⟨41, _⟩ => ⟨S272x4x2x1, .f32⟩
  | .hbm, ⟨42, _⟩ => ⟨S_, .f32⟩
  | .hbm, ⟨43, _⟩ => ⟨S272x4x2x1, .f32⟩
  | .hbm, ⟨44, _⟩ => ⟨S272x4x2x1, .f32⟩
  | .hbm, ⟨45, _⟩ => ⟨S_, .f32⟩
  | .hbm, ⟨46, _⟩ => ⟨S272x4x2x1, .f32⟩
  | .hbm, ⟨47, _⟩ => ⟨S272x4x2x1, .f32⟩
  | .hbm, ⟨48, _⟩ => ⟨S272x4x2x1, .f32⟩
  | .hbm, ⟨49, _⟩ => ⟨S272x4x2x64, .f32⟩
  | .hbm, ⟨50, _⟩ => ⟨S272x4x2x64, .f32⟩
  | .hbm, ⟨51, _⟩ => ⟨S1x1x1x64, .f32⟩
  | .hbm, ⟨52, _⟩ => ⟨S272x4x2x64, .f32⟩
  | .hbm, ⟨53, _⟩ => ⟨S272x4x2x64, .f32⟩
  | .hbm, ⟨54, _⟩ => ⟨S272x512, .f32⟩
  | .hbm, ⟨55, _⟩ => ⟨S272x4x2x64, .f32⟩
  | .hbm, ⟨56, _⟩ => ⟨S64, .f32⟩
  | .hbm, ⟨57, _⟩ => ⟨S272x4x2x64, .f32⟩
  | .hbm, ⟨58, _⟩ => ⟨S_, .f32⟩
  | .hbm, ⟨59, _⟩ => ⟨S272x4x2, .f32⟩
  | .hbm, ⟨60, _⟩ => ⟨S272x4x2x1, .f32⟩
  | .hbm, ⟨61, _⟩ => ⟨S_, .f32⟩
  | .hbm, ⟨62, _⟩ => ⟨S272x4x2x1, .f32⟩
  | .hbm, ⟨63, _⟩ => ⟨S272x4x2x1, .f32⟩
  | .hbm, ⟨64, _⟩ => ⟨S_, .f32⟩
  | .hbm, ⟨65, _⟩ => ⟨S272x4x2x1, .f32⟩
  | .hbm, ⟨66, _⟩ => ⟨S272x4x2x1, .f32⟩
  | .hbm, ⟨67, _⟩ => ⟨S272x4x2x1, .f32⟩
  | .hbm, ⟨68, _⟩ => ⟨S272x4x2x64, .f32⟩
  | .hbm, ⟨69, _⟩ => ⟨S272x4x2x64, .f32⟩
  | .hbm, ⟨70, _⟩ => ⟨S1x1x1x64, .f32⟩
  | .hbm, ⟨71, _⟩ => ⟨S272x4x2x64, .f32⟩
  | .hbm, ⟨72, _⟩ => ⟨S272x4x2x64, .f32⟩
  | .hbm, ⟨73, _⟩ => ⟨S272x512, .f32⟩
  | .hbm, ⟨74, _⟩ => ⟨S272x2048, .f32⟩
  | .hbm, ⟨75, _⟩ => ⟨S_, .f32⟩
  | .hbm, ⟨76, _⟩ => ⟨S272x512, .f32⟩
  | .hbm, ⟨77, _⟩ => ⟨S272x512, .f32⟩
  | .hbm, ⟨78, _⟩ => ⟨S272x512, .bf16⟩
  | .hbm, ⟨79, _⟩ => ⟨S272x512, .bf16⟩
  | .hbm, ⟨80, _⟩ => ⟨S272x512, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]
-- ==== Kernel4.lean ====
abbrev S32x8x2048 : Shape := ⟨3, ![32, 8, 2048]⟩
abbrev S2x512 : Shape := ⟨2, ![2, 512]⟩
abbrev S1x128 : Shape := ⟨2, ![1, 128]⟩
abbrev S1x32x4x128x128 : Shape := ⟨5, ![1, 32, 4, 128, 128]⟩
abbrev S128 : Shape := ⟨1, ![128]⟩
abbrev S4x128 : Shape := ⟨2, ![4, 128]⟩
abbrev S512 : Shape := ⟨1, ![512]⟩
abbrev S1x512 : Shape := ⟨2, ![1, 512]⟩
abbrev S32x4x128x128 : Shape := ⟨4, ![32, 4, 128, 128]⟩
abbrev S32x8x512 : Shape := ⟨3, ![32, 8, 512]⟩
abbrev S1x8x2048 : Shape := ⟨3, ![1, 8, 2048]⟩
abbrev S1x4x128x128 : Shape := ⟨4, ![1, 4, 128, 128]⟩
abbrev S1x8x512 : Shape := ⟨3, ![1, 8, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x2048 : Shape := ⟨2, ![8, 2048]⟩
abbrev S120x2048 : Shape := ⟨2, ![120, 2048]⟩
abbrev S128x2048 : Shape := ⟨2, ![128, 2048]⟩
abbrev S128x512 : Shape := ⟨2, ![128, 512]⟩
abbrev S16x8x512 : Shape := ⟨3, ![16, 8, 512]⟩
abbrev S16x1x512 : Shape := ⟨3, ![16, 1, 512]⟩
abbrev S128x1 : Shape := ⟨2, ![128, 1]⟩
abbrev S8x128 : Shape := ⟨2, ![8, 128]⟩
abbrev S1x8x128 : Shape := ⟨3, ![1, 8, 128]⟩

abbrev nBuf : Space → Nat
  | .hbm => 12
  | .vmem => 11
  | .smem => 0
  | _ => 0

abbrev bufTy : (tb : Table) → Fin (tcTables nBuf tb) → BufTy
  | .hbm, ⟨0, _⟩ => ⟨S32x8x2048, .f32⟩
  | .hbm, ⟨1, _⟩ => ⟨S2x512, .f32⟩
  | .hbm, ⟨2, _⟩ => ⟨S1x128, .f32⟩
  | .hbm, ⟨3, _⟩ => ⟨S1x32x4x128x128, .f32⟩
  | .hbm, ⟨4, _⟩ => ⟨S128, .f32⟩
  | .hbm, ⟨5, _⟩ => ⟨S1x128, .f32⟩
  | .hbm, ⟨6, _⟩ => ⟨S4x128, .f32⟩
  | .hbm, ⟨7, _⟩ => ⟨S512, .f32⟩
  | .hbm, ⟨8, _⟩ => ⟨S1x512, .f32⟩
  | .hbm, ⟨9, _⟩ => ⟨S32x4x128x128, .f32⟩
  | .hbm, ⟨10, _⟩ => ⟨S32x8x512, .f32⟩
  | .hbm, ⟨11, _⟩ => ⟨S32x4x128x128, .f32⟩
  | .local _ .vmem, ⟨0, _⟩ => ⟨S1x8x2048, .f32⟩
  | .local _ .vmem, ⟨1, _⟩ => ⟨S1x8x2048, .f32⟩
  | .local _ .vmem, ⟨2, _⟩ => ⟨S2x512, .f32⟩
  | .local _ .vmem, ⟨3, _⟩ => ⟨S1x512, .f32⟩
  | .local _ .vmem, ⟨4, _⟩ => ⟨S1x4x128x128, .f32⟩
  | .local _ .vmem, ⟨5, _⟩ => ⟨S1x4x128x128, .f32⟩
  | .local _ .vmem, ⟨6, _⟩ => ⟨S1x8x512, .f32⟩
  | .local _ .vmem, ⟨7, _⟩ => ⟨S1x8x512, .f32⟩
  | .local _ .vmem, ⟨8, _⟩ => ⟨S1x4x128x128, .f32⟩
  | .local _ .vmem, ⟨9, _⟩ => ⟨S1x4x128x128, .f32⟩
  | .local _ .vmem, ⟨10, _⟩ => ⟨S4x128x128, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_86 : BitVec 32 := 0#32
  let v280 : BitVec 1 := Scalar.cmpi .eq arg1 c0_i32_86
  let v281 : BitVec 32 := Scalar.extui v280
  let c0_i32_87 : BitVec 32 := 0#32
  let v282 : BitVec 1 := Scalar.cmpi .ne v281 c0_i32_87
  v282

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S32x8x2048 : Shape := ⟨3, ![32, 8, 2048]⟩
abbrev S2x512 : Shape := ⟨2, ![2, 512]⟩
abbrev S1x128 : Shape := ⟨2, ![1, 128]⟩
abbrev S1x32x4x128x128 : Shape := ⟨5, ![1, 32, 4, 128, 128]⟩
abbrev S_ : Shape := ⟨0, ![]⟩
abbrev S512 : Shape := ⟨1, ![512]⟩
abbrev S1x512 : Shape := ⟨2, ![1, 512]⟩
abbrev S32x8x512 : Shape := ⟨3, ![32, 8, 512]⟩
abbrev S32x8x4x128 : Shape := ⟨4, ![32, 8, 4, 128]⟩
abbrev S1x1x512 : Shape := ⟨3, ![1, 1, 512]⟩
abbrev S32x4x128x128 : Shape := ⟨4, ![32, 4, 128, 128]⟩
abbrev S32x4x128x8 : Shape := ⟨4, ![32, 4, 128, 8]⟩
abbrev S8x8 : Shape := ⟨2, ![8, 8]⟩
abbrev S1x8x8x1x1 : Shape := ⟨5, ![1, 8, 8, 1, 1]⟩
abbrev S32x8x1x4x128 : Shape := ⟨5, ![32, 8, 1, 4, 128]⟩
abbrev S32x1x8x4x128 : Shape := ⟨5, ![32, 1, 8, 4, 128]⟩
abbrev S32x8x8x4x128 : Shape := ⟨5, ![32, 8, 8, 4, 128]⟩
abbrev S32x8x8x4 : Shape := ⟨4, ![32, 8, 8, 4]⟩
abbrev S32x1x4x128 : Shape := ⟨4, ![32, 1, 4, 128]⟩
abbrev S32x4x128 : Shape := ⟨3, ![32, 4, 128]⟩
abbrev S32x4x128x1 : Shape := ⟨4, ![32, 4, 128, 1]⟩
abbrev S128 : Shape := ⟨1, ![128]⟩
abbrev S32x8x4 : Shape := ⟨3, ![32, 8, 4]⟩
abbrev S32x8x4x1 : Shape := ⟨4, ![32, 8, 4, 1]⟩
abbrev S1x1x1x128 : Shape := ⟨4, ![1, 1, 1, 128]⟩

abbrev nBuf : Space → Nat
  | .hbm => 145
  | .vmem => 0
  | .smem => 0
  | _ => 0

abbrev hbmTy0_0 (i : Nat) : BufTy := match i % 128 with
  | 0 => ⟨S32x8x2048, .f32⟩
  | 1 => ⟨S2x512, .f32⟩
  | 2 => ⟨S1x128, .f32⟩
  | 3 => ⟨S1x32x4x128x128, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S32x8x512, .f32⟩
  | 24 => ⟨S32x8x512, .f32⟩
  | 25 => ⟨S32x8x512, .f32⟩
  | 26 => ⟨S32x8x512, .f32⟩
  | 27 => ⟨S32x8x512, .f32⟩
  | 28 => ⟨S32x8x512, .f32⟩
  | 29 => ⟨S_, .f32⟩
  | 30 => ⟨S32x8x512, .f32⟩
  | 31 => ⟨S32x8x512, .f32⟩
  | 32 => ⟨S_, .f32⟩
  | 33 => ⟨S32x8x512, .f32⟩
  | 34 => ⟨S32x8x512, .f32⟩
  | 35 => ⟨S32x8x512, .f32⟩
  | 36 => ⟨S32x8x4x128, .f32⟩
  | 37 => ⟨S_, .f32⟩
  | 38 => ⟨S512, .f32⟩
  | 39 => ⟨S512, .f32⟩
  | 40 => ⟨S32x8x512, .f32⟩
  | 41 => ⟨S32x8x512, .f32⟩
  | 42 => ⟨S_, .f32⟩
  | 43 => ⟨S32x8x512, .f32⟩
  | 44 => ⟨S32x8x512, .f32⟩
  | 45 => ⟨S_, .f32⟩
  | 46 => ⟨S32x8x512, .f32⟩
  | 47 => ⟨S32x8x512, .f32⟩
  | 48 => ⟨S1x1x512, .f32⟩
  | 49 => ⟨S32x8x512, .f32⟩
  | 50 => ⟨S32x8x512, .f32⟩
  | 51 => ⟨S1x1x512, .f32⟩
  | 52 => ⟨S32x8x512, .f32⟩
  | 53 => ⟨S32x8x512, .f32⟩
  | 54 => ⟨S_, .f32⟩
  | 55 => ⟨S32x8x512, .f32⟩
  | 56 => ⟨S32x8x512, .f32⟩
  | 57 => ⟨S32x8x4x128, .f32⟩
  | 58 => ⟨S32x8x512, .f32⟩
  | 59 => ⟨S32x8x4x128, .f32⟩
  | 60 => ⟨S32x8x4x128, .f32⟩
  | 61 => ⟨S32x4x128x128, .f32⟩
  | 62 => ⟨S_, .f32⟩
  | 63 => ⟨S_, .f32⟩
  | 64 => ⟨S32x8x4x128, .f32⟩
  | 65 => ⟨S32x8x4x128, .f32⟩
  | 66 => ⟨S32x8x4x128, .f32⟩
  | 67 => ⟨S32x4x128x8, .f32⟩
  | 68 => ⟨S32x8x4x128, .f32⟩
  | 69 => ⟨S_, .i1⟩
  | 70 => ⟨S8x8, .i1⟩
  | 71 => ⟨S8x8, .i32⟩
  | 72 => ⟨S_, .i32⟩
  | 73 => ⟨S8x8, .i32⟩
  | 74 => ⟨S8x8, .i32⟩
  | 75 => ⟨S8x8, .i32⟩
  | 76 => ⟨S8x8, .i1⟩
  | 77 => ⟨S_, .i1⟩
  | 78 => ⟨S8x8, .i1⟩
  | 79 => ⟨S8x8, .i1⟩
  | 80 => ⟨S1x8x8x1x1, .i1⟩
  | 81 => ⟨S32x8x1x4x128, .f32⟩
  | 82 => ⟨S32x1x8x4x128, .f32⟩
  | 83 => ⟨S32x8x8x4x128, .f32⟩
  | 84 => ⟨S32x8x8x4x128, .f32⟩
  | 85 => ⟨S32x8x8x4x128, .f32⟩
  | 86 => ⟨S_, .f32⟩
  | 87 => ⟨S_, .f32⟩
  | 88 => ⟨S32x8x8x4x128, .i1⟩
  | 89 => ⟨S32x8x8x4x128, .f32⟩
  | 90 => ⟨S32x8x8x4x128, .f32⟩
  | 91 => ⟨S32x8x8x4x128, .f32⟩
  | 92 => ⟨S32x8x1x4x128, .f32⟩
  | 93 => ⟨S32x1x8x4x128, .f32⟩
  | 94 => ⟨S32x8x8x4x128, .f32⟩
  | 95 => ⟨S32x8x8x4x128, .f32⟩
  | 96 => ⟨S32x8x8x4x128, .f32⟩
  | 97 => ⟨S32x8x8x4x128, .f32⟩
  | 98 => ⟨S_, .f32⟩
  | 99 => ⟨S32x8x8x4, .f32⟩
  | 100 => ⟨S32x4x128x8, .f32⟩
  | 101 => ⟨S32x8x4x128, .f32⟩
  | 102 => ⟨S32x1x4x128, .f32⟩
  | 103 => ⟨S32x4x128, .f32⟩
  | 104 => ⟨S32x1x4x128, .f32⟩
  | 105 => ⟨S32x8x4x128, .f32⟩
  | 106 => ⟨S32x8x4x128, .f32⟩
  | 107 => ⟨S32x8x4x128, .f32⟩
  | 108 => ⟨S32x8x4x128, .f32⟩
  | 109 => ⟨S32x4x128, .f32⟩
  | 110 => ⟨S32x4x128x1, .f32⟩
  | 111 => ⟨S32x4x128x128, .f32⟩
  | 112 => ⟨S32x4x128x128, .f32⟩
  | 113 => ⟨S32x4x128x128, .f32⟩
  | 114 => ⟨S32x4x128x128, .f32⟩
  | 115 => ⟨S32x8x4x128, .f32⟩
  | 116 => ⟨S128, .f32⟩
  | 117 => ⟨S32x8x4x128, .f32⟩
  | 118 => ⟨S_, .f32⟩
  | 119 => ⟨S32x8x4, .f32⟩
  | 120 => ⟨S32x8x4x1, .f32⟩
  | 121 => ⟨S_, .f32⟩
  | 122 => ⟨S32x8x4x1, .f32⟩
  | 123 => ⟨S32x8x4x1, .f32⟩
  | 124 => ⟨S_, .f32⟩
  | 125 => ⟨S32x8x4x1, .f32⟩
  | 126 => ⟨S32x8x4x1, .f32⟩
  | 127 => ⟨S32x8x4x1, .f32⟩
  | _ => ⟨S32x8x2048, .f32⟩

abbrev hbmTy0_1 (i : Nat) : BufTy := match i % 128 with
  | 0 => ⟨S32x8x4x128, .f32⟩
  | 1 => ⟨S32x8x4x128, .f32⟩
  | 2 => ⟨S1x1x1x128, .f32⟩
  | 3 => ⟨S32x8x4x128, .f32⟩
  | 4 => ⟨S32x8x4x128, .f32⟩
  | 5 => ⟨S32x8x512, .f32⟩
  | 6 => ⟨S32x8x512, .f32⟩
  | 7 => ⟨S_, .f32⟩
  | 8 => ⟨S32x8x512, .f32⟩
  | 9 => ⟨S32x8x512, .f32⟩
  | 10 => ⟨S_, .f32⟩
  | 11 => ⟨S32x8x512, .f32⟩
  | 12 => ⟨S32x8x512, .f32⟩
  | 13 => ⟨S32x8x512, .f32⟩
  | 14 => ⟨S32x8x4x128, .f32⟩
  | 15 => ⟨S32x8x4x128, .f32⟩
  | 16 => ⟨S32x8x512, .f32⟩
  | _ => ⟨S32x8x2048, .f32⟩

abbrev hbmTy (i : Nat) : BufTy := match i / 128 with
  | 0 => hbmTy0_0 i
  | 1 => hbmTy0_1 i
  | _ => ⟨S32x8x2048, .f32⟩

abbrev bufTy : (tb : Table) → Fin (tcTables nBuf tb) → BufTy
  | .hbm, ⟨i, _⟩ => hbmTy i
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call2_call0_cst : Ref sig .tc := ⟨.hbm, 62, rfl⟩
abbrev main_call2_call0_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c : Ref sig .tc := ⟨.hbm, 69, rfl⟩
abbrev main_v46 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_0 : Ref sig .tc := ⟨.hbm, 77, rfl⟩
abbrev main_call3_v5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_6 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_7 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_8 : Ref sig .tc := ⟨.hbm, 118, rfl⟩
abbrev main_v81 : Ref sig .tc := ⟨.hbm, 119, rfl⟩
abbrev main_v82 : Ref sig .tc := ⟨.hbm, 120, rfl⟩
abbrev main_cst_9 : Ref sig .tc := ⟨.hbm, 121, rfl⟩
abbrev main_v83 : Ref sig .tc := ⟨.hbm, 122, rfl⟩
abbrev main_v84 : Ref sig .tc := ⟨.hbm, 123, rfl⟩
abbrev main_cst_10 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call5_v0 : Ref sig .tc := ⟨.hbm, 133, rfl⟩
abbrev main_call5_v1 : Ref sig .tc := ⟨.hbm, 134, rfl⟩
abbrev main_call5_cst : Ref sig .tc := ⟨.hbm, 135, rfl⟩
abbrev main_call5_v2 : Ref sig .tc := ⟨.hbm, 136, rfl⟩
abbrev main_call5_v3 : Ref sig .tc := ⟨.hbm, 137, rfl⟩
abbrev main_call5_cst_0 : Ref sig .tc := ⟨.hbm, 138, rfl⟩
abbrev main_call5_v4 : Ref sig .tc := ⟨.hbm, 139, rfl⟩
abbrev main_call5_v5 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩

abbrev nD : Nat := 1
abbrev τ : Topo := Topo.v7x

variable {F : FTy → Type} [FloatOps F]
-- ==== Kernel5.lean ====
abbrev S2x8192x2048 : Shape := ⟨3, ![2, 8192, 2048]⟩
abbrev S2x512 : Shape := ⟨2, ![2, 512]⟩
abbrev S1x128 : Shape := ⟨2, ![1, 128]⟩
abbrev S1x4x128x128 : Shape := ⟨4, ![1, 4, 128, 128]⟩
abbrev S128 : Shape := ⟨1, ![128]⟩
abbrev S4x128 : Shape := ⟨2, ![4, 128]⟩
abbrev S512 : Shape := ⟨1, ![512]⟩
abbrev S1x512 : Shape := ⟨2, ![1, 512]⟩
abbrev S2x8192x512 : Shape := ⟨3, ![2, 8192, 512]⟩
abbrev S2x4x128x128 : Shape := ⟨4, ![2, 4, 128, 128]⟩
abbrev S1x512x2048 : Shape := ⟨3, ![1, 512, 2048]⟩
abbrev S1x512x512 : Shape := ⟨3, ![1, 512, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S1x128x2048 : Shape := ⟨3, ![1, 128, 2048]⟩
abbrev S128x2048 : Shape := ⟨2, ![128, 2048]⟩
abbrev S128x512 : Shape := ⟨2, ![128, 512]⟩
abbrev S16x8x512 : Shape := ⟨3, ![16, 8, 512]⟩
abbrev S16x1x512 : Shape := ⟨3, ![16, 1, 512]⟩
abbrev S15x1x512 : Shape := ⟨3, ![15, 1, 512]⟩
abbrev S1x1x512 : Shape := ⟨3, ![1, 1, 512]⟩
abbrev S8x16x512 : Shape := ⟨3, ![8, 16, 512]⟩
abbrev S8x1x512 : Shape := ⟨3, ![8, 1, 512]⟩
abbrev S7x1x512 : Shape := ⟨3, ![7, 1, 512]⟩
abbrev S4x32x512 : Shape := ⟨3, ![4, 32, 512]⟩
abbrev S4x1x512 : Shape := ⟨3, ![4, 1, 512]⟩
abbrev S3x1x512 : Shape := ⟨3, ![3, 1, 512]⟩
abbrev S2x64x512 : Shape := ⟨3, ![2, 64, 512]⟩
abbrev S2x1x512 : Shape := ⟨3, ![2, 1, 512]⟩
abbrev S128x1 : Shape := ⟨2, ![128, 1]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S2x512, .f32⟩
  | .hbm, ⟨2, _⟩ => ⟨S1x128, .f32⟩
  | .hbm, ⟨3, _⟩ => ⟨S1x4x128x128, .f32⟩
  | .hbm, ⟨4, _⟩ => ⟨S128, .f32⟩
  | .hbm, ⟨5, _⟩ => ⟨S1x128, .f32⟩
  | .hbm, ⟨6, _⟩ => ⟨S4x128, .f32⟩
  | .hbm, ⟨7, _⟩ => ⟨S512, .f32⟩
  | .hbm, ⟨8, _⟩ => ⟨S1x512, .f32⟩
  | .hbm, ⟨9, _⟩ => ⟨S2x8192x512, .bf16⟩
  | .hbm, ⟨10, _⟩ => ⟨S2x4x128x128, .f32⟩
  | .local _ .vmem, ⟨0, _⟩ => ⟨S1x512x2048, .f32⟩
  | .local _ .vmem, ⟨1, _⟩ => ⟨S1x512x2048, .f32⟩
  | .local _ .vmem, ⟨2, _⟩ => ⟨S2x512, .f32⟩
  | .local _ .vmem, ⟨3, _⟩ => ⟨S1x512, .f32⟩
  | .local _ .vmem, ⟨4, _⟩ => ⟨S1x4x128x128, .f32⟩
  | .local _ .vmem, ⟨5, _⟩ => ⟨S1x512x512, .bf16⟩
  | .local _ .vmem, ⟨6, _⟩ => ⟨S1x512x512, .bf16⟩
  | .local _ .vmem, ⟨7, _⟩ => ⟨S1x4x128x128, .f32⟩
  | .local _ .vmem, ⟨8, _⟩ => ⟨S1x4x128x128, .f32⟩
  | .local _ .vmem, ⟨9, _⟩ => ⟨S4x128x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v1790 : BitVec 1 := Scalar.cmpi .eq arg1 c15_i32
  let v1791 : BitVec 32 := Scalar.extui v1790
  let c0_i32_465 : BitVec 32 := 0#32
  let v1792 : BitVec 1 := Scalar.cmpi .ne v1791 c0_i32_465
  v1792

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S2x8192x2048 : Shape := ⟨3, ![2, 8192, 2048]⟩
abbrev S2x512 : Shape := ⟨2, ![2, 512]⟩
abbrev S1x128 : Shape := ⟨2, ![1, 128]⟩
abbrev S1x4x128x128 : Shape := ⟨4, ![1, 4, 128, 128]⟩
abbrev S_ : Shape := ⟨0, ![]⟩
abbrev S512 : Shape := ⟨1, ![512]⟩
abbrev S1x512 : Shape := ⟨2, ![1, 512]⟩
abbrev S2x8192x512 : Shape := ⟨3, ![2, 8192, 512]⟩
abbrev S2x8192x4x128 : Shape := ⟨4, ![2, 8192, 4, 128]⟩
abbrev S1x1x512 : Shape := ⟨3, ![1, 1, 512]⟩
abbrev S2x4x128x128 : Shape := ⟨4, ![2, 4, 128, 128]⟩
abbrev S2x128x64x4x128 : Shape := ⟨5, ![2, 128, 64, 4, 128]⟩
abbrev S128x2x64x4x128 : Shape := ⟨5, ![128, 2, 64, 4, 128]⟩
abbrev S1x2x64x4x128 : Shape := ⟨5, ![1, 2, 64, 4, 128]⟩
abbrev S2x64x4x128 : Shape := ⟨4, ![2, 64, 4, 128]⟩
abbrev S2x4x128x64 : Shape := ⟨4, ![2, 4, 128, 64]⟩
abbrev S64x64 : Shape := ⟨2, ![64, 64]⟩
abbrev S1x64x64x1x1 : Shape := ⟨5, ![1, 64, 64, 1, 1]⟩
abbrev S2x64x1x4x128 : Shape := ⟨5, ![2, 64, 1, 4, 128]⟩
abbrev S2x1x64x4x128 : Shape := ⟨5, ![2, 1, 64, 4, 128]⟩
abbrev S2x64x64x4x128 : Shape := ⟨5, ![2, 64, 64, 4, 128]⟩
abbrev S2x64x64x4 : Shape := ⟨4, ![2, 64, 64, 4]⟩
abbrev S2x1x4x128 : Shape := ⟨4, ![2, 1, 4, 128]⟩
abbrev S2x4x128 : Shape := ⟨3, ![2, 4, 128]⟩
abbrev S2x4x128x1 : Shape := ⟨4, ![2, 4, 128, 1]⟩

abbrev nBuf : Space → Nat
  | .hbm => 168
  | .vmem => 0
  | .smem => 0
  | _ => 0

abbrev hbmTy0_0 (i : Nat) : BufTy := match i % 128 with
  | 0 => ⟨S2x8192x2048, .f32⟩
  | 1 => ⟨S2x512, .f32⟩
  | 2 => ⟨S1x128, .f32⟩
  | 3 => ⟨S1x4x128x128, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S2x512, .f32⟩
  | 11 => ⟨S2x512, .f32⟩
  | 12 => ⟨S2x512, .f32⟩
  | 13 => ⟨S_, .f32⟩
  | 14 => ⟨S512, .f32⟩
  | 15 => ⟨S1x512, .f32⟩
  | 16 => ⟨S2x512, .f32⟩
  | 17 => ⟨S2x512, .f32⟩
  | 18 => ⟨S_, .f32⟩
  | 19 => ⟨S_, .f32⟩
  | 20 => ⟨S2x512, .f32⟩
  | 21 => ⟨S1x512, .f32⟩
  | 22 => ⟨S512, .f32⟩
  | 23 => ⟨S2x8192x512, .f32⟩
  | 24 => ⟨S2x8192x512, .f32⟩
  | 25 => ⟨S2x8192x512, .f32⟩
  | 26 => ⟨S2x8192x512, .f32⟩
  | 27 => ⟨S2x8192x512, .f32⟩
  | 28 => ⟨S2x8192x512, .f32⟩
  | 29 => ⟨S_, .f32⟩
  | 30 => ⟨S2x8192x512, .f32⟩
  | 31 => ⟨S2x8192x512, .f32⟩
  | 32 => ⟨S_, .f32⟩
  | 33 => ⟨S2x8192x512, .f32⟩
  | 34 => ⟨S2x8192x512, .f32⟩
  | 35 => ⟨S2x8192x512, .f32⟩
  | 36 => ⟨S2x8192x4x128, .f32⟩
  | 37 => ⟨S_, .f32⟩
  | 38 => ⟨S512, .f32⟩
  | 39 => ⟨S512, .f32⟩
  | 40 => ⟨S2x8192x512, .f32⟩
  | 41 => ⟨S2x8192x512, .f32⟩
  | 42 => ⟨S_, .f32⟩
  | 43 => ⟨S2x8192x512, .f32⟩
  | 44 => ⟨S2x8192x512, .f32⟩
  | 45 => ⟨S_, .f32⟩
  | 46 => ⟨S2x8192x512, .f32⟩
  | 47 => ⟨S2x8192x512, .f32⟩
  | 48 => ⟨S1x1x512, .f32⟩
  | 49 => ⟨S2x8192x512, .f32⟩
  | 50 => ⟨S2x8192x512, .f32⟩
  | 51 => ⟨S1x1x512, .f32⟩
  | 52 => ⟨S2x8192x512, .f32⟩
  | 53 => ⟨S2x8192x512, .f32⟩
  | 54 => ⟨S_, .f32⟩
  | 55 => ⟨S2x8192x512, .f32⟩
  | 56 => ⟨S2x8192x512, .f32⟩
  | 57 => ⟨S2x8192x4x128, .f32⟩
  | 58 => ⟨S2x8192x512, .f32⟩
  | 59 => ⟨S2x8192x4x128, .f32⟩
  | 60 => ⟨S2x8192x4x128, .f32⟩
  | 61 => ⟨S2x4x128x128, .f32⟩
  | 62 => ⟨S2x128x64x4x128, .f32⟩
  | 63 => ⟨S128x2x64x4x128, .f32⟩
  | 64 => ⟨S2x128x64x4x128, .f32⟩
  | 65 => ⟨S128x2x64x4x128, .f32⟩
  | 66 => ⟨S2x128x64x4x128, .f32⟩
  | 67 => ⟨S128x2x64x4x128, .f32⟩
  | 68 => ⟨S2x128x64x4x128, .f32⟩
  | 69 => ⟨S128x2x64x4x128, .f32⟩
  | 70 => ⟨S_, .f32⟩
  | 71 => ⟨S128x2x64x4x128, .f32⟩
  | 72 => ⟨S_, .i32⟩
  | 73 => ⟨S128x2x64x4x128, .f32⟩
  | 74 => ⟨S128x2x64x4x128, .f32⟩
  | 75 => ⟨S128x2x64x4x128, .f32⟩
  | 76 => ⟨S128x2x64x4x128, .f32⟩
  | 77 => ⟨S_, .i32⟩
  | 78 => ⟨S2x4x128x128, .f32⟩
  | 79 => ⟨S128x2x64x4x128, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S1x2x64x4x128, .f32⟩
  | 87 => ⟨S2x64x4x128, .f32⟩
  | 88 => ⟨S_, .i32⟩
  | 89 => ⟨S_, .i32⟩
  | 90 => ⟨S_, .i32⟩
  | 91 => ⟨S_, .i32⟩
  | 92 => ⟨S1x2x64x4x128, .f32⟩
  | 93 => ⟨S2x64x4x128, .f32⟩
  | 94 => ⟨S_, .i32⟩
  | 95 => ⟨S_, .i32⟩
  | 96 => ⟨S_, .i32⟩
  | 97 => ⟨S_, .i32⟩
  | 98 => ⟨S1x2x64x4x128, .f32⟩
  | 99 => ⟨S2x64x4x128, .f32⟩
  | 100 => ⟨S_, .i32⟩
  | 101 => ⟨S_, .i32⟩
  | 102 => ⟨S_, .i32⟩
  | 103 => ⟨S_, .i32⟩
  | 104 => ⟨S1x2x64x4x128, .f32⟩
  | 105 => ⟨S2x64x4x128, .f32⟩
  | 106 => ⟨S_, .f32⟩
  | 107 => ⟨S_, .f32⟩
  | 108 => ⟨S2x64x4x128, .f32⟩
  | 109 => ⟨S2x64x4x128, .f32⟩
  | 110 => ⟨S2x64x4x128, .f32⟩
  | 111 => ⟨S2x4x128x64, .f32⟩
  | 112 => ⟨S2x64x4x128, .f32⟩
  | 113 => ⟨S_, .i1⟩
  | 114 => ⟨S64x64, .i1⟩
  | 115 => ⟨S64x64, .i32⟩
  | 116 => ⟨S_, .i32⟩
  | 117 => ⟨S64x64, .i32⟩
  | 118 => ⟨S64x64, .i32⟩
  | 119 => ⟨S64x64, .i32⟩
  | 120 => ⟨S64x64, .i1⟩
  | 121 => ⟨S_, .i1⟩
  | 122 => ⟨S64x64, .i1⟩
  | 123 => ⟨S64x64, .i1⟩
  | 124 => ⟨S1x64x64x1x1, .i1⟩
  | 125 => ⟨S2x64x1x4x128, .f32⟩
  | 126 => ⟨S2x1x64x4x128, .f32⟩
  | 127 => ⟨S2x64x64x4x128, .f32⟩
  | _ => ⟨S2x8192x2048, .f32⟩

abbrev hbmTy0_1 (i : Nat) : BufTy := match i % 128 with
  | 0 => ⟨S2x64x64x4x128, .f32⟩
  | 1 => ⟨S2x64x64x4x128, .f32⟩
  | 2 => ⟨S_, .f32⟩
  | 3 => ⟨S_, .f32⟩
  | 4 => ⟨S2x64x64x4x128, .i1⟩
  | 5 => ⟨S2x64x64x4x128, .f32⟩
  | 6 => ⟨S2x64x64x4x128, .f32⟩
  | 7 => ⟨S2x64x64x4x128, .f32⟩
  | 8 => ⟨S2x64x1x4x128, .f32⟩
  | 9 => ⟨S2x1x64x4x128, .f32⟩
  | 10 => ⟨S2x64x64x4x128, .f32⟩
  | 11 => ⟨S2x64x64x4x128, .f32⟩
  | 12 => ⟨S2x64x64x4x128, .f32⟩
  | 13 => ⟨S2x64x64x4x128, .f32⟩
  | 14 => ⟨S_, .f32⟩
  | 15 => ⟨S2x64x64x4, .f32⟩
  | 16 => ⟨S2x4x128x64, .f32⟩
  | 17 => ⟨S2x64x4x128, .f32⟩
  | 18 => ⟨S2x1x4x128, .f32⟩
  | 19 => ⟨S2x4x128, .f32⟩
  | 20 => ⟨S2x1x4x128, .f32⟩
  | 21 => ⟨S2x64x4x128, .f32⟩
  | 22 => ⟨S2x64x4x128, .f32⟩
  | 23 => ⟨S2x64x4x128, .f32⟩
  | 24 => ⟨S2x64x4x128, .f32⟩
  | 25 => ⟨S2x4x128, .f32⟩
  | 26 => ⟨S2x4x128x1, .f32⟩
  | 27 => ⟨S2x4x128x128, .f32⟩
  | 28 => ⟨S2x4x128x128, .f32⟩
  | 29 => ⟨S2x4x128x128, .f32⟩
  | 30 => ⟨S2x4x128x128, .f32⟩
  | 31 => ⟨S2x64x4x128, .f32⟩
  | 32 => ⟨S1x2x64x4x128, .f32⟩
  | 33 => ⟨S_, .i32⟩
  | 34 => ⟨S_, .i32⟩
  | 35 => ⟨S_, .i32⟩
  | 36 => ⟨S_, .i32⟩
  | 37 => ⟨S128x2x64x4x128, .f32⟩
  | 38 => ⟨S_, .i32⟩
  | 39 => ⟨S_, .i32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_c : Ref sig .tc := ⟨.hbm, 72, rfl⟩
abbrev main_v50_0 : Ref sig .tc := ⟨.hbm, 73, rfl⟩
abbrev main_v50_1 : Ref sig .tc := ⟨.hbm, 74, rfl⟩
abbrev main_v50_2 : Ref sig .tc := ⟨.hbm, 75, rfl⟩
abbrev main_v50_3 : Ref sig .tc := ⟨.hbm, 76, rfl⟩
abbrev main_v50_4 : Ref sig .tc := ⟨.hbm, 77, rfl⟩
abbrev main_v50_5 : Ref sig .tc := ⟨.hbm, 78, rfl⟩
abbrev main_v50_6 : Ref sig .tc := ⟨.hbm, 79, rfl⟩
abbrev main_while0c_c_13 : Ref sig .tc := ⟨.hbm, 80, rfl⟩
abbrev main_while0c_v51 : Ref sig .tc := ⟨.hbm, 81, rfl⟩
abbrev main_while0b_call2_c : Ref sig .tc := ⟨.hbm, 82, rfl⟩
abbrev main_while0b_call2_c_0 : Ref sig .tc := ⟨.hbm, 83, rfl⟩
abbrev main_while0b_call2_c_1 : Ref sig .tc := ⟨.hbm, 84, rfl⟩
abbrev main_while0b_call2_c_2 : Ref sig .tc := ⟨.hbm, 85, rfl⟩
abbrev main_while0b_call2_v0 : Ref sig .tc := ⟨.hbm, 86, rfl⟩
abbrev main_while0b_v51 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_c_1 : Ref sig .tc := ⟨.hbm, 90, rfl⟩
abbrev main_while0b_call3_c_2 : Ref sig .tc := ⟨.hbm, 91, rfl⟩
abbrev main_while0b_call3_v0 : Ref sig .tc := ⟨.hbm, 92, rfl⟩
abbrev main_while0b_v52 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_c_2 : Ref sig .tc := ⟨.hbm, 97, rfl⟩
abbrev main_while0b_call4_v0 : Ref sig .tc := ⟨.hbm, 98, rfl⟩
abbrev main_while0b_v53 : Ref sig .tc := ⟨.hbm, 99, rfl⟩
abbrev main_while0b_call5_c : Ref sig .tc := ⟨.hbm, 100, rfl⟩
abbrev main_while0b_call5_c_0 : Ref sig .tc := ⟨.hbm, 101, rfl⟩
abbrev main_while0b_call5_c_1 : Ref sig .tc := ⟨.hbm, 102, rfl⟩
abbrev main_while0b_call5_c_2 : Ref sig .tc := ⟨.hbm, 103, rfl⟩
abbrev main_while0b_call5_v0 : Ref sig .tc := ⟨.hbm, 104, rfl⟩
abbrev main_while0b_v54 : Ref sig .tc := ⟨.hbm, 105, rfl⟩
abbrev main_while0b_call6_call0_cst : Ref sig .tc := ⟨.hbm, 106, rfl⟩
abbrev main_while0b_call6_call0_v0 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_c_13 : Ref sig .tc := ⟨.hbm, 113, rfl⟩
abbrev main_while0b_v60 : Ref sig .tc := ⟨.hbm, 114, rfl⟩
abbrev main_while0b_call7_v0 : Ref sig .tc := ⟨.hbm, 115, rfl⟩
abbrev main_while0b_call7_c : Ref sig .tc := ⟨.hbm, 116, rfl⟩
abbrev main_while0b_call7_v1 : Ref sig .tc := ⟨.hbm, 117, rfl⟩
abbrev main_while0b_call7_v2 : Ref sig .tc := ⟨.hbm, 118, rfl⟩
abbrev main_while0b_call7_v3 : Ref sig .tc := ⟨.hbm, 119, rfl⟩
abbrev main_while0b_call7_v4 : Ref sig .tc := ⟨.hbm, 120, rfl⟩
abbrev main_while0b_call7_c_0 : Ref sig .tc := ⟨.hbm, 121, rfl⟩
abbrev main_while0b_call7_v5 : Ref sig .tc := ⟨.hbm, 122, rfl⟩
abbrev main_while0b_v61 : Ref sig .tc := ⟨.hbm, 123, rfl⟩
abbrev main_while0b_v62 : Ref sig .tc := ⟨.hbm, 124, rfl⟩
abbrev main_while0b_v63 : Ref sig .tc := ⟨.hbm, 125, rfl⟩
abbrev main_while0b_v64 : Ref sig .tc := ⟨.hbm, 126, rfl⟩
abbrev main_while0b_v65 : Ref sig .tc := ⟨.hbm, 127, rfl⟩
abbrev main_while0b_v66 : Ref sig .tc := ⟨.hbm, 128, rfl⟩
abbrev main_while0b_v67 : Ref sig .tc := ⟨.hbm, 129, rfl⟩
abbrev main_while0b_cst_14 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_v2 : Ref sig .tc := ⟨.hbm, 133, rfl⟩
abbrev main_while0b_v68 : Ref sig .tc := ⟨.hbm, 134, rfl⟩
abbrev main_while0b_v69 : Ref sig .tc := ⟨.hbm, 135, rfl⟩
abbrev main_while0b_v70 : Ref sig .tc := ⟨.hbm, 136, rfl⟩
abbrev main_while0b_v71 : Ref sig .tc := ⟨.hbm, 137, rfl⟩
abbrev main_while0b_v72 : Ref sig .tc := ⟨.hbm, 138, rfl⟩
abbrev main_while0b_v73 : Ref sig .tc := ⟨.hbm, 139, rfl⟩
abbrev main_while0b_v74 : Ref sig .tc := ⟨.hbm, 140, rfl⟩
abbrev main_while0b_v75 : Ref sig .tc := ⟨.hbm, 141, rfl⟩
abbrev main_while0b_cst_15 : Ref sig .tc := ⟨.hbm, 142, rfl⟩
abbrev main_while0b_v76 : Ref sig .tc := ⟨.hbm, 143, rfl⟩
abbrev main_while0b_v77 : Ref sig .tc := ⟨.hbm, 144, rfl⟩
abbrev main_while0b_v78 : Ref sig .tc := ⟨.hbm, 145, rfl⟩
abbrev main_while0b_v79 : Ref sig .tc := ⟨.hbm, 146, rfl⟩
abbrev main_while0b_v80 : Ref sig .tc := ⟨.hbm, 147, rfl⟩
abbrev main_while0b_v81 : Ref sig .tc := ⟨.hbm, 148, rfl⟩
abbrev main_while0b_v82 : Ref sig .tc := ⟨.hbm, 149, rfl⟩
abbrev main_while0b_v83 : Ref sig .tc := ⟨.hbm, 150, rfl⟩
abbrev main_while0b_v84 : Ref sig .tc := ⟨.hbm, 151, rfl⟩
abbrev main_while0b_v85 : Ref sig .tc := ⟨.hbm, 152, rfl⟩
abbrev main_while0b_v86 : Ref sig .tc := ⟨.hbm, 153, rfl⟩
abbrev main_while0b_v87 : Ref sig .tc := ⟨.hbm, 154, rfl⟩
abbrev main_while0b_v88 : Ref sig .tc := ⟨.hbm, 155, rfl⟩
abbrev main_while0b_v89 : Ref sig .tc := ⟨.hbm, 156, rfl⟩
abbrev main_while0b_v90 : Ref sig .tc := ⟨.hbm, 157, rfl⟩
abbrev main_while0b_v91 : Ref sig .tc := ⟨.hbm, 158, rfl⟩
abbrev main_while0b_v92 : Ref sig .tc := ⟨.hbm, 159, rfl⟩
abbrev main_while0b_call9_v0 : Ref sig .tc := ⟨.hbm, 160, rfl⟩
abbrev main_while0b_call9_c : Ref sig .tc := ⟨.hbm, 161, rfl⟩
abbrev main_while0b_call9_c_0 : Ref sig .tc := ⟨.hbm, 162, rfl⟩
abbrev main_while0b_call9_c_1 : Ref sig .tc := ⟨.hbm, 163, rfl⟩
abbrev main_while0b_call9_c_2 : Ref sig .tc := ⟨.hbm, 164, rfl⟩
abbrev main_while0b_v93 : Ref sig .tc := ⟨.hbm, 165, rfl⟩
abbrev main_while0b_c_16 : Ref sig .tc := ⟨.hbm, 166, rfl⟩
abbrev main_while0b_v94 : Ref sig .tc := ⟨.hbm, 167, rfl⟩

abbrev nD : Nat := 1
abbrev τ : Topo := Topo.v7x

variable {F : FTy → Type} [FloatOps F]

abbrev main_while0_count : Scf.Loop 32 := ⟨0#32, 128#32, 1#32⟩
-- ==== Kernel6.lean ====
abbrev S272x2048 : Shape := ⟨2, ![272, 2048]⟩
abbrev S2x512 : Shape := ⟨2, ![2, 512]⟩
abbrev S1x128 : Shape := ⟨2, ![1, 128]⟩
abbrev S128 : Shape := ⟨1, ![128]⟩
abbrev S4x128 : Shape := ⟨2, ![4, 128]⟩
abbrev S512 : Shape := ⟨1, ![512]⟩
abbrev S1x512 : Shape := ⟨2, ![1, 512]⟩
abbrev S16x2048 : Shape := ⟨2, ![16, 2048]⟩
abbrev S1x16x2048 : Shape := ⟨3, ![1, 16, 2048]⟩
abbrev S_ : Shape := ⟨0, ![]⟩
abbrev S1x4x128x128 : Shape := ⟨4, ![1, 4, 128, 128]⟩
abbrev S1x16x512 : Shape := ⟨3, ![1, 16, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S112x2048 : Shape := ⟨2, ![112, 2048]⟩
abbrev S128x2048 : Shape := ⟨2, ![128, 2048]⟩
abbrev S128x512 : Shape := ⟨2, ![128, 512]⟩
abbrev S16x8x512 : Shape := ⟨3, ![16, 8, 512]⟩
abbrev S16x1x512 : Shape := ⟨3, ![16, 1, 512]⟩
abbrev S15x1x512 : Shape := ⟨3, ![15, 1, 512]⟩
abbrev S1x1x512 : Shape := ⟨3, ![1, 1, 512]⟩
abbrev S128x1 : Shape := ⟨2, ![128, 1]⟩
abbrev S16x128 : Shape := ⟨2, ![16, 128]⟩
abbrev S1x16x128 : Shape := ⟨3, ![1, 16, 128]⟩

abbrev nBuf : Space → Nat
  | .hbm => 14
  | .vmem => 7
  | .smem => 0
  | _ => 0

abbrev bufTy : (tb : Table) → Fin (tcTables nBuf tb) → BufTy
  | .hbm, ⟨0, _⟩ => ⟨S272x2048, .f32⟩
  | .hbm, ⟨1, _⟩ => ⟨S2x512, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S4x128, .f32⟩
  | .hbm, ⟨6, _⟩ => ⟨S512, .f32⟩
  | .hbm, ⟨7, _⟩ => ⟨S1x512, .f32⟩
  | .hbm, ⟨8, _⟩ => ⟨S16x2048, .f32⟩
  | .hbm, ⟨9, _⟩ => ⟨S1x16x2048, .f32⟩
  | .hbm, ⟨10, _⟩ => ⟨S_, .f32⟩
  | .hbm, ⟨11, _⟩ => ⟨S1x4x128x128, .f32⟩
  | .hbm, ⟨12, _⟩ => ⟨S1x16x512, .f32⟩
  | .hbm, ⟨13, _⟩ => ⟨S1x4x128x128, .f32⟩
  | .local _ .vmem, ⟨0, _⟩ => ⟨S1x16x2048, .f32⟩
  | .local _ .vmem, ⟨1, _⟩ => ⟨S2x512, .f32⟩
  | .local _ .vmem, ⟨2, _⟩ => ⟨S1x512, .f32⟩
  | .local _ .vmem, ⟨3, _⟩ => ⟨S1x4x128x128, .f32⟩
  | .local _ .vmem, ⟨4, _⟩ => ⟨S1x16x512, .f32⟩
  | .local _ .vmem, ⟨5, _⟩ => ⟨S1x4x128x128, .f32⟩
  | .local _ .vmem, ⟨6, _⟩ => ⟨S4x128x128, .f32⟩
  | _, _ => ⟨S272x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_93 : BitVec 32 := 0#32
  let v329 : BitVec 1 := Scalar.cmpi .eq arg1 c0_i32_93
  let v330 : BitVec 32 := Scalar.extui v329
  let c0_i32_94 : BitVec 32 := 0#32
  let v331 : BitVec 1 := Scalar.cmpi .ne v330 c0_i32_94
  v331

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference6Ideal.lean ====
abbrev S272x2048 : Shape := ⟨2, ![272, 2048]⟩
abbrev S2x512 : Shape := ⟨2, ![2, 512]⟩
abbrev S1x128 : Shape := ⟨2, ![1, 128]⟩
abbrev S16x2048 : Shape := ⟨2, ![16, 2048]⟩
abbrev S1x16x2048 : Shape := ⟨3, ![1, 16, 2048]⟩
abbrev S_ : Shape := ⟨0, ![]⟩
abbrev S512 : Shape := ⟨1, ![512]⟩
abbrev S1x512 : Shape := ⟨2, ![1, 512]⟩
abbrev S1x16x512 : Shape := ⟨3, ![1, 16, 512]⟩
abbrev S1x16x4x128 : Shape := ⟨4, ![1, 16, 4, 128]⟩
abbrev S1x1x512 : Shape := ⟨3, ![1, 1, 512]⟩
abbrev S1x4x128x128 : Shape := ⟨4, ![1, 4, 128, 128]⟩
abbrev S1x4x128x16 : Shape := ⟨4, ![1, 4, 128, 16]⟩
abbrev S16x16 : Shape := ⟨2, ![16, 16]⟩
abbrev S1x16x16x1x1 : Shape := ⟨5, ![1, 16, 16, 1, 1]⟩
abbrev S1x16x1x4x128 : Shape := ⟨5, ![1, 16, 1, 4, 128]⟩
abbrev S1x1x16x4x128 : Shape := ⟨5, ![1, 1, 16, 4, 128]⟩
abbrev S1x16x16x4x128 : Shape := ⟨5, ![1, 16, 16, 4, 128]⟩
abbrev S1x16x16x4 : Shape := ⟨4, ![1, 16, 16, 4]⟩
abbrev S1x1x4x128 : Shape := ⟨4, ![1, 1, 4, 128]⟩
abbrev S1x4x128 : Shape := ⟨3, ![1, 4, 128]⟩
abbrev S1x4x128x1 : Shape := ⟨4, ![1, 4, 128, 1]⟩

abbrev nBuf : Space → Nat
  | .hbm => 118
  | .vmem => 0
  | .smem => 0
  | _ => 0

abbrev bufTy : (tb : Table) → Fin (tcTables nBuf tb) → BufTy
  | .hbm, ⟨0, _⟩ => ⟨S272x2048, .f32⟩
  | .hbm, ⟨1, _⟩ => ⟨S2x512, .f32⟩
  | .hbm, ⟨2, _⟩ => ⟨S1x128, .f32⟩
  | .hbm, ⟨3, _⟩ => ⟨S16x2048, .f32⟩
  | .hbm, ⟨4, _⟩ => ⟨S1x16x2048, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S2x512, .f32⟩
  | .hbm, ⟨12, _⟩ => ⟨S2x512, .f32⟩
  | .hbm, ⟨13, _⟩ => ⟨S2x512, .f32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S_, .f32⟩
  | .hbm, ⟨21, _⟩ => ⟨S2x512, .f32⟩
  | .hbm, ⟨22, _⟩ => ⟨S1x512, .f32⟩
  | .hbm, ⟨23, _⟩ => ⟨S512, .f32⟩
  | .hbm, ⟨24, _⟩ => ⟨S1x16x512, .f32⟩
  | .hbm, ⟨25, _⟩ => ⟨S1x16x512, .f32⟩
  | .hbm, ⟨26, _⟩ => ⟨S1x16x512, .f32⟩
  | .hbm, ⟨27, _⟩ => ⟨S1x16x512, .f32⟩
  | .hbm, ⟨28, _⟩ => ⟨S1x16x512, .f32⟩
  | .hbm, ⟨29, _⟩ => ⟨S1x16x512, .f32⟩
  | .hbm, ⟨30, _⟩ => ⟨S_, .f32⟩
  | .hbm, ⟨31, _⟩ => ⟨S1x16x512, .f32⟩
  | .hbm, ⟨32, _⟩ => ⟨S1x16x512, .f32⟩
  | .hbm, ⟨33, _⟩ => ⟨S_, .f32⟩
  | .hbm, ⟨34, _⟩ => ⟨S1x16x512, .f32⟩
  | .hbm, ⟨35, _⟩ => ⟨S1x16x512, .f32⟩
  | .hbm, ⟨36, _⟩ => ⟨S1x16x512, .f32⟩
  | .hbm, ⟨37, _⟩ => ⟨S1x16x4x128, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S1x16x512, .f32⟩
  | .hbm, ⟨42, _⟩ => ⟨S1x16x512, .f32⟩
  | .hbm, ⟨43, _⟩ => ⟨S_, .f32⟩
  | .hbm, ⟨44, _⟩ => ⟨S1x16x512, .f32⟩
  | .hbm, ⟨45, _⟩ => ⟨S1x16x512, .f32⟩
  | .hbm, ⟨46, _⟩ => ⟨S_, .f32⟩
  | .hbm, ⟨47, _⟩ => ⟨S1x16x512, .f32⟩
  | .hbm, ⟨48, _⟩ => ⟨S1x16x512, .f32⟩
  | .hbm, ⟨49, _⟩ => ⟨S1x1x512, .f32⟩
  | .hbm, ⟨50, _⟩ => ⟨S1x16x512, .f32⟩
  | .hbm, ⟨51, _⟩ => ⟨S1x16x512, .f32⟩
  | .hbm, ⟨52, _⟩ => ⟨S1x1x512, .f32⟩
  | .hbm, ⟨53, _⟩ => ⟨S1x16x512, .f32⟩
  | .hbm, ⟨54, _⟩ => ⟨S1x16x512, .f32⟩
  | .hbm, ⟨55, _⟩ => ⟨S_, .f32⟩
  | .hbm, ⟨56, _⟩ => ⟨S1x16x512, .f32⟩
  | .hbm, ⟨57, _⟩ => ⟨S1x16x512, .f32⟩
  | .hbm, ⟨58, _⟩ => ⟨S1x16x4x128, .f32⟩
  | .hbm, ⟨59, _⟩ => ⟨S1x16x512, .f32⟩
  | .hbm, ⟨60, _⟩ => ⟨S1x16x4x128, .f32⟩
  | .hbm, ⟨61, _⟩ => ⟨S1x16x4x128, .f32⟩
  | .hbm, ⟨62, _⟩ => ⟨S_, .f32⟩
  | .hbm, ⟨63, _⟩ => ⟨S1x4x128x128, .f32⟩
  | .hbm, ⟨64, _⟩ => ⟨S_, .f32⟩
  | .hbm, ⟨65, _⟩ => ⟨S_, .f32⟩
  | .hbm, ⟨66, _⟩ => ⟨S1x16x4x128, .f32⟩
  | .hbm, ⟨67, _⟩ => ⟨S1x16x4x128, .f32⟩
  | .hbm, ⟨68, _⟩ => ⟨S1x16x4x128, .f32⟩
  | .hbm, ⟨69, _⟩ => ⟨S1x4x128x16, .f32⟩
  | .hbm, ⟨70, _⟩ => ⟨S1x16x4x128, .f32⟩
  | .hbm, ⟨71, _⟩ => ⟨S_, .i1⟩
  | .hbm, ⟨72, _⟩ => ⟨S16x16, .i1⟩
  | .hbm, ⟨73, _⟩ => ⟨S16x16, .i32⟩
  | .hbm, ⟨74, _⟩ => ⟨S_, .i32⟩
  | .hbm, ⟨75, _⟩ => ⟨S16x16, .i32⟩
  | .hbm, ⟨76, _⟩ => ⟨S16x16, .i32⟩
  | .hbm, ⟨77, _⟩ => ⟨S16x16, .i32⟩
  | .hbm, ⟨78, _⟩ => ⟨S16x16, .i1⟩
  | .hbm, ⟨79, _⟩ => ⟨S_, .i1⟩
  | .hbm, ⟨80, _⟩ => ⟨S16x16, .i1⟩
  | .hbm, ⟨81, _⟩ => ⟨S16x16, .i1⟩
  | .hbm, ⟨82, _⟩ => ⟨S1x16x16x1x1, .i1⟩
  | .hbm, ⟨83, _⟩ => ⟨S1x16x1x4x128, .f32⟩
  | .hbm, ⟨84, _⟩ => ⟨S1x1x16x4x128, .f32⟩
  | .hbm, ⟨85, _⟩ => ⟨S1x16x16x4x128, .f32⟩
  | .hbm, ⟨86, _⟩ => ⟨S1x16x16x4x128, .f32⟩
  | .hbm, ⟨87, _⟩ => ⟨S1x16x16x4x128, .f32⟩
  | .hbm, ⟨88, _⟩ => ⟨S_, .f32⟩
  | .hbm, ⟨89, _⟩ => ⟨S_, .f32⟩
  | .hbm, ⟨90, _⟩ => ⟨S1x16x16x4x128, .i1⟩
  | .hbm, ⟨91, _⟩ => ⟨S1x16x16x4x128, .f32⟩
  | .hbm, ⟨92, _⟩ => ⟨S1x16x16x4x128, .f32⟩
  | .hbm, ⟨93, _⟩ => ⟨S1x16x16x4x128, .f32⟩
  | .hbm, ⟨94, _⟩ => ⟨S1x16x1x4x128, .f32⟩
  | .hbm, ⟨95, _⟩ => ⟨S1x1x16x4x128, .f32⟩
  | .hbm, ⟨96, _⟩ => ⟨S1x16x16x4x128, .f32⟩
  | .hbm, ⟨97, _⟩ => ⟨S1x16x16x4x128, .f32⟩
  | .hbm, ⟨98, _⟩ => ⟨S1x16x16x4x128, .f32⟩
  | .hbm, ⟨99, _⟩ => ⟨S1x16x16x4x128, .f32⟩
  | .hbm, ⟨100, _⟩ => ⟨S_, .f32⟩
  | .hbm, ⟨101, _⟩ => ⟨S1x16x16x4, .f32⟩
  | .hbm, ⟨102, _⟩ => ⟨S1x4x128x16, .f32⟩
  | .hbm, ⟨103, _⟩ => ⟨S1x16x4x128, .f32⟩
  | .hbm, ⟨104, _⟩ => ⟨S1x1x4x128, .f32⟩
  | .hbm, ⟨105, _⟩ => ⟨S1x4x128, .f32⟩
  | .hbm, ⟨106, _⟩ => ⟨S1x1x4x128, .f32⟩
  | .hbm, ⟨107, _⟩ => ⟨S1x16x4x128, .f32⟩
  | .hbm, ⟨108, _⟩ => ⟨S1x16x4x128, .f32⟩
  | .hbm, ⟨109, _⟩ => ⟨S1x16x4x128, .f32⟩
  | .hbm, ⟨110, _⟩ => ⟨S1x16x4x128, .f32⟩
  | .hbm, ⟨111, _⟩ => ⟨S1x4x128, .f32⟩
  | .hbm, ⟨112, _⟩ => ⟨S1x4x128x1, .f32⟩
  | .hbm, ⟨113, _⟩ => ⟨S1x4x128x128, .f32⟩
  | .hbm, ⟨114, _⟩ => ⟨S1x4x128x128, .f32⟩
  | .hbm, ⟨115, _⟩ => ⟨S1x4x128x128, .f32⟩
  | .hbm, ⟨116, _⟩ => ⟨S1x4x128x128, .f32⟩
  | .hbm, ⟨117, _⟩ => ⟨S1x16x4x128, .f32⟩
  | _, _ => ⟨S272x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_call0_cst : Ref sig .tc := ⟨.hbm, 19, rfl⟩
abbrev main_call0_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_call2_call0_cst : Ref sig .tc := ⟨.hbm, 64, rfl⟩
abbrev main_call2_call0_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c : Ref sig .tc := ⟨.hbm, 71, rfl⟩
abbrev main_v48 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_0 : Ref sig .tc := ⟨.hbm, 79, rfl⟩
abbrev main_call3_v5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_8 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩

abbrev nD : Nat := 1
abbrev τ : Topo := Topo.v7x

variable {F : FTy → Type} [FloatOps F]
-- ==== Proof.Choice.lean ====
module
public import Idealize.ShloMosaic.Lib.Pointwise
public import Idealize.ShloMosaic.Lib.SortPrefix
public import Idealize.ShloMosaic.PureOps.Ideal
@[expose] public section

/-! Choosing the greatest entry of a row, the first among equals: as a sort's first positions, and as a masked
    maximum followed by the least lane that attains it. -/

noncomputable section
namespace Cert.Moe
open Idealize.ShloMosaic
open scoped BigOperators

/-- `i` is the first position satisfying `P` at which `f` is greatest among the positions satisfying `P`. -/
def IsTop {n : Nat} (P : Fin n → Prop) (f : Fin n → EReal) (i : Fin n) : Prop :=
  P i ∧ (∀ j, P j → f j ≤ f i) ∧ ∀ j, P j → f j = f i → i ≤ j

/-- A set of positions that is not empty has such a position. -/
theorem exists_isTop {n : Nat} (P : Fin n → Prop) (f : Fin n → EReal) (h : ∃ i, P i) : ∃ i, IsTop P f i := by
  classical
  obtain ⟨i0, hi0⟩ := h
  obtain ⟨m, hm, hmax⟩ := Finset.exists_max_image (Finset.univ.filter P) f ⟨i0, by simp [hi0]⟩
  obtain ⟨i, hi, hmin⟩ := Finset.exists_min_image (Finset.univ.filter fun j => P j ∧ f j = f m) id
    ⟨m, by simp at hm; simp [hm]⟩
  simp only [Finset.mem_filter, Finset.mem_univ, true_and, id] at hm hmax hi hmin
  exact ⟨i, hi.1, fun j hj => hi.2 ▸ hmax j hj, fun j hj e => hmin j ⟨hj, e.trans hi.2⟩⟩

/-- `a` is ranked before `b`: a greater entry, or an equal one at an earlier position. -/
def Ranked {n : Nat} (f : Fin n → EReal) (a b : Fin n) : Bool :=
  decide (f b < f a) || (decide (f a = f b) && decide (a < b))

/-- The ranking is a strict total order on the positions. -/
theorem ranked_total {n : Nat} (f : Fin n → EReal) : StrictTotalBefore (Ranked f) := by
  refine StrictTotalBefore.of_key_then_position (κ := EReal) (fun a b => decide (b < a)) f ?_ ?_ ?_
  · intro a; simp
  · intro a b c hab hbc
    simp only [decide_eq_true_eq] at *
    exact lt_trans hbc hab
  · intro a b
    simp only [decide_eq_true_eq]
    rcases lt_trichotomy b a with h | h | h
    · exact Or.inl h
    · exact Or.inr (Or.inl h.symm)
    · exact Or.inr (Or.inr h)

/-- Two comparators that agree whenever a later element of the list is asked to go before an earlier one sort the list alike. -/
theorem stableSort_agree {ι : Type} (R R' : ι → ι → Bool) (l : List ι) (h : l.Pairwise fun a b => R b a = R' b a) :
    stableSort R l = stableSort R' l := by
  induction l with
  | nil => rfl
  | cons a l ih =>
    obtain ⟨h1, h2⟩ := List.pairwise_cons.mp h
    unfold stableSort
    rw [ih h2]
    exact insertBefore_congr R R' a _ fun b hb => h1 b ((perm_stableSort R' l).mem_iff.mp hb)

/-- A stable sort by the entries alone is the sort by the ranking. -/
theorem sortedFrom_key {n : Nat} (f : Fin n → EReal) (R : Fin n → Fin n → Bool) (hR : ∀ a b, R a b = decide (f b < f a)) :
    sortedFrom R = sortedFrom (Ranked f) := by
  funext k
  have e : sortPositions n R = sortPositions n (Ranked f) := by
    refine stableSort_agree _ _ _ ?_
    have hs : (List.finRange n).Pairwise fun a b => a < b := List.pairwise_lt_finRange n
    refine hs.imp fun {a b} hab => ?_
    rw [hR]; unfold Ranked
    simp [not_lt.mpr hab.le]
  unfold sortedFrom
  rw [List.get_of_eq e]; rfl

/-- The first `k` of every row's sort, when the sources `σ` are ranked in order and before every position left out:
    its values and its positions. -/
theorem topK_row {R n k : Nat} (hk : k ≤ n) (x : (⟨2, ![R, n]⟩ : Shape).Idx → EReal)
    (h : (⟨2, ![R, n]⟩ : Shape).Slices (fun _ => 0) ⟨2, ![R, k]⟩) (r : Fin R) (σ : Fin k → Fin n)
    (hinj : Function.Injective σ)
    (hord : ∀ i j : Fin k, i < j → Ranked (fun c => x (ix2 r c)) (σ j) (σ i) = false)
    (hdom : ∀ (i : Fin k) (p : Fin n), (∀ j, σ j ≠ p) → Ranked (fun c => x (ix2 r c)) p (σ i) = false) (i : Fin k) :
    (Host.topK (α := EReal) ⟨2, ![R, k]⟩ 1 (FloatOps.cmpfTotal (F := Ideal) (φ := .f32) .gt) x h).1 (ix2 r i) = x (ix2 r (σ i)) ∧
    (Host.topK (α := EReal) ⟨2, ![R, k]⟩ 1 (FloatOps.cmpfTotal (F := Ideal) (φ := .f32) .gt) x h).2 (ix2 r i) = BitVec.ofNat 32 (σ i).val := by
  have key := (ranked_total fun c => x (ix2 r c)).sortedFrom_eq_of_prefix hk σ hinj hord hdom i
  have hs : ∀ {α : Type} (y : (⟨2, ![R, n]⟩ : Shape).Idx → α),
      extractStridedSlice ⟨2, ![R, k]⟩ (fun _ => 0) y h (ix2 r i) = y (ix2 r (i.castLE hk)) := by
    intro α y
    unfold extractStridedSlice
    congr 1
    funext a
    match a with
    | 0 => exact Fin.ext (Nat.zero_add _)
    | 1 => exact Fin.ext (Nat.zero_add _)
  have hal : ∀ c c' : Fin n, Shape.Idx.along (s := ⟨2, ![R, n]⟩) (ix2 r c) (1 : Fin 2) c' = ix2 r c' := by
    intro c c'
    unfold Shape.Idx.along
    funext a
    match a with
    | 0 => rfl
    | 1 => rfl
  have hsf : sortedFrom (fun a b : Fin n => FloatOps.cmpfTotal (F := Ideal) (φ := .f32) .gt (x (ix2 r a)) (x (ix2 r b)) == 1#1)
      = sortedFrom (Ranked fun c => x (ix2 r c)) := by
    refine sortedFrom_key _ _ fun a b => ?_
    show (BitVec.ofBool (decide (x (ix2 r b) < x (ix2 r a))) == 1#1) = decide (x (ix2 r b) < x (ix2 r a))
    cases decide (x (ix2 r b) < x (ix2 r a)) <;> rfl
  have hp : sortedFrom (fun a b : Fin n => FloatOps.cmpfTotal (F := Ideal) (φ := .f32) .gt
      (x (Shape.Idx.along (s := ⟨2, ![R, n]⟩) (ix2 r (i.castLE hk)) (1 : Fin 2) a))
      (x (Shape.Idx.along (s := ⟨2, ![R, n]⟩) (ix2 r (i.castLE hk)) (1 : Fin 2) b)) == 1#1) (i.castLE hk) = σ i := by
    simp only [hal]
    rw [hsf, key]
  unfold Host.topK
  dsimp only
  rw [hs, hs]
  constructor
  · exact (congrArg (fun q : Fin n => x (Shape.Idx.along (s := ⟨2, ![R, n]⟩) (ix2 r (i.castLE hk)) (1 : Fin 2) q)) hp).trans
      (congrArg x (hal _ _))
  · exact (congrArg (fun q : Fin n => iotaInDim ⟨2, ![R, n]⟩ 32 1
      (Shape.Idx.along (s := ⟨2, ![R, n]⟩) (ix2 r (i.castLE hk)) (1 : Fin 2) q)) hp).trans (by rw [hal]; rfl)

/-- The two first positions of a ranking, from the first among all and the first among the others. -/
theorem top_two {n : Nat} {f : Fin n → EReal} {a b : Fin n} (ha : IsTop (fun _ => True) f a) (hb : IsTop (fun j => j ≠ a) f b) :
    Function.Injective ![a, b] ∧ (∀ i j : Fin 2, i < j → Ranked f (![a, b] j) (![a, b] i) = false) ∧
      ∀ (i : Fin 2) (p : Fin n), (∀ j, ![a, b] j ≠ p) → Ranked f p (![a, b] i) = false := by
  have first : ∀ {P : Fin n → Prop} {i : Fin n}, IsTop P f i → ∀ p, P p → Ranked f p i = false := by
    intro P i h p hp
    unfold Ranked
    simp only [Bool.or_eq_false_iff, Bool.and_eq_false_iff, decide_eq_false_iff_not, not_lt]
    refine ⟨h.2.1 p hp, ?_⟩
    by_cases e : f p = f i
    · exact Or.inr (h.2.2 p hp e)
    · exact Or.inl e
  refine ⟨?_, ?_, ?_⟩
  · intro i j hij
    fin_cases i <;> fin_cases j <;> simp at hij ⊢
    · exact hb.1 hij.symm
    · exact hb.1 hij
  · intro i j hij
    fin_cases i <;> fin_cases j <;> simp at hij ⊢
    exact first ha _ trivial
  · intro i p hp
    have h0 : p ≠ a := fun e => hp 0 e.symm
    fin_cases i
    · exact first ha _ trivial
    · exact first hb _ h0

/-- The one first position of a ranking. -/
theorem top_one {n : Nat} {f : Fin n → EReal} {a : Fin n} (ha : IsTop (fun _ => True) f a) :
    Function.Injective ![a] ∧ (∀ i j : Fin 1, i < j → Ranked f (![a] j) (![a] i) = false) ∧
      ∀ (i : Fin 1) (p : Fin n), (∀ j, ![a] j ≠ p) → Ranked f p (![a] i) = false := by
  refine ⟨fun i j _ => Subsingleton.elim i j, fun i j hij => absurd hij (by simp), fun i p _ => ?_⟩
  have hi : i = 0 := Subsingleton.elim _ _
  subst hi
  unfold Ranked
  rw [show (![a] : Fin 1 → Fin n) 0 = a from rfl]
  simp only [Bool.or_eq_false_iff, Bool.and_eq_false_iff, decide_eq_false_iff_not, not_lt]
  refine ⟨ha.2.1 p trivial, ?_⟩
  by_cases e : f p = f a
  · exact Or.inr (ha.2.2 p trivial e)
  · exact Or.inl e

/-! ### Over the lanes of a vector -/

/-- A maximum over lanes, masked: the greatest of the lanes in the mask when nothing outside is greater. -/
theorem fold_max_mask {n : Nat} (P : Fin n → Prop) [DecidablePred P] (f : Fin n → EReal) (b c : EReal) (i : Fin n) (hi : P i)
    (hmax : ∀ j, P j → f j ≤ f i) (hb : b ≤ f i) (hc : c ≤ f i) :
    Finset.fold max b (fun x => if P x then f x else c) Finset.univ = f i := by
  refine le_antisymm ?_ ?_
  · refine Finset.fold_max_le (f i) |>.mpr ⟨hb, fun x _ => ?_⟩
    split
    · exact hmax x ‹_›
    · exact hc
  · refine Finset.le_fold_max (f i) |>.mpr (Or.inr ⟨i, Finset.mem_univ _, ?_⟩)
    rw [if_pos hi]

/-- A small number's word read signed. -/
theorem toInt_word (k : Nat) (h : k < 2147483648) : (BitVec.ofNat 32 k).toInt = (k : Int) := by
  have h1 : (BitVec.ofNat 32 k).toNat = k := by rw [BitVec.toNat_ofNat]; omega
  rw [BitVec.toInt_eq_toNat_of_lt (by omega), h1]

/-- The signed least of a masked row of lane numbers: the first lane in the mask. -/
theorem fold_minsi_mask {n : Nat} (hn : n ≤ 1048576) (P : Fin n → Prop) [DecidablePred P] (i : Fin n) (hi : P i)
    (hmin : ∀ j, P j → i ≤ j) :
    Finset.fold IntOp.minsi 2147483647#32 (fun x => if P x then BitVec.ofNat 32 x.val else 1048576#32) Finset.univ
      = BitVec.ofNat 32 i.val := by
  have val : ∀ S : Finset (Fin n), (Finset.fold IntOp.minsi 2147483647#32
      (fun x => if P x then BitVec.ofNat 32 x.val else 1048576#32) S).toInt
      = Finset.fold min (2147483647 : Int) (fun x => if P x then (x.val : Int) else 1048576) S := by
    intro S
    induction S using Finset.induction_on with
    | empty => rfl
    | insert a S ha ih =>
      rw [Finset.fold_insert ha, Finset.fold_insert ha, ← ih]
      have hv : (if P a then BitVec.ofNat 32 a.val else 1048576#32).toInt = if P a then (a.val : Int) else 1048576 := by
        split
        · have := a.isLt
          exact toInt_word _ (by omega)
        · rfl
      rw [← hv]
      generalize (if P a then BitVec.ofNat 32 a.val else 1048576#32) = u
      generalize Finset.fold IntOp.minsi 2147483647#32 (fun x => if P x then BitVec.ofNat 32 x.val else 1048576#32) S = v
      unfold IntOp.minsi
      simp only [BitVec.slt, decide_eq_true_eq]
      split_ifs with h
      · exact (min_eq_left (le_of_lt h)).symm
      · exact (min_eq_right (not_lt.mp h)).symm
  apply BitVec.eq_of_toInt_eq
  rw [val]
  have hi' := i.isLt
  have e : (BitVec.ofNat 32 i.val).toInt = (i.val : Int) := by
    exact toInt_word _ (by omega)
  rw [e]
  refine le_antisymm ?_ ?_
  · refine Finset.fold_min_le (i.val : Int) |>.mpr (Or.inr ⟨i, Finset.mem_univ _, ?_⟩)
    rw [if_pos hi]
  · refine Finset.le_fold_min (i.val : Int) |>.mpr ⟨by omega, fun x _ => ?_⟩
    split
    · have := hmin x ‹_›
      exact_mod_cast this
    · omega

/-- A sum over lanes, masked by the lanes `g` numbers. -/
theorem sum_mask {n k : Nat} (P : Fin n → Prop) [DecidablePred P] (g : Fin k → Fin n) (hg : Function.Injective g)
    (hP : ∀ x, P x ↔ ∃ j, g j = x) (f : Fin n → EReal) : ∑ x, (if P x then f x else 0) = ∑ j, f (g j) := by
  rw [← Finset.sum_filter]
  exact Finset.sum_filter_eq_sum_of_fiber P g hg hP f

end Cert.Moe
-- ==== Proof.Arith.lean ====
module
public import Idealize.ShloMosaic.Lib.IdealHost
public import Idealize.ShloMosaic.PureOps.Ideal.Laws
public import Mathlib.Analysis.Complex.Trigonometric
@[expose] public section

/-! Real numbers among the extended reals: what the sums, products, exponentials and quotients of a layer with real
    inputs are, and the constants the programs write as bits. -/

noncomputable section
namespace Cert.Moe
open Idealize.ShloMosaic
open scoped BigOperators

/-- An extended real that is a real number. -/
def IsReal (x : EReal) : Prop := ∃ r : ℝ, x = (r : EReal)

theorem IsReal.coe (r : ℝ) : IsReal (r : EReal) := ⟨r, rfl⟩
theorem IsReal.zero : IsReal 0 := ⟨0, EReal.coe_zero.symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih
theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a
theorem IsReal.of_ne {x : EReal} (h : x ≠ ⊤) (h' : x ≠ ⊥) : IsReal x := ⟨x.toReal, (EReal.coe_toReal h h').symm⟩
theorem IsReal.of_abs_lt {x : EReal} (h : max x (-x) < ⊤) : IsReal x := by
  refine IsReal.of_ne ?_ ?_
  · rintro rfl; simp at h
  · rintro rfl; simp at h
theorem IsReal.sub_self {x : EReal} (h : IsReal x) : x - x = 0 := by
  obtain ⟨a, rfl⟩ := h
  rw [← EReal.coe_sub, _root_.sub_self, EReal.coe_zero]

/-! ### Constants -/

theorem bits_negInf : Ideal.ofBits .f32 4286578688#32 = ⊥ := by simp [Ideal.ofBits, Ideal.ieee]
theorem bits_posInf : Ideal.ofBits .f32 2139095040#32 = ⊤ := by simp [Ideal.ofBits, Ideal.ieee]
theorem bits_negOne : Ideal.ofBits .f32 3212836864#32 = -1 := IdealRules.sign_bit.ideal_negOnePat .f32
theorem bits_one : Ideal.ofBits .f32 1065353216#32 = 1 := Ideal.ofBits_one_f32
theorem bits_half : Ideal.ofBits .f32 1056964608#32 = ((1 / 2 : ℝ) : EReal) := by
  simp [Ideal.ofBits, Ideal.ieee]; norm_num [← EReal.coe_mul]
theorem bits_1024 : Ideal.ofBits .f32 1149239296#32 = ((1024 : ℝ) : EReal) := by
  simp [Ideal.ofBits, Ideal.ieee]; norm_num [← EReal.coe_mul]
theorem bits_eps : ∃ e : ℝ, 0 < e ∧ Ideal.ofBits .f32 897988541#32 = (e : EReal) := by
  refine ⟨_, ?_, (by simp [Ideal.ofBits, Ideal.ieee]; rfl)⟩
  positivity

/-! ### Exponentials, quotients, the normalization and the activation -/

theorem exp_real (r : ℝ) : Ideal.exp (r : EReal) = (Real.exp r : EReal) := rfl

theorem exp_nonneg (x : EReal) : 0 ≤ Ideal.exp x := by
  induction x with
  | bot => exact le_refl _
  | top => exact le_top
  | coe r => exact EReal.coe_nonneg.mpr (Real.exp_pos r).le

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A sum of exponentials of real numbers, over a row that is not empty, is a positive real number. -/
theorem sum_exp_pos {n : Nat} (hn : 0 < n) (f : Fin n → EReal) (h : ∀ i, IsReal (f i)) :
    ∃ S : ℝ, 0 < S ∧ ∑ i, Ideal.exp (f i) = (S : EReal) := by
  choose g hg using h
  refine ⟨∑ i, Real.exp (g i), ?_, ?_⟩
  · exact Finset.sum_pos (fun i _ => Real.exp_pos _) ⟨⟨0, hn⟩, Finset.mem_univ _⟩
  · have e : ∀ s : Finset (Fin n), ∑ i ∈ s, Ideal.exp (f i) = ((∑ i ∈ s, Real.exp (g i) : ℝ) : EReal) := by
      classical
      intro s
      induction s using Finset.induction_on with
      | empty => exact EReal.coe_zero.symm
      | insert a s ha ih => rw [Finset.sum_insert ha, Finset.sum_insert ha, ih, hg, exp_real, ← EReal.coe_add]
    exact e _

/-- An entry of a softmax of real numbers is a real number that is not negative. -/
theorem softmax_real {n : Nat} (hn : 0 < n) (f : Fin n → EReal) (h : ∀ i, IsReal (f i)) (i : Fin n) :
    ∃ p : ℝ, 0 ≤ p ∧ Ideal.div (Ideal.exp (f i)) (∑ j, Ideal.exp (f j)) = (p : EReal) := by
  obtain ⟨S, hS, e⟩ := sum_exp_pos hn f h
  obtain ⟨a, ha⟩ := h i
  exact ⟨Real.exp a / S, div_nonneg (Real.exp_pos a).le hS.le, by rw [e, ha, exp_real, div_real _ _ hS.ne']⟩

/-- The root mean square normalization of a real row, with real weights, is real. -/
theorem rms_real {n : Nat} (f : Fin n → EReal) (w : EReal) (hf : ∀ i, IsReal (f i)) (hw : IsReal w) (i : Fin n) :
    IsReal (f i * Ideal.rsqrt (Ideal.div (∑ j, f j * f j) (Ideal.ofBits .f32 1149239296#32) +
      Ideal.ofBits .f32 897988541#32) * w) := by
  refine ((hf i).mul ?_).mul hw
  choose g hg using hf
  obtain ⟨e, he, hbe⟩ := bits_eps
  have hs : ∀ s : Finset (Fin n), ∑ j ∈ s, f j * f j = ((∑ j ∈ s, g j * g j : ℝ) : EReal) := by
    classical
    intro s
    induction s using Finset.induction_on with
    | empty => exact EReal.coe_zero.symm
    | insert a s ha ih => rw [Finset.sum_insert ha, Finset.sum_insert ha, ih, hg, ← EReal.coe_mul, ← EReal.coe_add]
  rw [hs, bits_1024, hbe, div_real _ _ (by norm_num), ← EReal.coe_add]
  have hpos : 0 < (∑ j, g j * g j) / 1024 + e :=
    add_pos_of_nonneg_of_pos (div_nonneg (Finset.sum_nonneg fun j _ => mul_self_nonneg _) (by norm_num)) he
  refine ⟨(Real.sqrt ((∑ j, g j * g j) / 1024 + e))⁻¹, ?_⟩
  show (if (∑ j, g j * g j) / 1024 + e < 0 then (⊥ : EReal) else if (∑ j, g j * g j) / 1024 + e = 0 then ⊤ else
    (((Real.sqrt ((∑ j, g j * g j) / 1024 + e))⁻¹ : ℝ) : EReal)) = _
  rw [if_neg (not_lt.mpr hpos.le), if_neg hpos.ne']

/-- The hyperbolic-tangent form of the activation `x / (1 + exp (-x))`, at a real number. -/
theorem silu_tanh {x : EReal} (hx : IsReal x) :
    Ideal.ofBits .f32 1056964608#32 * x + Ideal.ofBits .f32 1056964608#32 * x * Ideal.tanh (Ideal.ofBits .f32 1056964608#32 * x)
      = x * Ideal.div 1 (1 + Ideal.exp (-x)) := by
  obtain ⟨a, rfl⟩ := hx
  have hpos : 0 < 1 + Real.exp (-a) := by positivity
  rw [bits_half, ← EReal.coe_mul, ← EReal.coe_neg, exp_real, show (1 : EReal) = ((1 : ℝ) : EReal) from EReal.coe_one.symm,
    ← EReal.coe_add, div_real _ _ hpos.ne', ← EReal.coe_mul]
  show ((1 / 2 * a : ℝ) : EReal) + ((1 / 2 * a : ℝ) : EReal) * ((Real.tanh (1 / 2 * a) : ℝ) : EReal) = _
  rw [← EReal.coe_mul, ← EReal.coe_add]
  congr 1
  have h1 : Real.exp (1 / 2 * a) * Real.exp (-(1 / 2 * a)) = 1 := by rw [← Real.exp_add]; simp
  have h2 : Real.exp (-a) = Real.exp (-(1 / 2 * a)) * Real.exp (-(1 / 2 * a)) := by rw [← Real.exp_add]; congr 1; ring
  rw [Real.tanh_eq_sinh_div_cosh, Real.sinh_eq, Real.cosh_eq, h2]
  have hu := Real.exp_pos (1 / 2 * a)
  have hv := Real.exp_pos (-(1 / 2 * a))
  generalize Real.exp (1 / 2 * a) = u at *
  generalize Real.exp (-(1 / 2 * a)) = v at *
  have huv : u + v ≠ 0 := by positivity
  have hvv : 1 + v * v ≠ 0 := by positivity
  field_simp
  linear_combination (2 * a * v) * h1

end Cert.Moe
-- ==== Proof.Route.lean ====
module
public import proofs.«01_k».proof.Proof.Choice
public import proofs.«01_k».proof.Proof.Arith
@[expose] public section

/-! The routing of one row: the group of the greatest group logit, the softmax of that group's expert logits, its two
    greatest entries, and the weight every expert gets. -/

noncomputable section
namespace Cert.Moe
open Idealize.ShloMosaic
open scoped BigOperators

/-- The expert numbered `k` of group `g`. -/
def expert (g k : Fin 4) : Fin 16 := ⟨4 * g.val + k.val, by omega⟩

/-- The softmax of a row of four, the exponents taken off entry `k0`. -/
def prob (L : Fin 4 → EReal) (k0 k : Fin 4) : EReal := Ideal.div (Ideal.exp (L k - L k0)) (∑ j, Ideal.exp (L j - L k0))

/-- The choices of one row with group logits `G` and expert logits `E`: the first greatest group, the first greatest
    logit in it, the first greatest probability and the first greatest of the others. -/
structure Route (G : Fin 4 → EReal) (E : Fin 16 → EReal) where
  g : Fin 4
  k0 : Fin 4
  j1 : Fin 4
  j2 : Fin 4
  hg : IsTop (fun _ => True) G g
  hk : IsTop (fun _ => True) (fun k => E (expert g k)) k0
  h1 : IsTop (fun _ => True) (prob (fun k => E (expert g k)) k0) j1
  h2 : IsTop (fun k => k ≠ j1) (prob (fun k => E (expert g k)) k0) j2

/-- Every row has such choices. -/
theorem exists_route (G : Fin 4 → EReal) (E : Fin 16 → EReal) : Nonempty (Route G E) := by
  obtain ⟨g, hg⟩ := exists_isTop (fun _ : Fin 4 => True) G ⟨0, trivial⟩
  obtain ⟨k0, hk⟩ := exists_isTop (fun _ : Fin 4 => True) (fun k => E (expert g k)) ⟨0, trivial⟩
  obtain ⟨j1, h1⟩ := exists_isTop (fun _ : Fin 4 => True) (prob (fun k => E (expert g k)) k0) ⟨0, trivial⟩
  obtain ⟨j2, h2⟩ := exists_isTop (fun k : Fin 4 => k ≠ j1) (prob (fun k => E (expert g k)) k0)
    ⟨j1 + 1, by intro h; have := congrArg Fin.val h; fin_cases j1 <;> simp at this⟩
  exact ⟨⟨g, k0, j1, j2, hg, hk, h1, h2⟩⟩

namespace Route
variable {G : Fin 4 → EReal} {E : Fin 16 → EReal} (R : Route G E)

/-- The probability of local expert `k`. -/
def p (k : Fin 4) : EReal := prob (fun k => E (expert R.g k)) R.k0 k

/-- The weight of one chosen expert, from its probability. -/
def gate (x : EReal) : EReal := Ideal.div (Ideal.div 1 (∑ i, Ideal.exp (G i - G R.g)) * x) (R.p R.j1 + R.p R.j2)

/-- The weight of expert `e`: the first choice's, the second's, or none. -/
def weight (e : Fin 16) : EReal :=
  (if e = expert R.g R.j1 then R.gate (R.p R.j1) else 0) + (if e = expert R.g R.j2 then R.gate (R.p R.j2) else 0)

/-- A probability of real logits is a real number that is not negative. -/
theorem p_nonneg (hE : ∀ e, IsReal (E e)) (k : Fin 4) : 0 ≤ R.p k := by
  obtain ⟨q, hq, e⟩ := softmax_real (by decide) (fun j => E (expert R.g j) - E (expert R.g R.k0))
    (fun j => (hE _).sub (hE _)) k
  show 0 ≤ Ideal.div _ _
  rw [e]
  exact EReal.coe_nonneg.mpr hq

end Route

/-- A row normalized by its root mean square and scaled by the weights `w`. -/
def norm (h w : Fin 1024 → EReal) (x : Fin 1024) : EReal :=
  h x * Ideal.rsqrt (Ideal.div (∑ y, h y * h y) (Ideal.ofBits .f32 1149239296#32) + Ideal.ofBits .f32 897988541#32) * w x

theorem norm_real {h w : Fin 1024 → EReal} (hh : ∀ x, IsReal (h x)) (hw : ∀ x, IsReal (w x)) (x : Fin 1024) :
    IsReal (norm h w x) := rms_real h (w x) hh (hw x) x

/-- A linear map with a bias, at output `c`. -/
def logit (n wt : Fin 1024 → EReal) (b : EReal) : EReal := ∑ x, n x * wt x + b

theorem logit_real {n wt : Fin 1024 → EReal} {b : EReal} (hn : ∀ x, IsReal (n x)) (hw : ∀ x, IsReal (wt x)) (hb : IsReal b) :
    IsReal (logit n wt b) := (IsReal.sum _ _ fun x => (hn x).mul (hw x)).add hb

/-- One hidden entry of one expert: the activated gate times the up projection, times the expert's weight. -/
def hiddenEntry (n : Fin 1024 → EReal) (weight : EReal) (wg wu : Fin 1024 → EReal) : EReal :=
  (∑ x, n x * wg x) * Ideal.div 1 (1 + Ideal.exp (-∑ x, n x * wg x)) * (∑ x, n x * wu x) * weight

/-- One output entry of the layer for one row: the residual and the weighted experts. -/
def layer (h : EReal) (n : Fin 1024 → EReal) (weight : Fin 16 → EReal) (wg wu : Fin 16 → Fin 1024 → Fin 256 → EReal)
    (wd : Fin 16 → Fin 256 → EReal) : EReal :=
  h + ∑ e, ∑ f, hiddenEntry n (weight e) (fun x => wg e x f) (fun x => wu e x f) * wd e f

end Cert.Moe
-- ==== Proof.KernelRoute.lean ====
module
public import proofs.«01_k».proof.Proof.Gen.KernelIdeal.Value
public import proofs.«01_k».proof.Proof.Route
public import Idealize.ShloMosaic.Lib.WordCmp
@[expose] public section

/-! The routing weights one block's payloads compute, lane by lane, are the row's. -/

noncomputable section
namespace Cert.KernelIdeal.Moe
open Cert.KernelIdeal Cert.KernelIdeal.Gen Idealize.ShloMosaic Cert.Moe
open scoped BigOperators

/-- The lane of group logit `i`. -/
def gLane (i : Fin 4) : Fin 128 := ⟨i.val, by omega⟩
/-- The lane of expert `e`. -/
def eLane (e : Fin 16) : Fin 128 := ⟨4 + e.val, by omega⟩
/-- The lane numbers, as the program's iota. -/
abbrev lanes : IVec S512x128 32 := iota .tc S512x128 32 [1] iota_S512x128_d1_w32

theorem gLane_inj : Function.Injective gLane := fun i j h => Fin.ext (by have := congrArg Fin.val h; exact this)
theorem eLane_inj : Function.Injective eLane := fun i j h => Fin.ext (by have := congrArg Fin.val h; simp [eLane] at this; exact this)
theorem expert_inj (g : Fin 4) : Function.Injective (expert g) := fun i j h => Fin.ext (by have := congrArg Fin.val h; simp [expert] at this; exact this)
theorem lt_four (x : Fin 128) : x.val < 4 ↔ ∃ i, gLane i = x :=
  ⟨fun h => ⟨⟨x.val, h⟩, rfl⟩, by rintro ⟨i, rfl⟩; exact i.isLt⟩
/-- A lane of group `g`'s experts. -/
def InGroup (g : Fin 4) (x : Fin 128) : Prop := 4 + 4 * g.val ≤ x.val ∧ x.val < 8 + 4 * g.val
instance (g : Fin 4) : DecidablePred (InGroup g) := fun x => inferInstanceAs (Decidable (_ ∧ _))
theorem inGroup_iff (g : Fin 4) (x : Fin 128) : InGroup g x ↔ ∃ k, eLane (expert g k) = x := by
  constructor
  · rintro ⟨h1, h2⟩
    exact ⟨⟨x.val - (4 + 4 * g.val), by omega⟩, Fin.ext (by simp [eLane, expert]; omega)⟩
  · rintro ⟨k, rfl⟩
    have := k.isLt
    exact ⟨by simp [eLane, expert], by simp [eLane, expert]; omega⟩

theorem lanes_apply (r : Fin 512) (x : Fin 128) : lanes (ix2 r x) = BitVec.ofNat 32 x.val := by pointwise [lanes]

/-- Lane words are compared as the lanes. -/
theorem word_eq (x y : Fin 128) : IntOp.cmpi .eq (BitVec.ofNat 32 x.val) (BitVec.ofNat 32 y.val) = BitVec.ofBool (decide (x = y)) := by
  simp (disch := omega) only [hlo_ix, Fin.ext_iff]
theorem word_ne (x y : Fin 128) : IntOp.cmpi .ne (BitVec.ofNat 32 x.val) (BitVec.ofNat 32 y.val) = BitVec.ofBool (decide (x ≠ y)) := by
  simp (disch := omega) only [hlo_ix, Fin.ext_iff, ne_eq]
theorem word_lt_four (x : Fin 128) : IntOp.cmpi .slt (BitVec.ofNat 32 x.val) 4#32 = BitVec.ofBool (decide (x.val < 4)) := by
  revert x; decide +kernel
theorem isGroup (r : Fin 512) (x : Fin 128) : k0_pay5 (ix2 r x) = BitVec.ofBool (decide (x.val < 4)) := by
  pointwise [k0_pay5]; exact word_lt_four x

/-- The group a lane's expert belongs to, by a shift. -/
theorem word_group (x : Fin 128) (g : Fin 4) :
    IntOp.andi (IntOp.andi (IntOp.cmpi .sge (IntOp.subi (BitVec.ofNat 32 x.val) 4#32) 0#32)
        (IntOp.cmpi .slt (IntOp.subi (BitVec.ofNat 32 x.val) 4#32) 16#32))
      (IntOp.cmpi .eq (IntOp.shrsi .vector (IntOp.subi (BitVec.ofNat 32 x.val) 4#32) 2#32) (BitVec.ofNat 32 g.val))
    = BitVec.ofBool (decide (InGroup g x)) := by
  revert x g; decide +kernel

theorem mask_and (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

section
variable (v33 v38 : FVec Ideal S512x128 .f32) (r : Fin 512) (G : Fin 4 → EReal) (E : Fin 16 → EReal)
  (h38 : ∀ x, v38 (ix2 r x) = if x.val < 4 then v33 (ix2 r x) else ⊥)
  (hG : ∀ i, v33 (ix2 r (gLane i)) = G i) (hE : ∀ e, v33 (ix2 r (eLane e)) = E e)
  (rE : ∀ e, IsReal (E e)) (R : Route G E)
include h38 hG

/-- The greatest of the group lanes. -/
theorem groupMax : Finset.fold max (Ideal.ofBits .f32 4286578688#32) (fun x => v38 (ix2 r x)) Finset.univ = G R.g := by
  rw [bits_negInf, ← hG, funext h38]
  refine fold_max_mask (fun x : Fin 128 => x.val < 4) (fun x => v33 (ix2 r x)) ⊥ ⊥ (gLane R.g) R.g.isLt ?_ bot_le bot_le
  intro x hx
  obtain ⟨i, rfl⟩ := (lt_four x).mp hx
  rw [hG, hG]; exact R.hg.2.1 i trivial

/-- The mask is the lanes of the chosen group. -/
theorem mask (x : Fin 128) : k0_pay9 v33 lanes k0_pay5 v38 (ix2 r x) = BitVec.ofBool (decide (InGroup R.g x)) := by
  pointwise [k0_pay9, k0_pay7]
  rw [groupMax v33 v38 r G E h38 hG R]
  simp only [lanes_apply, isGroup, mask_and, WordCmp.select_decide]
  rw [fold_minsi_mask (by norm_num) (fun x : Fin 128 => x.val < 4 ∧ v33 (ix2 r x) = G R.g) (gLane R.g) ⟨R.g.isLt, hG _⟩]
  · exact word_group x R.g
  · rintro x ⟨hx, e⟩
    obtain ⟨i, rfl⟩ := (lt_four x).mp hx
    rw [hG] at e
    exact R.hg.2.2 i trivial e

/-- The chosen group's probability. -/
theorem groupProb : k0_pay8 v33 k0_pay5 v38 (ix2 r 0) = Ideal.div 1 (∑ i, Ideal.exp (G i - G R.g)) := by
  pointwise [k0_pay8, k0_pay7]
  rw [groupMax v33 v38 r G E h38 hG R]
  simp only [isGroup, WordCmp.select_decide]
  rw [sum_mask (fun x : Fin 128 => x.val < 4) gLane gLane_inj lt_four (fun x => Ideal.exp (v33 (ix2 r x) - G R.g))]
  simp only [hG, bits_one]

include hE
/-- A masked lane's probability. -/
theorem laneProb (k : Fin 4) : k0_pay10 v33 lanes k0_pay5 v38 (ix2 r (eLane (expert R.g k))) = R.p k := by
  have hk : InGroup R.g (eLane (expert R.g k)) := (inGroup_iff _ _).mpr ⟨k, rfl⟩
  pointwise [k0_pay10]
  simp only [mask v33 v38 r G E h38 hG R, WordCmp.select_decide, if_pos hk]
  have hm : Finset.fold max (Ideal.ofBits .f32 4286578688#32)
      (fun x => if InGroup R.g x then v33 (ix2 r x) else Ideal.ofBits .f32 4286578688#32) Finset.univ = E (expert R.g R.k0) := by
    rw [bits_negInf, ← hE]
    refine fold_max_mask (InGroup R.g) (fun x => v33 (ix2 r x)) ⊥ ⊥ _ ((inGroup_iff _ _).mpr ⟨R.k0, rfl⟩) ?_ bot_le bot_le
    intro x hx
    obtain ⟨j, rfl⟩ := (inGroup_iff _ _).mp hx
    rw [hE, hE]; exact R.hk.2.1 j trivial
  rw [hm, sum_mask (InGroup R.g) (fun k => eLane (expert R.g k)) (eLane_inj.comp (expert_inj _)) (inGroup_iff _)
    (fun x => Ideal.exp (v33 (ix2 r x) - E (expert R.g R.k0)))]
  simp only [hE]
  rfl

include rE
/-- The two chosen lanes' weights. -/
theorem combine_lane (e : Fin 16) :
    k0_pay12 lanes (k0_pay8 v33 k0_pay5 v38) (k0_pay9 v33 lanes k0_pay5 v38) (k0_pay10 v33 lanes k0_pay5 v38)
      (k0_pay11 v33 lanes k0_pay5 v38) (ix2 r (eLane e)) = R.weight e := by
  have hp := laneProb v33 v38 r G E h38 hG hE R
  have hneg : ∀ k, (-1 : EReal) ≤ R.p k := fun k => le_trans (by norm_num) (R.p_nonneg rE k)
  have hin : ∀ k, InGroup R.g (eLane (expert R.g k)) := fun k => (inGroup_iff _ _).mpr ⟨k, rfl⟩
  pointwise [k0_pay12, k0_pay11]
  simp only [mask v33 v38 r G E h38 hG R, lanes_apply, WordCmp.select_decide, mask_and, groupProb v33 v38 r G E h38 hG R, bits_negInf, bits_negOne]
  have m1 : Finset.fold max ⊥ (fun x => if InGroup R.g x then k0_pay10 v33 lanes k0_pay5 v38 (ix2 r x) else -1) Finset.univ = R.p R.j1 := by
    rw [← hp]
    refine fold_max_mask (InGroup R.g) (fun x => k0_pay10 v33 lanes k0_pay5 v38 (ix2 r x)) ⊥ (-1) _ (hin _) ?_ bot_le (by rw [hp]; exact hneg _)
    intro x hx
    obtain ⟨j, rfl⟩ := (inGroup_iff _ _).mp hx
    rw [hp, hp]; exact R.h1.2.1 j trivial
  rw [m1]
  rw [fold_minsi_mask (by norm_num) (fun x => InGroup R.g x ∧ k0_pay10 v33 lanes k0_pay5 v38 (ix2 r x) = R.p R.j1)
    (eLane (expert R.g R.j1)) ⟨hin _, hp _⟩ (by
      rintro x ⟨hx, e⟩
      obtain ⟨j, rfl⟩ := (inGroup_iff _ _).mp hx
      rw [hp] at e
      have := Fin.le_def.mp (R.h1.2.2 j trivial e)
      exact Fin.le_def.mpr (by simp [eLane, expert]; exact this))]
  simp only [word_ne, word_eq, mask_and, WordCmp.select_decide]
  have m2 : Finset.fold max ⊥ (fun x => if InGroup R.g x ∧ x ≠ eLane (expert R.g R.j1) then k0_pay10 v33 lanes k0_pay5 v38 (ix2 r x) else -1) Finset.univ = R.p R.j2 := by
    rw [← hp]
    refine fold_max_mask (fun x => InGroup R.g x ∧ x ≠ eLane (expert R.g R.j1)) (fun x => k0_pay10 v33 lanes k0_pay5 v38 (ix2 r x)) ⊥ (-1) _
      ⟨hin _, fun h => R.h2.1 (expert_inj _ (eLane_inj h))⟩ ?_ bot_le (by rw [hp]; exact hneg _)
    rintro x ⟨hx, hne⟩
    obtain ⟨j, rfl⟩ := (inGroup_iff _ _).mp hx
    rw [hp, hp]; exact R.h2.2.1 j fun h => hne (by rw [h])
  rw [m2]
  rw [fold_minsi_mask (by norm_num) (fun x => (InGroup R.g x ∧ x ≠ eLane (expert R.g R.j1)) ∧ k0_pay10 v33 lanes k0_pay5 v38 (ix2 r x) = R.p R.j2)
    (eLane (expert R.g R.j2)) ⟨⟨hin _, fun h => R.h2.1 (expert_inj _ (eLane_inj h))⟩, hp _⟩ (by
      rintro x ⟨⟨hx, hne⟩, e⟩
      obtain ⟨j, rfl⟩ := (inGroup_iff _ _).mp hx
      rw [hp] at e
      have := Fin.le_def.mp (R.h2.2.2 j (fun h => hne (by rw [h])) e)
      exact Fin.le_def.mpr (by simp [eLane, expert]; exact this))]
  simp only [word_eq, WordCmp.select_decide, eLane_inj.eq_iff]
  rfl
end
end Cert.KernelIdeal.Moe
-- ==== Proof.KernelBlock.lean ====
module
public import proofs.«01_k».proof.Proof.KernelRoute
@[expose] public section

/-! What one grid point leaves in its output block, entry by entry. -/

noncomputable section
namespace Cert.KernelIdeal.Moe
open Cert.KernelIdeal Cert.KernelIdeal.Gen Idealize.ShloMosaic Cert.Moe
open scoped BigOperators

/-- A sum over sixteen, in the order the body adds. -/
theorem sum_sixteen (f : Fin 16 → EReal) : ∑ e, f e
    = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

section
variable (x0 : Vec Ideal S512x1024 .f32) (x1 : Vec Ideal S1x1024 .f32) (x2 : Vec Ideal S1024x128 .bf16)
  (x3 : Vec Ideal S1024x128 .bf16) (x4 : Vec Ideal S1x128 .f32) (x5 : Vec Ideal S16x1024x256 .bf16)
  (x6 : Vec Ideal S16x1024x256 .bf16) (x7 : Vec Ideal S16x256x1024 .bf16) (r : Fin 512)

/-- The block's row `r`, normalized. -/
abbrev rowNorm : Fin 1024 → EReal := norm (fun x => x0 (ix2 r x)) (fun x => x1 (ix2 0 x))

theorem norm_apply (d : Fin 1024) : k0_pay33 x0 x1 x2 x3 x4 x5 x6 x7 (ix2 r d) = rowNorm x0 x1 r d := by
  pointwise [k0_pay33, k0_pay3, k0_pay2]
  rfl

/-- The router's logits: the three products of the split operands add up to the one product, since what the split
    leaves over is zero. -/
theorem logit_apply (h0 : ∀ x, IsReal (x0 (ix2 r x))) (h1 : ∀ x, IsReal (x1 (ix2 0 x))) (c : Fin 128)
    (h3 : ∀ x, x3 (ix2 x c) = 0) :
    k0_pay34 x0 x1 x2 x3 x4 x5 x6 x7 (ix2 r c) = logit (rowNorm x0 x1 r) (fun x => x2 (ix2 x c)) (x4 (ix2 0 c)) := by
  have hz : ∀ x, rowNorm x0 x1 r x - rowNorm x0 x1 r x = 0 := fun x => (norm_real h0 h1 x).sub_self
  pointwise [k0_pay34, k0_pay4, k0_pay2, k0_pay3]
  show ∑ x, rowNorm x0 x1 r x * x2 (ix2 x c) + ∑ x, (rowNorm x0 x1 r x - rowNorm x0 x1 r x) * x2 (ix2 x c)
    + ∑ x, rowNorm x0 x1 r x * x3 (ix2 x c) + x4 (ix2 0 c) = _
  simp only [hz, h3, zero_mul, mul_zero, Finset.sum_const_zero, add_zero]
  rfl

/-- The group lanes of the logits, with the other lanes at minus infinity. -/
theorem masked_apply (x : Fin 128) : k0_pay36 x0 x1 x2 x3 x4 x5 x6 x7 (ix2 r x)
    = if x.val < 4 then k0_pay34 x0 x1 x2 x3 x4 x5 x6 x7 (ix2 r x) else ⊥ := by
  pointwise [k0_pay36, k0_pay6, k0_pay34]
  rw [bits_negInf, isGroup, WordCmp.select_decide]

variable (h0 : ∀ x, IsReal (x0 (ix2 r x))) (h1 : ∀ x, IsReal (x1 (ix2 0 x)))
  (h2 : ∀ x c, IsReal (x2 (ix2 x c))) (h3 : ∀ x c, x3 (ix2 x c) = 0) (h4 : ∀ c, IsReal (x4 (ix2 0 c)))
  (h5 : ∀ e x f, IsReal (x5 (ix3 e x f)))
  (R : Route (fun i => logit (rowNorm x0 x1 r) (fun x => x2 (ix2 x (gLane i))) (x4 (ix2 0 (gLane i))))
    (fun e => logit (rowNorm x0 x1 r) (fun x => x2 (ix2 x (eLane e))) (x4 (ix2 0 (eLane e)))))
include h0 h1 h2 h3 h4

/-- The routing weights of the block's rows. -/
theorem weight_apply (e : Fin 16) : k0_pay37 x0 x1 x2 x3 x4 x5 x6 x7 (ix2 r (eLane e)) = R.weight e := by
  refine combine_lane (k0_pay34 x0 x1 x2 x3 x4 x5 x6 x7) (k0_pay36 x0 x1 x2 x3 x4 x5 x6 x7) r _ _
    (masked_apply x0 x1 x2 x3 x4 x5 x6 x7 r) (fun i => ?_) (fun i => ?_) (fun i => ?_) R e
  · exact logit_apply x0 x1 x2 x3 x4 x5 x6 x7 r h0 h1 _ fun x => h3 x _
  · exact logit_apply x0 x1 x2 x3 x4 x5 x6 x7 r h0 h1 _ fun x => h3 x _
  · exact logit_real (norm_real h0 h1) (fun x => h2 x _) (h4 _)

include h5
/-- An entry of the block after the body. -/
theorem out_apply (d : Fin 1024) : out0_8 x0 x1 x2 x3 x4 x5 x6 x7 (ix2 r d)
    = layer (x0 (ix2 r d)) (rowNorm x0 x1 r) R.weight (fun e x f => x5 (ix3 e x f)) (fun e x f => x6 (ix3 e x f))
        (fun e f => x7 (ix3 e f d)) := by
  unfold out0_8
  rw [View.canon_unit_zero (by funext a; match a with | 0 => rfl | 1 => rfl)]
  pointwise [k0_pay1, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31]
  simp only [norm_apply]
  have hs : ∀ (e : Fin 16) (f : Fin 256), IsReal (∑ x, rowNorm x0 x1 r x * x5 (ix3 e x f)) :=
    fun e f => IsReal.sum _ _ fun x => (norm_real h0 h1 x).mul (h5 e x f)
  simp only [silu_tanh (hs _ _)]
  have hw := weight_apply x0 x1 x2 x3 x4 x5 x6 x7 r h0 h1 h2 h3 h4 R
  unfold layer hiddenEntry
  simp only [← hw]
  rw [sum_sixteen]
  rfl
end
end Cert.KernelIdeal.Moe
-- ==== Proof.HostPrep.lean ====
module
public import proofs.«01_k».proof.Proof.KernelBlock
public import proofs.«01_k».proof.Proof.Gen.KernelIdeal.Value
public import Idealize.ShloMosaic.Lib.Claim
public import Idealize.ShloMosaic.Lib.StableHlo.ReadAt
@[expose] public section

/-! What the host operations before the kernel leave in the arrays it reads. -/

noncomputable section
namespace Cert.KernelIdeal.Moe
open Cert.KernelIdeal Cert.KernelIdeal.Gen Idealize.ShloMosaic Idealize.ShloMosaic.TcCoe Cert.Moe
open scoped BigOperators
variable (V0 : Valuation τ sig (Elt Ideal))

theorem prep_v1 (x : Fin 1024) : StableHlo.after hostOps0 V0 (main_v1 : DevRef τ sig) (ix2 0 x : S1x1024.Idx)
    = V0 (main_arg1 : DevRef τ sig) (ix2 0 x : S1x1024.Idx) := by
  after_reads_at

theorem pre_v2 (x : Fin 1024) (i : Fin 4) : StableHlo.upto hostOps0 V0 6 (main_v2 : DevRef τ sig) (ix2 x i : S1024x4.Idx)
    = V0 (main_arg2 : DevRef τ sig) (ix3 0 x i : S1x1024x4.Idx) := by
  after_reads_at

theorem pre_v3 (x : Fin 1024) (i : Fin 16) : StableHlo.upto hostOps0 V0 6 (main_v3 : DevRef τ sig) (ix2 x i : S1024x16.Idx)
    = V0 (main_arg4 : DevRef τ sig) (ix3 0 x i : S1x1024x16.Idx) := by
  after_reads_at

theorem pre_v4 (x : Fin 1024) (i : Fin 108) : StableHlo.upto hostOps0 V0 6 (main_v4 : DevRef τ sig) (ix2 x i : S1024x108.Idx)
    = (0 : EReal) := by
  after_reads_at

theorem pre_v10 (i : Fin 4) : StableHlo.upto hostOps0 V0 15 (main_v10 : DevRef τ sig) (ix1 i : S4.Idx)
    = V0 (main_arg3 : DevRef τ sig) (ix2 0 i : S1x4.Idx) := by
  after_reads_at

theorem pre_v11 (i : Fin 16) : StableHlo.upto hostOps0 V0 15 (main_v11 : DevRef τ sig) (ix1 i : S16.Idx)
    = V0 (main_arg5 : DevRef τ sig) (ix2 0 i : S1x16.Idx) := by
  after_reads_at

theorem pre_v12 (i : Fin 108) : StableHlo.upto hostOps0 V0 15 (main_v12 : DevRef τ sig) (ix1 i : S108.Idx)
    = (0 : EReal) := by
  after_reads_at

/-- A group's lane of the joint router holds the group router's column. -/
theorem prep_v6_g (x : Fin 1024) (i : Fin 4) : StableHlo.after hostOps0 V0 (main_v6 : DevRef τ sig) (ix2 x (gLane i) : S1024x128.Idx)
    = V0 (main_arg2 : DevRef τ sig) (ix3 0 x i : S1x1024x4.Idx) := by
  after_reads_at
  rw [dif_pos (show (gLane i).val < 4 from i.isLt)]
  exact pre_v2 V0 x i

/-- An expert's lane of the joint router holds the expert router's column. -/
theorem prep_v6_e (x : Fin 1024) (e : Fin 16) : StableHlo.after hostOps0 V0 (main_v6 : DevRef τ sig) (ix2 x (eLane e) : S1024x128.Idx)
    = V0 (main_arg4 : DevRef τ sig) (ix3 0 x e : S1x1024x16.Idx) := by
  have hv : (eLane e).val - 4 = e.val := by show 4 + e.val - 4 = e.val; omega
  after_reads_at
  rw [dif_neg (show ¬ (eLane e).val < 4 by show ¬ 4 + e.val < 4; omega), dif_pos (show (eLane e).val - 4 < 16 by rw [hv]; exact e.isLt)]
  refine (congrArg (fun k : Fin 16 => StableHlo.upto hostOps0 V0 6 (main_v3 : DevRef τ sig) (ix2 x k : S1024x16.Idx)) (Fin.ext hv)).trans ?_
  exact pre_v3 V0 x e

theorem prep_v6 (h2 : ∀ x i, IsReal (V0 (main_arg2 : DevRef τ sig) (ix3 0 x i : S1x1024x4.Idx)))
    (h4 : ∀ x i, IsReal (V0 (main_arg4 : DevRef τ sig) (ix3 0 x i : S1x1024x16.Idx))) (x : Fin 1024) (i : Fin 128) :
    IsReal (StableHlo.after hostOps0 V0 (main_v6 : DevRef τ sig) (ix2 x i : S1024x128.Idx)) := by
  after_reads_at
  split
  · exact (pre_v2 V0 x _).symm ▸ h2 x _
  · split
    · exact (pre_v3 V0 x _).symm ▸ h4 x _
    · exact (pre_v4 V0 x _).symm ▸ IsReal.zero

/-- What rounding the joint router leaves over is zero: over the reals it is `w - w`. -/
theorem prep_v9 (h2 : ∀ x i, IsReal (V0 (main_arg2 : DevRef τ sig) (ix3 0 x i : S1x1024x4.Idx)))
    (h4 : ∀ x i, IsReal (V0 (main_arg4 : DevRef τ sig) (ix3 0 x i : S1x1024x16.Idx))) (x : Fin 1024) (i : Fin 128) :
    StableHlo.after hostOps0 V0 (main_v9 : DevRef τ sig) (ix2 x i : S1024x128.Idx) = (0 : EReal) := by
  have h := prep_v6 V0 h2 h4 x i
  revert h
  after_reads_at
  exact IsReal.sub_self

theorem prep_v14_g (i : Fin 4) : StableHlo.after hostOps0 V0 (main_v14 : DevRef τ sig) (ix2 0 (gLane i) : S1x128.Idx)
    = V0 (main_arg3 : DevRef τ sig) (ix2 0 i : S1x4.Idx) := by
  after_reads_at
  rw [dif_pos (show (gLane i).val < 4 from i.isLt)]
  exact pre_v10 V0 i

theorem prep_v14_e (e : Fin 16) : StableHlo.after hostOps0 V0 (main_v14 : DevRef τ sig) (ix2 0 (eLane e) : S1x128.Idx)
    = V0 (main_arg5 : DevRef τ sig) (ix2 0 e : S1x16.Idx) := by
  have hv : (eLane e).val - 4 = e.val := by show 4 + e.val - 4 = e.val; omega
  after_reads_at
  rw [dif_neg (show ¬ (eLane e).val < 4 by show ¬ 4 + e.val < 4; omega), dif_pos (show (eLane e).val - 4 < 16 by rw [hv]; exact e.isLt)]
  refine (congrArg (fun k : Fin 16 => StableHlo.upto hostOps0 V0 15 (main_v11 : DevRef τ sig) (ix1 k : S16.Idx)) (Fin.ext hv)).trans ?_
  exact pre_v11 V0 e

theorem prep_v14 (h3 : ∀ i, IsReal (V0 (main_arg3 : DevRef τ sig) (ix2 0 i : S1x4.Idx)))
    (h5 : ∀ i, IsReal (V0 (main_arg5 : DevRef τ sig) (ix2 0 i : S1x16.Idx))) (i : Fin 128) :
    IsReal (StableHlo.after hostOps0 V0 (main_v14 : DevRef τ sig) (ix2 0 i : S1x128.Idx)) := by
  after_reads_at
  split
  · exact (pre_v10 V0 _).symm ▸ h3 _
  · split
    · exact (pre_v11 V0 _).symm ▸ h5 _
    · exact (pre_v12 V0 _).symm ▸ IsReal.zero

theorem prep_v16 (e : Fin 16) (x : Fin 1024) (f : Fin 256) : StableHlo.after hostOps0 V0 (main_v16 : DevRef τ sig) (ix3 e x f : S16x1024x256.Idx)
    = V0 (main_arg6 : DevRef τ sig) (ix4 0 e x f : S1x16x1024x256.Idx) := by
  after_reads_at
theorem prep_v18 (e : Fin 16) (x : Fin 1024) (f : Fin 256) : StableHlo.after hostOps0 V0 (main_v18 : DevRef τ sig) (ix3 e x f : S16x1024x256.Idx)
    = V0 (main_arg7 : DevRef τ sig) (ix4 0 e x f : S1x16x1024x256.Idx) := by
  after_reads_at
theorem prep_v20 (e : Fin 16) (f : Fin 256) (x : Fin 1024) : StableHlo.after hostOps0 V0 (main_v20 : DevRef τ sig) (ix3 e f x : S16x256x1024.Idx)
    = V0 (main_arg8 : DevRef τ sig) (ix4 0 e f x : S1x16x256x1024.Idx) := by
  after_reads_at
end Cert.KernelIdeal.Moe
-- ==== Proof.KernelArray.lean ====
module
public import proofs.«01_k».proof.Proof.HostPrep
@[expose] public section

/-! The array that the kernel's run leaves, entry by entry, over the arguments' launch contents. -/

noncomputable section
namespace Cert.KernelIdeal.Moe
open Cert.KernelIdeal Cert.KernelIdeal.Gen Idealize.ShloMosaic Idealize.ShloMosaic.TcCoe Cert.Moe
open scoped BigOperators
variable (m : (ℓ : Loc nD τ sig) → Buf (Elt Ideal) ℓ)

/-- Where each grid point's blocks lie: the tokens' at the point's own place, the weights' at the array's start. -/
theorem idx_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 3) = 0 ∧ win0_7.index t (1 : Fin 3) = 0 ∧ win0_7.index t (2 : Fin 3) = 0)
    ∧ (win0_8.index t (0 : Fin 2) = t.val ∧ win0_8.index t (1 : Fin 2) = 0) :=
  (by decide +kernel : ∀ t : Fin grid0.N, _)

theorem flush8 : ∀ t : Fin cfg0.N, (cfg0.win 8).flush t = true :=
  (by decide +kernel : ∀ t : Fin grid0.N, _)

/-- The row of the whole array that row `r` of block `t` is. -/
def row (t : Fin cfg0.N) (r : Fin 512) : Fin 16384 := ⟨512 * t.val + r.val, by
  have h : t.val < 32 := t.isLt
  omega⟩

theorem emb0 (t : Fin cfg0.N) (r : Fin 512) (x : Fin 1024) :
    ((cfg0.win 0).blk t).view.emb (ix2 r x : S512x1024.Idx) = (ix2 (row t r) x : S16384x1024.Idx) := by
  obtain ⟨⟨e0, e1⟩, -⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 1024 + 1 * x.val = x.val; omega

theorem emb1 (t : Fin cfg0.N) (z : S1x1024.Idx) : ((cfg0.win 1).blk t).view.emb z = z := by
  obtain ⟨-, ⟨e0, e1⟩, -⟩ := idx_facts t
  funext a; apply Fin.ext
  match a with
  | ⟨0, _⟩ => show win0_1.index t (0 : Fin 2) * 1 + 1 * (z 0).val = (z 0).val; omega
  | ⟨1, _⟩ => show win0_1.index t (1 : Fin 2) * 1024 + 1 * (z 1).val = (z 1).val; omega

theorem emb2 (t : Fin cfg0.N) (z : S1024x128.Idx) : ((cfg0.win 2).blk t).view.emb z = z := by
  obtain ⟨-, -, ⟨e0, e1⟩, -⟩ := idx_facts t
  funext a; apply Fin.ext
  match a with
  | ⟨0, _⟩ => show win0_2.index t (0 : Fin 2) * 1024 + 1 * (z 0).val = (z 0).val; omega
  | ⟨1, _⟩ => show win0_2.index t (1 : Fin 2) * 128 + 1 * (z 1).val = (z 1).val; omega

theorem emb3 (t : Fin cfg0.N) (z : S1024x128.Idx) : ((cfg0.win 3).blk t).view.emb z = z := by
  obtain ⟨-, -, -, ⟨e0, e1⟩, -⟩ := idx_facts t
  funext a; apply Fin.ext
  match a with
  | ⟨0, _⟩ => show win0_3.index t (0 : Fin 2) * 1024 + 1 * (z 0).val = (z 0).val; omega
  | ⟨1, _⟩ => show win0_3.index t (1 : Fin 2) * 128 + 1 * (z 1).val = (z 1).val; omega

theorem emb4 (t : Fin cfg0.N) (z : S1x128.Idx) : ((cfg0.win 4).blk t).view.emb z = z := by
  obtain ⟨-, -, -, -, ⟨e0, e1⟩, -⟩ := idx_facts t
  funext a; apply Fin.ext
  match a with
  | ⟨0, _⟩ => show win0_4.index t (0 : Fin 2) * 1 + 1 * (z 0).val = (z 0).val; omega
  | ⟨1, _⟩ => show win0_4.index t (1 : Fin 2) * 128 + 1 * (z 1).val = (z 1).val; omega

theorem emb5 (t : Fin cfg0.N) (z : S16x1024x256.Idx) : ((cfg0.win 5).blk t).view.emb z = z := by
  obtain ⟨-, -, -, -, -, ⟨e0, e1, e2⟩, -⟩ := idx_facts t
  funext a; apply Fin.ext
  match a with
  | ⟨0, _⟩ => show win0_5.index t (0 : Fin 3) * 16 + 1 * (z 0).val = (z 0).val; omega
  | ⟨1, _⟩ => show win0_5.index t (1 : Fin 3) * 1024 + 1 * (z 1).val = (z 1).val; omega
  | ⟨2, _⟩ => show win0_5.index t (2 : Fin 3) * 256 + 1 * (z 2).val = (z 2).val; omega

theorem emb6 (t : Fin cfg0.N) (z : S16x1024x256.Idx) : ((cfg0.win 6).blk t).view.emb z = z := by
  obtain ⟨-, -, -, -, -, -, ⟨e0, e1, e2⟩, -⟩ := idx_facts t
  funext a; apply Fin.ext
  match a with
  | ⟨0, _⟩ => show win0_6.index t (0 : Fin 3) * 16 + 1 * (z 0).val = (z 0).val; omega
  | ⟨1, _⟩ => show win0_6.index t (1 : Fin 3) * 1024 + 1 * (z 1).val = (z 1).val; omega
  | ⟨2, _⟩ => show win0_6.index t (2 : Fin 3) * 256 + 1 * (z 2).val = (z 2).val; omega

theorem emb7 (t : Fin cfg0.N) (z : S16x256x1024.Idx) : ((cfg0.win 7).blk t).view.emb z = z := by
  obtain ⟨-, -, -, -, -, -, -, ⟨e0, e1, e2⟩, -⟩ := idx_facts t
  funext a; apply Fin.ext
  match a with
  | ⟨0, _⟩ => show win0_7.index t (0 : Fin 3) * 16 + 1 * (z 0).val = (z 0).val; omega
  | ⟨1, _⟩ => show win0_7.index t (1 : Fin 3) * 256 + 1 * (z 1).val = (z 1).val; omega
  | ⟨2, _⟩ => show win0_7.index t (2 : Fin 3) * 1024 + 1 * (z 2).val = (z 2).val; omega

theorem emb8 (t : Fin cfg0.N) (r : Fin 512) (x : Fin 1024) :
    ((cfg0.win 8).blk t).view.emb (ix2 r x : S512x1024.Idx) = (ix2 (row t r) x : S16384x1024.Idx) := by
  obtain ⟨-, -, -, -, -, -, -, -, e0, e1⟩ := idx_facts t
  funext a; apply Fin.ext
  match a with
  | ⟨0, _⟩ => show win0_8.index t (0 : Fin 2) * 512 + 1 * r.val = 512 * t.val + r.val; omega
  | ⟨1, _⟩ => show win0_8.index t (1 : Fin 2) * 1024 + 1 * x.val = x.val; omega

section
variable (c : Dev nD) (t : Fin cfg0.N)

theorem blk0 (r : Fin 512) (x : Fin 1024) :
    iblk m c 0 t (ix2 r x : S512x1024.Idx) = m ((c : Thread nD τ).loc main_arg0) (ix2 (row t r) x : S16384x1024.Idx) := by
  show V m c main_arg0 (((cfg0.win 0).blk t).view.emb (ix2 r x : S512x1024.Idx)) = _
  rw [emb0, V_main_arg0]

theorem blk1 (x : Fin 1024) :
    iblk m c 1 t (ix2 0 x : S1x1024.Idx) = m ((c : Thread nD τ).loc main_arg1) (ix2 0 x : S1x1024.Idx) := by
  show V m c main_v1 (((cfg0.win 1).blk t).view.emb (ix2 0 x : S1x1024.Idx)) = _
  rw [emb1]
  exact prep_v1 (fun b => m (c, b)) x

theorem blk2 (z : S1024x128.Idx) :
    iblk m c 2 t z = StableHlo.after hostOps0 (fun b => m (c, b)) (main_v6 : DevRef τ sig) z := by
  show V m c main_v6 (((cfg0.win 2).blk t).view.emb z) = _
  rw [emb2]

theorem blk3 (z : S1024x128.Idx) :
    iblk m c 3 t z = StableHlo.after hostOps0 (fun b => m (c, b)) (main_v9 : DevRef τ sig) z := by
  show V m c main_v9 (((cfg0.win 3).blk t).view.emb z) = _
  rw [emb3]

theorem blk4 (z : S1x128.Idx) :
    iblk m c 4 t z = StableHlo.after hostOps0 (fun b => m (c, b)) (main_v14 : DevRef τ sig) z := by
  show V m c main_v14 (((cfg0.win 4).blk t).view.emb z) = _
  rw [emb4]

theorem blk5 (e : Fin 16) (x : Fin 1024) (f : Fin 256) : iblk m c 5 t (ix3 e x f : S16x1024x256.Idx)
    = m ((c : Thread nD τ).loc main_arg6) (ix4 0 e x f : S1x16x1024x256.Idx) := by
  show V m c main_v16 (((cfg0.win 5).blk t).view.emb (ix3 e x f : S16x1024x256.Idx)) = _
  rw [emb5]
  exact prep_v16 (fun b => m (c, b)) e x f

theorem blk6 (e : Fin 16) (x : Fin 1024) (f : Fin 256) : iblk m c 6 t (ix3 e x f : S16x1024x256.Idx)
    = m ((c : Thread nD τ).loc main_arg7) (ix4 0 e x f : S1x16x1024x256.Idx) := by
  show V m c main_v18 (((cfg0.win 6).blk t).view.emb (ix3 e x f : S16x1024x256.Idx)) = _
  rw [emb6]
  exact prep_v18 (fun b => m (c, b)) e x f

theorem blk7 (e : Fin 16) (f : Fin 256) (x : Fin 1024) : iblk m c 7 t (ix3 e f x : S16x256x1024.Idx)
    = m ((c : Thread nD τ).loc main_arg8) (ix4 0 e f x : S1x16x256x1024.Idx) := by
  show V m c main_v20 (((cfg0.win 7).blk t).view.emb (ix3 e f x : S16x256x1024.Idx)) = _
  rw [emb7]
  exact prep_v20 (fun b => m (c, b)) e f x

theorem final_apply (r : Fin 512) (d : Fin 1024) :
    (dats m 0 c).arrAt 8 cfg0.N (ix2 (row t r) d : S16384x1024.Idx)
      = out0_8 (iblk m c 0 t) (iblk m c 1 t) (iblk m c 2 t) (iblk m c 3 t) (iblk m c 4 t) (iblk m c 5 t) (iblk m c 6 t)
        (iblk m c 7 t) (ix2 r d : S512x1024.Idx) := by
  have b := congrFun (Cert.KernelIdeal.Value.blocks8 m c t (flush8 t)) (ix2 r d : S512x1024.Idx)
  rw [Cert.KernelIdeal.Value.flushed8] at b
  have b' : (dats m 0 c).arrAt 8 cfg0.N (((cfg0.win 8).blk t).view.emb (ix2 r d : S512x1024.Idx)) = _ := b
  rw [emb8] at b'
  exact b'
end

section
variable (c : Dev nD)

/-- The arguments, entry by entry, as the kernel's launch finds them. -/
abbrev aH (r : Fin 16384) (x : Fin 1024) : EReal := m ((c : Thread nD τ).loc main_arg0) (ix2 r x : S16384x1024.Idx)
abbrev aN (x : Fin 1024) : EReal := m ((c : Thread nD τ).loc main_arg1) (ix2 0 x : S1x1024.Idx)
abbrev aG (x : Fin 1024) (i : Fin 4) : EReal := m ((c : Thread nD τ).loc main_arg2) (ix3 0 x i : S1x1024x4.Idx)
abbrev aGb (i : Fin 4) : EReal := m ((c : Thread nD τ).loc main_arg3) (ix2 0 i : S1x4.Idx)
abbrev aE (x : Fin 1024) (e : Fin 16) : EReal := m ((c : Thread nD τ).loc main_arg4) (ix3 0 x e : S1x1024x16.Idx)
abbrev aEb (e : Fin 16) : EReal := m ((c : Thread nD τ).loc main_arg5) (ix2 0 e : S1x16.Idx)
abbrev aWg (e : Fin 16) (x : Fin 1024) (f : Fin 256) : EReal := m ((c : Thread nD τ).loc main_arg6) (ix4 0 e x f : S1x16x1024x256.Idx)
abbrev aWu (e : Fin 16) (x : Fin 1024) (f : Fin 256) : EReal := m ((c : Thread nD τ).loc main_arg7) (ix4 0 e x f : S1x16x1024x256.Idx)
abbrev aWd (e : Fin 16) (f : Fin 256) (d : Fin 1024) : EReal := m ((c : Thread nD τ).loc main_arg8) (ix4 0 e f d : S1x16x256x1024.Idx)

/-- What the kernel leaves at `(r, d)` is the layer's value there. -/
theorem kernel_value (hH : ∀ r x, IsReal (aH m c r x)) (hN : ∀ x, IsReal (aN m c x)) (hG : ∀ x i, IsReal (aG m c x i))
    (hGb : ∀ i, IsReal (aGb m c i)) (hE : ∀ x e, IsReal (aE m c x e)) (hEb : ∀ e, IsReal (aEb m c e))
    (hWg : ∀ e x f, IsReal (aWg m c e x f)) (r : Fin 16384)
    (R : Route (fun i => logit (norm (aH m c r) (aN m c)) (fun x => aG m c x i) (aGb m c i))
      (fun e => logit (norm (aH m c r) (aN m c)) (fun x => aE m c x e) (aEb m c e))) (d : Fin 1024) :
    (dats m 0 c).arrAt 8 cfg0.N (ix2 r d : S16384x1024.Idx)
      = layer (aH m c r d) (norm (aH m c r) (aN m c)) R.weight (aWg m c) (aWu m c) (fun e f => aWd m c e f d) := by
  obtain ⟨t, q, rfl⟩ : ∃ (t : Fin cfg0.N) (q : Fin 512), row t q = r :=
    ⟨(⟨r.val / 512, by have := r.isLt; omega⟩ : Fin 32), ⟨r.val % 512, by omega⟩, Fin.ext (by show 512 * (r.val / 512) + r.val % 512 = r.val; omega)⟩
  have b0 : (fun x => iblk m c 0 t (ix2 q x : S512x1024.Idx)) = aH m c (row t q) := funext fun x => blk0 m c t q x
  have b1 : (fun x => iblk m c 1 t (ix2 0 x : S1x1024.Idx)) = aN m c := funext fun x => blk1 m c t x
  have hn : rowNorm (iblk m c 0 t) (iblk m c 1 t) q = norm (aH m c (row t q)) (aN m c) := by
    show norm (fun x => iblk m c 0 t (ix2 q x : S512x1024.Idx)) (fun x => iblk m c 1 t (ix2 0 x : S1x1024.Idx)) = _
    rw [b0, b1]
  have b2g : ∀ i, (fun x => iblk m c 2 t (ix2 x (gLane i) : S1024x128.Idx)) = fun x => aG m c x i := fun i => funext fun x =>
    (blk2 m c t _).trans (prep_v6_g (fun b => m (c, b)) x i)
  have b2e : ∀ e, (fun x => iblk m c 2 t (ix2 x (eLane e) : S1024x128.Idx)) = fun x => aE m c x e := fun e => funext fun x =>
    (blk2 m c t _).trans (prep_v6_e (fun b => m (c, b)) x e)
  have b4g : ∀ i, iblk m c 4 t (ix2 0 (gLane i) : S1x128.Idx) = aGb m c i := fun i =>
    (blk4 m c t _).trans (prep_v14_g (fun b => m (c, b)) i)
  have b4e : ∀ e, iblk m c 4 t (ix2 0 (eLane e) : S1x128.Idx) = aEb m c e := fun e =>
    (blk4 m c t _).trans (prep_v14_e (fun b => m (c, b)) e)
  have eg : (fun i => logit (rowNorm (iblk m c 0 t) (iblk m c 1 t) q) (fun x => iblk m c 2 t (ix2 x (gLane i) : S1024x128.Idx))
      (iblk m c 4 t (ix2 0 (gLane i) : S1x128.Idx)))
      = fun i => logit (norm (aH m c (row t q)) (aN m c)) (fun x => aG m c x i) (aGb m c i) := funext fun i => by
    rw [hn, b2g, b4g]
  have ee : (fun e => logit (rowNorm (iblk m c 0 t) (iblk m c 1 t) q) (fun x => iblk m c 2 t (ix2 x (eLane e) : S1024x128.Idx))
      (iblk m c 4 t (ix2 0 (eLane e) : S1x128.Idx)))
      = fun e => logit (norm (aH m c (row t q)) (aN m c)) (fun x => aE m c x e) (aEb m c e) := funext fun e => by
    rw [hn, b2e, b4e]
  have key : ∀ (G : Fin 4 → EReal) (E : Fin 16 → EReal) (_ : (fun i => logit (rowNorm (iblk m c 0 t) (iblk m c 1 t) q)
      (fun x => iblk m c 2 t (ix2 x (gLane i) : S1024x128.Idx)) (iblk m c 4 t (ix2 0 (gLane i) : S1x128.Idx))) = G)
      (_ : (fun e => logit (rowNorm (iblk m c 0 t) (iblk m c 1 t) q)
      (fun x => iblk m c 2 t (ix2 x (eLane e) : S1024x128.Idx)) (iblk m c 4 t (ix2 0 (eLane e) : S1x128.Idx))) = E) (R : Route G E),
      out0_8 (iblk m c 0 t) (iblk m c 1 t) (iblk m c 2 t) (iblk m c 3 t) (iblk m c 4 t) (iblk m c 5 t) (iblk m c 6 t)
        (iblk m c 7 t) (ix2 q d : S512x1024.Idx)
      = layer (iblk m c 0 t (ix2 q d : S512x1024.Idx)) (rowNorm (iblk m c 0 t) (iblk m c 1 t) q) R.weight
        (fun e x f => iblk m c 5 t (ix3 e x f : S16x1024x256.Idx)) (fun e x f => iblk m c 6 t (ix3 e x f : S16x1024x256.Idx))
        (fun e f => iblk m c 7 t (ix3 e f d : S16x256x1024.Idx)) := by
    rintro G E rfl rfl R
    exact out_apply _ _ _ _ _ _ _ _ q (fun x => (blk0 m c t q x).symm ▸ hH _ x) (fun x => (blk1 m c t x).symm ▸ hN x)
      (fun x l => (blk2 m c t _).symm ▸ prep_v6 (fun b => m (c, b)) hG hE x l)
      (fun x l => (blk3 m c t _).trans (prep_v9 (fun b => m (c, b)) hG hE x l))
      (fun l => (blk4 m c t _).symm ▸ prep_v14 (fun b => m (c, b)) hGb hEb l)
      (fun e x f => (blk5 m c t e x f).symm ▸ hWg e x f) R d
  have b5 : (fun e x f => iblk m c 5 t (ix3 e x f : S16x1024x256.Idx)) = aWg m c :=
    funext fun e => funext fun x => funext fun f => blk5 m c t e x f
  have b6 : (fun e x f => iblk m c 6 t (ix3 e x f : S16x1024x256.Idx)) = aWu m c :=
    funext fun e => funext fun x => funext fun f => blk6 m c t e x f
  have b7 : (fun e f => iblk m c 7 t (ix3 e f d : S16x256x1024.Idx)) = fun e f => aWd m c e f d :=
    funext fun e => funext fun f => blk7 m c t e f d
  refine (final_apply m c t q d).trans ((key _ _ eg ee R).trans ?_)
  rw [b5, b6, b7, hn, blk0]
end
end Cert.KernelIdeal.Moe
-- ==== Proof.RefRoute.lean ====
module
public import proofs.«01_k».proof.Proof.Route
public import proofs.«01_k».proof.Proof.Gen.ReferenceIdeal.Run
public import Idealize.ShloMosaic.Lib.Pointwise
@[expose] public section

/-! The reference's routing, entry by entry. -/

noncomputable section
namespace Cert.ReferenceIdeal.Moe
open Cert.ReferenceIdeal Cert.ReferenceIdeal.Gen Cert.ReferenceIdeal.Value Idealize.ShloMosaic Idealize.ShloMosaic.TcCoe Cert.Moe
open scoped BigOperators
variable (V0 : Valuation τ sig (Elt Ideal))

/-- The arguments, entry by entry. -/
abbrev bH (r : Fin 16384) (x : Fin 1024) : EReal := V0 (main_arg0 : DevRef τ sig) (ix2 r x : S16384x1024.Idx)
abbrev bN (x : Fin 1024) : EReal := V0 (main_arg1 : DevRef τ sig) (ix2 0 x : S1x1024.Idx)
abbrev bG (x : Fin 1024) (i : Fin 4) : EReal := V0 (main_arg2 : DevRef τ sig) (ix3 0 x i : S1x1024x4.Idx)
abbrev bGb (i : Fin 4) : EReal := V0 (main_arg3 : DevRef τ sig) (ix2 0 i : S1x4.Idx)
abbrev bE (x : Fin 1024) (e : Fin 16) : EReal := V0 (main_arg4 : DevRef τ sig) (ix3 0 x e : S1x1024x16.Idx)
abbrev bEb (e : Fin 16) : EReal := V0 (main_arg5 : DevRef τ sig) (ix2 0 e : S1x16.Idx)
abbrev bWg (e : Fin 16) (x : Fin 1024) (f : Fin 256) : EReal := V0 (main_arg6 : DevRef τ sig) (ix4 0 e x f : S1x16x1024x256.Idx)
abbrev bWu (e : Fin 16) (x : Fin 1024) (f : Fin 256) : EReal := V0 (main_arg7 : DevRef τ sig) (ix4 0 e x f : S1x16x1024x256.Idx)
abbrev bWd (e : Fin 16) (f : Fin 256) (d : Fin 1024) : EReal := V0 (main_arg8 : DevRef τ sig) (ix4 0 e f d : S1x16x256x1024.Idx)

/-- A row normalized, and its two sets of logits. -/
abbrev rowN (r : Fin 16384) : Fin 1024 → EReal := norm (bH V0 r) (bN V0)
abbrev rowG (r : Fin 16384) (i : Fin 4) : EReal := logit (rowN V0 r) (fun x => bG V0 x i) (bGb V0 i)
abbrev rowE (r : Fin 16384) (e : Fin 16) : EReal := logit (rowN V0 r) (fun x => bE V0 x e) (bEb V0 e)

theorem v13_apply (r : Fin 16384) (x : Fin 1024) : res_main_v13 V0 (ix2 r x : S16384x1024.Idx) = rowN V0 r x := by
  unfold res_main_v13
  pointwise
  rfl

theorem v24_apply (r : Fin 16384) (i : Fin 4) : res_main_v24 V0 (ix2 r i : S16384x4.Idx) = rowG V0 r i := by
  unfold res_main_v24
  pointwise
  simp only [v13_apply]
  rfl

/-- The maximum of a row of four, from minus infinity, is its greatest entry. -/
theorem row_max (v : S16384x4.Idx → EReal) (r : Fin 16384) {f : Fin 4 → EReal} (hv : ∀ i, v (ix2 r i) = f i) {g : Fin 4}
    (hg : IsTop (fun _ => True) f g) :
    max ⊥ (Finset.fold max ⊥ v (Finset.univ.filter fun i => reducesTo_S16384x4_S16384_d1.drop i = (ix1 r : S16384.Idx))) = f g := by
  rw [max_eq_right bot_le, Shape.ReducesTo.fold_fiber_r2_a1]
  refine Eq.trans ?_ (fold_max_mask (fun _ => True) f ⊥ ⊥ g trivial (fun j _ => hg.2.1 j trivial) bot_le bot_le)
  refine Finset.fold_congr fun i _ => ?_
  rw [if_pos trivial]
  exact hv i

theorem v31_apply (r : Fin 16384) (i : Fin 4) {g : Fin 4} (hg : IsTop (fun _ => True) (rowG V0 r) g) :
    res_main_v31 V0 (ix2 r i : S16384x4.Idx) = Ideal.exp (rowG V0 r i - rowG V0 r g) := by
  unfold res_main_v31
  pointwise
  rw [v24_apply, bits_negInf]
  exact congrArg (fun z => Ideal.exp (rowG V0 r i - z)) (row_max (res_main_v24 V0) r (v24_apply V0 r) hg)

theorem v36_apply (r : Fin 16384) {g : Fin 4} (hg : IsTop (fun _ => True) (rowG V0 r) g) :
    res_main_v36 V0 (ix1 r : S16384.Idx) = BitVec.ofNat 32 g.val := by
  have hf : (fun c => res_main_v24 V0 (ix2 r c : S16384x4.Idx)) = rowG V0 r := funext (v24_apply V0 r)
  obtain ⟨a, b, c⟩ := top_one hg
  rw [← hf] at b c
  unfold res_main_v36
  pointwise
  exact (topK_row (by decide) (res_main_v24 V0) sliceFits_S16384x4_S16384x1 r ![g] a b c 0).2

/-- A group's number is not negative, so the index is not moved up by four. -/
theorem word_kept (g : Fin 4) : Scalar.select (IntOp.cmpi .slt (BitVec.ofNat 32 g.val) 0#32)
    (IntOp.addi (BitVec.ofNat 32 g.val) 4#32) (BitVec.ofNat 32 g.val) = BitVec.ofNat 32 g.val := by
  revert g; decide +kernel

/-- A group's number is in bounds. -/
theorem word_bounds (g : Fin 4) : IntOp.andi (IntOp.cmpi .sge (BitVec.ofNat 32 g.val) 0#32)
    (IntOp.cmpi .sle (BitVec.ofNat 32 g.val) 3#32) = 1#1 := by
  revert g; decide +kernel

theorem call0_apply (r : Fin 16384) {g : Fin 4} (hg : IsTop (fun _ => True) (rowG V0 r) g) :
    res_main_call0_v5 V0 (ix3 r 0 0 : S16384x1x1.Idx) = BitVec.ofNat 32 g.val := by
  unfold res_main_call0_v5 res_main_v37
  pointwise
  rw [v36_apply V0 r hg]
  exact word_kept g

theorem call1_apply (r : Fin 16384) {g : Fin 4} (hg : IsTop (fun _ => True) (rowG V0 r) g) :
    res_main_call1_v4 V0 (ix3 r 0 0 : S16384x1x1.Idx) = BitVec.ofNat 32 g.val := by
  unfold res_main_call1_v4 res_main_v44
  pointwise
  rw [v36_apply V0 r hg]
  exact word_kept g

/-- The test that an index vector of one entry is in bounds. -/
theorem bounds_fold (v : S16384x1x1.Idx → BitVec 1) (r : Fin 16384) (hv : v (ix3 r 0 0) = 1#1) :
    Finset.fold IntOp.andi 1#1 v (Finset.univ.filter fun i => reducesTo_S16384x1x1_S16384x1_d2.drop i = (ix2 r 0 : S16384x1.Idx)) = 1#1 := by
  rw [Shape.ReducesTo.fold_fiber_r3_a2, Finset.univ_unique, Finset.fold_singleton]
  show IntOp.andi (v (ix3 r 0 0)) 1#1 = 1#1
  rw [hv]
  rfl

theorem select_one {α : Type} {w : BitVec 1} (x y : α) (hw : w = 1#1) : Scalar.select w x y = x := by subst hw; rfl

/-- The gather of a group's four logits. -/
theorem gather_logits (x : S16384x4x4.Idx → EReal) (idx : IVec S16384x1x1 32) (r : Fin 16384) (k g : Fin 4)
    (hi : idx (ix3 r 0 0) = BitVec.ofNat 32 g.val) :
    Host.gather gather_S16384x4x4_S16384x1x1_S16384x1x4_2_1_0_0_1_2_114 x idx (ix3 r 0 k : S16384x1x4.Idx) = x (ix3 r g k) := by
  show x (GatherDims.operandIdx _ _ _) = _
  refine congrArg x (funext fun a => Fin.ext ?_)
  match a with
  | ⟨0, _⟩ => show 0 + r.val + 0 = r.val; omega
  | ⟨1, _⟩ =>
    have hs : gather_S16384x4x4_S16384x1x1_S16384x1x4_2_1_0_0_1_2_114.siIdx (ix3 r 0 k : S16384x1x4.Idx) ⟨0, by decide⟩
        = (ix3 r 0 0 : S16384x1x1.Idx) := by
      funext b
      match b with
      | ⟨0, _⟩ => rfl
      | ⟨1, _⟩ => rfl
      | ⟨2, _⟩ => rfl
    show min (idx (gather_S16384x4x4_S16384x1x1_S16384x1x4_2_1_0_0_1_2_114.siIdx (ix3 r 0 k : S16384x1x4.Idx) ⟨0, by decide⟩)).toInt.toNat 3 + 0 + 0 = g.val
    rw [hs, hi, toInt_word _ (by omega)]
    simp
    omega
  | ⟨2, _⟩ =>
    show 0 + 0 + k.val = k.val
    omega

/-- The gather of a group's probability. -/
theorem gather_prob (x : S16384x4.Idx → EReal) (idx : IVec S16384x1x1 32) (r : Fin 16384) (g : Fin 4)
    (hi : idx (ix3 r 0 0) = BitVec.ofNat 32 g.val) :
    Host.gather gather_S16384x4_S16384x1x1_S16384x1_n_1_0_0_1_2_11 x idx (ix2 r 0 : S16384x1.Idx) = x (ix2 r g) := by
  show x (GatherDims.operandIdx _ _ _) = _
  refine congrArg x (funext fun a => Fin.ext ?_)
  match a with
  | ⟨0, _⟩ => show 0 + r.val + 0 = r.val; omega
  | ⟨1, _⟩ =>
    have hs : gather_S16384x4_S16384x1x1_S16384x1_n_1_0_0_1_2_11.siIdx (ix2 r 0 : S16384x1.Idx) ⟨0, by decide⟩
        = (ix3 r 0 0 : S16384x1x1.Idx) := by
      funext b
      match b with
      | ⟨0, _⟩ => rfl
      | ⟨1, _⟩ => rfl
      | ⟨2, _⟩ => rfl
    show min (idx (gather_S16384x4_S16384x1x1_S16384x1_n_1_0_0_1_2_11.siIdx (ix2 r 0 : S16384x1.Idx) ⟨0, by decide⟩)).toInt.toNat 3 + 0 + 0 = g.val
    rw [hs, hi, toInt_word _ (by omega)]
    simp
    omega

theorem v46_apply (r : Fin 16384) (k : Fin 4) {g : Fin 4} (hg : IsTop (fun _ => True) (rowG V0 r) g) :
    res_main_v46 V0 (ix2 r k : S16384x4.Idx) = rowE V0 r (expert g k) := by
  unfold res_main_v46
  pointwise
  refine (select_one _ _ (bounds_fold _ r ?_)).trans ((gather_logits _ _ r k g (call1_apply V0 r hg)).trans ?_)
  · exact (congrArg (fun w => IntOp.andi (IntOp.cmpi .sge w 0#32) (IntOp.cmpi .sle w 3#32)) (call1_apply V0 r hg)).trans (word_bounds g)
  · have e : ∀ h, (⟨g.val * 4 + k.val, h⟩ : Fin 16) = expert g k := fun h => Fin.ext (by show g.val * 4 + k.val = 4 * g.val + k.val; omega)
    pointwise
    simp only [v13_apply, e]
    rfl

section
variable (r : Fin 16384) (R : Route (rowG V0 r) (rowE V0 r))

theorem v53_apply (k : Fin 4) : res_main_v53 V0 (ix2 r k : S16384x4.Idx)
    = Ideal.exp (rowE V0 r (expert R.g k) - rowE V0 r (expert R.g R.k0)) := by
  unfold res_main_v53
  pointwise
  rw [v46_apply V0 r k R.hg, bits_negInf]
  exact congrArg (fun z => Ideal.exp (rowE V0 r (expert R.g k) - z)) (row_max (res_main_v46 V0) r (fun i => v46_apply V0 r i R.hg) R.hk)

theorem v57_apply (k : Fin 4) : res_main_v57 V0 (ix2 r k : S16384x4.Idx) = R.p k := by
  unfold res_main_v57
  pointwise
  simp only [v53_apply V0 r R]
  rfl

theorem top_apply (i : Fin 2) :
    (Host.topK (α := EReal) S16384x2 1 (FloatOps.cmpfTotal (F := Ideal) (φ := .f32) .gt) (res_main_v57 V0) sliceFits_S16384x4_S16384x2).1
        (ix2 r i : S16384x2.Idx) = R.p (![R.j1, R.j2] i) ∧
    (Host.topK (α := EReal) S16384x2 1 (FloatOps.cmpfTotal (F := Ideal) (φ := .f32) .gt) (res_main_v57 V0) sliceFits_S16384x4_S16384x2).2
        (ix2 r i : S16384x2.Idx) = BitVec.ofNat 32 (![R.j1, R.j2] i : Fin 4).val := by
  have hf : (fun c => res_main_v57 V0 (ix2 r c : S16384x4.Idx)) = R.p := funext (v57_apply V0 r R)
  obtain ⟨a, b, c⟩ := top_two (f := R.p) R.h1 R.h2
  rw [← hf] at b c
  obtain ⟨u, v⟩ := topK_row (by decide) (res_main_v57 V0) sliceFits_S16384x4_S16384x2 r ![R.j1, R.j2] a b c i
  exact ⟨u.trans (v57_apply V0 r R _), v⟩
end
end Cert.ReferenceIdeal.Moe
-- ==== Proof.RefValue.lean ====
module
public import proofs.«01_k».proof.Proof.RefRoute
@[expose] public section

/-! The reference's result, entry by entry. -/

noncomputable section
namespace Cert.ReferenceIdeal.Moe
open Cert.ReferenceIdeal Cert.ReferenceIdeal.Gen Cert.ReferenceIdeal.Value Idealize.ShloMosaic Idealize.ShloMosaic.TcCoe Cert.Moe
open scoped BigOperators
variable (V0 : Valuation τ sig (Elt Ideal))

/-- The two gates of every token. -/
def gates : FVec Ideal S16384x2 .f32 :=
  Host.divf (mulf (broadcastInDim S16384x2 ![0, 1] bcast_S16384x1_S16384x2_0_1 (select (Host.reduce IntOp.andi (andi (cmpi .sge (res_main_call0_v5 V0) (broadcastInDim S16384x1x1 ![] bcast_S_S16384x1x1 (constantI S_ 32 0#32))) (cmpi .sle (res_main_call0_v5 V0) (broadcastInDim S16384x1x1 ![0, 1, 2] bcast_S1x1x1_S16384x1x1_0_1_2 (broadcastInDim S1x1x1 ![2] bcast_S1_S1x1x1_2 (constantI S1 32 3#32))))) (constantI S_ 1 1#1) reducesTo_S16384x1x1_S16384x1_d2 h_S_) (Host.gather gather_S16384x4_S16384x1x1_S16384x1_n_1_0_0_1_2_11 (Host.divf (res_main_v31 V0) (broadcastInDim S16384x4 ![0, 1] bcast_S16384x1_S16384x4_0_1 (broadcastInDim S16384x1 ![0] bcast_S16384_S16384x1_0 (Host.reduceAdd (res_main_v31 V0) (constant S_ .f32 0x00000000#32) reducesTo_S16384x4_S16384_d1 h_S_)))) (res_main_call0_v5 V0)) (broadcastInDim S16384x1 ![] bcast_S_S16384x1 (constant S_ .f32 0x7FC00000#32)))) (res_main_values_8 V0)) (broadcastInDim S16384x2 ![0, 1] bcast_S16384x1_S16384x2_0_1 (broadcastInDim S16384x1 ![0] bcast_S16384_S16384x1_0 (Host.reduceAdd (res_main_values_8 V0) (constant S_ .f32 0x00000000#32) reducesTo_S16384x2_S16384_d1 h_S_)))

/-- The routing weight of every token and expert. -/
def weights : FVec Ideal S16384x16 .f32 :=
  Host.reduceAdd (mulf (uitofp .f32 (cmpi .eq (broadcastInDim S16384x2x16 ![0, 1, 2] bcast_S16384x2x1_S16384x2x16_0_1_2 (broadcastInDim S16384x2x1 ![0, 1] bcast_S16384x2_S16384x2x1_0_1 (addi (broadcastInDim S16384x2 ![0, 1] bcast_S16384x1_S16384x2_0_1 (muli (broadcastInDim S16384x1 ![0] bcast_S16384_S16384x1_0 (res_main_v36 V0)) (broadcastInDim S16384x1 ![] bcast_S_S16384x1 (constantI S_ 32 4#32)))) ((Host.topK S16384x2 1 (FloatOps.cmpfTotal .gt) (res_main_v57 V0) sliceFits_S16384x4_S16384x2).2)))) (broadcastInDim S16384x2x16 ![0, 1, 2] bcast_S1x1x16_S16384x2x16_0_1_2 (iotaInDim S1x1x16 32 2)))) (broadcastInDim S16384x2x16 ![0, 1, 2] bcast_S16384x2x1_S16384x2x16_0_1_2 (broadcastInDim S16384x2x1 ![0, 1] bcast_S16384x2_S16384x2x1_0_1 (gates V0)))) (constant S_ .f32 0x00000000#32) reducesTo_S16384x2x16_S16384x16_d1 h_S_

/-- The result array. -/
def result : FVec Ideal S16384x1024 .f32 :=
  addf (V0 (Proc.devRef .tc main_arg0)) (Host.dotGeneral (φ₁ := .f32) (φ₂ := .f32) dot_S16384x16x256_S16x256x1024_S16384x1024_12_01_0_2_n_n none (mulf (mulf (mulf (res_main_v74 V0) (Host.divf (broadcastInDim S16384x16x256 ![] bcast_S_S16384x16x256 (constant S_ .f32 0x3F800000#32)) (addf (broadcastInDim S16384x16x256 ![] bcast_S_S16384x16x256 (constant S_ .f32 0x3F800000#32)) (Host.exp (Host.negf (res_main_v74 V0)))))) (Host.dotGeneral (φ₁ := .f32) (φ₂ := .f32) dot_S16384x1024_S16x1024x256_S16384x16x256_1_1_0_02_n_n none (res_main_v13 V0) (shapeCast _ (V0 (Proc.devRef .tc main_arg7)) shapeCasts_S1x16x1024x256_S16x1024x256))) (broadcastInDim S16384x16x256 ![0, 1, 2] bcast_S16384x16x1_S16384x16x256_0_1_2 (broadcastInDim S16384x16x1 ![0, 1] bcast_S16384x16_S16384x16x1_0_1 (weights V0)))) (shapeCast _ (V0 (Proc.devRef .tc main_arg8)) shapeCasts_S1x16x256x1024_S16x256x1024))

section
variable (r : Fin 16384) (R : Route (rowG V0 r) (rowE V0 r))

theorem values_apply (k : Fin 2) : res_main_values_8 V0 (ix2 r k : S16384x2.Idx) = R.p (![R.j1, R.j2] k) :=
  (top_apply V0 r R k).1

theorem v31_self (hG : ∀ i, IsReal (rowG V0 r i)) :
    res_main_v31 V0 (ix2 r R.g : S16384x4.Idx) = (1 : EReal) := by
  rw [v31_apply V0 r R.g R.hg, (hG R.g).sub_self]
  show Ideal.exp ((0 : ℝ) : EReal) = 1
  rw [exp_real, Real.exp_zero]
  rfl

theorem gates_apply (hG : ∀ i, IsReal (rowG V0 r i)) (k : Fin 2) : gates V0 (ix2 r k : S16384x2.Idx) = R.gate (R.p (![R.j1, R.j2] k)) := by
  unfold gates
  pointwise
  have hs : (∑ x, (res_main_values_8 V0 (ix2 r x : S16384x2.Idx) : EReal) : EReal) = R.p R.j1 + R.p R.j2 := by
    rw [Fin.sum_univ_two, values_apply V0 r R, values_apply V0 r R]
    rfl
  have hb := bounds_fold (fun x => IntOp.andi (IntOp.cmpi .sge (res_main_call0_v5 V0 x) 0#32)
    (IntOp.cmpi .sle (res_main_call0_v5 V0 x) 3#32)) r ?_
  · refine congrArg₂ Ideal.div (congrArg₂ (fun a b : EReal => a * b) ((select_one _ _ hb).trans
      ((gather_prob _ _ r R.g (call0_apply V0 r R.hg)).trans ?_)) (values_apply V0 r R k)) hs
    pointwise
    rw [v31_self V0 r R hG]
    simp only [v31_apply V0 r _ R.hg]
  · exact (congrArg (fun w => IntOp.andi (IntOp.cmpi .sge w 0#32) (IntOp.cmpi .sle w 3#32)) (call0_apply V0 r R.hg)).trans (word_bounds R.g)

/-- The number of a chosen expert, as the reference computes it, compared with an expert's number. -/
theorem word_expert (g j : Fin 4) (e : Fin 16) :
    IntOp.cmpi .eq (IntOp.addi (IntOp.muli (BitVec.ofNat 32 g.val) 4#32) (BitVec.ofNat 32 j.val)) (BitVec.ofNat 32 e.val)
      = BitVec.ofBool (decide (e = expert g j)) := by
  revert g j e; decide +kernel

/-- A comparison's word as a number, times `x`. -/
theorem chosen_times {w : BitVec 1} (p : Prop) [Decidable p] (x : EReal) (hw : w = BitVec.ofBool (decide p)) :
    FloatOps.uitofp (F := Ideal) .f32 w * x = if p then x else 0 := by
  subst hw
  by_cases h : p
  · rw [if_pos h, decide_eq_true h]
    show (((1 : ℕ) : ℝ) : EReal) * x = x
    simp
  · rw [if_neg h, decide_eq_false h]
    show (((0 : ℕ) : ℝ) : EReal) * x = 0
    simp

theorem weights_apply (hG : ∀ i, IsReal (rowG V0 r i)) (e : Fin 16) : weights V0 (ix2 r e : S16384x16.Idx) = R.weight e := by
  unfold weights
  pointwise
  rw [Fin.sum_univ_two, gates_apply V0 r R hG, gates_apply V0 r R hG, v36_apply V0 r R.hg]
  have h0 := (top_apply V0 r R 0).2
  have h1 := (top_apply V0 r R 1).2
  refine congrArg₂ (fun a b : EReal => a + b) (chosen_times _ _ ?_) (chosen_times _ _ ?_)
  · rw [h0]; exact word_expert R.g R.j1 e
  · rw [h1]; exact word_expert R.g R.j2 e

theorem result_apply (hG : ∀ i, IsReal (rowG V0 r i)) (d : Fin 1024) : result V0 (ix2 r d : S16384x1024.Idx)
    = layer (bH V0 r d) (rowN V0 r) R.weight (bWg V0) (bWu V0) (fun e f => bWd V0 e f d) := by
  unfold result res_main_v74
  pointwise
  simp only [v13_apply, weights_apply V0 r R hG]
  rfl
end
end Cert.ReferenceIdeal.Moe
-- ==== Proof.Equal.lean ====
module
public import proofs.«01_k».proof.Proof.KernelArray
public import proofs.«01_k».proof.Proof.RefValue
@[expose] public section

/-! The kernel's array and the reference's are the same function of the same arguments. -/

noncomputable section
namespace Cert.Moe
open Idealize.ShloMosaic Idealize.ShloMosaic.TcCoe
open Cert.KernelIdeal.Moe (aH aN aG aGb aE aEb aWg aWu aWd)
open Cert.ReferenceIdeal.Moe (bH bN bG bGb bE bEb bWg bWu bWd rowG rowE result result_apply)

section
open Cert.KernelIdeal
variable (m : (ℓ : Loc nD τ sig) → Buf (Elt Ideal) ℓ) (c : Dev nD)
variable (V : Valuation Cert.ReferenceIdeal.τ Cert.ReferenceIdeal.sig (Elt Ideal))

theorem arrays_eq (hH : ∀ r x, IsReal (aH m c r x)) (hN : ∀ x, IsReal (aN m c x)) (hG : ∀ x i, IsReal (aG m c x i))
    (hGb : ∀ i, IsReal (aGb m c i)) (hE : ∀ x e, IsReal (aE m c x e)) (hEb : ∀ e, IsReal (aEb m c e))
    (hWg : ∀ e x f, IsReal (aWg m c e x f))
    (eH : bH V = aH m c) (eN : bN V = aN m c) (eG : bG V = aG m c) (eGb : bGb V = aGb m c) (eE : bE V = aE m c)
    (eEb : bEb V = aEb m c) (eWg : bWg V = aWg m c) (eWu : bWu V = aWu m c) (eWd : bWd V = aWd m c) :
    result V = (Cert.KernelIdeal.Gen.dats m 0 c).arrAt 8 Cert.KernelIdeal.cfg0.N := by
  funext z
  obtain ⟨r, d, rfl⟩ : ∃ (r : Fin 16384) (d : Fin 1024), z = (ix2 r d : S16384x1024.Idx) := ⟨z 0, z 1, Idealize.ShloMosaic.eq_ix2 z⟩
  obtain ⟨R⟩ := exists_route (rowG V r) (rowE V r)
  have hr : ∀ i, IsReal (rowG V r i) := fun i => by
    unfold rowG Cert.ReferenceIdeal.Moe.rowN
    rw [eH, eN, eG, eGb]
    exact logit_real (norm_real (hH r) hN) (fun x => hG x i) (hGb i)
  refine (result_apply V r R hr d).trans ?_
  revert R hr
  unfold rowG rowE Cert.ReferenceIdeal.Moe.rowN
  rw [eH, eN, eG, eGb, eE, eEb, eWg, eWu, eWd]
  intro R hr
  exact (Cert.KernelIdeal.Moe.kernel_value m c hH hN hG hGb hE hEb hWg r R d).symm
end

end Cert.Moe
end
-- ==== Proof.Finite.lean ====
module
public import proofs.«01_k».proof.Proof.Arith
public import proofs.«01_k».proof.Proof.Gen.Pre_finite
public import Idealize.ShloMosaic.Lib.ReduceAll
@[expose] public section

/-! What the precondition says: every entry of the tokens, of the router's weights and of the gate's is a real number. -/

noncomputable section
namespace Cert.Pre_finite.Moe
open Cert.Pre_finite Cert.Pre_finite.Gen Idealize.ShloMosaic Cert.Moe

instance : Subsingleton S_.Idx := ⟨fun a b => funext fun i => i.elim0⟩

theorem and_split {x y : IVec S_ 1} {j : S_.Idx} (h : andi x y j = 1#1) : x j = 1#1 ∧ y j = 1#1 :=
  (by decide : ∀ a b : BitVec 1, IntOp.andi a b = 1#1 → a = 1#1 ∧ b = 1#1) (x j) (y j) h

/-- An array whose magnitudes are all below plus infinity holds real numbers. -/
theorem real_of_all {s : Shape} {axes : List (Fin s.rank)} (x : FVec Ideal s .f32)
    (hb : S_.BroadcastsInDim s (![] : Fin 0 → Fin s.rank)) (h : s.ReducesTo axes S_) {j : S_.Idx}
    (e : Host.reduce IntOp.andi (cmpf .olt (Host.absf x) (broadcastInDim s ![] hb (constant (F := Ideal) S_ .f32 0x7F800000#32)))
      (constantI S_ 1 1#1) h h_S_ j = 1#1) (i : s.Idx) : IsReal (x i) := by
  have e' : BitVec.ofBool (decide (max (x i : EReal) (-(x i : EReal)) < Ideal.ofBits .f32 2139095040#32)) = 1#1 :=
    Host.reduce_andi_all _ _ h h_S_ j e i
  rw [bits_posInf] at e'
  refine IsReal.of_abs_lt (by_contra fun hn => ?_)
  rw [decide_eq_false hn] at e'
  exact absurd e' (by decide)

theorem all_real (a0 : FVec Ideal S16384x1024 .f32) (a1 : FVec Ideal S1x1024 .f32) (a2 : FVec Ideal S1x1024x4 .f32)
    (a3 : FVec Ideal S1x4 .f32) (a4 : FVec Ideal S1x1024x16 .f32) (a5 : FVec Ideal S1x16 .f32)
    (a6 a7 : FVec Ideal S1x16x1024x256 .f32) (a8 : FVec Ideal S1x16x256x1024 .f32)
    (h : fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h8 := congrFun h (fun a : Fin 0 => a.elim0)
  obtain ⟨h5, e6⟩ := and_split h8
  obtain ⟨h4, e5⟩ := and_split h5
  obtain ⟨h3, e4⟩ := and_split h4
  obtain ⟨h2, e3⟩ := and_split h3
  obtain ⟨h1, e2⟩ := and_split h2
  obtain ⟨e0, e1⟩ := and_split h1
  exact ⟨real_of_all a0 _ _ e0, real_of_all a1 _ _ e1, real_of_all a2 _ _ e2, real_of_all a3 _ _ e3,
    real_of_all a4 _ _ e4, real_of_all a5 _ _ e5, real_of_all a6 _ _ e6⟩

end Cert.Pre_finite.Moe
end
-- ==== Proof.Merge.lean ====
module
public import proofs.«01_k».proof.Proof.Arith
@[expose] public section

/-! The gated merge of the two branches, with its output projection and its residual add, at one entry of the result. -/

noncomputable section
namespace Cert.Merge
open Idealize.ShloMosaic Cert.Moe
open scoped BigOperators

/-- The logistic function. -/
def gate (x : EReal) : EReal := Ideal.div 1 (1 + Ideal.exp (-x))

/-- The hyperbolic-tangent form of the logistic function, at every extended real. -/
theorem gate_tanh (x : EReal) :
    Ideal.ofBits .f32 1056964608#32 + Ideal.ofBits .f32 1056964608#32 * Ideal.tanh (Ideal.ofBits .f32 1056964608#32 * x) = gate x := by
  unfold gate
  rw [bits_half]
  induction x with
  | bot =>
    rw [EReal.coe_mul_bot_of_pos (by norm_num), EReal.neg_bot]
    show ((1 / 2 : ℝ) : EReal) + ((1 / 2 : ℝ) : EReal) * (-1 : EReal) = Ideal.div 1 (1 + ⊤)
    have h1 : (1 : EReal) + ⊤ = ⊤ := EReal.add_top_of_ne_bot (by exact EReal.coe_ne_bot 1)
    rw [h1, show (-1 : EReal) = ((-1 : ℝ) : EReal) by simp, ← EReal.coe_mul, ← EReal.coe_add]
    norm_num [Ideal.div]
  | top =>
    rw [EReal.coe_mul_top_of_pos (by norm_num), EReal.neg_top]
    show ((1 / 2 : ℝ) : EReal) + ((1 / 2 : ℝ) : EReal) * (1 : EReal) = Ideal.div 1 (1 + 0)
    rw [show (1 : EReal) + 0 = ((1 : ℝ) : EReal) by simp, show (1 : EReal) = ((1 : ℝ) : EReal) from EReal.coe_one.symm,
      div_real _ _ one_ne_zero, ← EReal.coe_mul, ← EReal.coe_add]
    norm_num
  | coe a =>
    have hpos : 0 < 1 + Real.exp (-a) := by positivity
    rw [← EReal.coe_mul, ← EReal.coe_neg, exp_real, show (1 : EReal) = ((1 : ℝ) : EReal) from EReal.coe_one.symm,
      ← EReal.coe_add, div_real _ _ hpos.ne']
    show ((1 / 2 : ℝ) : EReal) + ((1 / 2 : ℝ) : EReal) * ((Real.tanh (1 / 2 * a) : ℝ) : EReal) = _
    rw [← EReal.coe_mul, ← EReal.coe_add]
    congr 1
    have h1 : Real.exp (1 / 2 * a) * Real.exp (-(1 / 2 * a)) = 1 := by rw [← Real.exp_add]; simp
    have h2 : Real.exp (-a) = Real.exp (-(1 / 2 * a)) * Real.exp (-(1 / 2 * a)) := by rw [← Real.exp_add]; congr 1; ring
    rw [Real.tanh_eq_sinh_div_cosh, Real.sinh_eq, Real.cosh_eq, h2]
    have hu := Real.exp_pos (1 / 2 * a)
    have hv := Real.exp_pos (-(1 / 2 * a))
    generalize Real.exp (1 / 2 * a) = u at *
    generalize Real.exp (-(1 / 2 * a)) = v at *
    have huv : u + v ≠ 0 := by positivity
    have hvv : 1 + v * v ≠ 0 := by positivity
    field_simp
    linear_combination (2 * v) * h1

/-- One entry of the merged row: each branch's projection times its gate. `ga` and `gb` are the gates' columns of the
    input projection, `wa` and `wb` the columns of the branches' output projections. -/
def mergedEntry (n : Fin 1024 → EReal) (oa ob : Fin 512 → EReal) (ga gb : Fin 1024 → EReal) (wa wb : Fin 512 → EReal) : EReal :=
  gate (∑ x, n x * ga x) * ∑ j, oa j * wa j + gate (∑ x, n x * gb x) * ∑ j, ob j * wb j

/-- One entry of the result, from the residual `h`, the normalized row `n`, the branches' rows `oa` and `ob`, the gates'
    weights, the projections and a column `wo` of the last projection. -/
def mergedOut (h : EReal) (n : Fin 1024 → EReal) (oa ob : Fin 512 → EReal) (ga gb : Fin 1024 → Fin 1024 → EReal)
    (wa wb : Fin 512 → Fin 1024 → EReal) (wo : Fin 1024 → EReal) : EReal :=
  h + ∑ k, mergedEntry n oa ob (fun x => ga x k) (fun x => gb x k) (fun j => wa j k) (fun j => wb j k) * wo k

end Cert.Merge
end
-- ==== Proof.MergeBlock.lean ====
module
public import proofs.«01_k».proof.Proof.Merge
public import proofs.«01_k».proof.Proof.Route
public import proofs.«01_k».proof.Proof.Gen.Kernel2Ideal.Value
public import Idealize.ShloMosaic.Lib.Pointwise
@[expose] public section

/-! What one grid point of the merge leaves in its output block, entry by entry. -/

noncomputable section
namespace Cert.Kernel2Ideal.Merge
open Cert.Kernel2Ideal Cert.Kernel2Ideal.Gen Idealize.ShloMosaic Cert.Moe Cert.Merge
open scoped BigOperators

variable (x0 : Vec Ideal S512x1024 .f32) (x1 x2 : Vec Ideal S512x512 .bf16) (x3 : Vec Ideal S1x1024 .f32)
  (x4 : Vec Ideal S1024x2048 .bf16) (x5 x6 : Vec Ideal S512x1024 .bf16) (x7 : Vec Ideal S1024x1024 .bf16)

/-- The place, among the two gates' columns, of column `k` of the first and of the second. -/
def colA (k : Fin 1024) : Fin 2048 := ⟨k.val, by omega⟩
def colB (k : Fin 1024) : Fin 2048 := ⟨1024 + k.val, by omega⟩

/-- The gates before their logistic function. -/
theorem gates_apply (r : Fin 512) (k : Fin 2048) : k0_pay2 x0 x3 x4 (ix2 r k)
    = (∑ x, norm (fun y => x0 (ix2 r y)) (fun y => x3 (ix2 0 y)) x * x4 (ix2 x k) : EReal) := by
  pointwise [k0_pay2]
  rfl

theorem proj_apply (x : Vec Ideal S512x512 .bf16) (w : Vec Ideal S512x1024 .bf16) (r : Fin 512) (k : Fin 1024) :
    k0_pay3 x w (ix2 r k) = (∑ j, x (ix2 r j) * w (ix2 j k) : EReal) := by
  pointwise [k0_pay3]

theorem first_apply (r : Fin 512) (k : Fin 1024) : k0_pay4 x0 x3 x4 x1 x5 (ix2 r k)
    = gate (∑ x, norm (fun y => x0 (ix2 r y)) (fun y => x3 (ix2 0 y)) x * x4 (ix2 x (colA k)))
      * (∑ j, x1 (ix2 r j) * x5 (ix2 j k) : EReal) := by
  pointwise [k0_pay4]
  rw [← gate_tanh, ← gates_apply x0 x3 x4 r (colA k)]
  rfl

theorem out_apply (r : Fin 512) (d : Fin 1024) : out0_8 x0 x1 x2 x3 x4 x5 x6 x7 (ix2 r d)
    = mergedOut (x0 (ix2 r d)) (norm (fun y => x0 (ix2 r y)) (fun y => x3 (ix2 0 y))) (fun j => x1 (ix2 r j)) (fun j => x2 (ix2 r j))
      (fun x k => x4 (ix2 x (colA k))) (fun x k => x4 (ix2 x (colB k))) (fun j k => x5 (ix2 j k)) (fun j k => x6 (ix2 j k))
      (fun k => x7 (ix2 k d)) := by
  have e : (![0, 0] : Fin 2 → Nat) = fun _ => 0 := by funext a; match a with | 0 => rfl | 1 => rfl
  have h : out0_8 x0 x1 x2 x3 x4 x5 x6 x7 = k0_pay1 x0 (k0_pay2 x0 x3 x4) (k0_pay3 x2 x6) (k0_pay4 x0 x3 x4 x1 x5) x7 := by
    unfold out0_8
    rw [View.canon_unit_zero e]
    rw [show View.ld x0 r0_0 = x0 from View.ld_unit_zero e _ _, show View.ld x3 r0_1 = x3 from View.ld_unit_zero e _ _,
      show View.ld x4 r0_2 = x4 from View.ld_unit_zero e _ _, show View.ld x2 r0_3 = x2 from View.ld_unit_zero e _ _,
      show View.ld x6 r0_0 = x6 from View.ld_unit_zero e _ _, show View.ld x1 r0_3 = x1 from View.ld_unit_zero e _ _,
      show View.ld x5 r0_0 = x5 from View.ld_unit_zero e _ _, show View.ld x7 r0_4 = x7 from View.ld_unit_zero e _ _]
  rw [h]
  pointwise [k0_pay1]
  unfold mergedOut mergedEntry
  refine congrArg (fun z : EReal => x0 (ix2 r d) + z) (Finset.sum_congr rfl fun k _ => congrArg (fun z : EReal => z * x7 (ix2 k d))
    (congrArg₂ (fun y z : EReal => y + z) (first_apply x0 x1 x3 x4 x5 r k) (congrArg₂ (fun y z : EReal => y * z) ?_ (proj_apply x2 x6 r k))))
  rw [← gate_tanh, ← gates_apply x0 x3 x4 r (colB k)]
  rfl

end Cert.Kernel2Ideal.Merge
end
-- ==== Proof.MergeArray.lean ====
module
public import proofs.«01_k».proof.Proof.MergeBlock
public import Idealize.ShloMosaic.Lib.StableHlo.ReadAt
@[expose] public section

/-! The array that the merge's run leaves, entry by entry, over the arguments' launch contents. -/

noncomputable section
namespace Cert.Kernel2Ideal.Merge
open Cert.Kernel2Ideal Cert.Kernel2Ideal.Gen Idealize.ShloMosaic Idealize.ShloMosaic.TcCoe Cert.Moe Cert.Merge
open scoped BigOperators

section
variable (V0 : Valuation τ sig (Elt Ideal))

theorem prep_v3 (x : Fin 1024) : StableHlo.after hostOps0 V0 (main_v3 : DevRef τ sig) (ix2 0 x : S1x1024.Idx)
    = V0 (main_arg3 : DevRef τ sig) (ix2 0 x : S1x1024.Idx) := by
  after_reads_at

theorem prep_v1 (x : Fin 1024) (k : Fin 5632) : StableHlo.after hostOps0 V0 (main_v1 : DevRef τ sig) (ix2 x k : S1024x5632.Idx)
    = V0 (main_arg4 : DevRef τ sig) (ix3 0 x k : S1x1024x5632.Idx) := by
  after_reads_at

theorem prep_v5 (j : Fin 512) (k : Fin 1024) : StableHlo.after hostOps0 V0 (main_v5 : DevRef τ sig) (ix2 j k : S512x1024.Idx)
    = V0 (main_arg5 : DevRef τ sig) (ix3 0 j k : S1x512x1024.Idx) := by
  after_reads_at

theorem prep_v7 (j : Fin 512) (k : Fin 1024) : StableHlo.after hostOps0 V0 (main_v7 : DevRef τ sig) (ix2 j k : S512x1024.Idx)
    = V0 (main_arg6 : DevRef τ sig) (ix3 0 j k : S1x512x1024.Idx) := by
  after_reads_at

theorem prep_v9 (j k : Fin 1024) : StableHlo.after hostOps0 V0 (main_v9 : DevRef τ sig) (ix2 j k : S1024x1024.Idx)
    = V0 (main_arg7 : DevRef τ sig) (ix3 0 j k : S1x1024x1024.Idx) := by
  after_reads_at
end

variable (m : (ℓ : Loc nD τ sig) → Buf (Elt Ideal) ℓ)

/-- Where each grid point's blocks lie: the tokens' at the point's own place, the gates' weights at their columns of the
    input projection, the others at the array's start. -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 3584)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem flush8 : ∀ t : Fin cfg0.N, (cfg0.win 8).flush t = true :=
  (by decide +kernel : ∀ t : Fin grid0.N, _)

/-- The row of the whole array that row `r` of block `t` is. -/
def row (t : Fin cfg0.N) (r : Fin 512) : Fin 16384 := ⟨512 * t.val + r.val, by
  have h : t.val < 32 := t.isLt
  omega⟩

theorem emb0 (t : Fin cfg0.N) (r : Fin 512) (x : Fin 1024) :
    ((cfg0.win 0).blk t).view.emb (ix2 r x : S512x1024.Idx) = (ix2 (row t r) x : S16384x1024.Idx) := by
  obtain ⟨⟨e0, e1⟩, -⟩ := idx_facts t
  funext a; apply Fin.ext
  match a with
  | ⟨0, _⟩ => show win0_0.index t (0 : Fin 2) * 512 + 1 * r.val = 512 * t.val + r.val; omega
  | ⟨1, _⟩ => show win0_0.index t (1 : Fin 2) * 1024 + 1 * x.val = x.val; omega

theorem emb1 (t : Fin cfg0.N) (r j : Fin 512) :
    ((cfg0.win 1).blk t).view.emb (ix2 r j : S512x512.Idx) = (ix2 (row t r) j : S16384x512.Idx) := by
  obtain ⟨-, ⟨e0, e1⟩, -⟩ := idx_facts t
  funext a; apply Fin.ext
  match a with
  | ⟨0, _⟩ => show win0_1.index t (0 : Fin 2) * 512 + 1 * r.val = 512 * t.val + r.val; omega
  | ⟨1, _⟩ => show win0_1.index t (1 : Fin 2) * 512 + 1 * j.val = j.val; omega

theorem emb2 (t : Fin cfg0.N) (r j : Fin 512) :
    ((cfg0.win 2).blk t).view.emb (ix2 r j : S512x512.Idx) = (ix2 (row t r) j : S16384x512.Idx) := by
  obtain ⟨-, -, ⟨e0, e1⟩, -⟩ := idx_facts t
  funext a; apply Fin.ext
  match a with
  | ⟨0, _⟩ => show win0_2.index t (0 : Fin 2) * 512 + 1 * r.val = 512 * t.val + r.val; omega
  | ⟨1, _⟩ => show win0_2.index t (1 : Fin 2) * 512 + 1 * j.val = j.val; omega

theorem emb3 (t : Fin cfg0.N) (z : S1x1024.Idx) : ((cfg0.win 3).blk t).view.emb z = z := by
  obtain ⟨-, -, -, ⟨e0, e1⟩, -⟩ := idx_facts t
  funext a; apply Fin.ext
  match a with
  | ⟨0, _⟩ => show win0_3.index t (0 : Fin 2) * 1 + 1 * (z 0).val = (z 0).val; omega
  | ⟨1, _⟩ => show win0_3.index t (1 : Fin 2) * 1024 + 1 * (z 1).val = (z 1).val; omega

/-- Column `k` of the gates' columns, among the input projection's. -/
def gateCol (k : Fin 2048) : Fin 5632 := ⟨3584 + k.val, by omega⟩

theorem emb4 (t : Fin cfg0.N) (x : Fin 1024) (k : Fin 2048) :
    ((cfg0.win 4).blk t).view.emb (ix2 x k : S1024x2048.Idx) = (ix2 x (gateCol k) : S1024x5632.Idx) := by
  obtain ⟨-, -, -, -, ⟨e0, e1⟩, -⟩ := idx_facts t
  funext a; apply Fin.ext
  match a with
  | ⟨0, _⟩ => show win0_4.index t (0 : Fin 2) + 1 * x.val = x.val; omega
  | ⟨1, _⟩ => show win0_4.index t (1 : Fin 2) + 1 * k.val = 3584 + k.val; omega

theorem emb5 (t : Fin cfg0.N) (z : S512x1024.Idx) : ((cfg0.win 5).blk t).view.emb z = z := by
  obtain ⟨-, -, -, -, -, ⟨e0, e1⟩, -⟩ := idx_facts t
  funext a; apply Fin.ext
  match a with
  | ⟨0, _⟩ => show win0_5.index t (0 : Fin 2) * 512 + 1 * (z 0).val = (z 0).val; omega
  | ⟨1, _⟩ => show win0_5.index t (1 : Fin 2) * 1024 + 1 * (z 1).val = (z 1).val; omega

theorem emb6 (t : Fin cfg0.N) (z : S512x1024.Idx) : ((cfg0.win 6).blk t).view.emb z = z := by
  obtain ⟨-, -, -, -, -, -, ⟨e0, e1⟩, -⟩ := idx_facts t
  funext a; apply Fin.ext
  match a with
  | ⟨0, _⟩ => show win0_6.index t (0 : Fin 2) * 512 + 1 * (z 0).val = (z 0).val; omega
  | ⟨1, _⟩ => show win0_6.index t (1 : Fin 2) * 1024 + 1 * (z 1).val = (z 1).val; omega

theorem emb7 (t : Fin cfg0.N) (z : S1024x1024.Idx) : ((cfg0.win 7).blk t).view.emb z = z := by
  obtain ⟨-, -, -, -, -, -, -, ⟨e0, e1⟩, -⟩ := idx_facts t
  funext a; apply Fin.ext
  match a with
  | ⟨0, _⟩ => show win0_7.index t (0 : Fin 2) * 1024 + 1 * (z 0).val = (z 0).val; omega
  | ⟨1, _⟩ => show win0_7.index t (1 : Fin 2) * 1024 + 1 * (z 1).val = (z 1).val; omega

theorem emb8 (t : Fin cfg0.N) (r : Fin 512) (x : Fin 1024) :
    ((cfg0.win 8).blk t).view.emb (ix2 r x : S512x1024.Idx) = (ix2 (row t r) x : S16384x1024.Idx) := by
  obtain ⟨-, -, -, -, -, -, -, -, ⟨e0, e1⟩⟩ := idx_facts t
  funext a; apply Fin.ext
  match a with
  | ⟨0, _⟩ => show win0_8.index t (0 : Fin 2) * 512 + 1 * r.val = 512 * t.val + r.val; omega
  | ⟨1, _⟩ => show win0_8.index t (1 : Fin 2) * 1024 + 1 * x.val = x.val; omega

variable (c : Dev nD)

/-- The arguments, entry by entry, as the kernel's launch finds them. -/
abbrev aX (r : Fin 16384) (x : Fin 1024) : EReal := m ((c : Thread nD τ).loc main_arg0) (ix2 r x : S16384x1024.Idx)
abbrev aOa (r : Fin 16384) (j : Fin 512) : EReal := m ((c : Thread nD τ).loc main_arg1) (ix2 r j : S16384x512.Idx)
abbrev aOb (r : Fin 16384) (j : Fin 512) : EReal := m ((c : Thread nD τ).loc main_arg2) (ix2 r j : S16384x512.Idx)
abbrev aN (x : Fin 1024) : EReal := m ((c : Thread nD τ).loc main_arg3) (ix2 0 x : S1x1024.Idx)
abbrev aWin (x : Fin 1024) (k : Fin 5632) : EReal := m ((c : Thread nD τ).loc main_arg4) (ix3 0 x k : S1x1024x5632.Idx)
abbrev aWa (j : Fin 512) (k : Fin 1024) : EReal := m ((c : Thread nD τ).loc main_arg5) (ix3 0 j k : S1x512x1024.Idx)
abbrev aWb (j : Fin 512) (k : Fin 1024) : EReal := m ((c : Thread nD τ).loc main_arg6) (ix3 0 j k : S1x512x1024.Idx)
abbrev aWo (k d : Fin 1024) : EReal := m ((c : Thread nD τ).loc main_arg7) (ix3 0 k d : S1x1024x1024.Idx)

section
variable (t : Fin cfg0.N)

theorem blk0 (r : Fin 512) (x : Fin 1024) : iblk m c 0 t (ix2 r x : S512x1024.Idx) = aX m c (row t r) x := by
  show V m c main_arg0 (((cfg0.win 0).blk t).view.emb (ix2 r x : S512x1024.Idx)) = _
  rw [emb0, V_main_arg0]

theorem blk1 (r j : Fin 512) : iblk m c 1 t (ix2 r j : S512x512.Idx) = aOa m c (row t r) j := by
  show V m c main_arg1 (((cfg0.win 1).blk t).view.emb (ix2 r j : S512x512.Idx)) = _
  rw [emb1, V_main_arg1]

theorem blk2 (r j : Fin 512) : iblk m c 2 t (ix2 r j : S512x512.Idx) = aOb m c (row t r) j := by
  show V m c main_arg2 (((cfg0.win 2).blk t).view.emb (ix2 r j : S512x512.Idx)) = _
  rw [emb2, V_main_arg2]

theorem blk3 (x : Fin 1024) : iblk m c 3 t (ix2 0 x : S1x1024.Idx) = aN m c x := by
  show V m c main_v3 (((cfg0.win 3).blk t).view.emb (ix2 0 x : S1x1024.Idx)) = _
  rw [emb3]
  exact prep_v3 (fun b => m (c, b)) x

theorem blk4 (x : Fin 1024) (k : Fin 2048) : iblk m c 4 t (ix2 x k : S1024x2048.Idx) = aWin m c x (gateCol k) := by
  show V m c main_v1 (((cfg0.win 4).blk t).view.emb (ix2 x k : S1024x2048.Idx)) = _
  rw [emb4]
  exact prep_v1 (fun b => m (c, b)) x (gateCol k)

theorem blk5 (j : Fin 512) (k : Fin 1024) : iblk m c 5 t (ix2 j k : S512x1024.Idx) = aWa m c j k := by
  show V m c main_v5 (((cfg0.win 5).blk t).view.emb (ix2 j k : S512x1024.Idx)) = _
  rw [emb5]
  exact prep_v5 (fun b => m (c, b)) j k

theorem blk6 (j : Fin 512) (k : Fin 1024) : iblk m c 6 t (ix2 j k : S512x1024.Idx) = aWb m c j k := by
  show V m c main_v7 (((cfg0.win 6).blk t).view.emb (ix2 j k : S512x1024.Idx)) = _
  rw [emb6]
  exact prep_v7 (fun b => m (c, b)) j k

theorem blk7 (j k : Fin 1024) : iblk m c 7 t (ix2 j k : S1024x1024.Idx) = aWo m c j k := by
  show V m c main_v9 (((cfg0.win 7).blk t).view.emb (ix2 j k : S1024x1024.Idx)) = _
  rw [emb7]
  exact prep_v9 (fun b => m (c, b)) j k

theorem final_apply (r : Fin 512) (d : Fin 1024) :
    (dats m 0 c).arrAt 8 cfg0.N (ix2 (row t r) d : S16384x1024.Idx)
      = out0_8 (iblk m c 0 t) (iblk m c 1 t) (iblk m c 2 t) (iblk m c 3 t) (iblk m c 4 t) (iblk m c 5 t) (iblk m c 6 t)
        (iblk m c 7 t) (ix2 r d : S512x1024.Idx) := by
  have b := congrFun (Cert.Kernel2Ideal.Value.blocks8 m c t (flush8 t)) (ix2 r d : S512x1024.Idx)
  rw [Cert.Kernel2Ideal.Value.flushed8] at b
  have b' : (dats m 0 c).arrAt 8 cfg0.N (((cfg0.win 8).blk t).view.emb (ix2 r d : S512x1024.Idx)) = _ := b
  rw [emb8] at b'
  exact b'
end

/-- What the kernel leaves at `(r, d)` is the merged row's value there. -/
theorem kernel_value (r : Fin 16384) (d : Fin 1024) : (dats m 0 c).arrAt 8 cfg0.N (ix2 r d : S16384x1024.Idx)
    = mergedOut (aX m c r d) (norm (aX m c r) (aN m c)) (aOa m c r) (aOb m c r) (fun x k => aWin m c x (gateCol (colA k)))
        (fun x k => aWin m c x (gateCol (colB k))) (aWa m c) (aWb m c) (fun k => aWo m c k d) := by
  obtain ⟨t, q, rfl⟩ : ∃ (t : Fin cfg0.N) (q : Fin 512), row t q = r :=
    ⟨(⟨r.val / 512, by have := r.isLt; omega⟩ : Fin 32), ⟨r.val % 512, by omega⟩, Fin.ext (by show 512 * (r.val / 512) + r.val % 512 = r.val; omega)⟩
  have b0 : (fun x => iblk m c 0 t (ix2 q x : S512x1024.Idx)) = aX m c (row t q) := funext fun x => blk0 m c t q x
  have b3 : (fun x => iblk m c 3 t (ix2 0 x : S1x1024.Idx)) = aN m c := funext fun x => blk3 m c t x
  have b1 : (fun j => iblk m c 1 t (ix2 q j : S512x512.Idx)) = aOa m c (row t q) := funext fun j => blk1 m c t q j
  have b2 : (fun j => iblk m c 2 t (ix2 q j : S512x512.Idx)) = aOb m c (row t q) := funext fun j => blk2 m c t q j
  have b4a : (fun x k => iblk m c 4 t (ix2 x (colA k) : S1024x2048.Idx)) = fun x k => aWin m c x (gateCol (colA k)) :=
    funext fun x => funext fun k => blk4 m c t x _
  have b4b : (fun x k => iblk m c 4 t (ix2 x (colB k) : S1024x2048.Idx)) = fun x k => aWin m c x (gateCol (colB k)) :=
    funext fun x => funext fun k => blk4 m c t x _
  have b5 : (fun j k => iblk m c 5 t (ix2 j k : S512x1024.Idx)) = aWa m c := funext fun j => funext fun k => blk5 m c t j k
  have b6 : (fun j k => iblk m c 6 t (ix2 j k : S512x1024.Idx)) = aWb m c := funext fun j => funext fun k => blk6 m c t j k
  have b7 : (fun k => iblk m c 7 t (ix2 k d : S1024x1024.Idx)) = fun k => aWo m c k d := funext fun k => blk7 m c t k d
  refine (final_apply m c t q d).trans ((out_apply _ _ _ _ _ _ _ _ q d).trans ?_)
  rw [b0, b1, b2, b3, b4a, b4b, b5, b6, b7, blk0]

end Cert.Kernel2Ideal.Merge
end
-- ==== Proof.MergeRef.lean ====
module
public import proofs.«01_k».proof.Proof.Merge
public import proofs.«01_k».proof.Proof.Route
public import proofs.«01_k».proof.Proof.Gen.Reference2Ideal.Run
public import Idealize.ShloMosaic.Lib.Pointwise
@[expose] public section

/-! The merge's reference, entry by entry, over its arguments. -/

noncomputable section
namespace Cert.Reference2Ideal.Merge
open Cert.Reference2Ideal Cert.Reference2Ideal.Gen Cert.Reference2Ideal.Value Idealize.ShloMosaic Cert.Moe Cert.Merge
open scoped BigOperators
variable (a0 : FVec Ideal S16384x1024 .f32) (a1 a2 : FVec Ideal S16384x512 .bf16) (a3 : FVec Ideal S1x1024 .f32)
  (a4 : FVec Ideal S1x1024x5632 .f32) (a5 a6 : FVec Ideal S1x512x1024 .f32) (a7 : FVec Ideal S1x1024x1024 .f32)

/-- The input projection of the normalized tokens, all its columns. -/
def z : FVec Ideal S16384x5632 .f32 :=
  Host.dotGeneral (φ₁ := .f32) (φ₂ := .f32) dot_S16384x1024_S1024x5632_S16384x5632_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ a3 shapeCasts_S1x1024_S1024)))) (shapeCast _ a4 shapeCasts_S1x1024x5632_S1024x5632)

/-- The result array. -/
def result : FVec Ideal S16384x1024 .f32 :=
  addf a0 (Host.dotGeneral (φ₁ := .f32) (φ₂ := .f32) dot_S16384x1024_S1024x1024_S16384x1024_1_0_0_1_n_n none (addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3584] (z a0 a3 a4) slices_S16384x5632_S16384x1024_0_3584))))) (Host.dotGeneral (φ₁ := .f32) (φ₂ := .f32) dot_S16384x512_S512x1024_S16384x1024_1_0_0_1_n_n none (extf .f32 a1 bitsLt_bf16_f32) (shapeCast _ a5 shapeCasts_S1x512x1024_S512x1024))) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 4608] (z a0 a3 a4) slices_S16384x5632_S16384x1024_0_4608))))) (Host.dotGeneral (φ₁ := .f32) (φ₂ := .f32) dot_S16384x512_S512x1024_S16384x1024_1_0_0_1_n_n none (extf .f32 a2 bitsLt_bf16_f32) (shapeCast _ a6 shapeCasts_S1x512x1024_S512x1024)))) (shapeCast _ a7 shapeCasts_S1x1024x1024_S1024x1024))

/-- Column `k` of the first and of the second gate, among the input projection's. -/
def inA (k : Fin 1024) : Fin 5632 := ⟨3584 + k.val, by omega⟩
def inB (k : Fin 1024) : Fin 5632 := ⟨4608 + k.val, by omega⟩

theorem z_apply (r : Fin 16384) (k : Fin 5632) : z a0 a3 a4 (ix2 r k)
    = (∑ x, norm (fun y => a0 (ix2 r y)) (fun y => a3 (ix2 0 y)) x * a4 (ix3 0 x k) : EReal) := by
  unfold z
  pointwise
  rfl

theorem result_apply (r : Fin 16384) (d : Fin 1024) : result a0 a1 a2 a3 a4 a5 a6 a7 (ix2 r d)
    = mergedOut (a0 (ix2 r d)) (norm (fun y => a0 (ix2 r y)) (fun y => a3 (ix2 0 y))) (fun j => a1 (ix2 r j)) (fun j => a2 (ix2 r j))
      (fun x k => a4 (ix3 0 x (inA k))) (fun x k => a4 (ix3 0 x (inB k))) (fun j k => a5 (ix3 0 j k)) (fun j k => a6 (ix3 0 j k))
      (fun k => a7 (ix3 0 k d)) := by
  unfold result mergedOut mergedEntry gate
  pointwise
  simp only [← z_apply]
  rfl

end Cert.Reference2Ideal.Merge
end
-- ==== Proof.MergeEqual.lean ====
module
public import proofs.«01_k».proof.Proof.MergeArray
public import proofs.«01_k».proof.Proof.MergeRef
@[expose] public section

/-! The merge's array and its reference's are the same function of the same arguments. -/

noncomputable section
namespace Cert.Merge
open Idealize.ShloMosaic Idealize.ShloMosaic.TcCoe
open Cert.Kernel2Ideal.Merge (aX aN aOa aOb aWin aWa aWb aWo gateCol colA colB)
open Cert.Reference2Ideal.Merge (result result_apply inA inB)

theorem col_a (k : Fin 1024) : inA k = gateCol (colA k) := Fin.ext rfl

theorem col_b (k : Fin 1024) : inB k = gateCol (colB k) := Fin.ext (by show 4608 + k.val = 3584 + (1024 + k.val); omega)

section
open Cert.Kernel2Ideal
variable (m : (ℓ : Loc nD τ sig) → Buf (Elt Ideal) ℓ) (c : Dev nD)

theorem arrays_eq : result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    = (Cert.Kernel2Ideal.Gen.dats m 0 c).arrAt 8 Cert.Kernel2Ideal.cfg0.N := by
  funext z
  obtain ⟨r, d, rfl⟩ : ∃ (r : Fin 16384) (d : Fin 1024), z = (ix2 r d : S16384x1024.Idx) := ⟨z 0, z 1, Idealize.ShloMosaic.eq_ix2 z⟩
  refine (result_apply _ _ _ _ _ _ _ _ r d).trans (Eq.trans ?_ (Cert.Kernel2Ideal.Merge.kernel_value m c r d).symm)
  simp only [col_a, col_b]
end

end Cert.Merge
end
-- ==== Proof.Inproj.lean ====
module
public import proofs.«01_k».proof.Proof.Arith
public import proofs.«01_k».proof.Proof.Route
@[expose] public section

/-! The input projection's entries: a column of the projection of a normalized token, and the norm of the 64 columns
    that one of them belongs to. The kernel takes that norm's mean as a product with a matrix that holds 1/64 where two
    columns share their 64, of a high and a low part of the squares. -/

noncomputable section
namespace Cert.Inproj
open Idealize.ShloMosaic Cert.Moe
open scoped BigOperators

/-- Column `d` of the 64 columns that column `k` belongs to. -/
def cell (k : Fin 512) (d : Fin 64) : Fin 512 := ⟨64 * (k.val / 64) + d.val, by omega⟩

/-- The place of column `k` among its 64. -/
def lane (k : Fin 512) : Fin 64 := ⟨k.val % 64, by omega⟩

theorem cell_lane (k : Fin 512) : cell k (lane k) = k := Fin.ext (by show 64 * (k.val / 64) + k.val % 64 = k.val; omega)

/-- The columns' projection of a token. -/
def proj (n : Fin 1024 → EReal) (w : Fin 1024 → Fin 512 → EReal) (k : Fin 512) : EReal := ∑ x, n x * w x k

/-- Column `k` divided by the root mean square of its 64. -/
def unit64 (z : Fin 512 → EReal) (k : Fin 512) : EReal :=
  z k * Ideal.rsqrt (Ideal.div (∑ d, z (cell k d) * z (cell k d)) (Ideal.ofBits .f32 1115684864#32) + Ideal.ofBits .f32 897988541#32)

/-- A query norm's weight, times the scale that the attention's scores take. -/
def scaled (w : EReal) : EReal := w * Ideal.ofBits .f32 0x3E38AA3B#32

theorem proj_real {n : Fin 1024 → EReal} {w : Fin 1024 → Fin 512 → EReal} (hn : ∀ x, IsReal (n x)) (hw : ∀ x k, IsReal (w x k))
    (k : Fin 512) : IsReal (proj n w k) := IsReal.sum _ _ fun x => (hn x).mul (hw x k)

theorem bits_64 : Ideal.ofBits .f32 1115684864#32 = ((64 : ℝ) : EReal) := by
  simp [Ideal.ofBits, Ideal.ieee]; norm_num [← EReal.coe_mul]

theorem bits_64th : Ideal.ofBits .f32 1015021568#32 = ((1 / 64 : ℝ) : EReal) := by
  simp [Ideal.ofBits, Ideal.ieee]; norm_num [← EReal.coe_mul]

/-- The matrix of the means. -/
def mean64 (j k : Fin 512) : EReal := if j.val / 64 = k.val / 64 then ((1 / 64 : ℝ) : EReal) else 0

/-- A sum over the columns that keeps those of one 64 is the sum over these. -/
theorem sum_cell (f : Fin 512 → EReal) (k : Fin 512) : (∑ j, f j * mean64 j k : EReal) = ∑ d, f (cell k d) * ((1 / 64 : ℝ) : EReal) := by
  have hk : k.val / 64 < 8 := by omega
  rw [← (finProdFinEquiv (m := 8) (n := 64)).sum_comp, Fintype.sum_prod_type, Finset.sum_eq_single (⟨k.val / 64, hk⟩ : Fin 8)]
  · refine Finset.sum_congr rfl fun d _ => ?_
    have e : finProdFinEquiv ((⟨k.val / 64, hk⟩ : Fin 8), d) = cell k d := Fin.ext (by show d.val + 64 * (k.val / 64) = 64 * (k.val / 64) + d.val; omega)
    rw [e, mean64, if_pos (by show (64 * (k.val / 64) + d.val) / 64 = k.val / 64; omega)]
  · intro b _ hb
    refine Finset.sum_eq_zero fun d _ => ?_
    have hv : (finProdFinEquiv (b, d)).val = d.val + 64 * b.val := rfl
    have hne : b.val ≠ k.val / 64 := fun h => hb (Fin.ext h)
    rw [mean64, if_neg (by rw [hv]; omega), mul_zero]
  · exact fun h => absurd (Finset.mem_univ _) h

/-- A sum of reals, taken among the extended reals, is their real sum. -/
theorem coe_sum {n : Nat} (f : Fin n → ℝ) : (∑ i, ((f i : ℝ) : EReal)) = ((∑ i, f i : ℝ) : EReal) := by
  classical
  refine Finset.induction_on (Finset.univ : Finset (Fin n)) (by simp) fun a s ha ih => ?_
  rw [Finset.sum_insert ha, Finset.sum_insert ha, ih, ← EReal.coe_add]

/-- The kernel's mean, of the squares and of their vanishing low parts, is the mean of the 64. -/
theorem kernel_mean (z : Fin 512 → EReal) (hz : ∀ j, IsReal (z j)) (k : Fin 512) :
    (∑ j, z j * z j * mean64 j k + ∑ j, (z j * z j - z j * z j) * mean64 j k : EReal)
      = Ideal.div (∑ d, z (cell k d) * z (cell k d)) (Ideal.ofBits .f32 1115684864#32) := by
  have hlow : (∑ j, (z j * z j - z j * z j) * mean64 j k : EReal) = 0 :=
    Finset.sum_eq_zero fun j _ => by rw [((hz j).mul (hz j)).sub_self, zero_mul]
  rw [hlow, add_zero, sum_cell (fun j => z j * z j) k, bits_64]
  choose a ha using hz
  simp only [ha, ← EReal.coe_mul]
  rw [coe_sum, coe_sum, div_real _ _ (by norm_num), ← Finset.sum_mul]
  exact congrArg _ (mul_one_div _ _)

end Cert.Inproj
end
-- ==== Proof.InprojBlock.lean ====
module
public import proofs.«01_k».proof.Proof.Inproj
public import proofs.«01_k».proof.Proof.Gen.Kernel3Ideal.Value
public import Idealize.ShloMosaic.Lib.Pointwise
public import Idealize.ShloMosaic.Lib.Pipeline.ValueKit.Acc
@[expose] public section

/-! What the input projection's one grid point leaves in its output blocks, entry by entry. -/

noncomputable section
namespace Cert.Kernel3Ideal.Inproj
open Cert.Kernel3Ideal Cert.Kernel3Ideal.Gen Idealize.ShloMosaic Idealize.ShloMosaic.TcCoe Cert.Moe Cert.Inproj
open scoped BigOperators

section
variable (x0 : Vec Ideal S272x1024 .f32) (x1 : Vec Ideal S1x1024 .f32) (g : Vec Ideal S512x512 .bf16) (w : Vec Ideal S1024x512 .bf16)
  (s : Vec Ideal S1x512 .f32)

/-- A token's normalized row. -/
def nrow (r : Fin 272) : Fin 1024 → EReal := norm (fun y => x0 (ix2 r y)) (fun y => x1 (ix2 0 y))

theorem norm_apply (r : Fin 272) (x : Fin 1024) : k0_pay1 x0 x1 (ix2 r x) = nrow x0 x1 r x := by
  pointwise [k0_pay1]
  rfl

theorem wide_apply (v : Vec Ideal S1024x2048 .bf16) (r : Fin 272) (k : Fin 2048) :
    k0_pay3 x0 x1 v (ix2 r k) = (∑ x, nrow x0 x1 r x * v (ix2 x k) : EReal) := by
  pointwise [k0_pay3]
  simp only [norm_apply]

theorem plain_apply (r : Fin 272) (k : Fin 512) :
    k0_pay7 (k0_pay1 x0 x1) w (ix2 r k) = proj (nrow x0 x1 r) (fun x j => w (ix2 x j)) k := by
  pointwise [k0_pay7]
  simp only [norm_apply]
  rfl

variable (hg : ∀ j k, g (ix2 j k) = mean64 j k) (hn : ∀ r x, IsReal (nrow x0 x1 r x)) (hw : ∀ x k, IsReal (w (ix2 x k)))
include hg hn hw

theorem unit_apply (r : Fin 272) (k : Fin 512) :
    k0_pay5 x0 x1 g w (ix2 r k) = unit64 (proj (nrow x0 x1 r) (fun x j => w (ix2 x j))) k := by
  have h := kernel_mean (proj (nrow x0 x1 r) (fun x j => w (ix2 x j))) (proj_real (hn r) hw) k
  simp only [← hg] at h
  unfold unit64
  rw [← h]
  pointwise [k0_pay5, k0_pay2]
  simp only [norm_apply]
  rfl

theorem scaled_apply (r : Fin 272) (k : Fin 512) :
    k0_pay8 (k0_pay4 s) (k0_pay5 x0 x1 g w) (ix2 r k) = (unit64 (proj (nrow x0 x1 r) (fun x j => w (ix2 x j))) k * s (ix2 0 k) : EReal) := by
  rw [← unit_apply x0 x1 g w hg hn hw r k]
  pointwise [k0_pay8, k0_pay4]

theorem key_apply (r : Fin 272) (k : Fin 512) : k0_pay6 (k0_pay1 x0 x1) (k0_pay2 g) w s (ix2 r k)
    = (unit64 (proj (nrow x0 x1 r) (fun x j => w (ix2 x j))) k * s (ix2 0 k) : EReal) := by
  have h := kernel_mean (proj (nrow x0 x1 r) (fun x j => w (ix2 x j))) (proj_real (hn r) hw) k
  simp only [← hg] at h
  unfold unit64
  rw [← h]
  pointwise [k0_pay6, k0_pay2]
  simp only [norm_apply]
  rfl
end

theorem hz : (![0, 0] : Fin 2 → Nat) = fun _ => 0 := by funext a; match a with | 0 => rfl | 1 => rfl

/-- The projection's columns among those the kernel reads: the recurrence's, then the queries', the keys' and the values'. -/
def colH (k : Fin 2048) : Fin 3584 := ⟨k.val, by omega⟩
def colQ (k : Fin 512) : Fin 3584 := ⟨2048 + k.val, by omega⟩
def colK (k : Fin 512) : Fin 3584 := ⟨2560 + k.val, by omega⟩
def colV (k : Fin 512) : Fin 3584 := ⟨3072 + k.val, by omega⟩

theorem ldH (x2 : Vec Ideal S1024x3584 .bf16) (x : Fin 1024) (k : Fin 2048) :
    View.ld x2 (Rect.unit ![0, 0] ![1024, 2048] inb_S1024x3584_S1024x2048_0_0) (ix2 x k : S1024x2048.Idx) = x2 (ix2 x (colH k) : S1024x3584.Idx) := by
  refine congrArg x2 (funext fun a => Fin.ext ?_)
  match a with
  | ⟨0, _⟩ => show 0 + 1 * x.val = x.val; omega
  | ⟨1, _⟩ => show 0 + 1 * k.val = k.val; omega

theorem ldQ (x2 : Vec Ideal S1024x3584 .bf16) (x : Fin 1024) (k : Fin 512) :
    View.ld x2 (Rect.unit ![0, 2048] ![1024, 512] inb_S1024x3584_S1024x512_0_2048) (ix2 x k : S1024x512.Idx) = x2 (ix2 x (colQ k) : S1024x3584.Idx) := by
  refine congrArg x2 (funext fun a => Fin.ext ?_)
  match a with
  | ⟨0, _⟩ => show 0 + 1 * x.val = x.val; omega
  | ⟨1, _⟩ => show 2048 + 1 * k.val = 2048 + k.val; omega

theorem ldK (x2 : Vec Ideal S1024x3584 .bf16) (x : Fin 1024) (k : Fin 512) :
    View.ld x2 (Rect.unit ![0, 2560] ![1024, 512] inb_S1024x3584_S1024x512_0_2560) (ix2 x k : S1024x512.Idx) = x2 (ix2 x (colK k) : S1024x3584.Idx) := by
  refine congrArg x2 (funext fun a => Fin.ext ?_)
  match a with
  | ⟨0, _⟩ => show 0 + 1 * x.val = x.val; omega
  | ⟨1, _⟩ => show 2560 + 1 * k.val = 2560 + k.val; omega

theorem ldV (x2 : Vec Ideal S1024x3584 .bf16) (x : Fin 1024) (k : Fin 512) :
    View.ld x2 (Rect.unit ![0, 3072] ![1024, 512] inb_S1024x3584_S1024x512_0_3072) (ix2 x k : S1024x512.Idx) = x2 (ix2 x (colV k) : S1024x3584.Idx) := by
  refine congrArg x2 (funext fun a => Fin.ext ?_)
  match a with
  | ⟨0, _⟩ => show 0 + 1 * x.val = x.val; omega
  | ⟨1, _⟩ => show 3072 + 1 * k.val = 3072 + k.val; omega

section
variable (c : Dev nD) (i : grid0.Coords) (a1 : Memref sig .tc .vmem S272x1024 .f32) (h1 : a1.IsWhole) (a2 : Memref sig .tc .vmem S1x1024 .f32) (h2 : a2.IsWhole) (a3 : Memref sig .tc .vmem S1024x3584 .bf16) (h3 : a3.IsWhole) (a4 : Memref sig .tc .vmem S512x512 .bf16) (h4 : a4.IsWhole) (a5 : Memref sig .tc .vmem S1x512 .f32) (h5 : a5.IsWhole) (a6 : Memref sig .tc .vmem S1x512 .f32) (h6 : a6.IsWhole) (a7 : Memref sig .tc .vmem S272x2048 .f32) (h7 : a7.IsWhole) (a8 : Memref sig .tc .vmem S272x512 .bf16) (h8 : a8.IsWhole) (a9 : Memref sig .tc .vmem S272x512 .f32) (h9 : a9.IsWhole) (a10 : Memref sig .tc .vmem S272x512 .bf16) (h10 : a10.IsWhole) (a11 : Memref sig .tc .vmem S272x512 .f32) (h11 : a11.IsWhole) (a12 : Memref sig .tc .vmem S272x512 .bf16) (h12 : a12.IsWhole)
  (x0 : Vec Ideal S272x1024 .f32) (x1 : Vec Ideal S1x1024 .f32) (x2 : Vec Ideal S1024x3584 .bf16) (x3 : Vec Ideal S512x512 .bf16)
  (x4 x5 : Vec Ideal S1x512 .f32)

theorem out6 (r : Fin 272) (k : Fin 2048) : out0_A_6 c i a1 h1 a2 h2 a3 h3 a4 h4 a5 h5 a6 h6 a7 h7 a8 h8 a9 h9 a10 h10 a11 h11 a12 h12 x0 x1 x2 x3 x4 x5 (ix2 r k) = (∑ x, nrow x0 x1 r x * x2 (ix2 x (colH k)) : EReal) := by
  have h : out0_A_6 c i a1 h1 a2 h2 a3 h3 a4 h4 a5 h5 a6 h6 a7 h7 a8 h8 a9 h9 a10 h10 a11 h11 a12 h12 x0 x1 x2 x3 x4 x5 = k0_pay3 x0 x1 (View.ld x2 (Rect.unit ![0, 0] ![1024, 2048] inb_S1024x3584_S1024x2048_0_0)) := by
    unfold out0_A_6
    rw [View.read_writes_junk_eq_canon]
    unfold kernelRun0_A
    dsimp only
    sl_unfold_words
    rw [View.canon_unit_zero hz]
    simp only [View.readAt_eq_ld, h1.read_unread, h2.read_unread, h3.read_unread, h4.read_unread, h5.read_unread, h6.read_unread]
    rw [show View.ld x0 (Rect.unit ![0, 0] ![272, 1024] inb_S272x1024_S272x1024_0_0) = x0 from View.ld_unit_zero hz _ _,
      show View.ld x1 (Rect.unit ![0, 0] ![1, 1024] inb_S1x1024_S1x1024_0_0) = x1 from View.ld_unit_zero hz _ _]
  rw [h]
  rw [wide_apply]
  exact Finset.sum_congr rfl fun x _ => congrArg (fun z : EReal => nrow x0 x1 r x * z) (ldH x2 x k)

theorem out7 (hg : ∀ j k, x3 (ix2 j k) = mean64 j k) (hn : ∀ r x, IsReal (nrow x0 x1 r x)) (hw : ∀ x k, IsReal (x2 (ix2 x k)))
    (r : Fin 272) (k : Fin 512) : out0_A_7 c i a1 h1 a2 h2 a3 h3 a4 h4 a5 h5 a6 h6 a7 h7 a8 h8 a9 h9 a10 h10 a11 h11 a12 h12 x0 x1 x2 x3 x4 x5 (ix2 r k) =
      (unit64 (proj (nrow x0 x1 r) (fun x j => x2 (ix2 x (colQ j)))) k * x4 (ix2 0 k) : EReal) := by
  have h : out0_A_7 c i a1 h1 a2 h2 a3 h3 a4 h4 a5 h5 a6 h6 a7 h7 a8 h8 a9 h9 a10 h10 a11 h11 a12 h12 x0 x1 x2 x3 x4 x5 = k0_pay8 (k0_pay4 x4) (k0_pay5 x0 x1 x3 (View.ld x2 (Rect.unit ![0, 2048] ![1024, 512] inb_S1024x3584_S1024x512_0_2048))) := by
    unfold out0_A_7
    rw [View.read_writes_junk_eq_canon]
    unfold kernelRun0_A
    dsimp only
    sl_unfold_words
    rw [View.canon_unit_zero hz]
    simp only [View.readAt_eq_ld, h1.read_unread, h2.read_unread, h3.read_unread, h4.read_unread, h5.read_unread, h6.read_unread]
    rw [show View.ld x0 (Rect.unit ![0, 0] ![272, 1024] inb_S272x1024_S272x1024_0_0) = x0 from View.ld_unit_zero hz _ _,
      show View.ld x1 (Rect.unit ![0, 0] ![1, 1024] inb_S1x1024_S1x1024_0_0) = x1 from View.ld_unit_zero hz _ _,
      show View.ld x3 (Rect.unit ![0, 0] ![512, 512] inb_S512x512_S512x512_0_0) = x3 from View.ld_unit_zero hz _ _,
      show View.ld x4 (Rect.unit ![0, 0] ![1, 512] inb_S1x512_S1x512_0_0) = x4 from View.ld_unit_zero hz _ _]
  rw [h]
  rw [scaled_apply x0 x1 x3 _ x4 hg hn (fun x k => (ldQ x2 x k).symm ▸ hw x _) r k]
  exact congrArg (fun f => (unit64 (proj (nrow x0 x1 r) f) k * x4 (ix2 0 k) : EReal)) (funext fun x => funext fun j => ldQ x2 x j)

theorem out8 (hg : ∀ j k, x3 (ix2 j k) = mean64 j k) (hn : ∀ r x, IsReal (nrow x0 x1 r x)) (hw : ∀ x k, IsReal (x2 (ix2 x k)))
    (r : Fin 272) (k : Fin 512) : out0_A_8 c i a1 h1 a2 h2 a3 h3 a4 h4 a5 h5 a6 h6 a7 h7 a8 h8 a9 h9 a10 h10 a11 h11 a12 h12 x0 x1 x2 x3 x4 x5 (ix2 r k) =
      (unit64 (proj (nrow x0 x1 r) (fun x j => x2 (ix2 x (colK j)))) k * x5 (ix2 0 k) : EReal) := by
  have h : out0_A_8 c i a1 h1 a2 h2 a3 h3 a4 h4 a5 h5 a6 h6 a7 h7 a8 h8 a9 h9 a10 h10 a11 h11 a12 h12 x0 x1 x2 x3 x4 x5 = k0_pay6 (k0_pay1 x0 x1) (k0_pay2 x3) (View.ld x2 (Rect.unit ![0, 2560] ![1024, 512] inb_S1024x3584_S1024x512_0_2560)) x5 := by
    unfold out0_A_8
    rw [View.read_writes_junk_eq_canon]
    unfold kernelRun0_A
    dsimp only
    sl_unfold_words
    rw [View.canon_unit_zero hz]
    simp only [View.readAt_eq_ld, h1.read_unread, h2.read_unread, h3.read_unread, h4.read_unread, h5.read_unread, h6.read_unread]
    rw [show View.ld x0 (Rect.unit ![0, 0] ![272, 1024] inb_S272x1024_S272x1024_0_0) = x0 from View.ld_unit_zero hz _ _,
      show View.ld x1 (Rect.unit ![0, 0] ![1, 1024] inb_S1x1024_S1x1024_0_0) = x1 from View.ld_unit_zero hz _ _,
      show View.ld x3 (Rect.unit ![0, 0] ![512, 512] inb_S512x512_S512x512_0_0) = x3 from View.ld_unit_zero hz _ _,
      show View.ld x5 (Rect.unit ![0, 0] ![1, 512] inb_S1x512_S1x512_0_0) = x5 from View.ld_unit_zero hz _ _]
  rw [h]
  rw [key_apply x0 x1 x3 _ x5 hg hn (fun x k => (ldK x2 x k).symm ▸ hw x _) r k]
  exact congrArg (fun f => (unit64 (proj (nrow x0 x1 r) f) k * x5 (ix2 0 k) : EReal)) (funext fun x => funext fun j => ldK x2 x j)

theorem out9 (hg : ∀ j k, x3 (ix2 j k) = mean64 j k) (hn : ∀ r x, IsReal (nrow x0 x1 r x)) (hw : ∀ x k, IsReal (x2 (ix2 x k)))
    (r : Fin 272) (k : Fin 512) : out0_A_9 c i a1 h1 a2 h2 a3 h3 a4 h4 a5 h5 a6 h6 a7 h7 a8 h8 a9 h9 a10 h10 a11 h11 a12 h12 x0 x1 x2 x3 x4 x5 (ix2 r k) =
      (unit64 (proj (nrow x0 x1 r) (fun x j => x2 (ix2 x (colK j)))) k * x5 (ix2 0 k) : EReal) := by
  have h : out0_A_9 c i a1 h1 a2 h2 a3 h3 a4 h4 a5 h5 a6 h6 a7 h7 a8 h8 a9 h9 a10 h10 a11 h11 a12 h12 x0 x1 x2 x3 x4 x5 = k0_pay6 (k0_pay1 x0 x1) (k0_pay2 x3) (View.ld x2 (Rect.unit ![0, 2560] ![1024, 512] inb_S1024x3584_S1024x512_0_2560)) x5 := by
    unfold out0_A_9
    rw [View.read_writes_junk_eq_canon]
    unfold kernelRun0_A
    dsimp only
    sl_unfold_words
    rw [View.canon_unit_zero hz]
    simp only [View.readAt_eq_ld, h1.read_unread, h2.read_unread, h3.read_unread, h4.read_unread, h5.read_unread, h6.read_unread]
    rw [show View.ld x0 (Rect.unit ![0, 0] ![272, 1024] inb_S272x1024_S272x1024_0_0) = x0 from View.ld_unit_zero hz _ _,
      show View.ld x1 (Rect.unit ![0, 0] ![1, 1024] inb_S1x1024_S1x1024_0_0) = x1 from View.ld_unit_zero hz _ _,
      show View.ld x3 (Rect.unit ![0, 0] ![512, 512] inb_S512x512_S512x512_0_0) = x3 from View.ld_unit_zero hz _ _,
      show View.ld x5 (Rect.unit ![0, 0] ![1, 512] inb_S1x512_S1x512_0_0) = x5 from View.ld_unit_zero hz _ _]
    rfl
  rw [h]
  rw [key_apply x0 x1 x3 _ x5 hg hn (fun x k => (ldK x2 x k).symm ▸ hw x _) r k]
  exact congrArg (fun f => (unit64 (proj (nrow x0 x1 r) f) k * x5 (ix2 0 k) : EReal)) (funext fun x => funext fun j => ldK x2 x j)

theorem out10 (r : Fin 272) (k : Fin 512) : out0_A_10 c i a1 h1 a2 h2 a3 h3 a4 h4 a5 h5 a6 h6 a7 h7 a8 h8 a9 h9 a10 h10 a11 h11 a12 h12 x0 x1 x2 x3 x4 x5 (ix2 r k) =
      proj (nrow x0 x1 r) (fun x j => x2 (ix2 x (colV j))) k := by
  have h : out0_A_10 c i a1 h1 a2 h2 a3 h3 a4 h4 a5 h5 a6 h6 a7 h7 a8 h8 a9 h9 a10 h10 a11 h11 a12 h12 x0 x1 x2 x3 x4 x5 = k0_pay7 (k0_pay1 x0 x1) (View.ld x2 (Rect.unit ![0, 3072] ![1024, 512] inb_S1024x3584_S1024x512_0_3072)) := by
    unfold out0_A_10
    rw [View.read_writes_junk_eq_canon]
    unfold kernelRun0_A
    dsimp only
    sl_unfold_words
    rw [View.canon_unit_zero hz]
    simp only [View.readAt_eq_ld, h1.read_unread, h2.read_unread, h3.read_unread, h4.read_unread, h5.read_unread, h6.read_unread]
    rw [show View.ld x0 (Rect.unit ![0, 0] ![272, 1024] inb_S272x1024_S272x1024_0_0) = x0 from View.ld_unit_zero hz _ _,
      show View.ld x1 (Rect.unit ![0, 0] ![1, 1024] inb_S1x1024_S1x1024_0_0) = x1 from View.ld_unit_zero hz _ _]
  rw [h]
  rw [plain_apply]
  exact congrArg (fun f => proj (nrow x0 x1 r) f k) (funext fun x => funext fun j => ldV x2 x j)

theorem out11 (r : Fin 272) (k : Fin 512) : out0_A_11 c i a1 h1 a2 h2 a3 h3 a4 h4 a5 h5 a6 h6 a7 h7 a8 h8 a9 h9 a10 h10 a11 h11 a12 h12 x0 x1 x2 x3 x4 x5 (ix2 r k) =
      proj (nrow x0 x1 r) (fun x j => x2 (ix2 x (colV j))) k := by
  have h : out0_A_11 c i a1 h1 a2 h2 a3 h3 a4 h4 a5 h5 a6 h6 a7 h7 a8 h8 a9 h9 a10 h10 a11 h11 a12 h12 x0 x1 x2 x3 x4 x5 = k0_pay7 (k0_pay1 x0 x1) (View.ld x2 (Rect.unit ![0, 3072] ![1024, 512] inb_S1024x3584_S1024x512_0_3072)) := by
    unfold out0_A_11
    rw [View.read_writes_junk_eq_canon]
    unfold kernelRun0_A
    dsimp only
    sl_unfold_words
    rw [View.canon_unit_zero hz]
    simp only [View.readAt_eq_ld, h1.read_unread, h2.read_unread, h3.read_unread, h4.read_unread, h5.read_unread, h6.read_unread]
    rw [show View.ld x0 (Rect.unit ![0, 0] ![272, 1024] inb_S272x1024_S272x1024_0_0) = x0 from View.ld_unit_zero hz _ _,
      show View.ld x1 (Rect.unit ![0, 0] ![1, 1024] inb_S1x1024_S1x1024_0_0) = x1 from View.ld_unit_zero hz _ _]
    rfl
  rw [h]
  rw [plain_apply]
  exact congrArg (fun f => proj (nrow x0 x1 r) f k) (funext fun x => funext fun j => ldV x2 x j)

end

end Cert.Kernel3Ideal.Inproj
end
-- ==== Proof.InprojHost.lean ====
module
public import proofs.«01_k».proof.Proof.InprojBlock
public import Idealize.ShloMosaic.Lib.StableHlo.ReadAt
@[expose] public section

/-! What the host operations before the input projection leave in the arrays it reads. -/

noncomputable section
namespace Cert.Kernel3Ideal.Inproj
open Cert.Kernel3Ideal Cert.Kernel3Ideal.Gen Idealize.ShloMosaic Idealize.ShloMosaic.TcCoe Cert.Moe Cert.Inproj
open scoped BigOperators
variable (m : (ℓ : Loc nD τ sig) → Buf (Elt Ideal) ℓ) (c : Dev nD)

theorem host_v1 (x : Fin 1024) (k : Fin 5632) : V m c main_v1 (ix2 x k : S1024x5632.Idx)
    = m ((c : Thread nD τ).loc main_arg3) (ix3 0 x k : S1x1024x5632.Idx) := by
  after_reads_at

theorem host_v3 (x : Fin 1024) : V m c main_v3 (ix2 0 x : S1x1024.Idx)
    = m ((c : Thread nD τ).loc main_arg2) (ix2 0 x : S1x1024.Idx) := by
  after_reads_at

theorem host_v10 (k : Fin 512) : V m c main_v10 (ix2 0 k : S1x512.Idx)
    = scaled (m ((c : Thread nD τ).loc main_arg4) (ix2 0 (lane k) : S1x64.Idx)) := by
  after_reads_at
  rfl

theorem host_v15 (k : Fin 512) : V m c main_v15 (ix2 0 k : S1x512.Idx)
    = m ((c : Thread nD τ).loc main_arg5) (ix2 0 (lane k) : S1x64.Idx) := by
  after_reads_at
  rfl

/-- The quotient by 64, as the host's floor division reads it: the truncated quotient, one less where the signs differ and
    a remainder is left. -/
def quo (b : BitVec 32) : BitVec 32 :=
  Scalar.select
    (IntOp.andi
      (IntOp.cmpi (w := 32) CmpIPredicate.ne (if b = 0 then 0 else if b.msb = true then -1 else 1 : BitVec 32)
        (if (64#32 : BitVec 32) = 0 then 0 else if BitVec.msb 64#32 = true then -1 else 1 : BitVec 32))
      (IntOp.cmpi CmpIPredicate.ne (IntOp.remsi ArithUnit.host b 64#32) 0#32))
    (IntOp.subi (IntOp.divsi ArithUnit.host b 64#32) 1#32)
    (IntOp.divsi ArithUnit.host b 64#32)

theorem quo_eq : ∀ k : Fin 512, quo (BitVec.ofNat 32 k.val) = BitVec.ofNat 32 (k.val / 64) := by decide +kernel

theorem host_v24 (j k : Fin 512) : V m c main_v24 (ix2 j k : S512x512.Idx) = mean64 j k := by
  after_reads_at
  show Scalar.select (IntOp.cmpi CmpIPredicate.eq (quo (BitVec.ofNat 32 j.val)) (quo (BitVec.ofNat 32 k.val)))
    (Ideal.ofBits FTy.f32 1015021568#32) 0 = mean64 j k
  rw [quo_eq j, quo_eq k, bits_64th]
  unfold mean64
  by_cases h : j.val / 64 = k.val / 64
  · rw [if_pos h, h]
    simp [IntOp.cmpi, Scalar.select]
  · have hb : BitVec.ofNat 32 (j.val / 64) ≠ BitVec.ofNat 32 (k.val / 64) := fun e => h (by
      have := congrArg BitVec.toNat e
      simp only [BitVec.toNat_ofNat] at this
      omega)
    rw [if_neg h]
    simp only [IntOp.cmpi, Scalar.select, beq_eq_false_iff_ne.mpr hb]
    simp

/-- The token rows: the sixteen shared ones, then the samples'. -/
def token (r : Fin 272) (x : Fin 1024) : EReal :=
  if h : r.val < 16 then m ((c : Thread nD τ).loc main_arg0) (ix2 ⟨r.val, h⟩ x : S16x1024.Idx)
  else m ((c : Thread nD τ).loc main_arg1) (ix3 ⟨(r.val - 16) / 8, by omega⟩ ⟨(r.val - 16) % 8, by omega⟩ x : S32x8x1024.Idx)

theorem host_v26 (r : Fin 272) (x : Fin 1024) : V m c main_v26 (ix2 r x : S272x1024.Idx) = token m c r x := by
  after_reads_at
  rfl

end Cert.Kernel3Ideal.Inproj
end
-- ==== Proof.InprojArray.lean ====
module
public import proofs.«01_k».proof.Proof.InprojHost
@[expose] public section

/-! The arrays that the input projection's run leaves, entry by entry, over the arguments' launch contents. -/

noncomputable section
namespace Cert.Kernel3Ideal.Inproj
open Cert.Kernel3Ideal Cert.Kernel3Ideal.Gen Idealize.ShloMosaic Idealize.ShloMosaic.TcCoe Cert.Moe Cert.Inproj
open scoped BigOperators

/-- The one grid point's blocks all lie at their arrays' start. -/
theorem idx_facts : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem flush6 : ∀ t : Fin cfg0.N, (cfg0.win 6).flush t = true :=
  (by decide +kernel : ∀ t : Fin grid0.N, _)

theorem flush7 : ∀ t : Fin cfg0.N, (cfg0.win 7).flush t = true :=
  (by decide +kernel : ∀ t : Fin grid0.N, _)

theorem flush8 : ∀ t : Fin cfg0.N, (cfg0.win 8).flush t = true :=
  (by decide +kernel : ∀ t : Fin grid0.N, _)

theorem flush9 : ∀ t : Fin cfg0.N, (cfg0.win 9).flush t = true :=
  (by decide +kernel : ∀ t : Fin grid0.N, _)

theorem flush10 : ∀ t : Fin cfg0.N, (cfg0.win 10).flush t = true :=
  (by decide +kernel : ∀ t : Fin grid0.N, _)

theorem flush11 : ∀ t : Fin cfg0.N, (cfg0.win 11).flush t = true :=
  (by decide +kernel : ∀ t : Fin grid0.N, _)

/-- A column that the kernel reads, among all the projection's. -/
def col (k : Fin 3584) : Fin 5632 := ⟨k.val, by omega⟩

theorem emb0 (t : Fin cfg0.N) (z : S272x1024.Idx) : ((cfg0.win 0).blk t).view.emb z = z := by
  obtain ⟨⟨e0, e1⟩, -⟩ := idx_facts t
  funext a; apply Fin.ext
  match a with
  | ⟨0, _⟩ => show win0_0.index t (0 : Fin 2) * 272 + 1 * (z 0).val = (z 0).val; omega
  | ⟨1, _⟩ => show win0_0.index t (1 : Fin 2) * 1024 + 1 * (z 1).val = (z 1).val; omega

theorem emb1 (t : Fin cfg0.N) (z : S1x1024.Idx) : ((cfg0.win 1).blk t).view.emb z = z := by
  obtain ⟨-, ⟨e0, e1⟩, -⟩ := idx_facts t
  funext a; apply Fin.ext
  match a with
  | ⟨0, _⟩ => show win0_1.index t (0 : Fin 2) * 1 + 1 * (z 0).val = (z 0).val; omega
  | ⟨1, _⟩ => show win0_1.index t (1 : Fin 2) * 1024 + 1 * (z 1).val = (z 1).val; omega

theorem emb2 (t : Fin cfg0.N) (z : ((cfg0.win 2).xblock (cfg0.grid.coords t)).Idx) (x : Fin 1024) (k : Fin 3584)
    (h0 : (z (0 : Fin 2)).val = x.val) (h1 : (z (1 : Fin 2)).val = k.val) :
    ((cfg0.win 2).blk t).view.emb z = (ix2 x (col k) : S1024x5632.Idx) := by
  obtain ⟨-, -, ⟨e0, e1⟩, -⟩ := idx_facts t
  funext a; apply Fin.ext
  match a with
  | ⟨0, _⟩ => show win0_2.index t (0 : Fin 2) * 1024 + 1 * (z (0 : Fin 2)).val = x.val; omega
  | ⟨1, _⟩ => show win0_2.index t (1 : Fin 2) * 3584 + 1 * (z (1 : Fin 2)).val = k.val; omega

theorem emb3 (t : Fin cfg0.N) (z : S512x512.Idx) : ((cfg0.win 3).blk t).view.emb z = z := by
  obtain ⟨-, -, -, ⟨e0, e1⟩, -⟩ := idx_facts t
  funext a; apply Fin.ext
  match a with
  | ⟨0, _⟩ => show win0_3.index t (0 : Fin 2) * 512 + 1 * (z 0).val = (z 0).val; omega
  | ⟨1, _⟩ => show win0_3.index t (1 : Fin 2) * 512 + 1 * (z 1).val = (z 1).val; omega

theorem emb4 (t : Fin cfg0.N) (z : S1x512.Idx) : ((cfg0.win 4).blk t).view.emb z = z := by
  obtain ⟨-, -, -, -, ⟨e0, e1⟩, -⟩ := idx_facts t
  funext a; apply Fin.ext
  match a with
  | ⟨0, _⟩ => show win0_4.index t (0 : Fin 2) * 1 + 1 * (z 0).val = (z 0).val; omega
  | ⟨1, _⟩ => show win0_4.index t (1 : Fin 2) * 512 + 1 * (z 1).val = (z 1).val; omega

theorem emb5 (t : Fin cfg0.N) (z : S1x512.Idx) : ((cfg0.win 5).blk t).view.emb z = z := by
  obtain ⟨-, -, -, -, -, ⟨e0, e1⟩, -⟩ := idx_facts t
  funext a; apply Fin.ext
  match a with
  | ⟨0, _⟩ => show win0_5.index t (0 : Fin 2) * 1 + 1 * (z 0).val = (z 0).val; omega
  | ⟨1, _⟩ => show win0_5.index t (1 : Fin 2) * 512 + 1 * (z 1).val = (z 1).val; omega

theorem emb6 (t : Fin cfg0.N) (z : S272x2048.Idx) : ((cfg0.win 6).blk t).view.emb z = z := by
  obtain ⟨-, -, -, -, -, -, ⟨e0, e1⟩, -⟩ := idx_facts t
  funext a; apply Fin.ext
  match a with
  | ⟨0, _⟩ => show win0_6.index t (0 : Fin 2) * 272 + 1 * (z 0).val = (z 0).val; omega
  | ⟨1, _⟩ => show win0_6.index t (1 : Fin 2) * 2048 + 1 * (z 1).val = (z 1).val; omega

theorem emb7 (t : Fin cfg0.N) (z : S272x512.Idx) : ((cfg0.win 7).blk t).view.emb z = z := by
  obtain ⟨-, -, -, -, -, -, -, ⟨e0, e1⟩, -⟩ := idx_facts t
  funext a; apply Fin.ext
  match a with
  | ⟨0, _⟩ => show win0_7.index t (0 : Fin 2) * 272 + 1 * (z 0).val = (z 0).val; omega
  | ⟨1, _⟩ => show win0_7.index t (1 : Fin 2) * 512 + 1 * (z 1).val = (z 1).val; omega

theorem emb8 (t : Fin cfg0.N) (z : S272x512.Idx) : ((cfg0.win 8).blk t).view.emb z = z := by
  obtain ⟨-, -, -, -, -, -, -, -, ⟨e0, e1⟩, -⟩ := idx_facts t
  funext a; apply Fin.ext
  match a with
  | ⟨0, _⟩ => show win0_8.index t (0 : Fin 2) * 272 + 1 * (z 0).val = (z 0).val; omega
  | ⟨1, _⟩ => show win0_8.index t (1 : Fin 2) * 512 + 1 * (z 1).val = (z 1).val; omega

theorem emb9 (t : Fin cfg0.N) (z : S272x512.Idx) : ((cfg0.win 9).blk t).view.emb z = z := by
  obtain ⟨-, -, -, -, -, -, -, -, -, ⟨e0, e1⟩, -⟩ := idx_facts t
  funext a; apply Fin.ext
  match a with
  | ⟨0, _⟩ => show win0_9.index t (0 : Fin 2) * 272 + 1 * (z 0).val = (z 0).val; omega
  | ⟨1, _⟩ => show win0_9.index t (1 : Fin 2) * 512 + 1 * (z 1).val = (z 1).val; omega

theorem emb10 (t : Fin cfg0.N) (z : S272x512.Idx) : ((cfg0.win 10).blk t).view.emb z = z := by
  obtain ⟨-, -, -, -, -, -, -, -, -, -, ⟨e0, e1⟩, -⟩ := idx_facts t
  funext a; apply Fin.ext
  match a with
  | ⟨0, _⟩ => show win0_10.index t (0 : Fin 2) * 272 + 1 * (z 0).val = (z 0).val; omega
  | ⟨1, _⟩ => show win0_10.index t (1 : Fin 2) * 512 + 1 * (z 1).val = (z 1).val; omega

theorem emb11 (t : Fin cfg0.N) (z : S272x512.Idx) : ((cfg0.win 11).blk t).view.emb z = z := by
  obtain ⟨-, -, -, -, -, -, -, -, -, -, -, ⟨e0, e1⟩⟩ := idx_facts t
  funext a; apply Fin.ext
  match a with
  | ⟨0, _⟩ => show win0_11.index t (0 : Fin 2) * 272 + 1 * (z 0).val = (z 0).val; omega
  | ⟨1, _⟩ => show win0_11.index t (1 : Fin 2) * 512 + 1 * (z 1).val = (z 1).val; omega

variable (m : (ℓ : Loc nD τ sig) → Buf (Elt Ideal) ℓ) (c : Dev nD)

/-- The arguments' entries. -/
def aN (x : Fin 1024) : EReal := m ((c : Thread nD τ).loc main_arg2) (ix2 0 x : S1x1024.Idx)
def aWin (x : Fin 1024) (k : Fin 5632) : EReal := m ((c : Thread nD τ).loc main_arg3) (ix3 0 x k : S1x1024x5632.Idx)
def aQ (d : Fin 64) : EReal := m ((c : Thread nD τ).loc main_arg4) (ix2 0 d : S1x64.Idx)
def aK (d : Fin 64) : EReal := m ((c : Thread nD τ).loc main_arg5) (ix2 0 d : S1x64.Idx)

/-- A token's normalized row. -/
def zrow (r : Fin 272) : Fin 1024 → EReal := norm (token m c r) (aN m c)

section
variable (t : Fin cfg0.N)

theorem blk0 (r : Fin 272) (x : Fin 1024) : iblk m c 0 t (ix2 r x : S272x1024.Idx) = token m c r x := by
  show V m c main_v26 (((cfg0.win 0).blk t).view.emb (ix2 r x : S272x1024.Idx)) = _
  rw [emb0]
  exact host_v26 m c r x

theorem blk1 (x : Fin 1024) : iblk m c 1 t (ix2 0 x : S1x1024.Idx) = aN m c x := by
  show V m c main_v3 (((cfg0.win 1).blk t).view.emb (ix2 0 x : S1x1024.Idx)) = _
  rw [emb1]
  exact host_v3 m c x

theorem blk2 (x : Fin 1024) (k : Fin 3584) : X0_2 m c t (ix2 x k : S1024x3584.Idx) = aWin m c x (col k) := by
  unfold X0_2 Pipeline.Window.fill
  rw [dif_pos (moved0_2 t (ix2 x k : S1024x3584.Idx))]
  exact (congrArg (V m c main_v1) (emb2 t _ x k rfl rfl)).trans (host_v1 m c x (col k))

theorem blk3 (j k : Fin 512) : iblk m c 3 t (ix2 j k : S512x512.Idx) = mean64 j k := by
  show V m c main_v24 (((cfg0.win 3).blk t).view.emb (ix2 j k : S512x512.Idx)) = _
  rw [emb3]
  exact host_v24 m c j k

theorem blk4 (k : Fin 512) : iblk m c 4 t (ix2 0 k : S1x512.Idx) = scaled (aQ m c (lane k)) := by
  show V m c main_v10 (((cfg0.win 4).blk t).view.emb (ix2 0 k : S1x512.Idx)) = _
  rw [emb4]
  exact host_v10 m c k

theorem blk5 (k : Fin 512) : iblk m c 5 t (ix2 0 k : S1x512.Idx) = aK m c (lane k) := by
  show V m c main_v15 (((cfg0.win 5).blk t).view.emb (ix2 0 k : S1x512.Idx)) = _
  rw [emb5]
  exact host_v15 m c k

theorem nrow_eq (r : Fin 272) : nrow (iblk m c 0 t) (iblk m c 1 t) r = zrow m c r := by
  unfold nrow zrow
  rw [show (fun y => iblk m c 0 t (ix2 r y : S272x1024.Idx)) = token m c r from funext fun y => blk0 m c t r y,
    show (fun y => iblk m c 1 t (ix2 0 y : S1x1024.Idx)) = aN m c from funext fun y => blk1 m c t y]

end

/-- The one grid point. -/
def t0 : Fin cfg0.N := (⟨0, by decide⟩ : Fin 1)

theorem final6 (r : Fin 272) (k : Fin 2048) : (dats m 0 c).arrAt 6 cfg0.N (ix2 r k : S272x2048.Idx)
    = out0_A_6 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0)
        (iblk m c 0 t0) (iblk m c 1 t0) (X0_2 m c t0) (iblk m c 3 t0) (iblk m c 4 t0) (iblk m c 5 t0) (ix2 r k : S272x2048.Idx) := by
  have b := congrFun (Cert.Kernel3Ideal.Value.blocks6 m c t0 (flush6 t0)) (ix2 r k : S272x2048.Idx)
  rw [Cert.Kernel3Ideal.Value.flushed6_A] at b
  have b' : (dats m 0 c).arrAt 6 cfg0.N (((cfg0.win 6).blk t0).view.emb (ix2 r k : S272x2048.Idx)) = _ := b
  rw [emb6] at b'
  exact b'

theorem final7 (r : Fin 272) (k : Fin 512) : (dats m 0 c).arrAt 7 cfg0.N (ix2 r k : S272x512.Idx)
    = out0_A_7 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0)
        (iblk m c 0 t0) (iblk m c 1 t0) (X0_2 m c t0) (iblk m c 3 t0) (iblk m c 4 t0) (iblk m c 5 t0) (ix2 r k : S272x512.Idx) := by
  have b := congrFun (Cert.Kernel3Ideal.Value.blocks7 m c t0 (flush7 t0)) (ix2 r k : S272x512.Idx)
  rw [Cert.Kernel3Ideal.Value.flushed7_A] at b
  have b' : (dats m 0 c).arrAt 7 cfg0.N (((cfg0.win 7).blk t0).view.emb (ix2 r k : S272x512.Idx)) = _ := b
  rw [emb7] at b'
  exact b'

theorem final8 (r : Fin 272) (k : Fin 512) : (dats m 0 c).arrAt 8 cfg0.N (ix2 r k : S272x512.Idx)
    = out0_A_8 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0)
        (iblk m c 0 t0) (iblk m c 1 t0) (X0_2 m c t0) (iblk m c 3 t0) (iblk m c 4 t0) (iblk m c 5 t0) (ix2 r k : S272x512.Idx) := by
  have b := congrFun (Cert.Kernel3Ideal.Value.blocks8 m c t0 (flush8 t0)) (ix2 r k : S272x512.Idx)
  rw [Cert.Kernel3Ideal.Value.flushed8_A] at b
  have b' : (dats m 0 c).arrAt 8 cfg0.N (((cfg0.win 8).blk t0).view.emb (ix2 r k : S272x512.Idx)) = _ := b
  rw [emb8] at b'
  exact b'

theorem final9 (r : Fin 272) (k : Fin 512) : (dats m 0 c).arrAt 9 cfg0.N (ix2 r k : S272x512.Idx)
    = out0_A_9 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0)
        (iblk m c 0 t0) (iblk m c 1 t0) (X0_2 m c t0) (iblk m c 3 t0) (iblk m c 4 t0) (iblk m c 5 t0) (ix2 r k : S272x512.Idx) := by
  have b := congrFun (Cert.Kernel3Ideal.Value.blocks9 m c t0 (flush9 t0)) (ix2 r k : S272x512.Idx)
  rw [Cert.Kernel3Ideal.Value.flushed9_A] at b
  have b' : (dats m 0 c).arrAt 9 cfg0.N (((cfg0.win 9).blk t0).view.emb (ix2 r k : S272x512.Idx)) = _ := b
  rw [emb9] at b'
  exact b'

theorem final10 (r : Fin 272) (k : Fin 512) : (dats m 0 c).arrAt 10 cfg0.N (ix2 r k : S272x512.Idx)
    = out0_A_10 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0)
        (iblk m c 0 t0) (iblk m c 1 t0) (X0_2 m c t0) (iblk m c 3 t0) (iblk m c 4 t0) (iblk m c 5 t0) (ix2 r k : S272x512.Idx) := by
  have b := congrFun (Cert.Kernel3Ideal.Value.blocks10 m c t0 (flush10 t0)) (ix2 r k : S272x512.Idx)
  rw [Cert.Kernel3Ideal.Value.flushed10_A] at b
  have b' : (dats m 0 c).arrAt 10 cfg0.N (((cfg0.win 10).blk t0).view.emb (ix2 r k : S272x512.Idx)) = _ := b
  rw [emb10] at b'
  exact b'

theorem final11 (r : Fin 272) (k : Fin 512) : (dats m 0 c).arrAt 11 cfg0.N (ix2 r k : S272x512.Idx)
    = out0_A_11 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0)
        (iblk m c 0 t0) (iblk m c 1 t0) (X0_2 m c t0) (iblk m c 3 t0) (iblk m c 4 t0) (iblk m c 5 t0) (ix2 r k : S272x512.Idx) := by
  have b := congrFun (Cert.Kernel3Ideal.Value.blocks11 m c t0 (flush11 t0)) (ix2 r k : S272x512.Idx)
  rw [Cert.Kernel3Ideal.Value.flushed11_A] at b
  have b' : (dats m 0 c).arrAt 11 cfg0.N (((cfg0.win 11).blk t0).view.emb (ix2 r k : S272x512.Idx)) = _ := b
  rw [emb11] at b'
  exact b'

theorem kernel6 (r : Fin 272) (k : Fin 2048) : (dats m 0 c).arrAt 6 cfg0.N (ix2 r k : S272x2048.Idx)
    = (∑ x, zrow m c r x * aWin m c x (col (colH k)) : EReal) := by
  refine (final6 m c r k).trans ((out6 _ _ (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ r k).trans ?_)
  rw [nrow_eq]
  exact Finset.sum_congr rfl fun x _ => congrArg (fun z : EReal => zrow m c r x * z) (blk2 m c t0 x _)

theorem kernel10 (r : Fin 272) (k : Fin 512) : (dats m 0 c).arrAt 10 cfg0.N (ix2 r k : S272x512.Idx)
    = proj (zrow m c r) (fun x j => aWin m c x (col (colV j))) k := by
  refine (final10 m c r k).trans ((out10 _ _ (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ r k).trans ?_)
  rw [nrow_eq]
  exact congrArg (fun f => proj (zrow m c r) f k) (funext fun x => funext fun j => blk2 m c t0 x _)

theorem kernel11 (r : Fin 272) (k : Fin 512) : (dats m 0 c).arrAt 11 cfg0.N (ix2 r k : S272x512.Idx)
    = proj (zrow m c r) (fun x j => aWin m c x (col (colV j))) k := by
  refine (final11 m c r k).trans ((out11 _ _ (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _ r k).trans ?_)
  rw [nrow_eq]
  exact congrArg (fun f => proj (zrow m c r) f k) (funext fun x => funext fun j => blk2 m c t0 x _)

variable (hz : ∀ r x, IsReal (zrow m c r x)) (hw : ∀ x k, IsReal (aWin m c x k))
include hz hw

theorem kernel7 (r : Fin 272) (k : Fin 512) : (dats m 0 c).arrAt 7 cfg0.N (ix2 r k : S272x512.Idx)
    = (unit64 (proj (zrow m c r) (fun x j => aWin m c x (col (colQ j)))) k * scaled (aQ m c (lane k)) : EReal) := by
  refine (final7 m c r k).trans ((out7 _ _ (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _
    (blk3 m c t0) (fun r x => (congrFun (nrow_eq m c t0 r) x).symm ▸ hz r x) (fun x k => (blk2 m c t0 x k).symm ▸ hw x _) r k).trans ?_)
  rw [nrow_eq]
  exact congrArg₂ (fun f s => (unit64 (proj (zrow m c r) f) k * s : EReal)) (funext fun x => funext fun j => blk2 m c t0 x _) (blk4 m c t0 k)

theorem kernel8 (r : Fin 272) (k : Fin 512) : (dats m 0 c).arrAt 8 cfg0.N (ix2 r k : S272x512.Idx)
    = (unit64 (proj (zrow m c r) (fun x j => aWin m c x (col (colK j)))) k * aK m c (lane k) : EReal) := by
  refine (final8 m c r k).trans ((out8 _ _ (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _
    (blk3 m c t0) (fun r x => (congrFun (nrow_eq m c t0 r) x).symm ▸ hz r x) (fun x k => (blk2 m c t0 x k).symm ▸ hw x _) r k).trans ?_)
  rw [nrow_eq]
  exact congrArg₂ (fun f s => (unit64 (proj (zrow m c r) f) k * s : EReal)) (funext fun x => funext fun j => blk2 m c t0 x _) (blk5 m c t0 k)

theorem kernel9 (r : Fin 272) (k : Fin 512) : (dats m 0 c).arrAt 9 cfg0.N (ix2 r k : S272x512.Idx)
    = (unit64 (proj (zrow m c r) (fun x j => aWin m c x (col (colK j)))) k * aK m c (lane k) : EReal) := by
  refine (final9 m c r k).trans ((out9 _ _ (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) (ms0_8 t0) (hs0_8 t0) (ms0_9 t0) (hs0_9 t0) (ms0_10 t0) (hs0_10 t0) (ms0_11 t0) (hs0_11 t0) _ _ _ _ _ _
    (blk3 m c t0) (fun r x => (congrFun (nrow_eq m c t0 r) x).symm ▸ hz r x) (fun x k => (blk2 m c t0 x k).symm ▸ hw x _) r k).trans ?_)
  rw [nrow_eq]
  exact congrArg₂ (fun f s => (unit64 (proj (zrow m c r) f) k * s : EReal)) (funext fun x => funext fun j => blk2 m c t0 x _) (blk5 m c t0 k)

end Cert.Kernel3Ideal.Inproj
end
-- ==== Proof.InprojRef.lean ====
module
public import proofs.«01_k».proof.Proof.Inproj
public import proofs.«01_k».proof.Proof.Gen.Reference3Ideal.Run
public import Idealize.ShloMosaic.Lib.Pointwise
@[expose] public section

/-! The input projection's reference, entry by entry, over its arguments. -/

noncomputable section
namespace Cert.Reference3Ideal.Inproj
open Cert.Reference3Ideal Cert.Reference3Ideal.Gen Cert.Reference3Ideal.Value Idealize.ShloMosaic Cert.Moe Cert.Inproj
open scoped BigOperators
variable (a0 : FVec Ideal S16x1024 .f32) (a1 : FVec Ideal S32x8x1024 .f32) (a2 : FVec Ideal S1x1024 .f32)
  (a3 : FVec Ideal S1x1024x5632 .f32) (a4 a5 : FVec Ideal S1x64 .f32)

/-- The token rows: the sixteen shared ones, then the samples'. -/
def tok : FVec Ideal S272x1024 .f32 := (concatenate S272x1024 0 [⟨S16x1024, a0⟩, ⟨S256x1024, (shapeCast _ a1 shapeCasts_S32x8x1024_S256x1024)⟩] concatenates_S16x1024_S256x1024_S272x1024_d0)

/-- The input projection of the normalized tokens, all its columns. -/
def z : FVec Ideal S272x5632 .f32 :=
  (Host.dotGeneral (φ₁ := .f32) (φ₂ := .f32) dot_S272x1024_S1024x5632_S272x5632_1_0_0_1_n_n none (mulf (mulf (tok a0 a1) (broadcastInDim S272x1024 ![0, 1] bcast_S272x1_S272x1024_0_1 (Host.rsqrt (addf (Host.divf (broadcastInDim S272x1 ![0] bcast_S272_S272x1_0 (Host.reduceAdd (mulf (tok a0 a1) (tok a0 a1)) (constant S_ .f32 0x00000000#32) reducesTo_S272x1024_S272_d1 h_S_)) (broadcastInDim S272x1 ![] bcast_S_S272x1 (constant S_ .f32 0x44800000#32))) (broadcastInDim S272x1 ![] bcast_S_S272x1 (constant S_ .f32 0x358637BD#32)))))) (broadcastInDim S272x1024 ![0, 1] bcast_S1x1024_S272x1024_0_1 (broadcastInDim S1x1024 ![1] bcast_S1024_S1x1024_1 (shapeCast _ a2 shapeCasts_S1x1024_S1024)))) (shapeCast _ a3 shapeCasts_S1x1024x5632_S1024x5632))

/-- The heads' norm of 512 columns. -/
def heads (v : FVec Ideal S272x512 .f32) (w : FVec Ideal S1x64 .f32) : FVec Ideal S272x512 .f32 :=
  shapeCast _ (mulf (mulf (shapeCast _ v shapeCasts_S272x512_S272x4x2x64) (broadcastInDim S272x4x2x64 ![0, 1, 2, 3] bcast_S272x4x2x1_S272x4x2x64_0_1_2_3 (Host.rsqrt (addf (Host.divf (broadcastInDim S272x4x2x1 ![0, 1, 2] bcast_S272x4x2_S272x4x2x1_0_1_2 (Host.reduceAdd (mulf (shapeCast _ v shapeCasts_S272x512_S272x4x2x64) (shapeCast _ v shapeCasts_S272x512_S272x4x2x64)) (constant S_ .f32 0x00000000#32) reducesTo_S272x4x2x64_S272x4x2_d3 h_S_)) (broadcastInDim S272x4x2x1 ![] bcast_S_S272x4x2x1 (constant S_ .f32 0x42800000#32))) (broadcastInDim S272x4x2x1 ![] bcast_S_S272x4x2x1 (constant S_ .f32 0x358637BD#32)))))) (broadcastInDim S272x4x2x64 ![0, 1, 2, 3] bcast_S1x1x1x64_S272x4x2x64_0_1_2_3 (broadcastInDim S1x1x1x64 ![3] bcast_S64_S1x1x1x64_3 (shapeCast _ w shapeCasts_S1x64_S64)))) shapeCasts_S272x4x2x64_S272x512

/-- The 2048 columns of the recurrence. -/
def wide : FVec Ideal S272x2048 .f32 :=
  (concatenate S272x2048 1 [⟨S272x512, ((extractStridedSlice S272x512 ![0, 0] (z a0 a1 a2 a3) slices_S272x5632_S272x512_0_0) : (⟨S272x512, .f32⟩ : BufTy).Contents (Elt Ideal))⟩, ⟨S272x512, ((extractStridedSlice S272x512 ![0, 512] (z a0 a1 a2 a3) slices_S272x5632_S272x512_0_512) : (⟨S272x512, .f32⟩ : BufTy).Contents (Elt Ideal))⟩, ⟨S272x512, ((extractStridedSlice S272x512 ![0, 1024] (z a0 a1 a2 a3) slices_S272x5632_S272x512_0_1024) : (⟨S272x512, .f32⟩ : BufTy).Contents (Elt Ideal))⟩, ⟨S272x512, ((extractStridedSlice S272x512 ![0, 1536] (z a0 a1 a2 a3) slices_S272x5632_S272x512_0_1536) : (⟨S272x512, .f32⟩ : BufTy).Contents (Elt Ideal))⟩] concatenates_S272x512_S272x512_S272x512_S272x512_S272x2048_d1 : (⟨S272x2048, .f32⟩ : BufTy).Contents (Elt Ideal))

theorem tok_apply (r : Fin 272) (x : Fin 1024) : tok a0 a1 (ix2 r x)
    = if h : r.val < 16 then a0 (ix2 ⟨r.val, h⟩ x) else a1 (ix3 ⟨(r.val - 16) / 8, by omega⟩ ⟨(r.val - 16) % 8, by omega⟩ x) := by
  unfold tok
  pointwise

theorem z_apply (r : Fin 272) (k : Fin 5632) : z a0 a1 a2 a3 (ix2 r k)
    = (∑ x, norm (fun y => tok a0 a1 (ix2 r y)) (fun y => a2 (ix2 0 y)) x * a3 (ix3 0 x k) : EReal) := by
  unfold z
  pointwise
  rfl

theorem heads_apply (v : FVec Ideal S272x512 .f32) (w : FVec Ideal S1x64 .f32) (r : Fin 272) (k : Fin 512) : heads v w (ix2 r k)
    = (unit64 (fun j => v (ix2 r j)) k * w (ix2 0 (lane k)) : EReal) := by
  have e : ∀ x : Fin 64, ∀ h, (⟨k.val / 128 * 128 + k.val / 64 % 2 * 64 + x.val, h⟩ : Fin 512) = cell k x := fun x h =>
    Fin.ext (by show k.val / 128 * 128 + k.val / 64 % 2 * 64 + x.val = 64 * (k.val / 64) + x.val; omega)
  unfold heads unit64
  pointwise
  simp only [e]
  rfl

theorem wide_apply (r : Fin 272) (k : Fin 2048) : wide a0 a1 a2 a3 (ix2 r k) = z a0 a1 a2 a3 (ix2 r (⟨k.val, by omega⟩ : Fin 5632)) := by
  have e : ∀ n : Nat, ∀ h : n < 5632, n = k.val → z a0 a1 a2 a3 (ix2 r (⟨n, h⟩ : Fin 5632)) = z a0 a1 a2 a3 (ix2 r (⟨k.val, by omega⟩ : Fin 5632)) :=
    fun n h hn => by subst hn; rfl
  unfold wide
  pointwise
  split
  · rfl
  · split
    · exact e _ _ (by omega)
    · split <;> exact e _ _ (by omega)

end Cert.Reference3Ideal.Inproj
end
-- ==== Proof.InprojEqual.lean ====
module
public import proofs.«01_k».proof.Proof.Finite
public import proofs.«01_k».proof.Proof.InprojArray
public import proofs.«01_k».proof.Proof.InprojRef
public import proofs.«01_k».proof.Proof.Gen.Pre_finite3
@[expose] public section

/-! The input projection's six arrays and its reference's are the same functions of the same arguments, where the tokens,
    their norm's weight and the projection's weights are real numbers. -/

noncomputable section
namespace Cert.Inproj
open Idealize.ShloMosaic Idealize.ShloMosaic.TcCoe Cert.Moe
open Cert.Kernel3Ideal.Inproj (token aN aWin aQ aK zrow col colH colQ colK colV kernel6 kernel7 kernel8 kernel9 kernel10 kernel11)
open Cert.Reference3Ideal.Inproj (tok z heads wide tok_apply z_apply heads_apply wide_apply)

section
open Cert.Pre_finite3 Cert.Pre_finite3.Gen

/-- What the precondition says: every entry of the tokens, of their norm's weight and of the projection's is a real number. -/
theorem all_real (a0 : FVec Ideal S16x1024 .f32) (a1 : FVec Ideal S32x8x1024 .f32) (a2 : FVec Ideal S1x1024 .f32)
    (a3 : FVec Ideal S1x1024x5632 .f32) (a4 a5 : FVec Ideal S1x64 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i)) := by
  have h8 := congrFun h (fun a : Fin 0 => a.elim0)
  obtain ⟨h2, e3⟩ := Cert.Pre_finite.Moe.and_split h8
  obtain ⟨h1, e2⟩ := Cert.Pre_finite.Moe.and_split h2
  obtain ⟨e0, e1⟩ := Cert.Pre_finite.Moe.and_split h1
  exact ⟨Cert.Pre_finite.Moe.real_of_all a0 _ _ e0, Cert.Pre_finite.Moe.real_of_all a1 _ _ e1,
    Cert.Pre_finite.Moe.real_of_all a2 _ _ e2, Cert.Pre_finite.Moe.real_of_all a3 _ _ e3⟩
end

section
open Cert.Kernel3Ideal
variable (m : (ℓ : Loc nD τ sig) → Buf (Elt Ideal) ℓ) (c : Dev nD)

/-- The projection's columns, of the launch contents. -/
abbrev zz : FVec Ideal Cert.Reference3Ideal.S272x5632 .f32 :=
  z (m ((c : Thread nD τ).loc main_arg0)) (m ((c : Thread nD τ).loc main_arg1)) (m ((c : Thread nD τ).loc main_arg2))
    (m ((c : Thread nD τ).loc main_arg3))

theorem zz_apply (r : Fin 272) (k : Fin 5632) : zz m c (ix2 r k) = (∑ x, zrow m c r x * aWin m c x k : EReal) := by
  refine (z_apply _ _ _ _ r k).trans ?_
  have e : (fun y => tok (m ((c : Thread nD τ).loc main_arg0)) (m ((c : Thread nD τ).loc main_arg1)) (ix2 r y)) = token m c r :=
    funext fun y => tok_apply _ _ r y
  rw [e]
  rfl

/-- A slice of the projection's columns is a projection onto these. -/
theorem slice_apply (off : Nat) (h : Cert.Reference3Ideal.S272x5632.Slices ![0, off] Cert.Reference3Ideal.S272x512)
    (f : Fin 512 → Fin 3584) (hf : ∀ k, (f k).val = off + k.val) (r : Fin 272) (k : Fin 512) :
    extractStridedSlice Cert.Reference3Ideal.S272x512 ![0, off] (zz m c) h (ix2 r k)
      = proj (zrow m c r) (fun x j => aWin m c x (col (f j))) k := by
  refine Eq.trans (congrArg (zz m c) ?_) (zz_apply m c r (col (f k)))
  funext a; apply Fin.ext
  match a with
  | ⟨0, _⟩ => show 0 + r.val = r.val; omega
  | ⟨1, _⟩ => show off + k.val = (f k).val; rw [hf]

/-- Real arguments make every entry of the normalized tokens real. -/
theorem zrow_real (b0 : ∀ i, IsReal (m ((c : Thread nD τ).loc main_arg0) i)) (b1 : ∀ i, IsReal (m ((c : Thread nD τ).loc main_arg1) i))
    (b2 : ∀ i, IsReal (m ((c : Thread nD τ).loc main_arg2) i)) (r : Fin 272) (x : Fin 1024) : IsReal (zrow m c r x) := by
  refine norm_real (fun y => ?_) (fun y => b2 _) x
  unfold token
  split
  · exact b0 _
  · exact b1 _

variable (h0 : ∀ r x, IsReal (zrow m c r x)) (h1 : ∀ x k, IsReal (aWin m c x k))

theorem arrays6 : wide (m ((c : Thread nD τ).loc main_arg0)) (m ((c : Thread nD τ).loc main_arg1)) (m ((c : Thread nD τ).loc main_arg2))
    (m ((c : Thread nD τ).loc main_arg3)) = (Cert.Kernel3Ideal.Gen.dats m 0 c).arrAt 6 Cert.Kernel3Ideal.cfg0.N := by
  funext q
  obtain ⟨r, d, rfl⟩ : ∃ (r : Fin 272) (d : Fin 2048), q = (ix2 r d : S272x2048.Idx) := ⟨q 0, q 1, Idealize.ShloMosaic.eq_ix2 q⟩
  exact ((wide_apply _ _ _ _ r d).trans (zz_apply m c r _)).trans (kernel6 m c r d).symm

theorem arrays10 : (extractStridedSlice Cert.Reference3Ideal.S272x512 ![0, 3072] (zz m c) Cert.Reference3Ideal.Gen.slices_S272x5632_S272x512_0_3072)
    = (Cert.Kernel3Ideal.Gen.dats m 0 c).arrAt 10 Cert.Kernel3Ideal.cfg0.N := by
  funext q
  obtain ⟨r, d, rfl⟩ : ∃ (r : Fin 272) (d : Fin 512), q = (ix2 r d : S272x512.Idx) := ⟨q 0, q 1, Idealize.ShloMosaic.eq_ix2 q⟩
  exact (slice_apply m c 3072 Cert.Reference3Ideal.Gen.slices_S272x5632_S272x512_0_3072 colV (fun _ => rfl) r d).trans (kernel10 m c r d).symm

theorem arrays11 : (truncf .bf16 (extractStridedSlice Cert.Reference3Ideal.S272x512 ![0, 3072] (zz m c) Cert.Reference3Ideal.Gen.slices_S272x5632_S272x512_0_3072) Cert.Reference3Ideal.Gen.bitsLt_bf16_f32)
    = (Cert.Kernel3Ideal.Gen.dats m 0 c).arrAt 11 Cert.Kernel3Ideal.cfg0.N := by
  funext q
  obtain ⟨r, d, rfl⟩ : ∃ (r : Fin 272) (d : Fin 512), q = (ix2 r d : S272x512.Idx) := ⟨q 0, q 1, Idealize.ShloMosaic.eq_ix2 q⟩
  exact (slice_apply m c 3072 Cert.Reference3Ideal.Gen.slices_S272x5632_S272x512_0_3072 colV (fun _ => rfl) r d).trans (kernel11 m c r d).symm

include h0 h1

theorem arrays8 : heads (extractStridedSlice Cert.Reference3Ideal.S272x512 ![0, 2560] (zz m c) Cert.Reference3Ideal.Gen.slices_S272x5632_S272x512_0_2560) (m ((c : Thread nD τ).loc main_arg5))
    = (Cert.Kernel3Ideal.Gen.dats m 0 c).arrAt 8 Cert.Kernel3Ideal.cfg0.N := by
  funext q
  obtain ⟨r, d, rfl⟩ : ∃ (r : Fin 272) (d : Fin 512), q = (ix2 r d : S272x512.Idx) := ⟨q 0, q 1, Idealize.ShloMosaic.eq_ix2 q⟩
  refine (heads_apply _ _ r d).trans (Eq.trans ?_ (kernel8 m c h0 h1 r d).symm)
  exact congrArg (fun f => (unit64 f d * aK m c (lane d) : EReal)) (funext fun j => slice_apply m c 2560 _ colK (fun _ => rfl) r j)

theorem arrays9 : truncf .bf16 (heads (extractStridedSlice Cert.Reference3Ideal.S272x512 ![0, 2560] (zz m c) Cert.Reference3Ideal.Gen.slices_S272x5632_S272x512_0_2560) (m ((c : Thread nD τ).loc main_arg5))) Cert.Reference3Ideal.Gen.bitsLt_bf16_f32
    = (Cert.Kernel3Ideal.Gen.dats m 0 c).arrAt 9 Cert.Kernel3Ideal.cfg0.N := by
  funext q
  obtain ⟨r, d, rfl⟩ : ∃ (r : Fin 272) (d : Fin 512), q = (ix2 r d : S272x512.Idx) := ⟨q 0, q 1, Idealize.ShloMosaic.eq_ix2 q⟩
  refine (heads_apply _ _ r d).trans (Eq.trans ?_ (kernel9 m c h0 h1 r d).symm)
  exact congrArg (fun f => (unit64 f d * aK m c (lane d) : EReal)) (funext fun j => slice_apply m c 2560 _ colK (fun _ => rfl) r j)

theorem arrays7 : truncf .bf16 (mulf (heads (extractStridedSlice Cert.Reference3Ideal.S272x512 ![0, 2048] (zz m c) Cert.Reference3Ideal.Gen.slices_S272x5632_S272x512_0_2048) (m ((c : Thread nD τ).loc main_arg4))) (broadcastInDim Cert.Reference3Ideal.S272x512 ![] Cert.Reference3Ideal.Gen.bcast_S_S272x512 (constant Cert.Reference3Ideal.S_ .f32 0x3E38AA3B#32))) Cert.Reference3Ideal.Gen.bitsLt_bf16_f32
    = (Cert.Kernel3Ideal.Gen.dats m 0 c).arrAt 7 Cert.Kernel3Ideal.cfg0.N := by
  funext q
  obtain ⟨r, d, rfl⟩ : ∃ (r : Fin 272) (d : Fin 512), q = (ix2 r d : S272x512.Idx) := ⟨q 0, q 1, Idealize.ShloMosaic.eq_ix2 q⟩
  refine (congrArg (fun y : EReal => y * Ideal.ofBits .f32 0x3E38AA3B#32) (heads_apply _ _ r d)).trans (Eq.trans ?_ (kernel7 m c h0 h1 r d).symm)
  refine (mul_assoc (G := EReal) _ _ _).trans ?_
  exact congrArg (fun f => (unit64 f d * scaled (aQ m c (lane d)) : EReal)) (funext fun j => slice_apply m c 2048 _ colQ (fun _ => rfl) r j)

end

end Cert.Inproj
end
-- ==== Proof.Hgrn.lean ====
module
public import proofs.«01_k».proof.Proof.Arith
public import proofs.«01_k».proof.Proof.Merge
@[expose] public section

/-! The gated recurrence over one chunk of eight tokens. -/

noncomputable section
namespace Cert.Hgrn
open Idealize.ShloMosaic Cert.Moe Cert.Merge
open scoped BigOperators

/-- Column `d` of head `h`. -/
def col (h : Fin 4) (d : Fin 128) : Fin 512 := ⟨128 * h.val + d.val, by omega⟩

/-- The largest entry of a column of the bound's table. -/
def top (l : Fin 2 → Fin 512 → EReal) (k : Fin 512) : EReal :=
  Finset.fold max (Ideal.ofBits .f32 4286578688#32) (fun r => l r k) Finset.univ

/-- The gates' lower bound: the first entry of a softmax over two rows. -/
def bound (l : Fin 2 → Fin 512 → EReal) (k : Fin 512) : EReal :=
  Ideal.div (Ideal.exp (l 0 k - top l k)) (∑ r, Ideal.exp (l r k - top l k))

/-- The activation, in the form with a hyperbolic tangent. -/
def act (x : EReal) : EReal :=
  Ideal.ofBits .f32 1056964608#32 * x + Ideal.ofBits .f32 1056964608#32 * x * Ideal.tanh (Ideal.ofBits .f32 1056964608#32 * x)

/-- A weighted sum of a column that is taken as a high part, the rest, and the rest of that. -/
def split3 (t x : Fin 128 → EReal) : EReal :=
  (∑ s, t s * x s) + (∑ s, t s * (x s - x s)) + ∑ s, t s * (x s - x s - (x s - x s))

/-- An entry of a row divided by the row's root mean square, times a weight and a gate. -/
def unit128 (o : Fin 128 → EReal) (w g : EReal) (v : Fin 128) : EReal :=
  o v * Ideal.rsqrt (Ideal.div (∑ j, o j * o j) (Ideal.ofBits .f32 1124073472#32) + Ideal.ofBits .f32 897988541#32) * w * g

/-! ### Real numbers -/

theorem gate_real (x : EReal) : ∃ g : ℝ, 0 ≤ g ∧ gate x = (g : EReal) := by
  unfold gate
  induction x with
  | bot =>
    refine ⟨0, le_refl _, ?_⟩
    show Ideal.div 1 (1 + Ideal.exp (-⊥)) = _
    rw [EReal.neg_bot, show Ideal.exp ⊤ = ⊤ from rfl, show (1 : EReal) + ⊤ = ⊤ from EReal.add_top_of_ne_bot (by decide)]
    unfold Ideal.div
    simp
  | top =>
    refine ⟨1, zero_le_one, ?_⟩
    show Ideal.div 1 (1 + Ideal.exp (-⊤)) = _
    rw [EReal.neg_top, show Ideal.exp ⊥ = 0 from rfl, add_zero, show (1 : EReal) = ((1 : ℝ) : EReal) from EReal.coe_one.symm,
      div_real _ _ one_ne_zero, div_one]
  | coe r =>
    have hpos : 0 < 1 + Real.exp (-r) := by positivity
    refine ⟨1 / (1 + Real.exp (-r)), by positivity, ?_⟩
    rw [← EReal.coe_neg, exp_real, show (1 : EReal) = ((1 : ℝ) : EReal) from EReal.coe_one.symm, ← EReal.coe_add,
      div_real _ _ hpos.ne']

theorem top_real (l : Fin 2 → Fin 512 → EReal) (k : Fin 512) (h : ∀ r, IsReal (l r k)) : IsReal (top l k) := by
  have e : top l k = max (l 0 k) (l 1 k) := by
    unfold top
    rw [bits_negInf, show (Finset.univ : Finset (Fin 2)) = {0, 1} from rfl, Finset.fold_insert (by decide), Finset.fold_singleton]
    simp
  rw [e]
  rcases max_choice (l 0 k) (l 1 k) with m | m <;> rw [m] <;> exact h _

theorem bound_real (l : Fin 2 → Fin 512 → EReal) (k : Fin 512) (h : ∀ r, IsReal (l r k)) :
    ∃ b : ℝ, 0 < b ∧ b < 1 ∧ bound l k = (b : EReal) := by
  obtain ⟨m, hm⟩ := top_real l k h
  obtain ⟨x, hx⟩ := h 0
  obtain ⟨y, hy⟩ := h 1
  have e0 : Ideal.exp (l 0 k - top l k) = (Real.exp (x - m) : EReal) := by rw [hm, hx, ← EReal.coe_sub, exp_real]
  have e1 : Ideal.exp (l 1 k - top l k) = (Real.exp (y - m) : EReal) := by rw [hm, hy, ← EReal.coe_sub, exp_real]
  have p0 := Real.exp_pos (x - m)
  have p1 := Real.exp_pos (y - m)
  have ps : 0 < Real.exp (x - m) + Real.exp (y - m) := add_pos p0 p1
  refine ⟨Real.exp (x - m) / (Real.exp (x - m) + Real.exp (y - m)), div_pos p0 ps, (div_lt_one ps).mpr (by linarith), ?_⟩
  unfold bound
  rw [Fin.sum_univ_two, e0, e1, ← EReal.coe_add, div_real _ _ ps.ne']

/-- What a token keeps of the state, at the bound and its gate's column. -/
def keep (b x : EReal) : EReal := b + (1 - b) * gate x

theorem keep_real {b : EReal} (hb : ∃ r : ℝ, 0 < r ∧ r < 1 ∧ b = (r : EReal)) (x : EReal) : ∃ f : ℝ, 0 < f ∧ keep b x = (f : EReal) := by
  obtain ⟨r, h0, h1, rfl⟩ := hb
  obtain ⟨g, hg, e⟩ := gate_real x
  refine ⟨r + (1 - r) * g, add_pos_of_pos_of_nonneg h0 (mul_nonneg (by linarith) hg), ?_⟩
  unfold keep
  rw [e, show (1 : EReal) = ((1 : ℝ) : EReal) from EReal.coe_one.symm, ← EReal.coe_sub, ← EReal.coe_mul, ← EReal.coe_add]

theorem tanh_real (x : EReal) : IsReal (Ideal.tanh x) := by
  induction x with
  | bot => exact ⟨-1, by show (-1 : EReal) = _; simp⟩
  | top => exact ⟨1, by show (1 : EReal) = _; simp⟩
  | coe r => exact ⟨Real.tanh r, rfl⟩

/-- The kernel's form of the same, with a hyperbolic tangent. -/
theorem keep_tanh {b : EReal} (hb : IsReal b) (x : EReal) :
    b + Ideal.ofBits .f32 1056964608#32 * (1 - b) + Ideal.ofBits .f32 1056964608#32 * (1 - b) * Ideal.tanh (Ideal.ofBits .f32 1056964608#32 * x)
      = keep b x := by
  unfold keep
  rw [← gate_tanh]
  obtain ⟨t, ht⟩ := tanh_real (Ideal.ofBits .f32 1056964608#32 * x)
  obtain ⟨r, rfl⟩ := hb
  rw [ht, bits_half, show (1 : EReal) = ((1 : ℝ) : EReal) from EReal.coe_one.symm]
  simp only [← EReal.coe_sub, ← EReal.coe_mul, ← EReal.coe_add]
  congr 1
  ring

/-! ### The kernel's sums over 128 rows -/

theorem split3_real (t x : Fin 128 → EReal) (h : ∀ s, IsReal (x s)) : split3 t x = ∑ s, t s * x s := by
  have e : ∀ s, x s - x s = 0 := fun s => (h s).sub_self
  unfold split3
  simp only [e, sub_zero, mul_zero, Finset.sum_const_zero, add_zero]

theorem sum128 (f : Fin 128 → EReal) (h : ∀ s : Fin 128, 8 ≤ s.val → f s = 0) : ∑ s, f s = ∑ s : Fin 8, f (⟨s.val, by omega⟩ : Fin 128) := by
  have e : ∑ s : Fin (8 + 120), f s = ∑ s : Fin 8, f (Fin.castAdd 120 s) + ∑ s : Fin 120, f (Fin.natAdd 8 s) :=
    Fin.sum_univ_add (M := EReal) (a := 8) (b := 120) f
  refine e.trans ?_
  have z : ∑ s : Fin 120, f (Fin.natAdd 8 s) = 0 := Finset.sum_eq_zero fun s _ => h _ (by show 8 ≤ 8 + s.val; omega)
  rw [z, add_zero]
  rfl

/-- A sum of reals, among the extended reals. -/
theorem coe_sum8 (g : Fin 8 → ℝ) : (∑ s, (g s : EReal)) = ((∑ s, g s : ℝ) : EReal) := by
  simp only [Fin.sum_univ_eight, EReal.coe_add]

/-- The sum of the logarithms up to a token. -/
def logs (f : Fin 8 → ℝ) (r : Nat) : ℝ := ∑ s, if s.val ≤ r then Real.log (f s) else 0

theorem log_real {f : ℝ} (h : 0 < f) : Ideal.log (f : EReal) = (Real.log f : EReal) := by
  show (if f ≤ 0 then (⊥ : EReal) else (Real.log f : EReal)) = _
  rw [if_neg (not_le.mpr h)]

theorem bits_two : Ideal.ofBits .f32 1073741824#32 = ((2 : ℝ) : EReal) := by
  simp [Ideal.ofBits, Ideal.ieee]; norm_num [← EReal.coe_mul]

theorem log2_pos : 0 < Real.log 2 := Real.log_pos (by norm_num)

theorem log2_real {f : ℝ} (h : 0 < f) : Ideal.div (Ideal.log (f : EReal)) (Ideal.log (Ideal.ofBits .f32 1073741824#32)) = ((Real.log f / Real.log 2 : ℝ) : EReal) := by
  rw [bits_two, log_real h, log_real two_pos, div_real _ _ log2_pos.ne']

theorem running (f : Fin 128 → EReal) (g : Fin 8 → ℝ) (hg : ∀ s, 0 < g s) (h : ∀ s : Fin 8, f ⟨s.val, by omega⟩ = (g s : EReal)) (r : Fin 128) :
    split3 (fun s => if s.val ≤ r.val then 1 else 0)
      (fun s => if s.val < 8 then Ideal.div (Ideal.log (f s)) (Ideal.log (Ideal.ofBits .f32 1073741824#32)) else 0)
    = ((logs g r.val / Real.log 2 : ℝ) : EReal) := by
  have e : ∀ s : Fin 8, Ideal.div (Ideal.log (f ⟨s.val, by omega⟩)) (Ideal.log (Ideal.ofBits .f32 1073741824#32)) = ((Real.log (g s) / Real.log 2 : ℝ) : EReal) :=
    fun s => by rw [h, log2_real (hg s)]
  rw [split3_real]
  · rw [sum128]
    · unfold logs
      rw [Finset.sum_div, ← coe_sum8]
      refine Finset.sum_congr rfl fun s _ => ?_
      rw [if_pos (show (⟨s.val, by omega⟩ : Fin 128).val < 8 from s.isLt), e]
      by_cases hs : s.val ≤ r.val
      · rw [if_pos hs, if_pos hs, one_mul]
      · rw [if_neg hs, if_neg hs, zero_mul, zero_div, EReal.coe_zero]
    · intro s hs
      rw [if_neg (show ¬ s.val < 8 by omega), mul_zero]
  · intro s
    by_cases hs : s.val < 8
    · rw [if_pos hs]
      exact ⟨_, e ⟨s.val, hs⟩⟩
    · rw [if_neg hs]
      exact IsReal.zero

theorem exp2_log2 (a : ℝ) : Ideal.exp2 ((a / Real.log 2 : ℝ) : EReal) = (Real.exp a : EReal) := by
  show ((Real.rpow 2 (a / Real.log 2) : ℝ) : EReal) = _
  congr 1
  show (2 : ℝ) ^ (a / Real.log 2) = _
  rw [Real.rpow_def_of_pos two_pos, mul_div_cancel₀ _ log2_pos.ne']

theorem exp2_sub (a b : ℝ) : Ideal.exp2 (((a / Real.log 2 : ℝ) : EReal) - ((b / Real.log 2 : ℝ) : EReal)) = (Real.exp (a - b) : EReal) := by
  rw [← EReal.coe_sub, ← sub_div, exp2_log2]

/-! ### The step over the chunk -/

section
variable (q k v : Fin 8 → Fin 512 → EReal) (n : Fin 8 → Fin 512 → ℝ) (S : Fin 4 → Fin 128 → Fin 128 → EReal)

/-- What the state and the chunk's tokens give a token, before the norm. -/
def read (h : Fin 4) (t : Fin 8) (c : Fin 128) : EReal :=
  (∑ d, S h d c * (q t (col h d) * (Real.exp (n t (col h d)) : EReal)))
    + ∑ s, v s (col h c) * ∑ d, q t (col h d) * k s (col h d) * (if s.val ≤ t.val then (Real.exp (n t (col h d) - n s (col h d)) : EReal) else 0)

/-- The state after the chunk. -/
def next (h : Fin 4) (d c : Fin 128) : EReal :=
  (Real.exp (n 7 (col h d)) : EReal) * S h d c + ∑ s, k s (col h d) * (Real.exp (n 7 (col h d) - n s (col h d)) : EReal) * v s (col h c)

/-- The kernel's scores take the two exponents about the chunk's fifth token. -/
theorem read_eq (m : Fin 512 → ℝ) (h : Fin 4) (t : Fin 8) (c : Fin 128) :
    (∑ d, q t (col h d) * (Real.exp (n t (col h d)) : EReal) * S h d c)
      + ∑ s, (if s.val ≤ t.val then ∑ d, q t (col h d) * (Real.exp (n t (col h d) - m (col h d)) : EReal)
          * (k s (col h d) * (Real.exp (m (col h d) - n s (col h d)) : EReal)) else 0) * v s (col h c)
    = read q k v n S h t c := by
  unfold read
  congr 1
  · exact Finset.sum_congr rfl fun d _ => mul_comm _ _
  · refine Finset.sum_congr rfl fun s _ => ?_
    rw [mul_comm]
    congr 1
    by_cases hs : s.val ≤ t.val
    · simp only [if_pos hs]
      refine Finset.sum_congr rfl fun d _ => ?_
      rw [mul_mul_mul_comm, ← EReal.coe_mul, ← Real.exp_add, sub_add_sub_cancel]
    · simp only [if_neg hs, mul_zero, Finset.sum_const_zero]

theorem next_eq (h : Fin 4) (d c : Fin 128) :
    S h d c * (Real.exp (n 7 (col h d)) : EReal) + ∑ s, v s (col h c) * (k s (col h d) * (Real.exp (n 7 (col h d) - n s (col h d)) : EReal))
    = next k v n S h d c := by
  unfold next
  rw [mul_comm]
  congr 1
  exact Finset.sum_congr rfl fun s _ => mul_comm _ _

end

/-! ### One sample's chunk, of the columns of its projection -/

/-- The columns of the projection: the queries', the gates', the values', the output gates'. -/
def colQ (k : Fin 512) : Fin 2048 := ⟨k.val, by omega⟩
def colF (k : Fin 512) : Fin 2048 := ⟨512 + k.val, by omega⟩
def colI (k : Fin 512) : Fin 2048 := ⟨1024 + k.val, by omega⟩
def colG (k : Fin 512) : Fin 2048 := ⟨1536 + k.val, by omega⟩

section
variable (z : Fin 8 → Fin 2048 → EReal) (l : Fin 2 → Fin 512 → EReal)

def query (t : Fin 8) (k : Fin 512) : EReal := z t (colQ k) * gate (z t (colQ k))
def kept (t : Fin 8) (k : Fin 512) : EReal := keep (bound l k) (z t (colF k))
def key (t : Fin 8) (k : Fin 512) : EReal := 1 - kept z l t k
def value (t : Fin 8) (k : Fin 512) : EReal := z t (colI k)

/-- The logarithms of what the tokens keep, summed up to token `t`. -/
def total (t : Nat) (k : Fin 512) : ℝ := logs (fun s => (kept z l s k).toReal) t

theorem kept_real (hl : ∀ r k, IsReal (l r k)) (t : Fin 8) (k : Fin 512) : ∃ f : ℝ, 0 < f ∧ kept z l t k = (f : EReal) :=
  keep_real (bound_real l k fun r => hl r k) _

theorem kept_pos (hl : ∀ r k, IsReal (l r k)) (t : Fin 8) (k : Fin 512) : 0 < (kept z l t k).toReal := by
  obtain ⟨f, hf, e⟩ := kept_real z l hl t k
  rw [e, EReal.toReal_coe]
  exact hf

theorem kept_eq (hl : ∀ r k, IsReal (l r k)) (t : Fin 8) (k : Fin 512) : kept z l t k = ((kept z l t k).toReal : EReal) := by
  obtain ⟨f, hf, e⟩ := kept_real z l hl t k
  rw [e, EReal.toReal_coe]

/-- The state after the sample's tokens. -/
def stateOut (S : Fin 4 → Fin 128 → Fin 128 → EReal) (h : Fin 4) (d c : Fin 128) : EReal :=
  next (key z l) (value z) (fun t => total z l t.val) S h d c

/-- The mixer's output for a token. -/
def tokenOut (w : Fin 512 → EReal) (S : Fin 4 → Fin 128 → Fin 128 → EReal) (t : Fin 8) (h : Fin 4) (c : Fin 128) : EReal :=
  unit128 (fun j => read (query z) (key z l) (value z) (fun t => total z l t.val) S h t j) (w (col h c))
    (z t (colG (col h c)) * gate (z t (colG (col h c)))) c

end

end Cert.Hgrn
end
-- ==== Proof.HgrnStep.lean ====
module
public import proofs.«01_k».proof.Proof.Hgrn
public import proofs.«01_k».proof.Proof.Gen.Kernel4Ideal.Value
public import Idealize.ShloMosaic.Lib.Pointwise
@[expose] public section

/-! What one grid step of the recurrence computes, entry by entry. -/

noncomputable section
namespace Cert.Kernel4Ideal.Hgrn
open Cert.Kernel4Ideal Cert.Kernel4Ideal.Gen Idealize.ShloMosaic Cert.Moe Cert.Merge Cert.Hgrn
open scoped BigOperators

theorem head0 (c : Fin 128) : col 0 c = ⟨c.val, by omega⟩ := Fin.ext (by show 128 * 0 + c.val = c.val; omega)

theorem sel {p : Prop} [Decidable p] (x y : EReal) : Scalar.select (if p then 1#1 else 0#1) x y = if p then x else y := by
  by_cases h : p <;> simp [h, Scalar.select]

theorem pay7_apply (x : FVec Ideal S1x1x128x128 .f32) (v d : Fin 128) : k0_pay7 x (ix3 0 v d) = x (ix4 0 0 d v) := by
  unfold k0_pay7
  pointwise

theorem pay8_apply (x : FVec Ideal S1x1x128x128 .f32) (v d : Fin 128) : k0_pay8 x (ix3 0 v d) = x (ix4 0 0 d v) := by
  unfold k0_pay8
  pointwise

theorem pay9_apply (x : FVec Ideal S1x1x128x128 .f32) (v d : Fin 128) : k0_pay9 x (ix3 0 v d) = x (ix4 0 0 d v) := by
  unfold k0_pay9
  pointwise

theorem pay10_apply (x : FVec Ideal S1x1x128x128 .f32) (v d : Fin 128) : k0_pay10 x (ix3 0 v d) = x (ix4 0 0 d v) := by
  unfold k0_pay10
  pointwise

theorem pay3_apply (x : FVec Ideal S1x128x128 .f32) (d v : Fin 128) : k0_pay3 x (ix4 0 0 d v) = x (ix3 0 v d) := by
  unfold k0_pay3
  pointwise

theorem pay4_apply (x : FVec Ideal S1x128x128 .f32) (d v : Fin 128) : k0_pay4 x (ix4 0 0 d v) = x (ix3 0 v d) := by
  unfold k0_pay4
  pointwise

theorem pay5_apply (x : FVec Ideal S1x128x128 .f32) (d v : Fin 128) : k0_pay5 x (ix4 0 0 d v) = x (ix3 0 v d) := by
  unfold k0_pay5
  pointwise

theorem pay6_apply (x : FVec Ideal S1x128x128 .f32) (d v : Fin 128) : k0_pay6 x (ix4 0 0 d v) = x (ix3 0 v d) := by
  unfold k0_pay6
  pointwise

theorem pay11_apply (l : FVec Ideal S2x512 .f32) (k : Fin 512) : k0_pay11 (F := Ideal) l (ix2 0 k) = bound (fun r j => l (ix2 r j)) k := by
  unfold k0_pay11
  pointwise
  rfl

theorem pay12_apply (l : FVec Ideal S2x512 .f32) (k : Fin 512) : k0_pay12 l (ix2 0 k)
    = (Ideal.ofBits .f32 1056964608#32 * (1 - bound (fun r j => l (ix2 r j)) k) : EReal) := by
  unfold k0_pay12
  pointwise
  rw [pay11_apply]

theorem pay20_apply (l : FVec Ideal S2x512 .f32) (k : Fin 512) : k0_pay20 (F := Ideal) l (ix2 0 k)
    = (bound (fun r j => l (ix2 r j)) k + k0_pay12 (F := Ideal) l (ix2 0 k) : EReal) := by
  unfold k0_pay20
  pointwise
  rw [pay11_apply]

theorem pay13_apply (w : FVec Ideal S1x512 .f32) (k : Fin 512) : k0_pay13 w (ix2 0 k) = w (ix2 0 k) := by
  unfold k0_pay13
  pointwise

theorem below : ∀ r s : Fin 128, IntOp.cmpi CmpIPredicate.sle (BitVec.ofNat 32 s.val) (BitVec.ofNat 32 r.val)
    = if s.val ≤ r.val then 1#1 else 0#1 := by decide +kernel

theorem pay14_apply (r s : Fin 128) : (k0_pay14 : FVec Ideal S128x128 .bf16) (ix2 r s) = if s.val ≤ r.val then 1 else 0 := by
  unfold k0_pay14
  pointwise
  rw [below, sel]

theorem pay15_apply (x : FVec Ideal S1x8x2048 .f32) (r : Fin 128) (k : Fin 2048) : k0_pay15 x (ix2 r k)
    = if h : r.val < 8 then x (ix3 0 ⟨r.val, h⟩ k) else 0 := by
  unfold k0_pay15
  pointwise

theorem pay16_apply (x : FVec Ideal S1x8x2048 .f32) (r : Fin 128) (k : Fin 512) : k0_pay16 x (ix2 r k)
    = if h : r.val < 8 then x (ix3 0 ⟨r.val, h⟩ ⟨512 + k.val, by omega⟩) else 0 := by
  unfold k0_pay16
  pointwise
  exact pay15_apply x _ _

theorem pay17_apply (x : FVec Ideal S1x8x2048 .f32) (r : Fin 128) (k : Fin 512) : k0_pay17 x (ix2 r k)
    = if h : r.val < 8 then x (ix3 0 ⟨r.val, h⟩ ⟨1024 + k.val, by omega⟩) else 0 := by
  unfold k0_pay17
  pointwise
  exact pay15_apply x _ _

theorem pay18_apply (x : FVec Ideal S1x8x2048 .f32) (r : Fin 128) (k : Fin 512) : k0_pay18 x (ix2 r k)
    = if h : r.val < 8 then x (ix3 0 ⟨r.val, h⟩ ⟨1536 + k.val, by omega⟩) else 0 := by
  unfold k0_pay18
  pointwise
  exact pay15_apply x _ _

theorem pay19_apply (x : FVec Ideal S1x8x2048 .f32) (r : Fin 128) (k : Fin 512) : k0_pay19 (F := Ideal) x (ix2 r k)
    = act (if h : r.val < 8 then x (ix3 0 ⟨r.val, h⟩ ⟨k.val, by omega⟩) else 0) := by
  unfold k0_pay19
  pointwise
  simp only [pay15_apply]
  rfl

theorem pay26_apply (x : FVec Ideal S128x512 .f32) (r : Fin 128) (k : Fin 512) : k0_pay26 x (ix2 r k) = act (x (ix2 r k)) := by
  unfold k0_pay26
  pointwise
  rfl

section
variable (v16 : FVec Ideal S1x512 .f32) (v25 : FVec Ideal S128x128 .bf16) (v31 : FVec Ideal S128x512 .f32) (v39 : FVec Ideal S1x512 .f32)

theorem pay21_apply (r : Fin 128) (k : Fin 512) : k0_pay21 v16 v31 v39 (ix2 r k)
    = (v39 (ix2 0 k) + v16 (ix2 0 k) * Ideal.tanh (Ideal.ofBits .f32 1056964608#32 * v31 (ix2 r k)) : EReal) := by
  unfold k0_pay21
  pointwise

theorem pay22_apply (r : Fin 128) (k : Fin 512) : k0_pay22 (ix2 r k) = if r.val < 8 then 1#1 else 0#1 := by
  unfold k0_pay22
  pointwise
  revert r; decide +kernel

theorem pay23_apply (r : Fin 128) (k : Fin 512) : k0_pay23 v16 v31 v39 (ix2 r k)
    = (if r.val < 8 then 1 - k0_pay21 v16 v31 v39 (ix2 r k) else 0 : EReal) := by
  unfold k0_pay23
  pointwise
  rw [pay22_apply]
  exact sel _ _

theorem pay24_apply (r : Fin 128) (k : Fin 512) : k0_pay24 v16 v25 v31 v39 (ix2 r k)
    = split3 (fun s => v25 (ix2 r s)) (fun s => if s.val < 8 then Ideal.div (Ideal.log (k0_pay21 v16 v31 v39 (ix2 s k))) (Ideal.log (Ideal.ofBits .f32 1073741824#32)) else 0) := by
  unfold k0_pay24
  pointwise
  simp only [pay22_apply, sel]
  unfold split3
  simp only [mul_ite, mul_zero]

theorem pay27_apply (k : Fin 512) : k0_pay27 v16 v25 v31 v39 (ix2 0 k) = k0_pay24 v16 v25 v31 v39 (ix2 127 k) := by
  unfold k0_pay27
  pointwise

theorem pay28_apply (r : Fin 128) (k : Fin 512) : k0_pay28 v16 v25 v31 v39 (ix2 r k) = k0_pay24 v16 v25 v31 v39 (ix2 ⟨r.val / 8 * 8 + 4, by omega⟩ k) := by
  unfold k0_pay28
  pointwise

theorem pay29_apply (v38 : FVec Ideal S128x512 .f32) (r : Fin 128) (k : Fin 512) : k0_pay29 v16 v25 v31 v38 v39 (ix2 r k)
    = (v38 (ix2 r k) * Ideal.exp2 (k0_pay24 v16 v25 v31 v39 (ix2 r k) - k0_pay28 v16 v25 v31 v39 (ix2 r k)) : EReal) := by
  unfold k0_pay29
  pointwise
  rfl

theorem pay30_apply (r : Fin 128) (k : Fin 512) : k0_pay30 v16 v25 v31 v39 (ix2 r k)
    = Ideal.exp2 (k0_pay28 v16 v25 v31 v39 (ix2 r k) - k0_pay24 v16 v25 v31 v39 (ix2 r k) : EReal) := by
  unfold k0_pay30
  pointwise
  rfl

end

theorem pay25_apply (x : FVec Ideal S128x512 .f32) (r : Fin 128) (k : Fin 512) : k0_pay25 x (ix2 r k) = x (ix2 r k) := by
  unfold k0_pay25
  pointwise

theorem pay31_apply (x y : FVec Ideal S128x512 .f32) (r : Fin 128) (k : Fin 512) : k0_pay31 x y (ix2 r k) = (x (ix2 r k) * y (ix2 r k) : EReal) := by
  unfold k0_pay31
  pointwise

theorem pay33_apply (x y : FVec Ideal S128x512 .f32) (r : Fin 128) (k : Fin 512) : k0_pay33 x y (ix2 r k) = (x (ix2 r k) * Ideal.exp2 (y (ix2 r k)) : EReal) := by
  unfold k0_pay33
  pointwise
  rfl

theorem pay34_apply (x y : FVec Ideal S128x512 .f32) (z : FVec Ideal S1x512 .f32) (r : Fin 128) (k : Fin 512) : k0_pay34 x y z (ix2 r k)
    = (x (ix2 r k) * Ideal.exp2 (z (ix2 0 k) - y (ix2 r k)) : EReal) := by
  unfold k0_pay34
  pointwise
  rfl

/-- The rows' and columns' numbers, as the kernel writes them. -/
abbrev rows : IVec S128x128 32 := iota .tc S128x128 32 [0] iota_S128x128_d0_w32
abbrev cols : IVec S128x128 32 := iota .tc S128x128 32 [1] iota_S128x128_d1_w32

theorem pay32_apply (r s : Fin 128) : k0_pay32 rows cols (ix2 r s) = if r.val / 8 = s.val / 8 ∧ s.val ≤ r.val then 1#1 else 0#1 := by
  unfold k0_pay32
  pointwise
  revert r s; decide +kernel

theorem pay35_apply (x : FVec Ideal S128x512 .f32) (q : FVec Ideal S128x512 .bf16) (y : FVec Ideal S128x512 .f32) (r s : Fin 128) :
    k0_pay35 rows cols x q y (ix2 r s) = (if r.val / 8 = s.val / 8 ∧ s.val ≤ r.val then
      ∑ d, q (ix2 r (col 0 d)) * k0_pay31 x y (ix2 s (col 0 d)) else 0 : EReal) := by
  unfold k0_pay35
  pointwise
  rw [pay32_apply, sel]
  rfl

theorem pay36_apply (x : FVec Ideal S128x512 .f32) (q : FVec Ideal S128x512 .bf16) (y : FVec Ideal S128x512 .f32) (r s : Fin 128) :
    k0_pay36 rows cols x q y (ix2 r s) = (if r.val / 8 = s.val / 8 ∧ s.val ≤ r.val then
      ∑ d, q (ix2 r (col 1 d)) * k0_pay31 x y (ix2 s (col 1 d)) else 0 : EReal) := by
  unfold k0_pay36
  pointwise
  rw [pay32_apply, sel]
  rfl

theorem pay37_apply (x : FVec Ideal S128x512 .f32) (q : FVec Ideal S128x512 .bf16) (y : FVec Ideal S128x512 .f32) (r s : Fin 128) :
    k0_pay37 rows cols x q y (ix2 r s) = (if r.val / 8 = s.val / 8 ∧ s.val ≤ r.val then
      ∑ d, q (ix2 r (col 2 d)) * k0_pay31 x y (ix2 s (col 2 d)) else 0 : EReal) := by
  unfold k0_pay37
  pointwise
  rw [pay32_apply, sel]
  rfl

theorem pay38_apply (x : FVec Ideal S128x512 .f32) (q : FVec Ideal S128x512 .bf16) (y : FVec Ideal S128x512 .f32) (r s : Fin 128) :
    k0_pay38 rows cols x q y (ix2 r s) = (if r.val / 8 = s.val / 8 ∧ s.val ≤ r.val then
      ∑ d, q (ix2 r (col 3 d)) * k0_pay31 x y (ix2 s (col 3 d)) else 0 : EReal) := by
  unfold k0_pay38
  pointwise
  rw [pay32_apply, sel]
  rfl

theorem pay39_apply (x : FVec Ideal S1x512 .f32) (k : Fin 512) : k0_pay39 x (ix2 0 k) = Ideal.exp2 (x (ix2 0 k)) := by
  unfold k0_pay39
  pointwise
  rfl

theorem pay40_apply (x : FVec Ideal S1x128x128 .f32) (v d : Fin 128) : k0_pay40 x (ix2 v d) = x (ix3 0 v d) := by
  unfold k0_pay40
  pointwise

theorem pay42_apply (x : FVec Ideal S1x128x128 .f32) (v d : Fin 128) : k0_pay42 (F := Ideal) x (ix2 v d) = x (ix3 0 v d) := by
  unfold k0_pay42 k0_pay40
  pointwise

theorem pay45_apply (x : FVec Ideal S1x128x128 .f32) (v d : Fin 128) : k0_pay45 x (ix2 v d) = x (ix3 0 v d) := by
  unfold k0_pay45
  pointwise

theorem pay48_apply (x : FVec Ideal S1x128x128 .f32) (v d : Fin 128) : k0_pay48 x (ix2 v d) = x (ix3 0 v d) := by
  unfold k0_pay48
  pointwise

theorem pay53_apply (x : FVec Ideal S1x128x128 .f32) (v d : Fin 128) : k0_pay53 x (ix2 v d) = x (ix3 0 v d) := by
  unfold k0_pay53
  pointwise

theorem pay41_apply (x y : FVec Ideal S128x512 .f32) (r d : Fin 128) : k0_pay41 (F := Ideal) x y (ix2 r d) = k0_pay33 (F := Ideal) x y (ix2 r (col 0 d)) := by
  unfold k0_pay41
  pointwise
  simp only [head0]

section
variable (v72 v121 v126 : FVec Ideal S128x512 .bf16) (sc : FVec Ideal S128x128 .bf16) (v131 : FVec Ideal S1x512 .f32)
  (st : FVec Ideal S1x128x128 .f32)

theorem pay43_apply (q s : FVec Ideal S128x128 .bf16) (r c : Fin 128) :
    k0_pay43 (F := Ideal) v72 sc q s (constant S128x128 .f32 0x00000000#32) (ix2 r c)
    = ((∑ d, q (ix2 r d) * s (ix2 c d)) + ∑ s, sc (ix2 r s) * v72 (ix2 s (col 0 c)) : EReal) := by
  unfold k0_pay43
  pointwise
  simp only [head0]

theorem pay46_apply (r c : Fin 128) : k0_pay46 (F := Ideal) v72 v121 sc st (ix2 r c)
    = ((∑ d, v121 (ix2 r (col 1 d)) * st (ix3 0 c d)) + ∑ s, sc (ix2 r s) * v72 (ix2 s (col 1 c)) : EReal) := by
  unfold k0_pay46
  pointwise
  simp only [pay45_apply]
  rfl

theorem pay49_apply (r c : Fin 128) : k0_pay49 (F := Ideal) v121 st (ix2 r c)
    = (∑ d, v121 (ix2 r (col 2 d)) * st (ix3 0 c d) : EReal) := by
  unfold k0_pay49
  pointwise
  simp only [pay48_apply]
  rfl

theorem pay50_apply (r c : Fin 128) : k0_pay50 (F := Ideal) v72 sc (ix2 r c)
    = (∑ s, sc (ix2 r s) * v72 (ix2 s (col 2 c)) : EReal) := by
  unfold k0_pay50
  pointwise
  rfl

theorem pay51_apply (x y : FVec Ideal S128x128 .f32) (r c : Fin 128) : k0_pay51 (F := Ideal) x y (ix2 r c) = (x (ix2 r c) + y (ix2 r c) : EReal) := by
  unfold k0_pay51
  pointwise

theorem pay54_apply (r c : Fin 128) : k0_pay54 (F := Ideal) v72 v121 sc st (ix2 r c)
    = ((∑ d, v121 (ix2 r (col 3 d)) * st (ix3 0 c d)) + ∑ s, sc (ix2 r s) * v72 (ix2 s (col 3 c)) : EReal) := by
  unfold k0_pay54
  pointwise
  simp only [pay53_apply]
  rfl

theorem pay44_apply (s : FVec Ideal S128x128 .f32) (v d : Fin 128) : k0_pay44 (F := Ideal) v72 v126 v131 s (ix3 0 v d)
    = (s (ix2 v d) * v131 (ix2 0 (col 0 d)) + ∑ s, v72 (ix2 s (col 0 v)) * v126 (ix2 s (col 0 d)) : EReal) := by
  unfold k0_pay44
  pointwise
  simp only [head0]

theorem pay47_apply (v d : Fin 128) : k0_pay47 (F := Ideal) v72 v126 v131 st (ix3 0 v d)
    = (st (ix3 0 v d) * v131 (ix2 0 (col 1 d)) + ∑ s, v72 (ix2 s (col 1 v)) * v126 (ix2 s (col 1 d)) : EReal) := by
  unfold k0_pay47
  pointwise
  simp only [pay45_apply]
  rfl

theorem pay52_apply (s : FVec Ideal S128x128 .f32) (v d : Fin 128) : k0_pay52 (F := Ideal) v72 v126 v131 s (ix3 0 v d)
    = (s (ix2 v d) * v131 (ix2 0 (col 2 d)) + ∑ s, v72 (ix2 s (col 2 v)) * v126 (ix2 s (col 2 d)) : EReal) := by
  unfold k0_pay52
  pointwise
  rfl

theorem pay55_apply (v d : Fin 128) : k0_pay55 (F := Ideal) v72 v126 v131 st (ix3 0 v d)
    = (st (ix3 0 v d) * v131 (ix2 0 (col 3 d)) + ∑ s, v72 (ix2 s (col 3 v)) * v126 (ix2 s (col 3 d)) : EReal) := by
  unfold k0_pay55
  pointwise
  simp only [pay53_apply]
  rfl

end

section
variable (w : FVec Ideal S1x512 .f32) (g : FVec Ideal S128x512 .f32) (o : FVec Ideal S128x128 .f32)

theorem pay57_apply (t : Fin 8) (c : Fin 128) : k0_pay57 (F := Ideal) g (k0_pay56 w o) (ix3 0 t c)
    = unit128 (fun j => o (ix2 (⟨t.val, by omega⟩ : Fin 128) j)) (w (ix2 0 (col 0 c))) (g (ix2 (⟨t.val, by omega⟩ : Fin 128) (col 0 c))) c := by
  unfold k0_pay57 k0_pay56
  pointwise
  simp only [head0]
  rfl

theorem pay58_apply (t : Fin 8) (c : Fin 128) : k0_pay58 (F := Ideal) w g o (ix3 0 t c)
    = unit128 (fun j => o (ix2 (⟨t.val, by omega⟩ : Fin 128) j)) (w (ix2 0 (col 1 c))) (g (ix2 (⟨t.val, by omega⟩ : Fin 128) (col 1 c))) c := by
  unfold k0_pay58
  pointwise
  rfl

theorem pay1_apply (t : Fin 8) (c : Fin 128) : k0_pay1 (F := Ideal) (k0_pay59 w g o) (ix3 0 t c)
    = unit128 (fun j => o (ix2 (⟨t.val, by omega⟩ : Fin 128) j)) (w (ix2 0 (col 2 c))) (g (ix2 (⟨t.val, by omega⟩ : Fin 128) (col 2 c))) c := by
  unfold k0_pay1 k0_pay59
  pointwise
  rfl

theorem pay2_apply (t : Fin 8) (c : Fin 128) : k0_pay2 (F := Ideal) w g o (ix3 0 t c)
    = unit128 (fun j => o (ix2 (⟨t.val, by omega⟩ : Fin 128) j)) (w (ix2 0 (col 3 c))) (g (ix2 (⟨t.val, by omega⟩ : Fin 128) (col 3 c))) c := by
  unfold k0_pay2
  pointwise
  rfl

end

end Cert.Kernel4Ideal.Hgrn
end
-- ==== Proof.HgrnBlock.lean ====
module
public import proofs.«01_k».proof.Proof.HgrnStep
public import Idealize.ShloMosaic.Lib.Pipeline.ReadBack
@[expose] public section

/-! The two blocks that one grid step of the recurrence writes: a sample's outputs and its new state. -/

noncomputable section
namespace Cert.Kernel4Ideal.Hgrn
open Cert.Kernel4Ideal Cert.Kernel4Ideal.Gen Idealize.ShloMosaic Idealize.ShloMosaic.TcCoe Cert.Moe Cert.Merge Cert.Hgrn
open scoped BigOperators

theorem hz2 : (![0, 0] : Fin 2 → Nat) = fun _ => 0 := by funext a; match a with | 0 => rfl | 1 => rfl
theorem hz3 : (![0, 0, 0] : Fin 3 → Nat) = fun _ => 0 := by funext a; match a with | 0 => rfl | 1 => rfl | 2 => rfl

section
variable (x0 : FVec Ideal S1x8x2048 .f32) (x1 : FVec Ideal S2x512 .f32) (x2 : FVec Ideal S1x512 .f32) (x3 : FVec Ideal S1x4x128x128 .f32)

/-- The blocks' entries, by token and column, by row and column, and by head, key and value. -/
abbrev zs (t : Fin 8) (k : Fin 2048) : EReal := x0 (ix3 0 t k)
abbrev ls (r : Fin 2) (k : Fin 512) : EReal := x1 (ix2 r k)
abbrev ws (k : Fin 512) : EReal := x2 (ix2 0 k)
abbrev Ss (h : Fin 4) (d c : Fin 128) : EReal := x3 (ix4 0 h d c)

/-- Token `t`'s row among the 128. -/
abbrev row (t : Fin 8) : Fin 128 := ⟨t.val, by omega⟩

abbrev QQ : FVec Ideal S128x512 .f32 := k0_pay19 x0
abbrev FF : FVec Ideal S128x512 .f32 := k0_pay21 (k0_pay12 x1) (k0_pay16 x0) (k0_pay20 x1)
abbrev KK : FVec Ideal S128x512 .f32 := k0_pay23 (k0_pay12 x1) (k0_pay16 x0) (k0_pay20 x1)
abbrev BB : FVec Ideal S128x512 .f32 := k0_pay24 (k0_pay12 x1) k0_pay14 (k0_pay16 x0) (k0_pay20 x1)
abbrev LL : FVec Ideal S1x512 .f32 := k0_pay27 (k0_pay12 x1) k0_pay14 (k0_pay16 x0) (k0_pay20 x1)
abbrev VV : FVec Ideal S128x512 .bf16 := k0_pay25 (k0_pay17 x0)
abbrev KD : FVec Ideal S128x512 .bf16 := k0_pay34 (KK x0 x1) (BB x0 x1) (LL x0 x1)
abbrev DD : FVec Ideal S1x512 .f32 := k0_pay39 (LL x0 x1)
abbrev QB : FVec Ideal S128x512 .bf16 := k0_pay33 (QQ x0) (BB x0 x1)
abbrev QE : FVec Ideal S128x512 .bf16 := k0_pay29 (k0_pay12 x1) k0_pay14 (k0_pay16 x0) (k0_pay19 x0) (k0_pay20 x1)
abbrev EE : FVec Ideal S128x512 .f32 := k0_pay30 (k0_pay12 x1) k0_pay14 (k0_pay16 x0) (k0_pay20 x1)
abbrev GG : FVec Ideal S128x512 .f32 := k0_pay26 (k0_pay18 x0)

theorem QQ_row (hq : ∀ t k, IsReal (zs x0 t (colQ k))) (t : Fin 8) (k : Fin 512) : QQ x0 (ix2 (row t) k) = query (zs x0) t k := by
  rw [QQ, pay19_apply, dif_pos (show (row t).val < 8 from t.isLt)]
  exact silu_tanh (hq t k)

theorem GG_row (hg : ∀ t k, IsReal (zs x0 t (colG k))) (t : Fin 8) (k : Fin 512) :
    GG x0 (ix2 (row t) k) = zs x0 t (colG k) * gate (zs x0 t (colG k)) := by
  rw [GG, pay26_apply, pay18_apply, dif_pos (show (row t).val < 8 from t.isLt)]
  exact silu_tanh (hg t k)

theorem VV_row (t : Fin 8) (k : Fin 512) : VV x0 (ix2 (row t) k) = value (zs x0) t k := by
  rw [VV, pay25_apply, pay17_apply, dif_pos (show (row t).val < 8 from t.isLt)]
  rfl

theorem VV_off (s : Fin 128) (hs : 8 ≤ s.val) (k : Fin 512) : VV x0 (ix2 s k) = (0 : EReal) := by
  rw [VV, pay25_apply, pay17_apply, dif_neg (show ¬ s.val < 8 by omega)]

variable (hl : ∀ r k, IsReal (ls x1 r k))
include hl

theorem FF_row (t : Fin 8) (k : Fin 512) : FF x0 x1 (ix2 (row t) k) = kept (zs x0) (ls x1) t k := by
  obtain ⟨b, _, _, hb⟩ := bound_real (ls x1) k fun r => hl r k
  rw [FF, pay21_apply, pay20_apply, pay12_apply, pay16_apply, dif_pos (show (row t).val < 8 from t.isLt)]
  exact keep_tanh ⟨b, hb⟩ _

theorem KK_row (t : Fin 8) (k : Fin 512) : KK x0 x1 (ix2 (row t) k) = key (zs x0) (ls x1) t k := by
  rw [KK, pay23_apply, if_pos (show (row t).val < 8 from t.isLt)]
  exact congrArg (fun f : EReal => 1 - f) (FF_row x0 x1 hl t k)

theorem BB_row (r : Fin 128) (k : Fin 512) : BB x0 x1 (ix2 r k) = ((total (zs x0) (ls x1) r.val k / Real.log 2 : ℝ) : EReal) := by
  rw [BB, pay24_apply]
  simp only [pay14_apply]
  exact running (fun s => FF x0 x1 (ix2 s k)) (fun s => (kept (zs x0) (ls x1) s k).toReal) (fun s => kept_pos _ _ hl s k)
    (fun s => (FF_row x0 x1 hl s k).trans (kept_eq _ _ hl s k)) r

theorem total_last (z : Fin 8 → Fin 2048 → EReal) (l : Fin 2 → Fin 512 → EReal) (k : Fin 512) : total z l 127 k = total z l 7 k := by
  unfold total logs
  refine Finset.sum_congr rfl fun s _ => ?_
  rw [if_pos (by omega), if_pos (by omega)]

theorem LL_row (k : Fin 512) : LL x0 x1 (ix2 0 k) = ((total (zs x0) (ls x1) 7 k / Real.log 2 : ℝ) : EReal) := by
  rw [LL, pay27_apply]
  refine (BB_row x0 x1 hl 127 k).trans ?_
  rw [show (127 : Fin 128).val = 127 from rfl, total_last x1 hl]

theorem KD_row (t : Fin 8) (k : Fin 512) : KD x0 x1 (ix2 (row t) k)
    = (key (zs x0) (ls x1) t k * (Real.exp (total (zs x0) (ls x1) 7 k - total (zs x0) (ls x1) t.val k) : EReal) : EReal) := by
  rw [KD, pay34_apply, KK_row x0 x1 hl, LL_row x0 x1 hl, BB_row x0 x1 hl, exp2_sub]

theorem DD_row (k : Fin 512) : DD x0 x1 (ix2 0 k) = (Real.exp (total (zs x0) (ls x1) 7 k) : EReal) := by
  rw [DD, pay39_apply, LL_row x0 x1 hl, exp2_log2]

theorem EE_row (t : Fin 8) (k : Fin 512) : EE x0 x1 (ix2 (row t) k)
    = (Real.exp (total (zs x0) (ls x1) 4 k - total (zs x0) (ls x1) t.val k) : EReal) := by
  have e : (⟨(row t).val / 8 * 8 + 4, by omega⟩ : Fin 128) = 4 := Fin.ext (by show t.val / 8 * 8 + 4 = 4; omega)
  rw [EE, pay30_apply, pay28_apply, e]
  exact (congrArg₂ (fun a b : EReal => Ideal.exp2 (a - b)) (BB_row x0 x1 hl 4 k) (BB_row x0 x1 hl (row t) k)).trans (exp2_sub _ _)

variable (hq : ∀ t k, IsReal (zs x0 t (colQ k)))
include hq

theorem QB_row (t : Fin 8) (k : Fin 512) : QB x0 x1 (ix2 (row t) k)
    = (query (zs x0) t k * (Real.exp (total (zs x0) (ls x1) t.val k) : EReal) : EReal) := by
  rw [QB, pay33_apply, QQ_row x0 hq, BB_row x0 x1 hl, exp2_log2]

theorem QE_row (t : Fin 8) (k : Fin 512) : QE x0 x1 (ix2 (row t) k)
    = (query (zs x0) t k * (Real.exp (total (zs x0) (ls x1) t.val k - total (zs x0) (ls x1) 4 k) : EReal) : EReal) := by
  have e : (⟨(row t).val / 8 * 8 + 4, by omega⟩ : Fin 128) = 4 := Fin.ext (by show t.val / 8 * 8 + 4 = 4; omega)
  rw [QE, pay29_apply, pay28_apply, e]
  exact congrArg₂ (fun a b : EReal => a * b) (QQ_row x0 hq t k)
    ((congrArg₂ (fun a b : EReal => Ideal.exp2 (a - b)) (BB_row x0 x1 hl (row t) k) (BB_row x0 x1 hl 4 k)).trans (exp2_sub _ _))

omit hq in
/-- The new state of a head, of the kernel's sum over the rows. -/
theorem state_sum (h : Fin 4) (d c : Fin 128) :
    (Ss x3 h d c * DD x0 x1 (ix2 0 (col h d)) + ∑ s, VV x0 (ix2 s (col h c)) * KD x0 x1 (ix2 s (col h d)) : EReal)
    = stateOut (zs x0) (ls x1) (Ss x3) h d c := by
  rw [sum128 _ fun s hs => by rw [VV_off x0 s hs, zero_mul], DD_row x0 x1 hl]
  simp only [show ∀ s : Fin 8, (⟨s.val, by omega⟩ : Fin 128) = row s from fun _ => rfl, VV_row, KD_row x0 x1 hl]
  exact next_eq (key (zs x0) (ls x1)) (value (zs x0)) (fun t => total (zs x0) (ls x1) t.val) (Ss x3) h d c

/-- A token's sum over the state and the rows. -/
theorem read_sum (h : Fin 4) (sc : FVec Ideal S128x128 .bf16) (hsc : ∀ r s, sc (ix2 r s) = (if r.val / 8 = s.val / 8 ∧ s.val ≤ r.val then
      ∑ d, QE x0 x1 (ix2 r (col h d)) * k0_pay31 (KK x0 x1) (EE x0 x1) (ix2 s (col h d)) else 0 : EReal)) (t : Fin 8) (c : Fin 128) :
    ((∑ d, QB x0 x1 (ix2 (row t) (col h d)) * Ss x3 h d c) + ∑ s, sc (ix2 (row t) s) * VV x0 (ix2 s (col h c)) : EReal)
    = read (query (zs x0)) (key (zs x0) (ls x1)) (value (zs x0)) (fun t => total (zs x0) (ls x1) t.val) (Ss x3) h t c := by
  rw [sum128 (fun s => sc (ix2 (row t) s) * VV x0 (ix2 s (col h c)) : Fin 128 → EReal) fun s hs => by
    show (sc (ix2 (row t) s) * VV x0 (ix2 s (col h c)) : EReal) = 0
    rw [VV_off x0 s hs, mul_zero]]
  simp only [show ∀ s : Fin 8, (⟨s.val, by omega⟩ : Fin 128) = row s from fun _ => rfl, VV_row, hsc, QB_row x0 x1 hl hq, QE_row x0 x1 hl hq,
    pay31_apply, KK_row x0 x1 hl, EE_row x0 x1 hl]
  have e : ∀ s : Fin 8, ((row t).val / 8 = (row s).val / 8 ∧ (row s).val ≤ (row t).val) ↔ s.val ≤ t.val := fun s =>
    ⟨fun q => q.2, fun q => ⟨by show t.val / 8 = s.val / 8; omega, q⟩⟩
  simp only [e]
  exact read_eq (query (zs x0)) (key (zs x0) (ls x1)) (value (zs x0)) (fun t => total (zs x0) (ls x1) t.val) (Ss x3) (total (zs x0) (ls x1) 4) h t c

end

end Cert.Kernel4Ideal.Hgrn
end
-- ==== Proof.HgrnOut.lean ====
module
public import proofs.«01_k».proof.Proof.HgrnBlock
@[expose] public section

/-! What one grid step writes, of its four blocks: the pieces of each output, head by head. -/

noncomputable section
namespace Cert.Kernel4Ideal.Hgrn
open Cert.Kernel4Ideal Cert.Kernel4Ideal.Gen Idealize.ShloMosaic Idealize.ShloMosaic.TcCoe Cert.Moe Cert.Merge Cert.Hgrn
open scoped BigOperators

theorem each_state (f : S1x1x128x128.Idx → EReal) (g : Fin 128 → Fin 128 → EReal) (H : ∀ d c, f (ix4 0 0 d c) = g d c)
    (x : S1x1x128x128.Idx) : f x = g (x 2) (x 3) := by
  have e : x = ix4 (0 : Fin 1) (0 : Fin 1) (x 2) (x 3) := by
    funext a
    match a with
    | ⟨0, _⟩ => exact Subsingleton.elim (α := Fin 1) _ _
    | ⟨1, _⟩ => exact Subsingleton.elim (α := Fin 1) _ _
    | ⟨2, _⟩ => rfl
    | ⟨3, _⟩ => rfl
  exact (congrArg f e).trans (H _ _)

theorem each_token (f : S1x8x128.Idx → EReal) (g : Fin 8 → Fin 128 → EReal) (H : ∀ t c, f (ix3 0 t c) = g t c)
    (x : S1x8x128.Idx) : f x = g (x 1) (x 2) := by
  have e : x = ix3 (0 : Fin 1) (x 1) (x 2) := by
    funext a
    match a with
    | ⟨0, _⟩ => exact Subsingleton.elim (α := Fin 1) _ _
    | ⟨1, _⟩ => rfl
    | ⟨2, _⟩ => rfl
  exact (congrArg f e).trans (H _ _)

theorem at_head {s : Shape} (y : s.Idx) (r : Rect s) (w : r.shape.Idx → EReal) (L : List (View.Piece (Elt Ideal) s .f32)) (h : y ∈ r.set) :
    ∃ p ∈ (⟨r, w⟩ :: L : List (View.Piece (Elt Ideal) s .f32)), y ∈ p.1.set := ⟨_, List.mem_cons_self, h⟩

theorem at_tail {s : Shape} (y : s.Idx) (q : View.Piece (Elt Ideal) s .f32) (L : List (View.Piece (Elt Ideal) s .f32)) (h : ∃ p ∈ L, y ∈ p.1.set) :
    ∃ p ∈ q :: L, y ∈ p.1.set := by
  obtain ⟨p, hp, e⟩ := h
  exact ⟨p, List.mem_cons_of_mem _ hp, e⟩

section
variable (x0 : Vec Ideal S1x8x2048 .f32) (x1 : Vec Ideal S2x512 .f32) (x2 : Vec Ideal S1x512 .f32) (x3 : Vec Ideal S1x4x128x128 .f32)

/-- The state's block: entry `(0, h, d, c)`. -/
def stateBlock (y : S1x4x128x128.Idx) : EReal := stateOut (zs x0) (ls x1) (Ss x3) (y 1) (y 2) (y 3)

/-- The outputs' block: entry `(0, t, k)`, with `k` in head `k / 128`. -/
def tokenBlock (y : S1x8x512.Idx) : EReal :=
  tokenOut (zs x0) (ls x1) (ws x2) (Ss x3) (y 1) ⟨(y 2).val / 128, by have h : (y 2).val < 512 := (y 2).isLt; omega⟩
    ⟨(y 2).val % 128, Nat.mod_lt _ (by omega)⟩

abbrev S0 : Vec Ideal S1x128x128 .f32 := k0_pay7 (F := Ideal) (View.ld (Val := Elt Ideal) (e' := .f32) x3 (Rect.unit ![0, 0, 0, 0] ![1, 1, 128, 128] inb_S1x4x128x128_S1x1x128x128_0_0_0_0))

theorem S0_apply (v d : Fin 128) : S0 x3 (ix3 0 v d) = Ss x3 0 d v := by
  rw [S0, pay7_apply]
  refine congrArg x3 (funext fun a => Fin.ext ?_)
  match a with
  | ⟨0, _⟩ => rfl
  | ⟨1, _⟩ => rfl
  | ⟨2, _⟩ => show 0 + 1 * d.val = d.val; omega
  | ⟨3, _⟩ => show 0 + 1 * v.val = v.val; omega

abbrev C0 : FVec Ideal S128x128 .bf16 := k0_pay35 rows cols (KK x0 x1) (QE x0 x1) (EE x0 x1)

abbrev S1 : Vec Ideal S1x128x128 .f32 := k0_pay8 (F := Ideal) (View.ld (Val := Elt Ideal) (e' := .f32) x3 (Rect.unit ![0, 1, 0, 0] ![1, 1, 128, 128] inb_S1x4x128x128_S1x1x128x128_0_1_0_0))

theorem S1_apply (v d : Fin 128) : S1 x3 (ix3 0 v d) = Ss x3 1 d v := by
  rw [S1, pay8_apply]
  refine congrArg x3 (funext fun a => Fin.ext ?_)
  match a with
  | ⟨0, _⟩ => rfl
  | ⟨1, _⟩ => rfl
  | ⟨2, _⟩ => show 0 + 1 * d.val = d.val; omega
  | ⟨3, _⟩ => show 0 + 1 * v.val = v.val; omega

abbrev C1 : FVec Ideal S128x128 .bf16 := k0_pay36 rows cols (KK x0 x1) (QE x0 x1) (EE x0 x1)

abbrev S2 : Vec Ideal S1x128x128 .f32 := k0_pay9 (F := Ideal) (View.ld (Val := Elt Ideal) (e' := .f32) x3 (Rect.unit ![0, 2, 0, 0] ![1, 1, 128, 128] inb_S1x4x128x128_S1x1x128x128_0_2_0_0))

theorem S2_apply (v d : Fin 128) : S2 x3 (ix3 0 v d) = Ss x3 2 d v := by
  rw [S2, pay9_apply]
  refine congrArg x3 (funext fun a => Fin.ext ?_)
  match a with
  | ⟨0, _⟩ => rfl
  | ⟨1, _⟩ => rfl
  | ⟨2, _⟩ => show 0 + 1 * d.val = d.val; omega
  | ⟨3, _⟩ => show 0 + 1 * v.val = v.val; omega

abbrev C2 : FVec Ideal S128x128 .bf16 := k0_pay37 rows cols (KK x0 x1) (QE x0 x1) (EE x0 x1)

abbrev S3 : Vec Ideal S1x128x128 .f32 := k0_pay10 (F := Ideal) (View.ld (Val := Elt Ideal) (e' := .f32) x3 (Rect.unit ![0, 3, 0, 0] ![1, 1, 128, 128] inb_S1x4x128x128_S1x1x128x128_0_3_0_0))

theorem S3_apply (v d : Fin 128) : S3 x3 (ix3 0 v d) = Ss x3 3 d v := by
  rw [S3, pay10_apply]
  refine congrArg x3 (funext fun a => Fin.ext ?_)
  match a with
  | ⟨0, _⟩ => rfl
  | ⟨1, _⟩ => rfl
  | ⟨2, _⟩ => show 0 + 1 * d.val = d.val; omega
  | ⟨3, _⟩ => show 0 + 1 * v.val = v.val; omega

abbrev C3 : FVec Ideal S128x128 .bf16 := k0_pay38 rows cols (KK x0 x1) (QE x0 x1) (EE x0 x1)

variable (hl : ∀ r k, IsReal (ls x1 r k))
include hl

theorem state0 (d c : Fin 128) : k0_pay3 (F := Ideal) (k0_pay44 (F := Ideal) (VV x0) (KD x0 x1) (DD x0 x1) (k0_pay40 (S0 x3))) (ix4 0 0 d c)
    = stateOut (zs x0) (ls x1) (Ss x3) 0 d c := by
  rw [pay3_apply, pay44_apply, pay40_apply, S0_apply]
  exact state_sum x0 x1 x3 hl 0 d c

theorem state1 (d c : Fin 128) : k0_pay4 (F := Ideal) (k0_pay47 (F := Ideal) (VV x0) (KD x0 x1) (DD x0 x1) (S1 x3)) (ix4 0 0 d c)
    = stateOut (zs x0) (ls x1) (Ss x3) 1 d c := by
  rw [pay4_apply, pay47_apply, S1_apply]
  exact state_sum x0 x1 x3 hl 1 d c

theorem state2 (d c : Fin 128) : k0_pay5 (F := Ideal) (k0_pay52 (F := Ideal) (VV x0) (KD x0 x1) (DD x0 x1) (k0_pay48 (S2 x3))) (ix4 0 0 d c)
    = stateOut (zs x0) (ls x1) (Ss x3) 2 d c := by
  rw [pay5_apply, pay52_apply, pay48_apply, S2_apply]
  exact state_sum x0 x1 x3 hl 2 d c

theorem state3 (d c : Fin 128) : k0_pay6 (F := Ideal) (k0_pay55 (F := Ideal) (VV x0) (KD x0 x1) (DD x0 x1) (S3 x3)) (ix4 0 0 d c)
    = stateOut (zs x0) (ls x1) (Ss x3) 3 d c := by
  rw [pay6_apply, pay55_apply, S3_apply]
  exact state_sum x0 x1 x3 hl 3 d c

variable (hq : ∀ t k, IsReal (zs x0 t (colQ k))) (hg : ∀ t k, IsReal (zs x0 t (colG k)))
include hq hg

theorem token0 (t : Fin 8) (c : Fin 128) : k0_pay57 (F := Ideal) (GG x0) (k0_pay56 (k0_pay13 x2) (k0_pay43 (VV x0) (C0 x0 x1) (k0_pay41 (QQ x0) (BB x0 x1)) (k0_pay42 (S0 x3)) (constant S128x128 .f32 0x00000000#32))) (ix3 0 t c)
    = tokenOut (zs x0) (ls x1) (ws x2) (Ss x3) t 0 c := by
  rw [pay57_apply]
  simp only [pay43_apply, pay41_apply, pay42_apply, S0_apply]
  unfold tokenOut
  refine congrArg (fun f => f c) (?_ : unit128 _ _ _ = unit128 _ _ _)
  rw [show GG x0 (ix2 (⟨t.val, by omega⟩ : Fin 128) (col 0 c)) = _ from GG_row x0 hg t (col 0 c), pay13_apply]
  exact congrArg (fun o : Fin 128 → EReal => unit128 o (ws x2 (col 0 c)) (zs x0 t (colG (col 0 c)) * gate (zs x0 t (colG (col 0 c)))))
    (funext fun j => read_sum x0 x1 x3 hl hq 0 (C0 x0 x1) (fun r s => pay35_apply _ _ _ r s) t j)

theorem token1 (t : Fin 8) (c : Fin 128) : k0_pay58 (F := Ideal) (k0_pay13 x2) (GG x0) (k0_pay46 (VV x0) (QB x0 x1) (C1 x0 x1) (S1 x3)) (ix3 0 t c)
    = tokenOut (zs x0) (ls x1) (ws x2) (Ss x3) t 1 c := by
  rw [pay58_apply]
  simp only [pay46_apply, S1_apply]
  unfold tokenOut
  refine congrArg (fun f => f c) (?_ : unit128 _ _ _ = unit128 _ _ _)
  rw [show GG x0 (ix2 (⟨t.val, by omega⟩ : Fin 128) (col 1 c)) = _ from GG_row x0 hg t (col 1 c), pay13_apply]
  exact congrArg (fun o : Fin 128 → EReal => unit128 o (ws x2 (col 1 c)) (zs x0 t (colG (col 1 c)) * gate (zs x0 t (colG (col 1 c)))))
    (funext fun j => read_sum x0 x1 x3 hl hq 1 (C1 x0 x1) (fun r s => pay36_apply _ _ _ r s) t j)

theorem token2 (t : Fin 8) (c : Fin 128) : k0_pay1 (F := Ideal) (k0_pay59 (k0_pay13 x2) (GG x0) (k0_pay51 (k0_pay49 (QB x0 x1) (S2 x3)) (k0_pay50 (VV x0) (C2 x0 x1)))) (ix3 0 t c)
    = tokenOut (zs x0) (ls x1) (ws x2) (Ss x3) t 2 c := by
  rw [pay1_apply]
  simp only [pay51_apply, pay49_apply, pay50_apply, S2_apply]
  unfold tokenOut
  refine congrArg (fun f => f c) (?_ : unit128 _ _ _ = unit128 _ _ _)
  rw [show GG x0 (ix2 (⟨t.val, by omega⟩ : Fin 128) (col 2 c)) = _ from GG_row x0 hg t (col 2 c), pay13_apply]
  exact congrArg (fun o : Fin 128 → EReal => unit128 o (ws x2 (col 2 c)) (zs x0 t (colG (col 2 c)) * gate (zs x0 t (colG (col 2 c)))))
    (funext fun j => read_sum x0 x1 x3 hl hq 2 (C2 x0 x1) (fun r s => pay37_apply _ _ _ r s) t j)

theorem token3 (t : Fin 8) (c : Fin 128) : k0_pay2 (F := Ideal) (k0_pay13 x2) (GG x0) (k0_pay54 (VV x0) (QB x0 x1) (C3 x0 x1) (S3 x3)) (ix3 0 t c)
    = tokenOut (zs x0) (ls x1) (ws x2) (Ss x3) t 3 c := by
  rw [pay2_apply]
  simp only [pay54_apply, S3_apply]
  unfold tokenOut
  refine congrArg (fun f => f c) (?_ : unit128 _ _ _ = unit128 _ _ _)
  rw [show GG x0 (ix2 (⟨t.val, by omega⟩ : Fin 128) (col 3 c)) = _ from GG_row x0 hg t (col 3 c), pay13_apply]
  exact congrArg (fun o : Fin 128 → EReal => unit128 o (ws x2 (col 3 c)) (zs x0 t (colG (col 3 c)) * gate (zs x0 t (colG (col 3 c)))))
    (funext fun j => read_sum x0 x1 x3 hl hq 3 (C3 x0 x1) (fun r s => pay38_apply _ _ _ r s) t j)

end

section
variable (c : Dev nD) (i : grid0.Coords) (a2 : Memref sig .tc .vmem S1x8x2048 .f32) (h2 : a2.IsWhole) (a3 : Memref sig .tc .vmem S2x512 .f32) (h3 : a3.IsWhole) (a4 : Memref sig .tc .vmem S1x512 .f32) (h4 : a4.IsWhole) (a5 : Memref sig .tc .vmem S1x4x128x128 .f32) (h5 : a5.IsWhole) (a6 : Memref sig .tc .vmem S1x8x512 .f32) (h6 : a6.IsWhole) (a7 : Memref sig .tc .vmem S1x4x128x128 .f32) (h7 : a7.IsWhole) (a8 : Memref sig .tc .vmem S4x128x128 .f32) (h8 : a8.IsWhole) (hc0 : cond0_0 i) (hc1 : cond0_1 i)
  (x0 : Vec Ideal S1x8x2048 .f32) (x1 : Vec Ideal S2x512 .f32) (x2 : Vec Ideal S1x512 .f32) (x3 : Vec Ideal S1x4x128x128 .f32)
  (hl : ∀ r k, IsReal (ls x1 r k))
include hl

theorem out5_eq : out0_A_5 c i a2 h2 a3 h3 a4 h4 a5 h5 a6 h6 a7 h7 a8 h8 hc0 hc1 x0 x1 x2 x3 = stateBlock x0 x1 x3 := by
  unfold out0_A_5
  rw [View.read_writes_junk_eq_canon]
  unfold kernelRun0_A
  dsimp only
  sl_unfold_words
  simp only [View.readAt_eq_ld, h2.read_unread, h3.read_unread, h4.read_unread, h5.read_unread]
  rw [show View.ld x0 (Rect.unit ![0, 0, 0] ![1, 8, 2048] inb_S1x8x2048_S1x8x2048_0_0_0) = x0 from View.ld_unit_zero hz3 _ _,
    show View.ld x1 (Rect.unit ![0, 0] ![2, 512] inb_S2x512_S2x512_0_0) = x1 from View.ld_unit_zero hz2 _ _]
  simp (discharger := decide) only [View.readCov_cons_toLoadRect, ↓View.readCov_skip]
  funext y
  refine View.canon_apply_of_pieces (Val := Elt Ideal) (e := .f32) (stateBlock x0 x1 x3) _ ?_ y ?_
  · refine View.PiecesOf.mem (Val := Elt Ideal) (e := .f32) (G := stateBlock x0 x1 x3) ?_
    refine ⟨?_, ?_, ?_, ?_, trivial⟩
    · intro x
      refine (each_state _ (fun d c => stateOut (zs x0) (ls x1) (Ss x3) 3 d c) (state3 x0 x1 x3 hl) x).trans ?_
      have h0 : (x 1).val < 1 := (x 1).isLt
      show stateOut _ _ _ _ (x 2) (x 3) = stateOut _ _ _ _ _ _
      congr 1
      · exact Fin.ext (by show 3 = 3 + 1 * (x 1).val; omega)
      · exact Fin.ext (by show (x 2).val = 0 + 1 * (x 2).val; omega)
      · exact Fin.ext (by show (x 3).val = 0 + 1 * (x 3).val; omega)
    · intro x
      refine (each_state _ (fun d c => stateOut (zs x0) (ls x1) (Ss x3) 2 d c) (state2 x0 x1 x3 hl) x).trans ?_
      have h0 : (x 1).val < 1 := (x 1).isLt
      show stateOut _ _ _ _ (x 2) (x 3) = stateOut _ _ _ _ _ _
      congr 1
      · exact Fin.ext (by show 2 = 2 + 1 * (x 1).val; omega)
      · exact Fin.ext (by show (x 2).val = 0 + 1 * (x 2).val; omega)
      · exact Fin.ext (by show (x 3).val = 0 + 1 * (x 3).val; omega)
    · intro x
      refine (each_state _ (fun d c => stateOut (zs x0) (ls x1) (Ss x3) 1 d c) (state1 x0 x1 x3 hl) x).trans ?_
      have h0 : (x 1).val < 1 := (x 1).isLt
      show stateOut _ _ _ _ (x 2) (x 3) = stateOut _ _ _ _ _ _
      congr 1
      · exact Fin.ext (by show 1 = 1 + 1 * (x 1).val; omega)
      · exact Fin.ext (by show (x 2).val = 0 + 1 * (x 2).val; omega)
      · exact Fin.ext (by show (x 3).val = 0 + 1 * (x 3).val; omega)
    · intro x
      refine (each_state _ (fun d c => stateOut (zs x0) (ls x1) (Ss x3) 0 d c) (state0 x0 x1 x3 hl) x).trans ?_
      have h0 : (x 1).val < 1 := (x 1).isLt
      show stateOut _ _ _ _ (x 2) (x 3) = stateOut _ _ _ _ _ _
      congr 1
      · exact Fin.ext (by show 0 = 0 + 1 * (x 1).val; omega)
      · exact Fin.ext (by show (x 2).val = 0 + 1 * (x 2).val; omega)
      · exact Fin.ext (by show (x 3).val = 0 + 1 * (x 3).val; omega)
  · have b0 : (y 0).val < 1 := (y 0).isLt
    have b1 : (y 1).val < 4 := (y 1).isLt
    have b2 : (y 2).val < 128 := (y 2).isLt
    have b3 : (y 3).val < 128 := (y 3).isLt
    have hy : (y 1).val = 3 ∨ (y 1).val = 2 ∨ (y 1).val = 1 ∨ (y 1).val = 0 := by omega
    rcases hy with hy | hy | hy | hy
    · refine at_head _ _ _ _ ?_
      rw [Rect.mem_set_unit]
      intro a
      match a with
      | ⟨0, _⟩ => show 0 ≤ (y 0).val ∧ (y 0).val < 0 + 1; omega
      | ⟨1, _⟩ => show 3 ≤ (y 1).val ∧ (y 1).val < 3 + 1; omega
      | ⟨2, _⟩ => show 0 ≤ (y 2).val ∧ (y 2).val < 0 + 128; omega
      | ⟨3, _⟩ => show 0 ≤ (y 3).val ∧ (y 3).val < 0 + 128; omega
    · refine at_tail _ _ _ (at_head _ _ _ _ ?_)
      rw [Rect.mem_set_unit]
      intro a
      match a with
      | ⟨0, _⟩ => show 0 ≤ (y 0).val ∧ (y 0).val < 0 + 1; omega
      | ⟨1, _⟩ => show 2 ≤ (y 1).val ∧ (y 1).val < 2 + 1; omega
      | ⟨2, _⟩ => show 0 ≤ (y 2).val ∧ (y 2).val < 0 + 128; omega
      | ⟨3, _⟩ => show 0 ≤ (y 3).val ∧ (y 3).val < 0 + 128; omega
    · refine at_tail _ _ _ (at_tail _ _ _ (at_head _ _ _ _ ?_))
      rw [Rect.mem_set_unit]
      intro a
      match a with
      | ⟨0, _⟩ => show 0 ≤ (y 0).val ∧ (y 0).val < 0 + 1; omega
      | ⟨1, _⟩ => show 1 ≤ (y 1).val ∧ (y 1).val < 1 + 1; omega
      | ⟨2, _⟩ => show 0 ≤ (y 2).val ∧ (y 2).val < 0 + 128; omega
      | ⟨3, _⟩ => show 0 ≤ (y 3).val ∧ (y 3).val < 0 + 128; omega
    · refine at_tail _ _ _ (at_tail _ _ _ (at_tail _ _ _ (at_head _ _ _ _ ?_)))
      rw [Rect.mem_set_unit]
      intro a
      match a with
      | ⟨0, _⟩ => show 0 ≤ (y 0).val ∧ (y 0).val < 0 + 1; omega
      | ⟨1, _⟩ => show 0 ≤ (y 1).val ∧ (y 1).val < 0 + 1; omega
      | ⟨2, _⟩ => show 0 ≤ (y 2).val ∧ (y 2).val < 0 + 128; omega
      | ⟨3, _⟩ => show 0 ≤ (y 3).val ∧ (y 3).val < 0 + 128; omega

variable (hq : ∀ t k, IsReal (zs x0 t (colQ k))) (hg : ∀ t k, IsReal (zs x0 t (colG k)))
include hq hg

theorem out4_eq : out0_A_4 c i a2 h2 a3 h3 a4 h4 a5 h5 a6 h6 a7 h7 a8 h8 hc0 hc1 x0 x1 x2 x3 = tokenBlock x0 x1 x2 x3 := by
  unfold out0_A_4
  rw [View.read_writes_junk_eq_canon]
  unfold kernelRun0_A
  dsimp only
  sl_unfold_words
  simp only [View.readAt_eq_ld, h2.read_unread, h3.read_unread, h4.read_unread, h5.read_unread]
  rw [show View.ld x0 (Rect.unit ![0, 0, 0] ![1, 8, 2048] inb_S1x8x2048_S1x8x2048_0_0_0) = x0 from View.ld_unit_zero hz3 _ _,
    show View.ld x1 (Rect.unit ![0, 0] ![2, 512] inb_S2x512_S2x512_0_0) = x1 from View.ld_unit_zero hz2 _ _,
    show View.ld x2 (Rect.unit ![0, 0] ![1, 512] inb_S1x512_S1x512_0_0) = x2 from View.ld_unit_zero hz2 _ _]
  simp (discharger := decide) only [View.readCov_cons_toLoadRect, ↓View.readCov_skip]
  funext y
  refine View.canon_apply_of_pieces (Val := Elt Ideal) (e := .f32) (tokenBlock x0 x1 x2 x3) _ ?_ y ?_
  · refine View.PiecesOf.mem (Val := Elt Ideal) (e := .f32) (G := tokenBlock x0 x1 x2 x3) ?_
    refine ⟨?_, ?_, ?_, ?_, trivial⟩
    · intro x
      refine (each_token _ (fun t c => tokenOut (zs x0) (ls x1) (ws x2) (Ss x3) t 3 c) (token3 x0 x1 x2 x3 hl hq hg) x).trans ?_
      have h0 : (x 2).val < 128 := (x 2).isLt
      show tokenOut _ _ _ _ (x 1) _ (x 2) = tokenOut _ _ _ _ _ _ _
      congr 1
      · exact Fin.ext (by show (x 1).val = 0 + 1 * (x 1).val; omega)
      · exact Fin.ext (by show 3 = (384 + 1 * (x 2).val) / 128; omega)
      · exact Fin.ext (by show (x 2).val = (384 + 1 * (x 2).val) % 128; omega)
    · intro x
      refine (each_token _ (fun t c => tokenOut (zs x0) (ls x1) (ws x2) (Ss x3) t 2 c) (token2 x0 x1 x2 x3 hl hq hg) x).trans ?_
      have h0 : (x 2).val < 128 := (x 2).isLt
      show tokenOut _ _ _ _ (x 1) _ (x 2) = tokenOut _ _ _ _ _ _ _
      congr 1
      · exact Fin.ext (by show (x 1).val = 0 + 1 * (x 1).val; omega)
      · exact Fin.ext (by show 2 = (256 + 1 * (x 2).val) / 128; omega)
      · exact Fin.ext (by show (x 2).val = (256 + 1 * (x 2).val) % 128; omega)
    · intro x
      refine (each_token _ (fun t c => tokenOut (zs x0) (ls x1) (ws x2) (Ss x3) t 1 c) (token1 x0 x1 x2 x3 hl hq hg) x).trans ?_
      have h0 : (x 2).val < 128 := (x 2).isLt
      show tokenOut _ _ _ _ (x 1) _ (x 2) = tokenOut _ _ _ _ _ _ _
      congr 1
      · exact Fin.ext (by show (x 1).val = 0 + 1 * (x 1).val; omega)
      · exact Fin.ext (by show 1 = (128 + 1 * (x 2).val) / 128; omega)
      · exact Fin.ext (by show (x 2).val = (128 + 1 * (x 2).val) % 128; omega)
    · intro x
      refine (each_token _ (fun t c => tokenOut (zs x0) (ls x1) (ws x2) (Ss x3) t 0 c) (token0 x0 x1 x2 x3 hl hq hg) x).trans ?_
      have h0 : (x 2).val < 128 := (x 2).isLt
      show tokenOut _ _ _ _ (x 1) _ (x 2) = tokenOut _ _ _ _ _ _ _
      congr 1
      · exact Fin.ext (by show (x 1).val = 0 + 1 * (x 1).val; omega)
      · exact Fin.ext (by show 0 = (0 + 1 * (x 2).val) / 128; omega)
      · exact Fin.ext (by show (x 2).val = (0 + 1 * (x 2).val) % 128; omega)
  · have b0 : (y 0).val < 1 := (y 0).isLt
    have b1 : (y 1).val < 8 := (y 1).isLt
    have b2 : (y 2).val < 512 := (y 2).isLt
    have hy : 384 ≤ (y 2).val ∨ (256 ≤ (y 2).val ∧ (y 2).val < 384) ∨ (128 ≤ (y 2).val ∧ (y 2).val < 256) ∨ (y 2).val < 128 := by omega
    rcases hy with hy | hy | hy | hy
    · refine at_head _ _ _ _ ?_
      rw [Rect.mem_set_unit]
      intro a
      match a with
      | ⟨0, _⟩ => show 0 ≤ (y 0).val ∧ (y 0).val < 0 + 1; omega
      | ⟨1, _⟩ => show 0 ≤ (y 1).val ∧ (y 1).val < 0 + 8; omega
      | ⟨2, _⟩ => show 384 ≤ (y 2).val ∧ (y 2).val < 384 + 128; omega
    · refine at_tail _ _ _ (at_head _ _ _ _ ?_)
      rw [Rect.mem_set_unit]
      intro a
      match a with
      | ⟨0, _⟩ => show 0 ≤ (y 0).val ∧ (y 0).val < 0 + 1; omega
      | ⟨1, _⟩ => show 0 ≤ (y 1).val ∧ (y 1).val < 0 + 8; omega
      | ⟨2, _⟩ => show 256 ≤ (y 2).val ∧ (y 2).val < 256 + 128; omega
    · refine at_tail _ _ _ (at_tail _ _ _ (at_head _ _ _ _ ?_))
      rw [Rect.mem_set_unit]
      intro a
      match a with
      | ⟨0, _⟩ => show 0 ≤ (y 0).val ∧ (y 0).val < 0 + 1; omega
      | ⟨1, _⟩ => show 0 ≤ (y 1).val ∧ (y 1).val < 0 + 8; omega
      | ⟨2, _⟩ => show 128 ≤ (y 2).val ∧ (y 2).val < 128 + 128; omega
    · refine at_tail _ _ _ (at_tail _ _ _ (at_tail _ _ _ (at_head _ _ _ _ ?_)))
      rw [Rect.mem_set_unit]
      intro a
      match a with
      | ⟨0, _⟩ => show 0 ≤ (y 0).val ∧ (y 0).val < 0 + 1; omega
      | ⟨1, _⟩ => show 0 ≤ (y 1).val ∧ (y 1).val < 0 + 8; omega
      | ⟨2, _⟩ => show 0 ≤ (y 2).val ∧ (y 2).val < 0 + 128; omega

end

end Cert.Kernel4Ideal.Hgrn
end
-- ==== Proof.HgrnArray.lean ====
module
public import proofs.«01_k».proof.Proof.HgrnOut
public import proofs.«01_k».proof.Proof.Gen.Kernel4Ideal.Value
public import Idealize.ShloMosaic.Lib.StableHlo.ReadAt
@[expose] public section

/-! The two arrays that the recurrence's run leaves, entry by entry, over the arguments' launch contents. -/

noncomputable section
namespace Cert.Kernel4Ideal.Hgrn
open Cert.Kernel4Ideal Cert.Kernel4Ideal.Gen Idealize.ShloMosaic Idealize.ShloMosaic.TcCoe Cert.Moe Cert.Merge Cert.Hgrn
open scoped BigOperators

/-- A grid point's blocks: its sample's, or the whole of a table. -/
theorem idx_facts : ∀ t : Fin cfg0.N, (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 4) = t.val ∧ win0_3.index t (1 : Fin 4) = 0 ∧ win0_3.index t (2 : Fin 4) = 0 ∧ win0_3.index t (3 : Fin 4) = 0)
    ∧ (win0_4.index t (0 : Fin 3) = t.val ∧ win0_4.index t (1 : Fin 3) = 0 ∧ win0_4.index t (2 : Fin 3) = 0)
    ∧ (win0_5.index t (0 : Fin 4) = t.val ∧ win0_5.index t (1 : Fin 4) = 0 ∧ win0_5.index t (2 : Fin 4) = 0 ∧ win0_5.index t (3 : Fin 4) = 0) :=
  (by decide +kernel : ∀ t : Fin grid0.N, _)

theorem flush4 : ∀ t : Fin cfg0.N, (cfg0.win 4).flush t = true :=
  (by decide +kernel : ∀ t : Fin grid0.N, _)

theorem flush5 : ∀ t : Fin cfg0.N, (cfg0.win 5).flush t = true :=
  (by decide +kernel : ∀ t : Fin grid0.N, _)

/-- The grid point of a sample. -/
def point (b : Fin 32) : Fin cfg0.N := (⟨b.val, by have := b.isLt; exact this⟩ : Fin grid0.N)

theorem emb0 (b : Fin 32) (s : Fin 8) (k : Fin 2048) : ((cfg0.win 0).blk (point b)).view.emb (ix3 0 s k : S1x8x2048.Idx) = (ix3 b s k : S32x8x2048.Idx) := by
  obtain ⟨⟨e0, e1, e2⟩, -⟩ := idx_facts (point b)
  have hb : (point b).val = b.val := rfl
  funext a; apply Fin.ext
  match a with
  | ⟨0, _⟩ => show win0_0.index (point b) (0 : Fin 3) * 1 + 1 * 0 = b.val; omega
  | ⟨1, _⟩ => show win0_0.index (point b) (1 : Fin 3) * 8 + 1 * s.val = s.val; omega
  | ⟨2, _⟩ => show win0_0.index (point b) (2 : Fin 3) * 2048 + 1 * k.val = k.val; omega

theorem emb1 (t : Fin cfg0.N) (z : S2x512.Idx) : ((cfg0.win 1).blk t).view.emb z = z := by
  obtain ⟨-, ⟨e0, e1⟩, -⟩ := idx_facts t
  funext a; apply Fin.ext
  match a with
  | ⟨0, _⟩ => show win0_1.index t (0 : Fin 2) * 2 + 1 * (z 0).val = (z 0).val; omega
  | ⟨1, _⟩ => show win0_1.index t (1 : Fin 2) * 512 + 1 * (z 1).val = (z 1).val; omega

theorem emb2 (t : Fin cfg0.N) (z : S1x512.Idx) : ((cfg0.win 2).blk t).view.emb z = z := by
  obtain ⟨-, -, ⟨e0, e1⟩, -⟩ := idx_facts t
  funext a; apply Fin.ext
  match a with
  | ⟨0, _⟩ => show win0_2.index t (0 : Fin 2) * 1 + 1 * (z 0).val = (z 0).val; omega
  | ⟨1, _⟩ => show win0_2.index t (1 : Fin 2) * 512 + 1 * (z 1).val = (z 1).val; omega

theorem emb3 (b : Fin 32) (h : Fin 4) (d : Fin 128) (c : Fin 128) : ((cfg0.win 3).blk (point b)).view.emb (ix4 0 h d c : S1x4x128x128.Idx) = (ix4 b h d c : S32x4x128x128.Idx) := by
  obtain ⟨-, -, -, ⟨e0, e1, e2, e3⟩, -⟩ := idx_facts (point b)
  have hb : (point b).val = b.val := rfl
  funext a; apply Fin.ext
  match a with
  | ⟨0, _⟩ => show win0_3.index (point b) (0 : Fin 4) * 1 + 1 * 0 = b.val; omega
  | ⟨1, _⟩ => show win0_3.index (point b) (1 : Fin 4) * 4 + 1 * h.val = h.val; omega
  | ⟨2, _⟩ => show win0_3.index (point b) (2 : Fin 4) * 128 + 1 * d.val = d.val; omega
  | ⟨3, _⟩ => show win0_3.index (point b) (3 : Fin 4) * 128 + 1 * c.val = c.val; omega

theorem emb4 (b : Fin 32) (s : Fin 8) (k : Fin 512) : ((cfg0.win 4).blk (point b)).view.emb (ix3 0 s k : S1x8x512.Idx) = (ix3 b s k : S32x8x512.Idx) := by
  obtain ⟨-, -, -, -, ⟨e0, e1, e2⟩, -⟩ := idx_facts (point b)
  have hb : (point b).val = b.val := rfl
  funext a; apply Fin.ext
  match a with
  | ⟨0, _⟩ => show win0_4.index (point b) (0 : Fin 3) * 1 + 1 * 0 = b.val; omega
  | ⟨1, _⟩ => show win0_4.index (point b) (1 : Fin 3) * 8 + 1 * s.val = s.val; omega
  | ⟨2, _⟩ => show win0_4.index (point b) (2 : Fin 3) * 512 + 1 * k.val = k.val; omega

theorem emb5 (b : Fin 32) (h : Fin 4) (d : Fin 128) (c : Fin 128) : ((cfg0.win 5).blk (point b)).view.emb (ix4 0 h d c : S1x4x128x128.Idx) = (ix4 b h d c : S32x4x128x128.Idx) := by
  obtain ⟨-, -, -, -, -, ⟨e0, e1, e2, e3⟩⟩ := idx_facts (point b)
  have hb : (point b).val = b.val := rfl
  funext a; apply Fin.ext
  match a with
  | ⟨0, _⟩ => show win0_5.index (point b) (0 : Fin 4) * 1 + 1 * 0 = b.val; omega
  | ⟨1, _⟩ => show win0_5.index (point b) (1 : Fin 4) * 4 + 1 * h.val = h.val; omega
  | ⟨2, _⟩ => show win0_5.index (point b) (2 : Fin 4) * 128 + 1 * d.val = d.val; omega
  | ⟨3, _⟩ => show win0_5.index (point b) (3 : Fin 4) * 128 + 1 * c.val = c.val; omega

variable (m : (ℓ : Loc nD τ sig) → Buf (Elt Ideal) ℓ) (c : Dev nD)

theorem host_v4 (k : Fin 512) : V m c main_v4 (ix2 0 k : S1x512.Idx)
    = m ((c : Thread nD τ).loc main_arg2) (ix2 0 (⟨k.val % 128, Nat.mod_lt _ (by omega)⟩ : Fin 128) : S1x128.Idx) := by
  after_reads_at

theorem host_v5 (b : Fin 32) (h : Fin 4) (d j : Fin 128) : V m c main_v5 (ix4 b h d j : S32x4x128x128.Idx)
    = m ((c : Thread nD τ).loc main_arg3) (ix5 0 b h d j : S1x32x4x128x128.Idx) := by
  after_reads_at

/-- The arguments' entries: a sample's columns, the bound's table, the norm's weight over the heads, a sample's state. -/
def aZ (b : Fin 32) (t : Fin 8) (k : Fin 2048) : EReal := m ((c : Thread nD τ).loc main_arg0) (ix3 b t k : S32x8x2048.Idx)
def aL (r : Fin 2) (k : Fin 512) : EReal := m ((c : Thread nD τ).loc main_arg1) (ix2 r k : S2x512.Idx)
def aW (k : Fin 512) : EReal := m ((c : Thread nD τ).loc main_arg2) (ix2 0 (⟨k.val % 128, Nat.mod_lt _ (by omega)⟩ : Fin 128) : S1x128.Idx)
def aS (b : Fin 32) (h : Fin 4) (d j : Fin 128) : EReal := m ((c : Thread nD τ).loc main_arg3) (ix5 0 b h d j : S1x32x4x128x128.Idx)

theorem blk0 (b : Fin 32) : zs (iblk m c 0 (point b)) = aZ m c b := by
  funext t k
  show V m c main_arg0 (((cfg0.win 0).blk (point b)).view.emb (ix3 0 t k : S1x8x2048.Idx)) = _
  rw [emb0]
  after_reads_at
  rfl

theorem blk1 (t : Fin cfg0.N) : ls (iblk m c 1 t) = aL m c := by
  funext r k
  show V m c main_arg1 (((cfg0.win 1).blk t).view.emb (ix2 r k : S2x512.Idx)) = _
  rw [emb1]
  after_reads_at
  rfl

theorem blk2 (t : Fin cfg0.N) : ws (iblk m c 2 t) = aW m c := by
  funext k
  show V m c main_v4 (((cfg0.win 2).blk t).view.emb (ix2 0 k : S1x512.Idx)) = _
  rw [emb2]
  exact host_v4 m c k

theorem blk3 (b : Fin 32) : Ss (iblk m c 3 (point b)) = aS m c b := by
  funext h d j
  show V m c main_v5 (((cfg0.win 3).blk (point b)).view.emb (ix4 0 h d j : S1x4x128x128.Idx)) = _
  rw [emb3]
  exact host_v5 m c b h d j

theorem final4 (b : Fin 32) (t : Fin 8) (k : Fin 512) : (dats m 0 c).arrAt 4 cfg0.N (ix3 b t k : S32x8x512.Idx)
    = out0_A_4 c (grid0.coords (point b)) (ms0_0 (point b)) (hs0_0 (point b)) (ms0_1 (point b)) (hs0_1 (point b)) (ms0_2 (point b)) (hs0_2 (point b)) (ms0_3 (point b)) (hs0_3 (point b)) (ms0_4 (point b)) (hs0_4 (point b)) (ms0_5 (point b)) (hs0_5 (point b)) scM0_0 (Memref.isWhole_whole _) (hcond0_0 (point b)) (hcond0_1 (point b)) (iblk m c 0 (point b)) (iblk m c 1 (point b)) (iblk m c 2 (point b)) (iblk m c 3 (point b)) (ix3 0 t k : S1x8x512.Idx) := by
  have b0 := congrFun (Cert.Kernel4Ideal.Value.blocks4 m c (point b) (flush4 (point b))) (ix3 0 t k : S1x8x512.Idx)
  rw [Cert.Kernel4Ideal.Value.flushed4_A] at b0
  have b1 : (dats m 0 c).arrAt 4 cfg0.N (((cfg0.win 4).blk (point b)).view.emb (ix3 0 t k : S1x8x512.Idx)) = _ := b0
  rw [emb4] at b1
  exact b1

theorem final5 (b : Fin 32) (h : Fin 4) (d j : Fin 128) : (dats m 0 c).arrAt 5 cfg0.N (ix4 b h d j : S32x4x128x128.Idx)
    = out0_A_5 c (grid0.coords (point b)) (ms0_0 (point b)) (hs0_0 (point b)) (ms0_1 (point b)) (hs0_1 (point b)) (ms0_2 (point b)) (hs0_2 (point b)) (ms0_3 (point b)) (hs0_3 (point b)) (ms0_4 (point b)) (hs0_4 (point b)) (ms0_5 (point b)) (hs0_5 (point b)) scM0_0 (Memref.isWhole_whole _) (hcond0_0 (point b)) (hcond0_1 (point b)) (iblk m c 0 (point b)) (iblk m c 1 (point b)) (iblk m c 2 (point b)) (iblk m c 3 (point b)) (ix4 0 h d j : S1x4x128x128.Idx) := by
  have b0 := congrFun (Cert.Kernel4Ideal.Value.blocks5 m c (point b) (flush5 (point b))) (ix4 0 h d j : S1x4x128x128.Idx)
  rw [Cert.Kernel4Ideal.Value.flushed5_A] at b0
  have b1 : (dats m 0 c).arrAt 5 cfg0.N (((cfg0.win 5).blk (point b)).view.emb (ix4 0 h d j : S1x4x128x128.Idx)) = _ := b0
  rw [emb5] at b1
  exact b1

variable (hl : ∀ r k, IsReal (aL m c r k))
include hl

theorem kernel5 (b : Fin 32) (h : Fin 4) (d j : Fin 128) : (dats m 0 c).arrAt 5 cfg0.N (ix4 b h d j : S32x4x128x128.Idx)
    = stateOut (aZ m c b) (aL m c) (aS m c b) h d j := by
  refine (final5 m c b h d j).trans ((congrFun (out5_eq (hl := fun r k => (congrFun (congrFun (blk1 m c (point b)) r) k).symm ▸ hl r k) ..) _).trans ?_)
  show stateOut (zs (iblk m c 0 (point b))) (ls (iblk m c 1 (point b))) (Ss (iblk m c 3 (point b))) h d j = _
  rw [blk0, blk1, blk3]

theorem kernel4 (hq : ∀ b t k, IsReal (aZ m c b t (colQ k))) (hg : ∀ b t k, IsReal (aZ m c b t (colG k)))
    (b : Fin 32) (t : Fin 8) (k : Fin 512) : (dats m 0 c).arrAt 4 cfg0.N (ix3 b t k : S32x8x512.Idx)
    = tokenOut (aZ m c b) (aL m c) (aW m c) (aS m c b) t ⟨k.val / 128, by omega⟩ ⟨k.val % 128, Nat.mod_lt _ (by omega)⟩ := by
  refine (final4 m c b t k).trans ((congrFun (out4_eq (hl := fun r k => (congrFun (congrFun (blk1 m c (point b)) r) k).symm ▸ hl r k)
    (hq := fun t k => (congrFun (congrFun (blk0 m c b) t) (colQ k)).symm ▸ hq b t k)
    (hg := fun t k => (congrFun (congrFun (blk0 m c b) t) (colG k)).symm ▸ hg b t k) ..) _).trans ?_)
  show tokenOut (zs (iblk m c 0 (point b))) (ls (iblk m c 1 (point b))) (ws (iblk m c 2 (point b))) (Ss (iblk m c 3 (point b))) t _ _ = _
  rw [blk0, blk1, blk2, blk3]
  rfl

end Cert.Kernel4Ideal.Hgrn
end
-- ==== Proof.HgrnSum.lean ====
module
public import proofs.«01_k».proof.Proof.Inproj
public import proofs.«01_k».proof.Proof.Gen.Reference4Ideal.Run
public import Idealize.ShloMosaic.Lib.Pointwise
@[expose] public section

/-! The running sums of the recurrence's reference, over the eight tokens and over the two rows of the bound's table. -/

noncomputable section
namespace Cert.Reference4Ideal.Hgrn
open Cert.Reference4Ideal Cert.Reference4Ideal.Gen Cert.Reference4Ideal.Value Idealize.ShloMosaic Cert.Moe
open scoped BigOperators

theorem window8 (n : Fin 8) (a : Fin 4) : (((⟨4, ![1, 8, 1, 1]⟩ : Shape).rowMajor.symm n) a).val = (![0, n.val, 0, 0] : Fin 4 → Nat) a := by
  revert n a; decide +kernel

theorem running (x : FVec Ideal S32x8x4x128 .f32) (v : FVec Ideal S_ .f32) (hv : ∀ i, v i = 0) (b : Fin 32) (t : Fin 8) (h : Fin 4) (d : Fin 128) :
    Host.reduceWindowAdd ![1, 8, 1, 1] ![1, 1, 1, 1] ![0, 7, 0, 0] ![0, 0, 0, 0] x v
      reduceWindows_S32x8x4x128_S32x8x4x128_w1s1p0_0_w8s1p7_0_w1s1p0_0_w1s1p0_0 h_S_ (ix4 b t h d)
    = ∑ s : Fin 8, if s.val ≤ t.val then x (ix4 b s h d) else 0 := by
  have e0 : Host.reduceWindowAdd ![1, 8, 1, 1] ![1, 1, 1, 1] ![0, 7, 0, 0] ![0, 0, 0, 0] x v
      reduceWindows_S32x8x4x128_S32x8x4x128_w1s1p0_0_w8s1p7_0_w1s1p0_0_w1s1p0_0 h_S_ (ix4 b t h d)
      = Host.reduceWindow (fun a b : EReal => a + b) ![1, 8, 1, 1] ![1, 1, 1, 1] ![0, 7, 0, 0] ![0, 0, 0, 0] x
    (fun _ : (⟨0, ![]⟩ : Shape).Idx => v (Shape.Idx.first h_S_))
      reduceWindows_S32x8x4x128_S32x8x4x128_w1s1p0_0_w8s1p7_0_w1s1p0_0_w1s1p0_0 (by decide) (ix4 b t h d) := rfl
  rw [e0, hv]
  have key : ∀ n : Fin 8, ∀ (P : Prop) (D : Decidable P) (hP : P ↔ 7 ≤ t.val + n.val) (y : P → EReal)
      (hy : ∀ p, y p = x (ix4 b ⟨t.val + n.val - 7, by omega⟩ h d)), (if hin : P then y hin else (0 : EReal))
        = if hin : 7 ≤ t.val + n.val then x (ix4 b ⟨t.val + n.val - 7, by omega⟩ h d) else 0 := by
    intro n P D hP y hy
    by_cases q : P
    · rw [dif_pos q, dif_pos (hP.mp q), hy]
    · rw [dif_neg q, dif_neg (fun z => q (hP.mpr z))]
  have fold : Host.reduceWindow (fun a b : EReal => a + b) ![1, 8, 1, 1] ![1, 1, 1, 1] ![0, 7, 0, 0] ![0, 0, 0, 0] x
    (fun _ : (⟨0, ![]⟩ : Shape).Idx => (0 : EReal)) reduceWindows_S32x8x4x128_S32x8x4x128_w1s1p0_0_w8s1p7_0_w1s1p0_0_w1s1p0_0 (by decide) (ix4 b t h d)
    = (List.finRange 8).foldl (fun r n => r + if hin : 7 ≤ t.val + n.val then x (ix4 b ⟨t.val + n.val - 7, by omega⟩ h d) else 0) 0 := by
    unfold Host.reduceWindow
    dsimp only
    refine congrArg (fun f => (List.finRange 8).foldl f (0 : EReal)) ?_
    funext r n
    refine congrArg (fun y => r + y) (key n _ _ ?_ _ ?_)
    · constructor
      · intro q
        have := (q 1).1
        have e : ((⟨4, ![1, 8, 1, 1]⟩ : Shape).rowMajor.symm n 1).val = n.val := window8 n 1
        change 7 ≤ t.val * 1 + ((⟨4, ![1, 8, 1, 1]⟩ : Shape).rowMajor.symm n 1).val at this
        omega
      · intro q a
        have e : ((⟨4, ![1, 8, 1, 1]⟩ : Shape).rowMajor.symm n a).val = _ := window8 n a
        have hb := b.isLt; have ht := t.isLt; have hh := h.isLt; have hd := d.isLt
        have hn : n.val < 8 := n.isLt
        rw [e]
        match a with
        | 0 => exact ⟨by show 0 ≤ _; omega, by show b.val * 1 + 0 - 0 < 32; omega⟩
        | 1 => exact ⟨by show 7 ≤ t.val * 1 + n.val; omega, by show t.val * 1 + n.val - 7 < 8; omega⟩
        | 2 => exact ⟨by show 0 ≤ _; omega, by show h.val * 1 + 0 - 0 < 4; omega⟩
        | 3 => exact ⟨by show 0 ≤ _; omega, by show d.val * 1 + 0 - 0 < 128; omega⟩
    · intro q
      refine congrArg x (funext fun a => Fin.ext ?_)
      have e : ((⟨4, ![1, 8, 1, 1]⟩ : Shape).rowMajor.symm n a).val = _ := window8 n a
      dsimp only
      rw [e]
      match a with
      | 0 => show b.val * 1 + 0 - 0 = b.val; omega
      | 1 => show t.val * 1 + n.val - 7 = t.val + n.val - 7; omega
      | 2 => show h.val * 1 + 0 - 0 = h.val; omega
      | 3 => show d.val * 1 + 0 - 0 = d.val; omega
  refine fold.trans ?_
  have two : (List.finRange 8) = [0, 1, 2, 3, 4, 5, 6, 7] := by decide
  rw [two, Fin.sum_univ_eight]
  fin_cases t <;> simp

theorem window2 (n : Fin 2) (a : Fin 2) : (((⟨2, ![2, 1]⟩ : Shape).rowMajor.symm n) a).val = (![n.val, 0] : Fin 2 → Nat) a := by
  revert n a; decide +kernel

/-- The running sum's first row is the operand's. -/
theorem running_first (x : FVec Ideal S2x512 .f32) (v : FVec Ideal S_ .f32) (hv : ∀ i, v i = 0) (k : Fin 512) :
    Host.reduceWindowAdd ![2, 1] ![1, 1] ![1, 0] ![0, 0] x v reduceWindows_S2x512_S2x512_w2s1p1_0_w1s1p0_0 h_S_ (ix2 0 k)
    = x (ix2 0 k) := by
  have e0 : Host.reduceWindowAdd ![2, 1] ![1, 1] ![1, 0] ![0, 0] x v reduceWindows_S2x512_S2x512_w2s1p1_0_w1s1p0_0 h_S_ (ix2 0 k)
      = Host.reduceWindow (fun a b : EReal => a + b) ![2, 1] ![1, 1] ![1, 0] ![0, 0] x
    (fun _ : (⟨0, ![]⟩ : Shape).Idx => v (Shape.Idx.first h_S_)) reduceWindows_S2x512_S2x512_w2s1p1_0_w1s1p0_0 (by decide) (ix2 0 k) := rfl
  rw [e0, hv]
  have fold : Host.reduceWindow (fun a b : EReal => a + b) ![2, 1] ![1, 1] ![1, 0] ![0, 0] x
    (fun _ : (⟨0, ![]⟩ : Shape).Idx => (0 : EReal)) reduceWindows_S2x512_S2x512_w2s1p1_0_w1s1p0_0 (by decide) (ix2 0 k)
    = (List.finRange 2).foldl (fun r n => r + if n.val = 1 then x (ix2 0 k) else 0) 0 := by
    unfold Host.reduceWindow
    dsimp only
    refine congrArg (fun f => (List.finRange 2).foldl f (0 : EReal)) ?_
    funext r n
    refine congrArg (fun y => r + y) ?_
    have e : ∀ a, ((⟨2, ![2, 1]⟩ : Shape).rowMajor.symm n a).val = _ := window2 n
    have hn : n.val < 2 := n.isLt
    have hk := k.isLt
    by_cases h1 : n.val = 1
    · rw [if_pos h1]
      refine (dif_pos ?_).trans ?_
      · intro a
        rw [e a, h1]
        match a with
        | 0 => exact ⟨by show 1 ≤ 0 * 1 + 1; omega, by show 0 * 1 + 1 - 1 < 2; omega⟩
        | 1 => exact ⟨Nat.zero_le _, by show k.val * 1 + 0 - 0 < 512; omega⟩
      · refine congrArg x (funext fun a => Fin.ext ?_)
        dsimp only
        rw [e a, h1]
        match a with
        | 0 => rfl
        | 1 => show k.val * 1 + 0 - 0 = k.val; omega
    · rw [if_neg h1]
      refine dif_neg ?_
      intro q
      have := (q 0).1
      rw [e 0] at this
      change 1 ≤ 0 * 1 + n.val at this
      omega
  refine fold.trans ?_
  have two : (List.finRange 2) = [0, 1] := by decide
  rw [two]
  simp

end Cert.Reference4Ideal.Hgrn
end
-- ==== Proof.HgrnRef.lean ====
module
public import proofs.«01_k».proof.Proof.Hgrn
public import proofs.«01_k».proof.Proof.HgrnSum
@[expose] public section

/-! The recurrence's reference, entry by entry, over its arguments. -/

noncomputable section
namespace Cert.Reference4Ideal.Hgrn
open Cert.Reference4Ideal Cert.Reference4Ideal.Gen Cert.Reference4Ideal.Value Idealize.ShloMosaic Cert.Moe Cert.Merge Cert.Hgrn
open scoped BigOperators

/-- The largest entry of each column of the bound's table. -/
def mx (a1 : FVec Ideal S2x512 .f32) : FVec Ideal S512 .f32 :=
  maximumf (broadcastInDim S512 ![] bcast_S_S512 (constant S_ .f32 0xFF800000#32)) (Host.reduce FloatOps.maximumf a1 (constant S_ .f32 0xFF800000#32) reducesTo_S2x512_S512_d0 h_S_)

/-- The exponentials of the table, less these. -/
def ex (a1 : FVec Ideal S2x512 .f32) : FVec Ideal S2x512 .f32 :=
  Host.exp (subf a1 (broadcastInDim S2x512 ![0, 1] bcast_S1x512_S2x512_0_1 (broadcastInDim S1x512 ![1] bcast_S512_S1x512_1 (mx a1))))

/-- The softmax over the two rows. -/
def soft (a1 : FVec Ideal S2x512 .f32) : FVec Ideal S2x512 .f32 :=
  Host.divf (ex a1) (broadcastInDim S2x512 ![0, 1] bcast_S1x512_S2x512_0_1 (broadcastInDim S1x512 ![1] bcast_S512_S1x512_1 (Host.reduceAdd (ex a1) (constant S_ .f32 0x00000000#32) reducesTo_S2x512_S512_d0 h_S_)))

/-- The gates' lower bound. -/
def bnd (a1 : FVec Ideal S2x512 .f32) : FVec Ideal S512 .f32 :=
  shapeCast _ (extractStridedSlice S1x512 ![0, 0] (Host.reduceWindowAdd ![2, 1] ![1, 1] ![1, 0] ![0, 0] (soft a1) (broadcastInDim S_ ![] bcast_S_S_ (constant S_ .f32 0x00000000#32)) reduceWindows_S2x512_S2x512_w2s1p1_0_w1s1p0_0 h_S_) slices_S2x512_S1x512_0_0) shapeCasts_S1x512_S512

/-- What each token keeps. -/
def keeps (a0 : FVec Ideal S32x8x2048 .f32) (a1 : FVec Ideal S2x512 .f32) : FVec Ideal S32x8x512 .f32 :=
  addf (broadcastInDim S32x8x512 ![0, 1, 2] bcast_S1x1x512_S32x8x512_0_1_2 (broadcastInDim S1x1x512 ![2] bcast_S512_S1x1x512_2 (bnd a1))) (mulf (broadcastInDim S32x8x512 ![0, 1, 2] bcast_S1x1x512_S32x8x512_0_1_2 (broadcastInDim S1x1x512 ![2] bcast_S512_S1x1x512_2 (subf (broadcastInDim S512 ![] bcast_S_S512 (constant S_ .f32 0x3F800000#32)) (bnd a1)))) (Host.divf (broadcastInDim S32x8x512 ![] bcast_S_S32x8x512 (constant S_ .f32 0x3F800000#32)) (addf (broadcastInDim S32x8x512 ![] bcast_S_S32x8x512 (constant S_ .f32 0x3F800000#32)) (Host.exp (Host.negf (extractStridedSlice S32x8x512 ![0, 0, 512] a0 slices_S32x8x2048_S32x8x512_0_0_512))))))

/-- Its logarithms, by head. -/
def lg (a0 : FVec Ideal S32x8x2048 .f32) (a1 : FVec Ideal S2x512 .f32) : FVec Ideal S32x8x4x128 .f32 :=
  shapeCast _ (Host.log (keeps a0 a1)) shapeCasts_S32x8x512_S32x8x4x128

/-- Their running sums. -/
def cum (a0 : FVec Ideal S32x8x2048 .f32) (a1 : FVec Ideal S2x512 .f32) : FVec Ideal S32x8x4x128 .f32 :=
  Host.reduceWindowAdd ![1, 8, 1, 1] ![1, 1, 1, 1] ![0, 7, 0, 0] ![0, 0, 0, 0] (lg a0 a1) (broadcastInDim S_ ![] bcast_S_S_ (constant S_ .f32 0x00000000#32)) reduceWindows_S32x8x4x128_S32x8x4x128_w1s1p0_0_w8s1p7_0_w1s1p0_0_w1s1p0_0 h_S_

/-- The keys. -/
def keyA (a0 : FVec Ideal S32x8x2048 .f32) (a1 : FVec Ideal S2x512 .f32) : FVec Ideal S32x8x4x128 .f32 :=
  shapeCast _ (subf (broadcastInDim S32x8x512 ![] bcast_S_S32x8x512 (constant S_ .f32 0x3F800000#32)) (keeps a0 a1)) shapeCasts_S32x8x512_S32x8x4x128

/-- The last running sum. -/
def lastA (a0 : FVec Ideal S32x8x2048 .f32) (a1 : FVec Ideal S2x512 .f32) : FVec Ideal S32x4x128 .f32 :=
  shapeCast _ (extractStridedSlice S32x1x4x128 ![0, 7, 0, 0] (cum a0 a1) slices_S32x8x4x128_S32x1x4x128_0_7_0_0) shapeCasts_S32x1x4x128_S32x4x128

/-- The queries. -/
def qA (a0 : FVec Ideal S32x8x2048 .f32) : FVec Ideal S32x8x4x128 .f32 :=
  shapeCast _ (mulf (extractStridedSlice S32x8x512 ![0, 0, 0] a0 slices_S32x8x2048_S32x8x512_0_0_0) (Host.divf (broadcastInDim S32x8x512 ![] bcast_S_S32x8x512 (constant S_ .f32 0x3F800000#32)) (addf (broadcastInDim S32x8x512 ![] bcast_S_S32x8x512 (constant S_ .f32 0x3F800000#32)) (Host.exp (Host.negf (extractStridedSlice S32x8x512 ![0, 0, 0] a0 slices_S32x8x2048_S32x8x512_0_0_0)))))) shapeCasts_S32x8x512_S32x8x4x128

/-- The values. -/
def vA (a0 : FVec Ideal S32x8x2048 .f32) : FVec Ideal S32x8x4x128 .f32 :=
  shapeCast _ (extractStridedSlice S32x8x512 ![0, 0, 1024] a0 slices_S32x8x2048_S32x8x512_0_0_1024) shapeCasts_S32x8x512_S32x8x4x128

/-- The output gates. -/
def gA (a0 : FVec Ideal S32x8x2048 .f32) : FVec Ideal S32x8x4x128 .f32 :=
  shapeCast _ (mulf (extractStridedSlice S32x8x512 ![0, 0, 1536] a0 slices_S32x8x2048_S32x8x512_0_0_1536) (Host.divf (broadcastInDim S32x8x512 ![] bcast_S_S32x8x512 (constant S_ .f32 0x3F800000#32)) (addf (broadcastInDim S32x8x512 ![] bcast_S_S32x8x512 (constant S_ .f32 0x3F800000#32)) (Host.exp (Host.negf (extractStridedSlice S32x8x512 ![0, 0, 1536] a0 slices_S32x8x2048_S32x8x512_0_0_1536)))))) shapeCasts_S32x8x512_S32x8x4x128

/-- The state. -/
def sA (a3 : FVec Ideal S1x32x4x128x128 .f32) : FVec Ideal S32x4x128x128 .f32 :=
  shapeCast _ a3 shapeCasts_S1x32x4x128x128_S32x4x128x128

/-- The causal mask. -/
def mask : IVec S32x8x8x4x128 1 :=
  broadcastInDim S32x8x8x4x128 ![0, 1, 2, 3, 4] bcast_S1x8x8x1x1_S32x8x8x4x128_0_1_2_3_4 (broadcastInDim S1x8x8x1x1 ![1, 2] bcast_S8x8_S1x8x8x1x1_1_2 (select (cmpi .sge (addi (iotaInDim S8x8 32 0) (broadcastInDim S8x8 ![] bcast_S_S8x8 (constantI S_ 32 0#32))) (iotaInDim S8x8 32 1)) (broadcastInDim S8x8 ![] bcast_S_S8x8 (constantI S_ 1 1#1)) (broadcastInDim S8x8 ![] bcast_S_S8x8 (constantI S_ 1 0#1))))

/-- The exponents of the decays. -/
def expo (a0 : FVec Ideal S32x8x2048 .f32) (a1 : FVec Ideal S2x512 .f32) : FVec Ideal S32x8x8x4x128 .f32 :=
  select mask (subf (broadcastInDim S32x8x8x4x128 ![0, 1, 2, 3, 4] bcast_S32x8x1x4x128_S32x8x8x4x128_0_1_2_3_4 (broadcastInDim S32x8x1x4x128 ![0, 1, 3, 4] bcast_S32x8x4x128_S32x8x1x4x128_0_1_3_4 (cum a0 a1))) (broadcastInDim S32x8x8x4x128 ![0, 1, 2, 3, 4] bcast_S32x1x8x4x128_S32x8x8x4x128_0_1_2_3_4 (broadcastInDim S32x1x8x4x128 ![0, 2, 3, 4] bcast_S32x8x4x128_S32x1x8x4x128_0_2_3_4 (cum a0 a1)))) (broadcastInDim S32x8x8x4x128 ![] bcast_S_S32x8x8x4x128 (id (constant S_ .f32 0xFF800000#32)))

/-- The scores. -/
def score (a0 : FVec Ideal S32x8x2048 .f32) (a1 : FVec Ideal S2x512 .f32) : FVec Ideal S32x8x8x4 .f32 :=
  Host.reduceAdd (mulf (mulf (broadcastInDim S32x8x8x4x128 ![0, 1, 2, 3, 4] bcast_S32x8x1x4x128_S32x8x8x4x128_0_1_2_3_4 (broadcastInDim S32x8x1x4x128 ![0, 1, 3, 4] bcast_S32x8x4x128_S32x8x1x4x128_0_1_3_4 (qA a0))) (broadcastInDim S32x8x8x4x128 ![0, 1, 2, 3, 4] bcast_S32x1x8x4x128_S32x8x8x4x128_0_1_2_3_4 (broadcastInDim S32x1x8x4x128 ![0, 2, 3, 4] bcast_S32x8x4x128_S32x1x8x4x128_0_2_3_4 (keyA a0 a1)))) (Host.exp (expo a0 a1))) (constant S_ .f32 0x00000000#32) reducesTo_S32x8x8x4x128_S32x8x8x4_d4 h_S_

/-- The mixer's outputs, before their norm. -/
def oA (a0 : FVec Ideal S32x8x2048 .f32) (a1 : FVec Ideal S2x512 .f32) (a3 : FVec Ideal S1x32x4x128x128 .f32) : FVec Ideal S32x8x4x128 .f32 :=
  addf (transpose S32x8x4x128 [0, 3, 1, 2] (Host.dotGeneral dot_S32x4x128x128_S32x8x4x128_S32x4x128x8_2_3_3_1_01_02 none (sA a3) (mulf (qA a0) (Host.exp (cum a0 a1)))) transposes_S32x4x128x8_S32x8x4x128_0_3_1_2) (transpose S32x8x4x128 [0, 3, 1, 2] (Host.dotGeneral dot_S32x8x4x128_S32x8x8x4_S32x4x128x8_1_2_3_1_02_03 none (vA a0) (score a0 a1)) transposes_S32x4x128x8_S32x8x4x128_0_3_1_2)

/-- The new state. -/
def stateA (a0 : FVec Ideal S32x8x2048 .f32) (a1 : FVec Ideal S2x512 .f32) (a3 : FVec Ideal S1x32x4x128x128 .f32) : FVec Ideal S32x4x128x128 .f32 :=
  addf (mulf (broadcastInDim S32x4x128x128 ![0, 1, 2, 3] bcast_S32x4x128x1_S32x4x128x128_0_1_2_3 (broadcastInDim S32x4x128x1 ![0, 1, 2] bcast_S32x4x128_S32x4x128x1_0_1_2 (Host.exp (lastA a0 a1)))) (sA a3)) (Host.dotGeneral dot_S32x8x4x128_S32x8x4x128_S32x4x128x128_1_1_3_3_02_02 none (mulf (keyA a0 a1) (Host.exp (subf (broadcastInDim S32x8x4x128 ![0, 1, 2, 3] bcast_S32x1x4x128_S32x8x4x128_0_1_2_3 (broadcastInDim S32x1x4x128 ![0, 2, 3] bcast_S32x4x128_S32x1x4x128_0_2_3 (lastA a0 a1))) (cum a0 a1)))) (vA a0))

/-- The mixer's outputs. -/
def tokenA (a0 : FVec Ideal S32x8x2048 .f32) (a1 : FVec Ideal S2x512 .f32) (a2 : FVec Ideal S1x128 .f32) (a3 : FVec Ideal S1x32x4x128x128 .f32) : FVec Ideal S32x8x512 .f32 :=
  shapeCast _ (mulf (mulf (mulf (oA a0 a1 a3) (broadcastInDim S32x8x4x128 ![0, 1, 2, 3] bcast_S32x8x4x1_S32x8x4x128_0_1_2_3 (Host.rsqrt (addf (Host.divf (broadcastInDim S32x8x4x1 ![0, 1, 2] bcast_S32x8x4_S32x8x4x1_0_1_2 (Host.reduceAdd (mulf (oA a0 a1 a3) (oA a0 a1 a3)) (constant S_ .f32 0x00000000#32) reducesTo_S32x8x4x128_S32x8x4_d3 h_S_)) (broadcastInDim S32x8x4x1 ![] bcast_S_S32x8x4x1 (constant S_ .f32 0x43000000#32))) (broadcastInDim S32x8x4x1 ![] bcast_S_S32x8x4x1 (constant S_ .f32 0x358637BD#32)))))) (broadcastInDim S32x8x4x128 ![0, 1, 2, 3] bcast_S1x1x1x128_S32x8x4x128_0_1_2_3 (broadcastInDim S1x1x1x128 ![3] bcast_S128_S1x1x1x128_3 (shapeCast _ a2 shapeCasts_S1x128_S128)))) (gA a0)) shapeCasts_S32x8x4x128_S32x8x512

section
variable (m : (ℓ : Loc nD τ sig) → Buf (Elt Ideal) ℓ) (c : Dev nD)

theorem state_eq : res_main_v77 m c = stateA (m ((c.tc : Thread nD τ).loc main_arg0)) (m ((c.tc : Thread nD τ).loc main_arg1)) (m ((c.tc : Thread nD τ).loc main_arg3)) := rfl

theorem token_eq : res_main_v96 m c = tokenA (m ((c.tc : Thread nD τ).loc main_arg0)) (m ((c.tc : Thread nD τ).loc main_arg1)) (m ((c.tc : Thread nD τ).loc main_arg2)) (m ((c.tc : Thread nD τ).loc main_arg3)) := rfl
end

variable (a0 : FVec Ideal S32x8x2048 .f32) (a1 : FVec Ideal S2x512 .f32) (a2 : FVec Ideal S1x128 .f32) (a3 : FVec Ideal S1x32x4x128x128 .f32)

abbrev zA (b : Fin 32) (t : Fin 8) (k : Fin 2048) : EReal := a0 (ix3 b t k)
abbrev lA (r : Fin 2) (k : Fin 512) : EReal := a1 (ix2 r k)
abbrev wA (k : Fin 512) : EReal := a2 (ix2 0 (⟨k.val % 128, Nat.mod_lt _ (by omega)⟩ : Fin 128))
abbrev stA (b : Fin 32) (h : Fin 4) (d j : Fin 128) : EReal := a3 (ix5 0 b h d j)

theorem mx_apply (k : Fin 512) : mx a1 (ix1 k) = top (lA a1) k := by
  unfold mx
  pointwise
  show max _ (top (lA a1) k) = _
  rw [bits_negInf]
  exact max_eq_right bot_le

theorem ex_apply (r : Fin 2) (k : Fin 512) : ex a1 (ix2 r k) = Ideal.exp (lA a1 r k - top (lA a1) k) := by
  unfold ex
  pointwise
  rw [mx_apply]

theorem soft_apply (k : Fin 512) : soft a1 (ix2 0 k) = bound (lA a1) k := by
  unfold soft
  pointwise
  simp only [ex_apply]
  rfl

theorem bnd_apply (k : Fin 512) : bnd a1 (ix1 k) = bound (lA a1) k := by
  unfold bnd
  pointwise
  refine (running_first (soft a1) _ (fun i => ?_) k).trans (soft_apply a1 k)
  pointwise

theorem keeps_apply (b : Fin 32) (t : Fin 8) (k : Fin 512) : keeps a0 a1 (ix3 b t k) = kept (zA a0 b) (lA a1) t k := by
  unfold keeps
  pointwise
  simp only [bnd_apply]
  rfl

theorem lg_apply (b : Fin 32) (t : Fin 8) (h : Fin 4) (d : Fin 128) : lg a0 a1 (ix4 b t h d) = Ideal.log (kept (zA a0 b) (lA a1) t (col h d)) := by
  unfold lg
  pointwise
  simp only [keeps_apply]
  simp only [Nat.mul_comm h.val 128]
  rfl

theorem keyA_apply (b : Fin 32) (t : Fin 8) (h : Fin 4) (d : Fin 128) : keyA a0 a1 (ix4 b t h d) = key (zA a0 b) (lA a1) t (col h d) := by
  unfold keyA
  pointwise
  simp only [keeps_apply]
  simp only [Nat.mul_comm h.val 128]
  rfl

theorem qA_apply (b : Fin 32) (t : Fin 8) (h : Fin 4) (d : Fin 128) : qA a0 (ix4 b t h d) = query (zA a0 b) t (col h d) := by
  unfold qA
  pointwise
  simp only [Nat.mul_comm h.val 128]
  rfl

theorem gA_apply (b : Fin 32) (t : Fin 8) (h : Fin 4) (d : Fin 128) : gA a0 (ix4 b t h d)
    = (zA a0 b t (colG (col h d)) * gate (zA a0 b t (colG (col h d))) : EReal) := by
  unfold gA
  pointwise
  simp only [Nat.mul_comm h.val 128]
  rfl

theorem vA_apply (b : Fin 32) (t : Fin 8) (h : Fin 4) (d : Fin 128) : vA a0 (ix4 b t h d) = value (zA a0 b) t (col h d) := by
  unfold vA
  pointwise
  simp only [Nat.mul_comm h.val 128]
  rfl

theorem sA_apply (b : Fin 32) (h : Fin 4) (d j : Fin 128) : sA a3 (ix4 b h d j) = stA a3 b h d j := by
  unfold sA
  pointwise

theorem causal : ∀ t s : Fin 8, Scalar.select (IntOp.cmpi CmpIPredicate.sge (IntOp.addi (BitVec.ofNat 32 t.val) 0#32) (BitVec.ofNat 32 s.val)) 1#1 0#1
    = if s.val ≤ t.val then 1#1 else 0#1 := by decide +kernel

theorem mask_apply (b : Fin 32) (t s : Fin 8) (h : Fin 4) (d : Fin 128) : mask (ix5 b t s h d) = if s.val ≤ t.val then 1#1 else 0#1 := by
  unfold mask
  pointwise
  exact causal t s

theorem wide (b : Fin 32) (t : Fin 8) (k : Fin 512) (x : FVec Ideal S32x8x4x128 .f32) :
    shapeCast S32x8x512 x shapeCasts_S32x8x4x128_S32x8x512 (ix3 b t k) = x (ix4 b t ⟨k.val / 128, by omega⟩ ⟨k.val % 128, Nat.mod_lt _ (by omega)⟩) := by
  pointwise

section
variable (hl : ∀ r k, IsReal (lA a1 r k))
include hl

theorem lg_real (b : Fin 32) (t : Fin 8) (h : Fin 4) (d : Fin 128) : lg a0 a1 (ix4 b t h d)
    = (Real.log (kept (zA a0 b) (lA a1) t (col h d)).toReal : EReal) := by
  rw [lg_apply]
  exact (congrArg Ideal.log (kept_eq _ _ hl t (col h d))).trans (log_real (kept_pos _ _ hl t (col h d)))

theorem cum_apply (b : Fin 32) (t : Fin 8) (h : Fin 4) (d : Fin 128) : cum a0 a1 (ix4 b t h d) = (total (zA a0 b) (lA a1) t.val (col h d) : EReal) := by
  unfold cum
  refine (running (lg a0 a1) _ (fun i => ?_) b t h d).trans ?_
  · pointwise
  · unfold total logs
    rw [← coe_sum8]
    refine Finset.sum_congr rfl fun s _ => ?_
    split
    · exact lg_real a0 a1 hl b s h d
    · exact EReal.coe_zero.symm

theorem lastA_apply (b : Fin 32) (h : Fin 4) (d : Fin 128) : lastA a0 a1 (ix3 b h d) = (total (zA a0 b) (lA a1) 7 (col h d) : EReal) := by
  unfold lastA
  pointwise
  exact cum_apply a0 a1 hl b 7 h d

theorem expo_apply (b : Fin 32) (t s : Fin 8) (h : Fin 4) (d : Fin 128) : Ideal.exp (expo a0 a1 (ix5 b t s h d))
    = if s.val ≤ t.val then (Real.exp (total (zA a0 b) (lA a1) t.val (col h d) - total (zA a0 b) (lA a1) s.val (col h d)) : EReal) else 0 := by
  unfold expo
  pointwise
  rw [mask_apply, cum_apply a0 a1 hl, cum_apply a0 a1 hl]
  split
  · show Ideal.exp (_ - _ : EReal) = _
    rw [← EReal.coe_sub, exp_real]
  · show Ideal.exp (Ideal.ofBits .f32 4286578688#32) = 0
    rw [bits_negInf]
    rfl

theorem score_apply (b : Fin 32) (t s : Fin 8) (h : Fin 4) : score a0 a1 (ix4 b t s h)
    = (∑ d, query (zA a0 b) t (col h d) * key (zA a0 b) (lA a1) s (col h d) * (if s.val ≤ t.val then
        (Real.exp (total (zA a0 b) (lA a1) t.val (col h d) - total (zA a0 b) (lA a1) s.val (col h d)) : EReal) else 0) : EReal) := by
  unfold score
  pointwise
  refine Finset.sum_congr rfl fun d _ => ?_
  rw [qA_apply, keyA_apply, expo_apply a0 a1 hl]

theorem oA_apply (b : Fin 32) (t : Fin 8) (h : Fin 4) (j : Fin 128) : oA a0 a1 a3 (ix4 b t h j)
    = read (query (zA a0 b)) (key (zA a0 b) (lA a1)) (value (zA a0 b)) (fun t => total (zA a0 b) (lA a1) t.val) (stA a3 b) h t j := by
  unfold oA
  pointwise
  simp only [sA_apply, qA_apply, vA_apply, score_apply a0 a1 hl, cum_apply a0 a1 hl, exp_real]
  rfl

theorem stateA_apply (b : Fin 32) (h : Fin 4) (d j : Fin 128) : stateA a0 a1 a3 (ix4 b h d j) = stateOut (zA a0 b) (lA a1) (stA a3 b) h d j := by
  unfold stateA
  pointwise
  simp only [sA_apply, keyA_apply, vA_apply, lastA_apply a0 a1 hl, cum_apply a0 a1 hl, exp_real, ← EReal.coe_sub]
  rfl

theorem tokenA_apply (b : Fin 32) (t : Fin 8) (k : Fin 512) : tokenA a0 a1 a2 a3 (ix3 b t k)
    = tokenOut (zA a0 b) (lA a1) (wA a2) (stA a3 b) t ⟨k.val / 128, by omega⟩ ⟨k.val % 128, Nat.mod_lt _ (by omega)⟩ := by
  have e : ∀ (h : Fin 4) (d : Fin 128), wA a2 (col h d) = a2 (ix2 0 d) := fun h d =>
    congrArg (fun j : Fin 128 => a2 (ix2 0 j)) (Fin.ext (by show (128 * h.val + d.val) % 128 = d.val; omega))
  unfold tokenA
  refine (wide b t k _).trans ?_
  unfold tokenOut unit128
  rw [e]
  generalize (⟨k.val / 128, _⟩ : Fin 4) = h
  generalize (⟨k.val % 128, _⟩ : Fin 128) = d
  pointwise
  simp only [gA_apply, oA_apply a0 a1 a3 hl]

end

end Cert.Reference4Ideal.Hgrn
end
-- ==== Proof.HgrnEqual.lean ====
module
public import proofs.«01_k».proof.Proof.Finite
public import proofs.«01_k».proof.Proof.HgrnArray
public import proofs.«01_k».proof.Proof.HgrnRef
public import proofs.«01_k».proof.Proof.Gen.Pre_finite4
@[expose] public section

/-! The recurrence's two arrays and its reference's are the same functions of the same arguments, where the queries'
    and the output gates' columns and the bound's table are real numbers. -/

noncomputable section
namespace Cert.Hgrn
open Idealize.ShloMosaic Idealize.ShloMosaic.TcCoe Cert.Moe
open Cert.Reference4Ideal.Hgrn (stateA tokenA stateA_apply tokenA_apply)
open Cert.Kernel4Ideal.Hgrn (kernel4 kernel5)

section
open Cert.Pre_finite4 Cert.Pre_finite4.Gen

/-- What the precondition says: every query, every output gate and every entry of the table is a real number. -/
theorem all_real (a0 : FVec Ideal S32x8x2048 .f32) (a1 : FVec Ideal S2x512 .f32) (a2 : FVec Ideal S1x128 .f32)
    (a3 : FVec Ideal S1x32x4x128x128 .f32) (h : fn (F := Ideal) a0 a1 a2 a3 = fun _ => 1#1) :
    (∀ (b : Fin 32) (t : Fin 8) (k : Fin 512), IsReal (a0 (ix3 b t (colQ k)))) ∧
    (∀ (b : Fin 32) (t : Fin 8) (k : Fin 512), IsReal (a0 (ix3 b t (colG k)))) ∧ (∀ i, IsReal (a1 i)) := by
  have h1 := congrFun h (fun a : Fin 0 => a.elim0)
  obtain ⟨h2, e1⟩ := Cert.Pre_finite.Moe.and_split h1
  obtain ⟨eq, eg⟩ := Cert.Pre_finite.Moe.and_split h2
  refine ⟨fun b t k => ?_, fun b t k => ?_, Cert.Pre_finite.Moe.real_of_all a1 _ _ e1⟩
  · have r := Cert.Pre_finite.Moe.real_of_all _ _ _ eq (ix3 b t k : S32x8x512.Idx)
    refine (congrArg (fun i => IsReal (a0 i)) (funext fun a => Fin.ext ?_) : IsReal (a0 _) = _).mp r
    match a with
    | ⟨0, _⟩ => show 0 + b.val = b.val; omega
    | ⟨1, _⟩ => show 0 + t.val = t.val; omega
    | ⟨2, _⟩ => show 0 + k.val = k.val; omega
  · have r := Cert.Pre_finite.Moe.real_of_all _ _ _ eg (ix3 b t k : S32x8x512.Idx)
    refine (congrArg (fun i => IsReal (a0 i)) (funext fun a => Fin.ext ?_) : IsReal (a0 _) = _).mp r
    match a with
    | ⟨0, _⟩ => show 0 + b.val = b.val; omega
    | ⟨1, _⟩ => show 0 + t.val = t.val; omega
    | ⟨2, _⟩ => show 1536 + k.val = 1536 + k.val; rfl
end

section
open Cert.Kernel4Ideal
variable (m : (ℓ : Loc nD τ sig) → Buf (Elt Ideal) ℓ) (c : Dev nD) (h1 : ∀ i, IsReal (m ((c : Thread nD τ).loc main_arg1) i))
include h1

theorem arrays5 : stateA (m ((c : Thread nD τ).loc main_arg0)) (m ((c : Thread nD τ).loc main_arg1)) (m ((c : Thread nD τ).loc main_arg3))
    = (Cert.Kernel4Ideal.Gen.dats m 0 c).arrAt 5 Cert.Kernel4Ideal.cfg0.N := by
  funext q
  obtain ⟨b, h, d, j, rfl⟩ : ∃ (b : Fin 32) (h : Fin 4) (d j : Fin 128), q = (ix4 b h d j : S32x4x128x128.Idx) :=
    ⟨q 0, q 1, q 2, q 3, Idealize.ShloMosaic.eq_ix4 q⟩
  exact (stateA_apply _ _ _ (fun r k => h1 _) b h d j).trans (kernel5 m c (fun r k => h1 _) b h d j).symm

theorem arrays4 (hq : ∀ (b : Fin 32) (t : Fin 8) (k : Fin 512), IsReal (m ((c : Thread nD τ).loc main_arg0) (ix3 b t (colQ k))))
    (hg : ∀ (b : Fin 32) (t : Fin 8) (k : Fin 512), IsReal (m ((c : Thread nD τ).loc main_arg0) (ix3 b t (colG k)))) :
    tokenA (m ((c : Thread nD τ).loc main_arg0)) (m ((c : Thread nD τ).loc main_arg1)) (m ((c : Thread nD τ).loc main_arg2))
      (m ((c : Thread nD τ).loc main_arg3))
    = (Cert.Kernel4Ideal.Gen.dats m 0 c).arrAt 4 Cert.Kernel4Ideal.cfg0.N := by
  funext q
  obtain ⟨b, t, k, rfl⟩ : ∃ (b : Fin 32) (t : Fin 8) (k : Fin 512), q = (ix3 b t k : S32x8x512.Idx) :=
    ⟨q 0, q 1, q 2, Idealize.ShloMosaic.eq_ix3 q⟩
  exact (tokenA_apply _ _ _ _ (fun r k => h1 _) b t k).trans (kernel4 m c (fun r k => h1 _) hq hg b t k).symm

end

end Cert.Hgrn
end
-- ==== Proof.HgrnChunk.lean ====
module
public import proofs.«01_k».proof.Proof.Hgrn
@[expose] public section

/-! The gated recurrence over a long sequence: a token at a time, and a chunk of tokens at a time. -/

noncomputable section
namespace Cert.Hgrn
open Idealize.ShloMosaic Cert.Moe Cert.Merge
open scoped BigOperators

/-- One entry of the state, `n` tokens after token `t`. -/
def run (f k v : Nat → EReal) (t : Nat) : Nat → EReal → EReal
  | 0, s => s
  | n + 1, s => f (t + n) * run f k v t n s + k (t + n) * v (t + n)

theorem run_add (f k v : Nat → EReal) (t a b : Nat) (s : EReal) : run f k v t (a + b) s = run f k v (t + a) b (run f k v t a s) := by
  induction b with
  | zero => rfl
  | succ b ih =>
    show f (t + (a + b)) * run f k v t (a + b) s + k (t + (a + b)) * v (t + (a + b)) = f (t + a + b) * run f k v (t + a) b _ + k (t + a + b) * v (t + a + b)
    rw [ih, add_assoc]

/-- The logarithms of `n` tokens' gates from token `t` on, summed. -/
def logSum (g : Nat → ℝ) (t n : Nat) : ℝ := ∑ i ∈ Finset.range n, Real.log (g (t + i))

theorem coe_mul_sum (a : ℝ) (ha : 0 ≤ a) (n : Nat) (x : Nat → EReal) :
    (a : EReal) * ∑ i ∈ Finset.range n, x i = ∑ i ∈ Finset.range n, (a : EReal) * x i := by
  induction n with
  | zero => simp
  | succ n ih =>
    rw [Finset.sum_range_succ, Finset.sum_range_succ, EReal.left_distrib_of_nonneg_of_ne_top (EReal.coe_nonneg.mpr ha) (EReal.coe_ne_top a), ih]

/-- A chunk at a time: the state is weighed by the chunk's whole decay, each token's key by the decay after it. -/
theorem chunk (f k v : Nat → EReal) (g : Nat → ℝ) (hg : ∀ t, 0 < g t) (hf : ∀ t, f t = (g t : EReal)) (t n : Nat) (s : EReal) :
    (Real.exp (logSum g t n) : EReal) * s
      + ∑ i ∈ Finset.range n, k (t + i) * (Real.exp (logSum g t n - logSum g t (i + 1)) : EReal) * v (t + i)
    = run f k v t n s := by
  induction n with
  | zero => simp [logSum, run]
  | succ n ih =>
    have e : logSum g t (n + 1) = logSum g t n + Real.log (g (t + n)) := Finset.sum_range_succ _ _
    have w : ∀ b : ℝ, (Real.exp (logSum g t (n + 1) - b) : EReal) = (g (t + n) : EReal) * (Real.exp (logSum g t n - b) : EReal) := by
      intro b
      rw [← EReal.coe_mul, e, show logSum g t n + Real.log (g (t + n)) - b = Real.log (g (t + n)) + (logSum g t n - b) by ring,
        Real.exp_add, Real.exp_log (hg _)]
    show _ = f (t + n) * run f k v t n s + k (t + n) * v (t + n)
    rw [← ih, hf, Finset.sum_range_succ, sub_self, Real.exp_zero, EReal.coe_one, mul_one, ← add_assoc,
      EReal.left_distrib_of_nonneg_of_ne_top (EReal.coe_nonneg.mpr (hg _).le) (EReal.coe_ne_top _), coe_mul_sum _ (hg _).le]
    congr 1
    congr 1
    · have := w 0
      rw [sub_zero, sub_zero] at this
      rw [this, mul_assoc]
    · refine Finset.sum_congr rfl fun i _ => ?_
      rw [w]
      ac_rfl

/-- The running sums, as a row of ones up to the diagonal gives them. -/
theorem lower_sum (C : Nat) (x : Nat → ℝ) (r : Fin C) :
    (∑ s : Fin C, if s.val ≤ r.val then (x s.val : EReal) else 0) = ((∑ i ∈ Finset.range (r.val + 1), x i : ℝ) : EReal) := by
  have e : ∀ n : Nat, ((∑ i ∈ Finset.range n, x i : ℝ) : EReal) = ∑ i ∈ Finset.range n, (x i : EReal) := by
    intro n
    induction n with
    | zero => simp
    | succ n ih => rw [Finset.sum_range_succ, Finset.sum_range_succ, EReal.coe_add, ih]
  rw [e, ← Finset.sum_range (fun i => if i ≤ r.val then (x i : EReal) else 0), ← Finset.sum_filter]
  refine Finset.sum_congr (Finset.ext fun i => ?_) fun _ _ => rfl
  have := r.isLt
  simp only [Finset.mem_filter, Finset.mem_range]
  omega

/-- The recurrence of one entry of a head's state, over a sequence's columns. -/
def gateAt (z : Nat → Fin 2048 → EReal) (l : Fin 2 → Fin 512 → EReal) (k : Fin 512) (t : Nat) : EReal := keep (bound l k) (z t (colF k))

theorem gateAt_pos (z : Nat → Fin 2048 → EReal) (l : Fin 2 → Fin 512 → EReal) (hl : ∀ r k, IsReal (l r k)) (k : Fin 512) (t : Nat) :
    0 < (gateAt z l k t).toReal := by
  obtain ⟨f, hf, e⟩ := keep_real (bound_real l k fun r => hl r k) (z t (colF k))
  unfold gateAt
  rw [e, EReal.toReal_coe]
  exact hf

theorem gateAt_eq (z : Nat → Fin 2048 → EReal) (l : Fin 2 → Fin 512 → EReal) (hl : ∀ r k, IsReal (l r k)) (k : Fin 512) (t : Nat) :
    gateAt z l k t = ((gateAt z l k t).toReal : EReal) := by
  obtain ⟨f, hf, e⟩ := keep_real (bound_real l k fun r => hl r k) (z t (colF k))
  unfold gateAt
  rw [e, EReal.toReal_coe]

/-- Entry `(d, c)` of head `h`'s state, `n` tokens after token `t`. -/
def goOn (z : Nat → Fin 2048 → EReal) (l : Fin 2 → Fin 512 → EReal) (h : Fin 4) (d c : Fin 128) (t n : Nat) (s : EReal) : EReal :=
  run (gateAt z l (col h d)) (fun i => 1 - gateAt z l (col h d) i) (fun i => z i (colI (col h c))) t n s

/-- The kernel's running sums of a chunk of 128, in the base-2 scale. -/
theorem running128 (g : Nat → ℝ) (hg : ∀ t, 0 < g t) (x : Fin 128 → EReal) (t : Nat) (hx : ∀ s : Fin 128, x s = (g (t + s.val) : EReal)) (r : Fin 128) :
    split3 (fun s => if s.val ≤ r.val then 1 else 0) (fun s => Ideal.div (Ideal.log (x s)) (Ideal.log (Ideal.ofBits .f32 1073741824#32)))
    = ((logSum g t (r.val + 1) / Real.log 2 : ℝ) : EReal) := by
  have e : ∀ s : Fin 128, Ideal.div (Ideal.log (x s)) (Ideal.log (Ideal.ofBits .f32 1073741824#32)) = ((Real.log (g (t + s.val)) / Real.log 2 : ℝ) : EReal) :=
    fun s => by rw [hx, log2_real (hg _)]
  rw [split3_real _ _ fun s => ⟨_, e s⟩]
  unfold logSum
  rw [Finset.sum_div, ← lower_sum 128 (fun i => Real.log (g (t + i)) / Real.log 2) r]
  refine Finset.sum_congr rfl fun s _ => ?_
  rw [e]
  by_cases hs : s.val ≤ r.val
  · rw [if_pos hs, if_pos hs, one_mul]
  · rw [if_neg hs, if_neg hs, zero_mul]

/-- A chunk of the kernel, as its step computes it, is 128 tokens of the recurrence. -/
theorem chunk128 (z : Nat → Fin 2048 → EReal) (l : Fin 2 → Fin 512 → EReal) (hl : ∀ r k, IsReal (l r k)) (h : Fin 4) (d c : Fin 128) (t : Nat)
    (s : EReal) (L : Nat → EReal) (hL : ∀ n, L n = ((logSum (fun i => (gateAt z l (col h d) i).toReal) t n / Real.log 2 : ℝ) : EReal)) :
    s * Ideal.exp2 (L 128) + ∑ i : Fin 128, z (t + i.val) (colI (col h c)) * ((1 - gateAt z l (col h d) (t + i.val)) * Ideal.exp2 (L 128 - L (i.val + 1)))
    = goOn z l h d c t 128 s := by
  unfold goOn
  rw [← chunk _ _ _ (fun i => (gateAt z l (col h d) i).toReal) (gateAt_pos z l hl _) (gateAt_eq z l hl _), Finset.sum_range, hL, exp2_log2, mul_comm s]
  congr 1
  refine Finset.sum_congr rfl fun i _ => ?_
  rw [hL, exp2_sub, mul_comm]

end Cert.Hgrn
end
-- ==== Proof.ChunkStep.lean ====
module
public import proofs.«01_k».proof.Proof.HgrnChunk
public import proofs.«01_k».proof.Proof.Gen.Kernel5Ideal.Value
public import Idealize.ShloMosaic.Lib.Pointwise
@[expose] public section

/-! What the long recurrence's kernel does to the state with one chunk of 128 tokens, entry by entry. -/

noncomputable section
namespace Cert.Kernel5Ideal.Hgrn
open Cert.Kernel5Ideal Cert.Kernel5Ideal.Gen Idealize.ShloMosaic Cert.Moe Cert.Merge Cert.Hgrn
open scoped BigOperators

/-- A chunk's values, what its tokens keep, the running sums of their logarithms, their weighed keys and the chunk's whole decay. -/
def chV (z : FVec Ideal S1x128x2048 .f32) : FVec Ideal S128x512 .bf16 := k0_pay23 (k0_pay15 z)
def chF (l : FVec Ideal S2x512 .f32) (z : FVec Ideal S1x128x2048 .f32) : FVec Ideal S128x512 .f32 := k0_pay20 (k0_pay11 l) (k0_pay18 l) (k0_pay19 z)
def chB (l : FVec Ideal S2x512 .f32) (z : FVec Ideal S1x128x2048 .f32) : FVec Ideal S128x512 .f32 := k0_pay22 (k0_pay11 l) k0_pay13 (k0_pay18 l) (k0_pay19 z)
def chK (l : FVec Ideal S2x512 .f32) (z : FVec Ideal S1x128x2048 .f32) : FVec Ideal S128x512 .bf16 :=
  k0_pay101 (k0_pay21 (k0_pay11 l) (k0_pay18 l) (k0_pay19 z)) (chB l z) (k0_pay59 (chB l z))
def chD (l : FVec Ideal S2x512 .f32) (z : FVec Ideal S1x128x2048 .f32) : FVec Ideal S1x512 .f32 := k0_pay106 (k0_pay59 (chB l z))

/-- The four heads' states after the chunk, each transposed. -/
def chunkStep (l : FVec Ideal S2x512 .f32) (z : FVec Ideal S1x128x2048 .f32) (w : Fin 4 → FVec Ideal S1x128x128 .f32) : Fin 4 → FVec Ideal S1x128x128 .f32 :=
  ![k0_pay249 (chV z) (chK l z) (chD l z) (w 0), k0_pay252 (chV z) (chK l z) (chD l z) (w 1),
    k0_pay255 (chV z) (chK l z) (chD l z) (w 2), k0_pay258 (chV z) (chK l z) (chD l z) (w 3)]

theorem head0 (c : Fin 128) : col 0 c = ⟨c.val, by omega⟩ := Fin.ext (by show 128 * 0 + c.val = c.val; omega)

section
variable (V K : FVec Ideal S128x512 .bf16) (D : FVec Ideal S1x512 .f32) (s : FVec Ideal S1x128x128 .f32) (v d : Fin 128)

theorem pay249_apply : k0_pay249 V K D s (ix3 0 v d)
    = (s (ix3 0 v d) * D (ix2 0 (col 0 d)) + ∑ i : Fin 128, V (ix2 i (col 0 v)) * K (ix2 i (col 0 d)) : EReal) := by
  unfold k0_pay249 k0_pay247
  pointwise
  simp only [head0]

theorem pay252_apply : k0_pay252 V K D s (ix3 0 v d)
    = (s (ix3 0 v d) * D (ix2 0 (col 1 d)) + ∑ i : Fin 128, V (ix2 i (col 1 v)) * K (ix2 i (col 1 d)) : EReal) := by
  unfold k0_pay252 k0_pay250
  pointwise
  rfl

theorem pay255_apply : k0_pay255 V K D s (ix3 0 v d)
    = (s (ix3 0 v d) * D (ix2 0 (col 2 d)) + ∑ i : Fin 128, V (ix2 i (col 2 v)) * K (ix2 i (col 2 d)) : EReal) := by
  unfold k0_pay255 k0_pay253
  pointwise
  rfl

theorem pay258_apply : k0_pay258 V K D s (ix3 0 v d)
    = (s (ix3 0 v d) * D (ix2 0 (col 3 d)) + ∑ i : Fin 128, V (ix2 i (col 3 v)) * K (ix2 i (col 3 d)) : EReal) := by
  unfold k0_pay258 k0_pay256
  pointwise
  rfl
end

section
variable (l : FVec Ideal S2x512 .f32) (z : FVec Ideal S1x128x2048 .f32)

abbrev lrow (r : Fin 2) (k : Fin 512) : EReal := l (ix2 r k)

theorem pay10_apply (k : Fin 512) : k0_pay10 (F := Ideal) l (ix2 0 k) = bound (lrow l) k := by
  unfold k0_pay10
  pointwise
  rfl

theorem pay11_apply (k : Fin 512) : k0_pay11 l (ix2 0 k) = (Ideal.ofBits .f32 1056964608#32 * (1 - bound (lrow l) k) : EReal) := by
  unfold k0_pay11
  pointwise
  rw [pay10_apply]

theorem pay18_apply (k : Fin 512) : k0_pay18 (F := Ideal) l (ix2 0 k) = (bound (lrow l) k + Ideal.ofBits .f32 1056964608#32 * (1 - bound (lrow l) k) : EReal) := by
  unfold k0_pay18
  pointwise
  rw [pay10_apply, pay11_apply]

theorem pay19_apply (r : Fin 128) (k : Fin 512) : k0_pay19 z (ix2 r k) = (Ideal.ofBits .f32 1056964608#32 * z (ix3 0 r (colF k)) : EReal) := by
  unfold k0_pay19 k0_pay14
  pointwise
  rfl

theorem chV_apply (r : Fin 128) (k : Fin 512) : chV z (ix2 r k) = z (ix3 0 r (colI k)) := by
  unfold chV k0_pay23 k0_pay15 k0_pay14
  pointwise
  rfl

theorem below : ∀ r s : Fin 128, IntOp.cmpi CmpIPredicate.sle (BitVec.ofNat 32 s.val) (BitVec.ofNat 32 r.val)
    = if s.val ≤ r.val then 1#1 else 0#1 := by decide +kernel

theorem sel {p : Prop} [Decidable p] (x y : EReal) : Scalar.select (if p then 1#1 else 0#1) x y = if p then x else y := by
  by_cases h : p <;> simp [h, Scalar.select]

theorem pay13_apply (r s : Fin 128) : (k0_pay13 : FVec Ideal S128x128 .bf16) (ix2 r s) = if s.val ≤ r.val then 1 else 0 := by
  unfold k0_pay13
  pointwise
  rw [below, sel]

variable (hl : ∀ r k, IsReal (l (ix2 r k)))
include hl

theorem chF_apply (r : Fin 128) (k : Fin 512) : chF l z (ix2 r k) = keep (bound (lrow l) k) (z (ix3 0 r (colF k))) := by
  unfold chF k0_pay20
  pointwise
  rw [pay11_apply, pay18_apply, pay19_apply]
  obtain ⟨b, -, -, e⟩ := bound_real (lrow l) k fun r => hl r k
  exact keep_tanh ⟨b, e⟩ _

omit hl in
theorem chB_split (r : Fin 128) (k : Fin 512) : chB l z (ix2 r k) = split3 (fun s => if s.val ≤ r.val then 1 else 0)
    (fun s => Ideal.div (Ideal.log (chF l z (ix2 s k))) (Ideal.log (Ideal.ofBits .f32 1073741824#32))) := by
  unfold chB k0_pay22
  pointwise
  simp only [pay13_apply]
  rfl

variable (Z : Nat → Fin 2048 → EReal) (t : Nat) (hz : ∀ (s : Fin 128) (k : Fin 2048), z (ix3 0 s k) = Z (t + s.val) k)
include hz

theorem chF_gate (r : Fin 128) (k : Fin 512) : chF l z (ix2 r k) = gateAt Z (lrow l) k (t + r.val) := by
  rw [chF_apply l z hl, hz]
  rfl

theorem chB_apply (r : Fin 128) (k : Fin 512) : chB l z (ix2 r k)
    = ((logSum (fun i => (gateAt Z (lrow l) k i).toReal) t (r.val + 1) / Real.log 2 : ℝ) : EReal) := by
  rw [chB_split]
  exact running128 _ (gateAt_pos Z (lrow l) hl k) _ t (fun s => (chF_gate l z hl Z t hz s k).trans (gateAt_eq Z (lrow l) hl k _)) r

theorem chD_apply (k : Fin 512) : chD l z (ix2 0 k)
    = Ideal.exp2 ((logSum (fun i => (gateAt Z (lrow l) k i).toReal) t 128 / Real.log 2 : ℝ) : EReal) := by
  unfold chD k0_pay106 k0_pay59
  pointwise
  exact congrArg _ (chB_apply l z hl Z t hz (⟨127, by omega⟩ : Fin 128) k)

theorem chK_apply (r : Fin 128) (k : Fin 512) : chK l z (ix2 r k)
    = ((1 - gateAt Z (lrow l) k (t + r.val)) * Ideal.exp2 (((logSum (fun i => (gateAt Z (lrow l) k i).toReal) t 128 / Real.log 2 : ℝ) : EReal)
        - ((logSum (fun i => (gateAt Z (lrow l) k i).toReal) t (r.val + 1) / Real.log 2 : ℝ) : EReal)) : EReal) := by
  unfold chK k0_pay101 k0_pay59 k0_pay21
  pointwise
  have e1 : chB l z (ix2 (⟨127, by omega⟩ : Fin 128) k) = _ := chB_apply l z hl Z t hz (⟨127, by omega⟩ : Fin 128) k
  have e2 := chF_gate l z hl Z t hz r k
  unfold chF at e2
  rw [chB_apply l z hl Z t hz r, e2]
  exact congrArg (fun y : EReal => (1 - gateAt Z (lrow l) k (t + r.val)) * Ideal.exp2 (y - _)) e1

/-- A chunk advances every head's state by 128 tokens. -/
theorem chunkStep_apply (w : Fin 4 → FVec Ideal S1x128x128 .f32) (h : Fin 4) (v d : Fin 128) :
    chunkStep l z w h (ix3 0 v d) = goOn Z (lrow l) h d v t 128 (w h (ix3 0 v d)) := by
  have e : chunkStep l z w h (ix3 0 v d) = (w h (ix3 0 v d) * chD l z (ix2 0 (col h d))
      + ∑ i : Fin 128, chV z (ix2 i (col h v)) * chK l z (ix2 i (col h d)) : EReal) := by
    match h with
    | 0 => exact pay249_apply ..
    | 1 => exact pay252_apply ..
    | 2 => exact pay255_apply ..
    | 3 => exact pay258_apply ..
  rw [e, ← chunk128 Z (lrow l) hl h d v t _ (fun n => ((logSum (fun i => (gateAt Z (lrow l) (col h d) i).toReal) t n / Real.log 2 : ℝ) : EReal)) fun _ => rfl,
    chD_apply l z hl Z t hz]
  simp only [chV_apply, hz, chK_apply l z hl Z t hz]
end

end Cert.Kernel5Ideal.Hgrn
end
-- ==== Proof.ChunkBlock.lean ====
module
public import proofs.«01_k».proof.Proof.ChunkStep
public import Idealize.ShloMosaic.Lib.Pipeline.ReadBack
@[expose] public section

/-! What one grid step of the long recurrence leaves in the carried state, and what the last one writes: four chunks' advance. -/

noncomputable section
namespace Cert.Kernel5Ideal.Hgrn
open Cert.Kernel5Ideal Cert.Kernel5Ideal.Gen Idealize.ShloMosaic Idealize.ShloMosaic.TcCoe Cert.Moe Cert.Merge Cert.Hgrn

/-- Four heads' states as one array. -/
def four (w : Fin 4 → FVec Ideal S1x128x128 .f32) : Vec Ideal S4x128x128 .f32 := fun i => w (i 0) (ix3 0 (i 1) (i 2))

/-- A head's rectangle of the carried state, and of the written one. -/
abbrev hr0 : Rect S4x128x128 := Rect.unit ![0, 0, 0] ![1, 128, 128] inb_S4x128x128_S1x128x128_0_0_0
abbrev hr1 : Rect S4x128x128 := Rect.unit ![1, 0, 0] ![1, 128, 128] inb_S4x128x128_S1x128x128_1_0_0
abbrev hr2 : Rect S4x128x128 := Rect.unit ![2, 0, 0] ![1, 128, 128] inb_S4x128x128_S1x128x128_2_0_0
abbrev hr3 : Rect S4x128x128 := Rect.unit ![3, 0, 0] ![1, 128, 128] inb_S4x128x128_S1x128x128_3_0_0

theorem in_rect {o : Nat} (inb : ∀ a, (![o, 0, 0] : Fin 3 → Nat) a + (![1, 128, 128] : Fin 3 → Nat) a ≤ S4x128x128.size a) (h : Fin 4) (ho : h.val = o) (v d : Fin 128) :
    (Rect.unit (s := S4x128x128) ![o, 0, 0] ![1, 128, 128] inb).emb (ix3 0 v d : S1x128x128.Idx) = (ix3 h v d : S4x128x128.Idx) := by
  funext a; apply Fin.ext
  match a with
  | ⟨0, _⟩ => show o + 1 * 0 = h.val; omega
  | ⟨1, _⟩ => show 0 + 1 * v.val = v.val; omega
  | ⟨2, _⟩ => show 0 + 1 * d.val = d.val; omega

theorem off_rect {o : Nat} (inb : ∀ a, (![o, 0, 0] : Fin 3 → Nat) a + (![1, 128, 128] : Fin 3 → Nat) a ≤ S4x128x128.size a) (h : Fin 4) (ho : h.val ≠ o) (v d : Fin 128) :
    (ix3 h v d : S4x128x128.Idx) ∉ (Rect.unit (s := S4x128x128) ![o, 0, 0] ![1, 128, 128] inb).set := by
  intro q
  have e := (Rect.mem_set_unit.mp q) 0
  have e1 : o ≤ h.val ∧ h.val < o + 1 := e
  omega

theorem eta3 (i : S4x128x128.Idx) : i = (ix3 (i 0) (i 1) (i 2) : S4x128x128.Idx) := by
  funext a
  match a with
  | ⟨0, _⟩ => rfl
  | ⟨1, _⟩ => rfl
  | ⟨2, _⟩ => rfl

theorem hit {o : Nat} (inb : ∀ a, (![o, 0, 0] : Fin 3 → Nat) a + (![1, 128, 128] : Fin 3 → Nat) a ≤ S4x128x128.size a) (h : Fin 4) (ho : h.val = o) (v d : Fin 128)
    (w : FVec Ideal S1x128x128 .f32) (L : List (View.Piece (Elt Ideal) S4x128x128 .f32)) :
    View.canon (Val := Elt Ideal) (⟨Rect.unit (s := S4x128x128) ![o, 0, 0] ![1, 128, 128] inb, w⟩ :: L) (ix3 h v d : S4x128x128.Idx) = w (ix3 0 v d) := by
  have e := View.canon_cons_emb (Val := Elt Ideal) (Rect.unit (s := S4x128x128) ![o, 0, 0] ![1, 128, 128] inb) w L (ix3 0 v d : S1x128x128.Idx)
  have g := in_rect inb h ho v d
  exact (congrArg (fun i => View.canon (Val := Elt Ideal) (⟨Rect.unit (s := S4x128x128) ![o, 0, 0] ![1, 128, 128] inb, w⟩ :: L) i) g.symm).trans e

theorem miss {o : Nat} (inb : ∀ a, (![o, 0, 0] : Fin 3 → Nat) a + (![1, 128, 128] : Fin 3 → Nat) a ≤ S4x128x128.size a) (h : Fin 4) (ho : h.val ≠ o) (v d : Fin 128)
    (w : FVec Ideal S1x128x128 .f32) (L : List (View.Piece (Elt Ideal) S4x128x128 .f32)) :
    View.canon (Val := Elt Ideal) (⟨Rect.unit (s := S4x128x128) ![o, 0, 0] ![1, 128, 128] inb, w⟩ :: L) (ix3 h v d : S4x128x128.Idx)
      = View.canon (Val := Elt Ideal) L (ix3 h v d : S4x128x128.Idx) :=
  View.canon_cons_of_not_mem (Val := Elt Ideal) _ _ (off_rect inb h ho v d)

theorem canon_four_at (w : Fin 4 → FVec Ideal S1x128x128 .f32) (L : List (View.Piece (Elt Ideal) S4x128x128 .f32)) (h : Fin 4) (v d : Fin 128) :
    View.canon (Val := Elt Ideal) (⟨hr3, w 3⟩ :: ⟨hr2, w 2⟩ :: ⟨hr1, w 1⟩ :: ⟨hr0, w 0⟩ :: L) (ix3 h v d : S4x128x128.Idx) = w h (ix3 0 v d) := by
  match h with
  | 3 => exact hit _ 3 rfl v d (w 3) _
  | 2 => exact (miss _ 2 (by decide) v d (w 3) _).trans (hit _ 2 rfl v d (w 2) _)
  | 1 => exact (miss _ 1 (by decide) v d (w 3) _).trans ((miss _ 1 (by decide) v d (w 2) _).trans (hit _ 1 rfl v d (w 1) _))
  | 0 => exact (miss _ 0 (by decide) v d (w 3) _).trans ((miss _ 0 (by decide) v d (w 2) _).trans ((miss _ 0 (by decide) v d (w 1) _).trans (hit _ 0 rfl v d (w 0) _)))

theorem canon_four (w : Fin 4 → FVec Ideal S1x128x128 .f32) (L : List (View.Piece (Elt Ideal) S4x128x128 .f32)) :
    View.canon (Val := Elt Ideal) (⟨hr3, w 3⟩ :: ⟨hr2, w 2⟩ :: ⟨hr1, w 1⟩ :: ⟨hr0, w 0⟩ :: L) = four w := by
  funext i
  exact (congrArg _ (eta3 i)).trans (canon_four_at w L (i 0) (i 1) (i 2))

/-- The four chunks of a block of 512 tokens. -/
def part0 (x : Vec Ideal S1x512x2048 .f32) : FVec Ideal S1x128x2048 .f32 := View.ld (Val := Elt Ideal) x (Rect.unit ![0, 0, 0] ![1, 128, 2048] inb_S1x512x2048_S1x128x2048_0_0_0)
def part1 (x : Vec Ideal S1x512x2048 .f32) : FVec Ideal S1x128x2048 .f32 := View.ld (Val := Elt Ideal) x (Rect.unit ![0, 128, 0] ![1, 128, 2048] inb_S1x512x2048_S1x128x2048_0_128_0)
def part2 (x : Vec Ideal S1x512x2048 .f32) : FVec Ideal S1x128x2048 .f32 := View.ld (Val := Elt Ideal) x (Rect.unit ![0, 256, 0] ![1, 128, 2048] inb_S1x512x2048_S1x128x2048_0_256_0)
def part3 (x : Vec Ideal S1x512x2048 .f32) : FVec Ideal S1x128x2048 .f32 := View.ld (Val := Elt Ideal) x (Rect.unit ![0, 384, 0] ![1, 128, 2048] inb_S1x512x2048_S1x128x2048_0_384_0)
def table (l : Vec Ideal S2x512 .f32) : FVec Ideal S2x512 .f32 := View.ld (Val := Elt Ideal) l (Rect.unit ![0, 0] ![2, 512] inb_S2x512_S2x512_0_0)

/-- A block's advance of the four states. -/
def blockStep (l : Vec Ideal S2x512 .f32) (x : Vec Ideal S1x512x2048 .f32) (w : Fin 4 → FVec Ideal S1x128x128 .f32) : Fin 4 → FVec Ideal S1x128x128 .f32 :=
  chunkStep (table l) (part3 x) (chunkStep (table l) (part2 x) (chunkStep (table l) (part1 x) (chunkStep (table l) (part0 x) w)))

/-- The states a step starts from: the carried ones, and at a sequence's start the given ones. -/
def carried (s : Vec Ideal S4x128x128 .f32) : Fin 4 → FVec Ideal S1x128x128 .f32 :=
  ![View.ld (Val := Elt Ideal) s hr0, View.ld (Val := Elt Ideal) s hr1, View.ld (Val := Elt Ideal) s hr2, View.ld (Val := Elt Ideal) s hr3]
def given (x : Vec Ideal S1x4x128x128 .f32) : Fin 4 → FVec Ideal S1x128x128 .f32 :=
  ![k0_pay6 (View.ld (Val := Elt Ideal) x (Rect.unit ![0, 0, 0, 0] ![1, 1, 128, 128] inb_S1x4x128x128_S1x1x128x128_0_0_0_0)),
    k0_pay7 (View.ld (Val := Elt Ideal) x (Rect.unit ![0, 1, 0, 0] ![1, 1, 128, 128] inb_S1x4x128x128_S1x1x128x128_0_1_0_0)),
    k0_pay8 (View.ld (Val := Elt Ideal) x (Rect.unit ![0, 2, 0, 0] ![1, 1, 128, 128] inb_S1x4x128x128_S1x1x128x128_0_2_0_0)),
    k0_pay9 (View.ld (Val := Elt Ideal) x (Rect.unit ![0, 3, 0, 0] ![1, 1, 128, 128] inb_S1x4x128x128_S1x1x128x128_0_3_0_0))]

section
variable (c : Dev nD) (i : grid0.Coords) (a2 : Memref sig .tc .vmem S1x512x2048 .f32) (h2 : a2.IsWhole) (a3 : Memref sig .tc .vmem S2x512 .f32) (h3 : a3.IsWhole)
  (a4 : Memref sig .tc .vmem S1x512 .f32) (h4 : a4.IsWhole) (a5 : Memref sig .tc .vmem S1x4x128x128 .f32) (h5 : a5.IsWhole)
  (a6 : Memref sig .tc .vmem S1x512x512 .bf16) (h6 : a6.IsWhole) (a7 : Memref sig .tc .vmem S1x4x128x128 .f32) (h7 : a7.IsWhole)
  (a8 : Memref sig .tc .vmem S4x128x128 .f32) (h8 : a8.IsWhole)
  (x0 : Vec Ideal S1x512x2048 .f32) (x1 : Vec Ideal S2x512 .f32) (x2 : Vec Ideal S1x512 .f32) (x3 : Vec Ideal S1x4x128x128 .f32) (xs0 : Vec Ideal S4x128x128 .f32)
set_option maxHeartbeats 2000000

theorem state_B (hc0 : ¬cond0_0 i) (hc1 : ¬cond0_1 i) :
    sout0_B_0 c i a2 h2 a3 h3 a4 h4 a5 h5 a6 h6 a7 h7 a8 h8 hc0 hc1 x0 x1 x2 x3 xs0 = four (blockStep x1 x0 (carried xs0)) := by
  unfold sout0_B_0
  rw [View.read_writes_junk_eq_canon]
  unfold kernelRun0_B
  dsimp only
  sl_unfold_words
  simp only [View.readAt_eq_ld, h2.read_unread, h3.read_unread, h4.read_unread, h5.read_unread, h8.read_unread]
  simp (discharger := decide) only [View.readCov_cons_toLoadRect, ↓View.readCov_skip]
  exact canon_four (blockStep x1 x0 (carried xs0)) _

theorem state_C (hc0 : ¬cond0_0 i) (hc1 : cond0_1 i) :
    sout0_C_0 c i a2 h2 a3 h3 a4 h4 a5 h5 a6 h6 a7 h7 a8 h8 hc0 hc1 x0 x1 x2 x3 xs0 = four (blockStep x1 x0 (carried xs0)) := by
  unfold sout0_C_0
  rw [View.read_writes_junk_eq_canon]
  unfold kernelRun0_C
  dsimp only
  sl_unfold_words
  simp only [View.readAt_eq_ld, h2.read_unread, h3.read_unread, h4.read_unread, h5.read_unread, h8.read_unread]
  simp (discharger := decide) only [View.readCov_cons_toLoadRect, ↓View.readCov_skip]
  exact canon_four (blockStep x1 x0 (carried xs0)) _

theorem state_A (hc0 : cond0_0 i) (hc1 : ¬cond0_1 i) :
    sout0_A_0 c i a2 h2 a3 h3 a4 h4 a5 h5 a6 h6 a7 h7 a8 h8 hc0 hc1 x0 x1 x2 x3 = four (blockStep x1 x0 (given x3)) := by
  unfold sout0_A_0
  rw [View.read_writes_junk_eq_canon]
  unfold kernelRun0_A
  dsimp only
  sl_unfold_words
  simp only [View.readAt_eq_ld, h2.read_unread, h3.read_unread, h4.read_unread, h5.read_unread, h8.read_unread]
  simp (discharger := decide) only [View.readCov_cons_toLoadRect, ↓View.readCov_skip]
  exact canon_four (blockStep x1 x0 (given x3)) _
end

/-! ### The written states -/

theorem hit4 {o : Nat} (inb : ∀ a, (![0, o, 0, 0] : Fin 4 → Nat) a + (![1, 1, 128, 128] : Fin 4 → Nat) a ≤ S1x4x128x128.size a) (h : Fin 4) (ho : h.val = o) (d v : Fin 128)
    (w : FVec Ideal S1x1x128x128 .f32) (L : List (View.Piece (Elt Ideal) S1x4x128x128 .f32)) :
    View.canon (Val := Elt Ideal) (⟨Rect.unit (s := S1x4x128x128) ![0, o, 0, 0] ![1, 1, 128, 128] inb, w⟩ :: L) (ix4 0 h d v : S1x4x128x128.Idx) = w (ix4 0 0 d v) := by
  have e := View.canon_cons_emb (Val := Elt Ideal) (Rect.unit (s := S1x4x128x128) ![0, o, 0, 0] ![1, 1, 128, 128] inb) w L (ix4 0 0 d v : S1x1x128x128.Idx)
  have g : (Rect.unit (s := S1x4x128x128) ![0, o, 0, 0] ![1, 1, 128, 128] inb).emb (ix4 0 0 d v : S1x1x128x128.Idx) = (ix4 0 h d v : S1x4x128x128.Idx) := by
    funext a; apply Fin.ext
    match a with
    | ⟨0, _⟩ => show 0 + 1 * 0 = 0; omega
    | ⟨1, _⟩ => show o + 1 * 0 = h.val; omega
    | ⟨2, _⟩ => show 0 + 1 * d.val = d.val; omega
    | ⟨3, _⟩ => show 0 + 1 * v.val = v.val; omega
  rw [g] at e
  exact e

theorem miss4 {o : Nat} (inb : ∀ a, (![0, o, 0, 0] : Fin 4 → Nat) a + (![1, 1, 128, 128] : Fin 4 → Nat) a ≤ S1x4x128x128.size a) (h : Fin 4) (ho : h.val ≠ o) (d v : Fin 128)
    (w : FVec Ideal S1x1x128x128 .f32) (L : List (View.Piece (Elt Ideal) S1x4x128x128 .f32)) :
    View.canon (Val := Elt Ideal) (⟨Rect.unit (s := S1x4x128x128) ![0, o, 0, 0] ![1, 1, 128, 128] inb, w⟩ :: L) (ix4 0 h d v : S1x4x128x128.Idx)
      = View.canon (Val := Elt Ideal) L (ix4 0 h d v : S1x4x128x128.Idx) := by
  refine View.canon_cons_of_not_mem (Val := Elt Ideal) _ _ fun q => ?_
  have q' : (ix4 0 h d v : S1x4x128x128.Idx) ∈ (Rect.unit (s := S1x4x128x128) ![0, o, 0, 0] ![1, 1, 128, 128] inb).set := q
  have e := (Rect.mem_set_unit.mp q') 1
  have e1 : o ≤ h.val ∧ h.val < o + 1 := e
  omega

/-- The four states, turned back. -/
def turned (w : Fin 4 → FVec Ideal S1x128x128 .f32) : Fin 4 → FVec Ideal S1x1x128x128 .f32 := ![k0_pay2 (w 0), k0_pay3 (w 1), k0_pay4 (w 2), k0_pay5 (w 3)]

theorem turned_apply (w : Fin 4 → FVec Ideal S1x128x128 .f32) (h : Fin 4) (d v : Fin 128) : turned w h (ix4 0 0 d v) = w h (ix3 0 v d) := by
  match h with
  | 0 => show k0_pay2 (w 0) (ix4 0 0 d v) = w 0 (ix3 0 v d); unfold k0_pay2; pointwise
  | 1 => show k0_pay3 (w 1) (ix4 0 0 d v) = w 1 (ix3 0 v d); unfold k0_pay3; pointwise
  | 2 => show k0_pay4 (w 2) (ix4 0 0 d v) = w 2 (ix3 0 v d); unfold k0_pay4; pointwise
  | 3 => show k0_pay5 (w 3) (ix4 0 0 d v) = w 3 (ix3 0 v d); unfold k0_pay5; pointwise

theorem canon_turned (o : Fin 4 → FVec Ideal S1x1x128x128 .f32) (L : List (View.Piece (Elt Ideal) S1x4x128x128 .f32)) (h : Fin 4) (d v : Fin 128) :
    View.canon (Val := Elt Ideal) (⟨Rect.unit ![0, 3, 0, 0] ![1, 1, 128, 128] inb_S1x4x128x128_S1x1x128x128_0_3_0_0, o 3⟩
      :: ⟨Rect.unit ![0, 2, 0, 0] ![1, 1, 128, 128] inb_S1x4x128x128_S1x1x128x128_0_2_0_0, o 2⟩
      :: ⟨Rect.unit ![0, 1, 0, 0] ![1, 1, 128, 128] inb_S1x4x128x128_S1x1x128x128_0_1_0_0, o 1⟩
      :: ⟨Rect.unit ![0, 0, 0, 0] ![1, 1, 128, 128] inb_S1x4x128x128_S1x1x128x128_0_0_0_0, o 0⟩ :: L) (ix4 0 h d v : S1x4x128x128.Idx) = o h (ix4 0 0 d v) := by
  match h with
  | 3 => exact hit4 _ 3 rfl d v (o 3) _
  | 2 => exact (miss4 _ 2 (by decide) d v (o 3) _).trans (hit4 _ 2 rfl d v (o 2) _)
  | 1 => exact (miss4 _ 1 (by decide) d v (o 3) _).trans ((miss4 _ 1 (by decide) d v (o 2) _).trans (hit4 _ 1 rfl d v (o 1) _))
  | 0 => exact (miss4 _ 0 (by decide) d v (o 3) _).trans ((miss4 _ 0 (by decide) d v (o 2) _).trans ((miss4 _ 0 (by decide) d v (o 1) _).trans (hit4 _ 0 rfl d v (o 0) _)))

section
variable (c : Dev nD) (i : grid0.Coords) (a2 : Memref sig .tc .vmem S1x512x2048 .f32) (h2 : a2.IsWhole) (a3 : Memref sig .tc .vmem S2x512 .f32) (h3 : a3.IsWhole)
  (a4 : Memref sig .tc .vmem S1x512 .f32) (h4 : a4.IsWhole) (a5 : Memref sig .tc .vmem S1x4x128x128 .f32) (h5 : a5.IsWhole)
  (a6 : Memref sig .tc .vmem S1x512x512 .bf16) (h6 : a6.IsWhole) (a7 : Memref sig .tc .vmem S1x4x128x128 .f32) (h7 : a7.IsWhole)
  (a8 : Memref sig .tc .vmem S4x128x128 .f32) (h8 : a8.IsWhole)
  (x0 : Vec Ideal S1x512x2048 .f32) (x1 : Vec Ideal S2x512 .f32) (x2 : Vec Ideal S1x512 .f32) (x3 : Vec Ideal S1x4x128x128 .f32) (xs0 : Vec Ideal S4x128x128 .f32)
set_option maxHeartbeats 2000000

theorem written_C (hc0 : ¬cond0_0 i) (hc1 : cond0_1 i) (h : Fin 4) (d v : Fin 128) :
    out0_C_5 c i a2 h2 a3 h3 a4 h4 a5 h5 a6 h6 a7 h7 a8 h8 hc0 hc1 x0 x1 x2 x3 xs0 (ix4 0 h d v : S1x4x128x128.Idx)
      = blockStep x1 x0 (carried xs0) h (ix3 0 v d) := by
  unfold out0_C_5
  rw [View.read_writes_junk_eq_canon]
  unfold kernelRun0_C
  dsimp only
  sl_unfold_words
  simp only [View.readAt_eq_ld, h2.read_unread, h3.read_unread, h4.read_unread, h5.read_unread, h8.read_unread]
  simp (discharger := decide) only [View.readCov_cons_toLoadRect, ↓View.readCov_skip]
  exact (canon_turned (turned (blockStep x1 x0 (carried xs0))) _ h d v).trans (turned_apply _ h d v)
end

/-! ### The block's reading -/

theorem carried_apply (w : Fin 4 → FVec Ideal S1x128x128 .f32) (h : Fin 4) (v d : Fin 128) : carried (four w) h (ix3 0 v d) = w h (ix3 0 v d) := by
  match h with
  | 0 => exact congrArg (four w) (in_rect inb_S4x128x128_S1x128x128_0_0_0 0 rfl v d)
  | 1 => exact congrArg (four w) (in_rect inb_S4x128x128_S1x128x128_1_0_0 1 rfl v d)
  | 2 => exact congrArg (four w) (in_rect inb_S4x128x128_S1x128x128_2_0_0 2 rfl v d)
  | 3 => exact congrArg (four w) (in_rect inb_S4x128x128_S1x128x128_3_0_0 3 rfl v d)

theorem ld4 {o : Nat} (inb : ∀ a, (![0, o, 0, 0] : Fin 4 → Nat) a + (![1, 1, 128, 128] : Fin 4 → Nat) a ≤ S1x4x128x128.size a) (h : Fin 4) (ho : h.val = o) (d v : Fin 128)
    (x : Vec Ideal S1x4x128x128 .f32) :
    View.ld (Val := Elt Ideal) x (Rect.unit ![0, o, 0, 0] ![1, 1, 128, 128] inb) (ix4 0 0 d v : S1x1x128x128.Idx) = x (ix4 0 h d v : S1x4x128x128.Idx) := by
  refine congrArg x (funext fun a => Fin.ext ?_)
  match a with
  | ⟨0, _⟩ => show 0 + 1 * 0 = 0; omega
  | ⟨1, _⟩ => show o + 1 * 0 = h.val; omega
  | ⟨2, _⟩ => show 0 + 1 * d.val = d.val; omega
  | ⟨3, _⟩ => show 0 + 1 * v.val = v.val; omega

theorem pay6_apply (y : FVec Ideal S1x1x128x128 .f32) (v d : Fin 128) : k0_pay6 y (ix3 0 v d) = y (ix4 0 0 d v) := by
  unfold k0_pay6
  pointwise

theorem pay7_apply (y : FVec Ideal S1x1x128x128 .f32) (v d : Fin 128) : k0_pay7 y (ix3 0 v d) = y (ix4 0 0 d v) := by
  unfold k0_pay7
  pointwise

theorem pay8_apply (y : FVec Ideal S1x1x128x128 .f32) (v d : Fin 128) : k0_pay8 y (ix3 0 v d) = y (ix4 0 0 d v) := by
  unfold k0_pay8
  pointwise

theorem pay9_apply (y : FVec Ideal S1x1x128x128 .f32) (v d : Fin 128) : k0_pay9 y (ix3 0 v d) = y (ix4 0 0 d v) := by
  unfold k0_pay9
  pointwise

theorem given_apply (x : Vec Ideal S1x4x128x128 .f32) (h : Fin 4) (v d : Fin 128) : given x h (ix3 0 v d) = x (ix4 0 h d v : S1x4x128x128.Idx) := by
  match h with
  | 0 => exact (pay6_apply _ v d).trans (ld4 inb_S1x4x128x128_S1x1x128x128_0_0_0_0 0 rfl d v x)
  | 1 => exact (pay7_apply _ v d).trans (ld4 inb_S1x4x128x128_S1x1x128x128_0_1_0_0 1 rfl d v x)
  | 2 => exact (pay8_apply _ v d).trans (ld4 inb_S1x4x128x128_S1x1x128x128_0_2_0_0 2 rfl d v x)
  | 3 => exact (pay9_apply _ v d).trans (ld4 inb_S1x4x128x128_S1x1x128x128_0_3_0_0 3 rfl d v x)

theorem part_apply {o : Nat} (inb : ∀ a, (![0, o, 0] : Fin 3 → Nat) a + (![1, 128, 2048] : Fin 3 → Nat) a ≤ S1x512x2048.size a) (x : Vec Ideal S1x512x2048 .f32) (s : Fin 128) (k : Fin 2048)
    (t : Fin 512) (ht : t.val = o + s.val) :
    View.ld (Val := Elt Ideal) x (Rect.unit ![0, o, 0] ![1, 128, 2048] inb) (ix3 0 s k : S1x128x2048.Idx) = x (ix3 0 t k : S1x512x2048.Idx) := by
  refine congrArg x (funext fun a => Fin.ext ?_)
  match a with
  | ⟨0, _⟩ => show 0 + 1 * 0 = 0; omega
  | ⟨1, _⟩ => show o + 1 * s.val = t.val; omega
  | ⟨2, _⟩ => show 0 + 1 * k.val = k.val; omega

theorem table_eq (l : Vec Ideal S2x512 .f32) (r : Fin 2) (k : Fin 512) : table l (ix2 r k) = l (ix2 r k : S2x512.Idx) := by
  refine congrArg l (funext fun a => Fin.ext ?_)
  match a with
  | ⟨0, _⟩ => show 0 + 1 * r.val = r.val; omega
  | ⟨1, _⟩ => show 0 + 1 * k.val = k.val; omega

/-- A block advances every head's state by 512 tokens. -/
theorem blockStep_apply (l : Vec Ideal S2x512 .f32) (x : Vec Ideal S1x512x2048 .f32) (w : Fin 4 → FVec Ideal S1x128x128 .f32)
    (hl : ∀ r k, IsReal (l (ix2 r k : S2x512.Idx))) (Z : Nat → Fin 2048 → EReal) (t : Nat)
    (hx : ∀ (s : Fin 512) (k : Fin 2048), x (ix3 0 s k : S1x512x2048.Idx) = Z (t + s.val) k) (h : Fin 4) (v d : Fin 128) :
    blockStep l x w h (ix3 0 v d) = goOn Z (fun r k => l (ix2 r k : S2x512.Idx)) h d v t 512 (w h (ix3 0 v d)) := by
  have et : lrow (table l) = fun r k => l (ix2 r k : S2x512.Idx) := funext fun r => funext fun k => table_eq l r k
  have hl' : ∀ r k, IsReal (table l (ix2 r k)) := fun r k => (table_eq l r k).symm ▸ hl r k
  have p0 : ∀ (s : Fin 128) (k : Fin 2048), part0 x (ix3 0 s k) = Z (t + s.val) k := fun s k =>
    (part_apply inb_S1x512x2048_S1x128x2048_0_0_0 x s k ⟨0 + s.val, by omega⟩ rfl).trans
      ((hx _ _).trans (congrArg (fun n => Z n k) (by show t + (0 + s.val) = t + s.val; omega)))
  have p1 : ∀ (s : Fin 128) (k : Fin 2048), part1 x (ix3 0 s k) = Z (t + 128 + s.val) k := fun s k =>
    (part_apply inb_S1x512x2048_S1x128x2048_0_128_0 x s k ⟨128 + s.val, by omega⟩ rfl).trans
      ((hx _ _).trans (congrArg (fun n => Z n k) (by show t + (128 + s.val) = t + 128 + s.val; omega)))
  have p2 : ∀ (s : Fin 128) (k : Fin 2048), part2 x (ix3 0 s k) = Z (t + 128 + 128 + s.val) k := fun s k =>
    (part_apply inb_S1x512x2048_S1x128x2048_0_256_0 x s k ⟨256 + s.val, by omega⟩ rfl).trans
      ((hx _ _).trans (congrArg (fun n => Z n k) (by show t + (256 + s.val) = t + 128 + 128 + s.val; omega)))
  have p3 : ∀ (s : Fin 128) (k : Fin 2048), part3 x (ix3 0 s k) = Z (t + 128 + 128 + 128 + s.val) k := fun s k =>
    (part_apply inb_S1x512x2048_S1x128x2048_0_384_0 x s k ⟨384 + s.val, by omega⟩ rfl).trans
      ((hx _ _).trans (congrArg (fun n => Z n k) (by show t + (384 + s.val) = t + 128 + 128 + 128 + s.val; omega)))
  unfold blockStep
  rw [chunkStep_apply _ _ hl' Z _ p3, chunkStep_apply _ _ hl' Z _ p2, chunkStep_apply _ _ hl' Z _ p1, chunkStep_apply _ _ hl' Z _ p0, et]
  unfold goOn
  rw [← run_add, ← run_add, ← run_add]

end Cert.Kernel5Ideal.Hgrn
end
-- ==== Proof.ChunkArray.lean ====
module
public import proofs.«01_k».proof.Proof.ChunkBlock
public import Idealize.ShloMosaic.Lib.StableHlo.ReadAt
@[expose] public section

/-! The long recurrence's final state: sixteen blocks of 512 tokens, one after another, for each sequence. -/

noncomputable section
namespace Cert.Kernel5Ideal.Hgrn
open Cert.Kernel5Ideal Cert.Kernel5Ideal.Gen Cert.Kernel5Ideal.Value Idealize.ShloMosaic Idealize.ShloMosaic.TcCoe Cert.Moe Cert.Merge Cert.Hgrn

/-- A grid point's blocks: 512 tokens of a sequence, or the whole of an array. -/
theorem idx_facts : ∀ t : Fin cfg0.N, (win0_0.index t (0 : Fin 3) = t.val / 16 ∧ win0_0.index t (1 : Fin 3) = t.val % 16 ∧ win0_0.index t (2 : Fin 3) = 0)
    ∧ (win0_1.index t (0 : Fin 2) = 0 ∧ win0_1.index t (1 : Fin 2) = 0)
    ∧ (win0_3.index t (0 : Fin 4) = 0 ∧ win0_3.index t (1 : Fin 4) = 0 ∧ win0_3.index t (2 : Fin 4) = 0 ∧ win0_3.index t (3 : Fin 4) = 0) :=
  (by decide +kernel : ∀ t : Fin grid0.N, _)

/-- The grid point of a sequence's block. -/
def point (b : Fin 2) (j : Fin 16) : Fin cfg0.N := (⟨16 * b.val + j.val, by have := b.isLt; have := j.isLt; show 16 * b.val + j.val < 32; omega⟩ : Fin grid0.N)

theorem emb0 (b : Fin 2) (j : Fin 16) (s : Fin 512) (k : Fin 2048) : ((cfg0.win 0).blk (point b j)).view.emb (ix3 0 s k : S1x512x2048.Idx)
    = (ix3 b ⟨512 * j.val + s.val, by omega⟩ k : S2x8192x2048.Idx) := by
  obtain ⟨⟨e0, e1, e2⟩, -⟩ := idx_facts (point b j)
  have hb : (point b j).val = 16 * b.val + j.val := rfl
  have hj := j.isLt
  funext a; apply Fin.ext
  match a with
  | ⟨0, _⟩ => show win0_0.index (point b j) (0 : Fin 3) * 1 + 1 * 0 = b.val; omega
  | ⟨1, _⟩ => show win0_0.index (point b j) (1 : Fin 3) * 512 + 1 * s.val = 512 * j.val + s.val; omega
  | ⟨2, _⟩ => show win0_0.index (point b j) (2 : Fin 3) * 2048 + 1 * k.val = k.val; omega

theorem emb1 (t : Fin cfg0.N) (z : S2x512.Idx) : ((cfg0.win 1).blk t).view.emb z = z := by
  obtain ⟨-, ⟨e0, e1⟩, -⟩ := idx_facts t
  funext a; apply Fin.ext
  match a with
  | ⟨0, _⟩ => show win0_1.index t (0 : Fin 2) * 2 + 1 * (z 0).val = (z 0).val; omega
  | ⟨1, _⟩ => show win0_1.index t (1 : Fin 2) * 512 + 1 * (z 1).val = (z 1).val; omega

theorem emb3 (t : Fin cfg0.N) (h : Fin 4) (d v : Fin 128) : ((cfg0.win 3).blk t).view.emb (ix4 0 h d v : S1x4x128x128.Idx) = (ix4 0 h d v : S1x4x128x128.Idx) := by
  obtain ⟨-, -, e0, e1, e2, e3⟩ := idx_facts t
  funext a; apply Fin.ext
  match a with
  | ⟨0, _⟩ => show win0_3.index t (0 : Fin 4) * 1 + 1 * 0 = 0; omega
  | ⟨1, _⟩ => show win0_3.index t (1 : Fin 4) * 4 + 1 * h.val = h.val; omega
  | ⟨2, _⟩ => show win0_3.index t (2 : Fin 4) * 128 + 1 * d.val = d.val; omega
  | ⟨3, _⟩ => show win0_3.index t (3 : Fin 4) * 128 + 1 * v.val = v.val; omega

variable (m : (ℓ : Loc nD τ sig) → Buf (Elt Ideal) ℓ) (c : Dev nD)

/-- The arguments' entries: a sequence's columns, the bound's table, the state at the start. -/
def aZ (b : Fin 2) (t : Nat) (k : Fin 2048) : EReal :=
  if h : t < 8192 then m ((c.tc : Thread nD τ).loc main_arg0) (ix3 b ⟨t, h⟩ k : S2x8192x2048.Idx) else 0
def aL (r : Fin 2) (k : Fin 512) : EReal := m ((c.tc : Thread nD τ).loc main_arg1) (ix2 r k : S2x512.Idx)
def aS (h : Fin 4) (d v : Fin 128) : EReal := m ((c.tc : Thread nD τ).loc main_arg3) (ix4 0 h d v : S1x4x128x128.Idx)

theorem blk0 (b : Fin 2) (j : Fin 16) (s : Fin 512) (k : Fin 2048) : iblk m c 0 (point b j) (ix3 0 s k : S1x512x2048.Idx) = aZ m c b (512 * j.val + s.val) k := by
  show V m c main_arg0 (((cfg0.win 0).blk (point b j)).view.emb (ix3 0 s k : S1x512x2048.Idx)) = _
  rw [emb0]
  have hlt : 512 * j.val + s.val < 8192 := by omega
  unfold aZ
  rw [dif_pos hlt]
  after_reads_at

theorem blk1 (t : Fin cfg0.N) (r : Fin 2) (k : Fin 512) : iblk m c 1 t (ix2 r k : S2x512.Idx) = aL m c r k := by
  show V m c main_arg1 (((cfg0.win 1).blk t).view.emb (ix2 r k : S2x512.Idx)) = _
  rw [emb1]
  after_reads_at
  rfl

theorem blk3 (t : Fin cfg0.N) (h : Fin 4) (d v : Fin 128) : iblk m c 3 t (ix4 0 h d v : S1x4x128x128.Idx) = aS m c h d v := by
  show V m c main_arg3 (((cfg0.win 3).blk t).view.emb (ix4 0 h d v : S1x4x128x128.Idx)) = _
  rw [emb3]
  after_reads_at
  rfl

variable (hl : ∀ r k, IsReal (aL m c r k))
include hl

/-- One block's advance, over the arguments. -/
theorem advance (b : Fin 2) (j : Fin 16) (w : Fin 4 → FVec Ideal S1x128x128 .f32) (h : Fin 4) (v d : Fin 128) :
    blockStep (iblk m c 1 (point b j)) (iblk m c 0 (point b j)) w h (ix3 0 v d) = goOn (aZ m c b) (aL m c) h d v (512 * j.val) 512 (w h (ix3 0 v d)) := by
  have et : (fun r k => (iblk m c 1 (point b j) : Vec Ideal S2x512 .f32) (ix2 r k : S2x512.Idx)) = aL m c := funext fun r => funext fun k => blk1 m c _ r k
  rw [blockStep_apply _ _ _ (fun r k => (blk1 m c (point b j) r k).symm ▸ hl r k) (aZ m c b) (512 * j.val) (fun s k => blk0 m c b j s k), et]

/-- What the carried state holds after a block. -/
theorem carried_at (b : Fin 2) (n : Nat) (hn : n < 16) : ∃ w : Fin 4 → FVec Ideal S1x128x128 .f32,
    (outsAt0 m c (point b ⟨n, hn⟩).val (point b ⟨n, hn⟩).isLt).2.2 = four w
      ∧ ∀ h v d, w h (ix3 0 v d) = goOn (aZ m c b) (aL m c) h d v 0 (512 * n + 512) (aS m c h d v) := by
  have hb := b.isLt
  have pv : ∀ j : Fin 16, (point b j).val = 16 * b.val + j.val := fun _ => rfl
  induction n with
  | zero =>
    have h0 : (point b ⟨0, hn⟩).val % 16 = 0 := by rw [pv]; show (16 * b.val + 0) % 16 = 0; omega
    have h1 : ¬ (point b ⟨0, hn⟩).val % 16 = 15 := by omega
    have q := congrArg (fun y => y.2.2) (outsAt0_A m c (point b ⟨0, hn⟩) h0 h1)
    dsimp only at q
    rw [state_A] at q
    refine ⟨_, q, fun h v d => ?_⟩
    rw [advance m c hl, given_apply, blk3]
    rfl
  | succ n ih =>
    obtain ⟨w, e, f⟩ := ih (by omega)
    have hp : (point b ⟨n + 1, hn⟩).val - 1 = (point b ⟨n, by omega⟩).val := by rw [pv, pv]; show 16 * b.val + (n + 1) - 1 = 16 * b.val + n; omega
    have ep : ∀ q, (outsAt0 m c ((point b ⟨n + 1, hn⟩).val - 1) q).2.2 = four w := by
      rw [hp]
      exact fun _ => e
    have h0 : ¬ (point b ⟨n + 1, hn⟩).val % 16 = 0 := by rw [pv]; show ¬ (16 * b.val + (n + 1)) % 16 = 0; omega
    have step : ∀ h v d, blockStep (iblk m c 1 (point b ⟨n + 1, hn⟩)) (iblk m c 0 (point b ⟨n + 1, hn⟩)) (carried (four w)) h (ix3 0 v d)
        = goOn (aZ m c b) (aL m c) h d v 0 (512 * (n + 1) + 512) (aS m c h d v) := by
      intro h v d
      rw [advance m c hl, carried_apply, f, show 512 * n + 512 = 512 * (n + 1) from rfl]
      unfold goOn
      rw [run_add _ _ _ 0 (512 * (n + 1)) 512, Nat.zero_add]
    by_cases h1 : (point b ⟨n + 1, hn⟩).val % 16 = 15
    · have q := congrArg (fun y => y.2.2) (outsAt0_C m c (point b ⟨n + 1, hn⟩) h0 h1)
      dsimp only at q
      rw [state_C, ep] at q
      exact ⟨_, q, step⟩
    · have q := congrArg (fun y => y.2.2) (outsAt0_B m c (point b ⟨n + 1, hn⟩) h0 h1)
      dsimp only at q
      rw [state_B, ep] at q
      exact ⟨_, q, step⟩

/-- What the last block writes. -/
theorem written_at (b : Fin 2) (h : Fin 4) (d v : Fin 128) :
    (outsAt0 m c (point b 15).val (point b 15).isLt).2.1 (ix4 0 h d v : S1x4x128x128.Idx) = goOn (aZ m c b) (aL m c) h d v 0 8192 (aS m c h d v) := by
  obtain ⟨w, e, f⟩ := carried_at m c hl b 14 (by omega)
  have hb := b.isLt
  have pv : ∀ j : Fin 16, (point b j).val = 16 * b.val + j.val := fun _ => rfl
  have hp : (point b 15).val - 1 = (point b ⟨14, by omega⟩).val := by rw [pv, pv]; show 16 * b.val + 15 - 1 = 16 * b.val + 14; omega
  have ep : ∀ q, (outsAt0 m c ((point b 15).val - 1) q).2.2 = four w := by
    rw [hp]
    exact fun _ => e
  have h0 : ¬ (point b 15).val % 16 = 0 := by rw [pv]; show ¬ (16 * b.val + 15) % 16 = 0; omega
  have h1 : (point b 15).val % 16 = 15 := by rw [pv]; show (16 * b.val + 15) % 16 = 15; omega
  have q := congrArg (fun y => y.2.1) (outsAt0_C m c (point b 15) h0 h1)
  dsimp only at q
  rw [q, written_C, ep, advance m c hl, carried_apply, f]
  unfold goOn
  exact (run_add _ _ _ 0 (512 * 15) 512 _).symm

theorem kernel5 (b : Fin 2) (h : Fin 4) (d v : Fin 128) : G5 m c (ix4 b h d v : S2x4x128x128.Idx)
    = goOn (aZ m c b) (aL m c) h d v 0 8192 (aS m c h d v) := by
  have hb := b.isLt
  have hh := h.isLt
  have hd := d.isLt
  have hv := v.isLt
  have ept : pt5Of (ix4 b h d v : S2x4x128x128.Idx) = (point b 15).val := by
    show 16 * (1 * (b.val / 1 - 0) + 1 * (h.val / 4 - 0) + 1 * (d.val / 128 - 0) + 1 * (v.val / 128 - 0)) + 15 = 16 * b.val + 15
    omega
  have el : loc5Of (ix4 b h d v : S2x4x128x128.Idx) = (ix4 0 h d v : S1x4x128x128.Idx) := by
    funext a; apply Fin.ext
    match a with
    | ⟨0, _⟩ => show b.val % 1 = 0; omega
    | ⟨1, _⟩ => show h.val % 4 = h.val; omega
    | ⟨2, _⟩ => show d.val % 128 = d.val; omega
    | ⟨3, _⟩ => show v.val % 128 = v.val; omega
  have key : ∀ (n : Nat) (hn : n < cfg0.N), n = (point b 15).val → (outsAt0 m c n hn).2.1 (ix4 0 h d v : S1x4x128x128.Idx) = goOn (aZ m c b) (aL m c) h d v 0 8192 (aS m c h d v) := by
    rintro n hn rfl
    exact written_at m c hl b h d v
  have hlt : pt5Of (ix4 b h d v : S2x4x128x128.Idx) < cfg0.N := ept ▸ (point b 15).isLt
  unfold G5
  rw [dif_pos hlt, ← outsAt0_sweep m c _ hlt, el]
  exact key _ hlt ept

end Cert.Kernel5Ideal.Hgrn
end
-- ==== Proof.ChunkSum.lean ====
module
public import proofs.«01_k».proof.Proof.HgrnChunk
public import proofs.«01_k».proof.Proof.Gen.Reference5Ideal.Run
public import Idealize.ShloMosaic.Lib.Pointwise
@[expose] public section

/-! The running sums of the long recurrence's reference, over the sixty-four tokens of a chunk. -/

noncomputable section
namespace Cert.Reference5Ideal.Hgrn
open Cert.Reference5Ideal Cert.Reference5Ideal.Gen Cert.Reference5Ideal.Value Idealize.ShloMosaic Cert.Moe
open scoped BigOperators

theorem window64 (n : Fin 64) (a : Fin 4) : (((⟨4, ![1, 64, 1, 1]⟩ : Shape).rowMajor.symm n) a).val = (![0, n.val, 0, 0] : Fin 4 → Nat) a := by
  revert n a; decide +kernel

/-- Adding up a list's terms one after another is their sum. -/
theorem fold_sum (n : Nat) (y : Fin n → EReal) : (List.finRange n).foldl (fun r i => r + y i) 0 = ∑ i, y i := by
  rw [Fin.sum_univ_def, List.sum_eq_foldl, List.foldl_map]

/-- A sum over a window that ends at a token is the sum over the tokens up to it. -/
theorem window_sum (y : Nat → EReal) (t : Fin 64) :
    (∑ n : Fin 64, if 63 ≤ t.val + n.val then y (t.val + n.val - 63) else 0) = ∑ i ∈ Finset.range (t.val + 1), y i := by
  have ht := t.isLt
  rw [← Finset.sum_range (fun n => if 63 ≤ t.val + n then y (t.val + n - 63) else 0),
    show Finset.range 64 = Finset.range ((63 - t.val) + (t.val + 1)) from congrArg Finset.range (by omega), Finset.sum_range_add, Finset.sum_eq_zero, zero_add]
  · refine Finset.sum_congr rfl fun i _ => ?_
    rw [if_pos (by omega)]
    exact congrArg y (by omega)
  · intro i hi
    have := Finset.mem_range.mp hi
    exact if_neg (by omega)

theorem running (x : FVec Ideal S2x64x4x128 .f32) (v : FVec Ideal S_ .f32) (hv : ∀ i, v i = 0) (b : Fin 2) (t : Fin 64) (h : Fin 4) (d : Fin 128)
    (y : Nat → EReal) (hy : ∀ s : Fin 64, x (ix4 b s h d) = y s.val) :
    Host.reduceWindowAdd ![1, 64, 1, 1] ![1, 1, 1, 1] ![0, 63, 0, 0] ![0, 0, 0, 0] x v
      reduceWindows_S2x64x4x128_S2x64x4x128_w1s1p0_0_w64s1p63_0_w1s1p0_0_w1s1p0_0 h_S_ (ix4 b t h d)
    = ∑ i ∈ Finset.range (t.val + 1), y i := by
  have e0 : Host.reduceWindowAdd ![1, 64, 1, 1] ![1, 1, 1, 1] ![0, 63, 0, 0] ![0, 0, 0, 0] x v
      reduceWindows_S2x64x4x128_S2x64x4x128_w1s1p0_0_w64s1p63_0_w1s1p0_0_w1s1p0_0 h_S_ (ix4 b t h d)
      = Host.reduceWindow (fun a b : EReal => a + b) ![1, 64, 1, 1] ![1, 1, 1, 1] ![0, 63, 0, 0] ![0, 0, 0, 0] x
    (fun _ : (⟨0, ![]⟩ : Shape).Idx => v (Shape.Idx.first h_S_))
      reduceWindows_S2x64x4x128_S2x64x4x128_w1s1p0_0_w64s1p63_0_w1s1p0_0_w1s1p0_0 (by decide) (ix4 b t h d) := rfl
  rw [e0, hv]
  have key : ∀ n : Fin 64, ∀ (P : Prop) (D : Decidable P) (hP : P ↔ 63 ≤ t.val + n.val) (w : P → EReal)
      (hw : ∀ p, w p = y (t.val + n.val - 63)), (if hin : P then w hin else (0 : EReal))
        = if 63 ≤ t.val + n.val then y (t.val + n.val - 63) else 0 := by
    intro n P D hP w hw
    by_cases q : P
    · rw [dif_pos q, if_pos (hP.mp q), hw]
    · rw [dif_neg q, if_neg (fun z => q (hP.mpr z))]
  have fold : Host.reduceWindow (fun a b : EReal => a + b) ![1, 64, 1, 1] ![1, 1, 1, 1] ![0, 63, 0, 0] ![0, 0, 0, 0] x
    (fun _ : (⟨0, ![]⟩ : Shape).Idx => (0 : EReal)) reduceWindows_S2x64x4x128_S2x64x4x128_w1s1p0_0_w64s1p63_0_w1s1p0_0_w1s1p0_0 (by decide) (ix4 b t h d)
    = (List.finRange 64).foldl (fun r n => r + if 63 ≤ t.val + n.val then y (t.val + n.val - 63) else 0) 0 := by
    unfold Host.reduceWindow
    dsimp only
    refine congrArg (fun f => (List.finRange 64).foldl f (0 : EReal)) ?_
    funext r n
    refine congrArg (fun y => r + y) (key n _ _ ?_ _ ?_)
    · constructor
      · intro q
        have := (q 1).1
        have e : ((⟨4, ![1, 64, 1, 1]⟩ : Shape).rowMajor.symm n 1).val = n.val := window64 n 1
        change 63 ≤ t.val * 1 + ((⟨4, ![1, 64, 1, 1]⟩ : Shape).rowMajor.symm n 1).val at this
        omega
      · intro q a
        have e : ((⟨4, ![1, 64, 1, 1]⟩ : Shape).rowMajor.symm n a).val = _ := window64 n a
        have hb := b.isLt; have ht := t.isLt; have hh := h.isLt; have hd := d.isLt
        have hn : n.val < 64 := n.isLt
        rw [e]
        match a with
        | 0 => exact ⟨by show 0 ≤ _; omega, by show b.val * 1 + 0 - 0 < 2; omega⟩
        | 1 => exact ⟨by show 63 ≤ t.val * 1 + n.val; omega, by show t.val * 1 + n.val - 63 < 64; omega⟩
        | 2 => exact ⟨by show 0 ≤ _; omega, by show h.val * 1 + 0 - 0 < 4; omega⟩
        | 3 => exact ⟨by show 0 ≤ _; omega, by show d.val * 1 + 0 - 0 < 128; omega⟩
    · intro q
      have ht := t.isLt
      have hn : n.val < 64 := n.isLt
      refine Eq.trans (congrArg x (funext fun a => Fin.ext ?_)) (hy ⟨t.val + n.val - 63, by omega⟩)
      have e : ((⟨4, ![1, 64, 1, 1]⟩ : Shape).rowMajor.symm n a).val = _ := window64 n a
      dsimp only
      rw [e]
      match a with
      | 0 => show b.val * 1 + 0 - 0 = b.val; omega
      | 1 => show t.val * 1 + n.val - 63 = t.val + n.val - 63; omega
      | 2 => show h.val * 1 + 0 - 0 = h.val; omega
      | 3 => show d.val * 1 + 0 - 0 = d.val; omega
  rw [fold, fold_sum, window_sum]

end Cert.Reference5Ideal.Hgrn
end
-- ==== Proof.ChunkRef.lean ====
module
public import proofs.«01_k».proof.Proof.ChunkSum
public import proofs.«01_k».proof.Proof.HgrnRef
public import Idealize.ShloMosaic.Lib.DynamicIndex
public import Idealize.ShloMosaic.Lib.StableHlo.ReadAt
@[expose] public section

/-! The long recurrence's reference: what its loop starts from, and what one trip does to the state. -/

noncomputable section
namespace Cert.Reference5Ideal.Hgrn
open Cert.Reference5Ideal Cert.Reference5Ideal.Gen Cert.Reference5Ideal.Value Idealize.ShloMosaic Cert.Moe Cert.Merge Cert.Hgrn
open Idealize.ShloMosaic.StableHlo
open scoped BigOperators

/-- What each token keeps. -/
def keeps (a0 : FVec Ideal S2x8192x2048 .f32) (a1 : FVec Ideal S2x512 .f32) : FVec Ideal S2x8192x512 .f32 :=
  addf (broadcastInDim S2x8192x512 ![0, 1, 2] bcast_S1x1x512_S2x8192x512_0_1_2 (broadcastInDim S1x1x512 ![2] bcast_S512_S1x1x512_2 (Cert.Reference4Ideal.Hgrn.bnd a1))) (mulf (broadcastInDim S2x8192x512 ![0, 1, 2] bcast_S1x1x512_S2x8192x512_0_1_2 (broadcastInDim S1x1x512 ![2] bcast_S512_S1x1x512_2 (subf (broadcastInDim S512 ![] bcast_S_S512 (constant S_ .f32 0x3F800000#32)) (Cert.Reference4Ideal.Hgrn.bnd a1)))) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (extractStridedSlice S2x8192x512 ![0, 0, 512] a0 slices_S2x8192x2048_S2x8192x512_0_0_512))))))

/-- An array of the tokens' columns, by chunk. -/
def chunks (x : FVec Ideal S2x8192x512 .f32) : FVec Ideal S128x2x64x4x128 .f32 :=
  transpose S128x2x64x4x128 [1, 0, 2, 3, 4] (shapeCast S2x128x64x4x128 (shapeCast S2x8192x4x128 x shapeCasts_S2x8192x512_S2x8192x4x128) shapeCasts_S2x8192x4x128_S2x128x64x4x128) transposes_S2x128x64x4x128_S128x2x64x4x128_1_0_2_3_4

/-- Token `t` of chunk `n`. -/
def tok (n : Fin 128) (t : Fin 64) : Fin 8192 := ⟨64 * n.val + t.val, by omega⟩

theorem chunks_apply (x : FVec Ideal S2x8192x512 .f32) (n : Fin 128) (b : Fin 2) (t : Fin 64) (h : Fin 4) (d : Fin 128) :
    chunks x (ix5 n b t h d) = x (ix3 b (tok n t) (col h d)) := by
  unfold chunks
  pointwise
  simp only [Nat.mul_comm h.val 128, Nat.mul_comm n.val 64]
  rfl

section
variable (m : (ℓ : Loc nD τ sig) → Buf (Elt Ideal) ℓ) (c : Dev nD)

abbrev arg0 : FVec Ideal S2x8192x2048 .f32 := m ((c.tc : Thread nD τ).loc main_arg0)
abbrev arg1 : FVec Ideal S2x512 .f32 := m ((c.tc : Thread nD τ).loc main_arg1)
abbrev arg3 : FVec Ideal S1x4x128x128 .f32 := m ((c.tc : Thread nD τ).loc main_arg3)

theorem entry1 : entryContents preI m c (Proc.devRef .tc main_v50_1)
    = chunks (subf (broadcastInDim S2x8192x512 ![] bcast_S_S2x8192x512 (constant S_ .f32 0x3F800000#32)) (keeps (arg0 m c) (arg1 m c))) := by
  simp only [entryContents, afterL_cons, afterL_nil]
  after_reads_simp
  rfl

theorem entry2 : entryContents preI m c (Proc.devRef .tc main_v50_2)
    = chunks (extractStridedSlice S2x8192x512 ![0, 0, 1024] (arg0 m c) slices_S2x8192x2048_S2x8192x512_0_0_1024) := by
  simp only [entryContents, afterL_cons, afterL_nil]
  after_reads_simp
  rfl

theorem entry3 : entryContents preI m c (Proc.devRef .tc main_v50_3) = chunks (Host.log (keeps (arg0 m c) (arg1 m c))) := by
  simp only [entryContents, afterL_cons, afterL_nil]
  after_reads_simp
  rfl

theorem entry5 : entryContents preI m c (Proc.devRef .tc main_v50_5)
    = broadcastInDim S2x4x128x128 ![0, 1, 2, 3] bcast_S1x4x128x128_S2x4x128x128_0_1_2_3 (arg3 m c) := by
  simp only [entryContents, afterL_cons, afterL_nil]
  after_reads_simp
  rfl
end

section
variable (a0 : FVec Ideal S2x8192x2048 .f32) (a1 : FVec Ideal S2x512 .f32)

/-- A sequence's columns, by token. -/
def zA (b : Fin 2) (t : Nat) (k : Fin 2048) : EReal := if h : t < 8192 then a0 (ix3 b ⟨t, h⟩ k) else 0
abbrev lA (r : Fin 2) (k : Fin 512) : EReal := a1 (ix2 r k)

theorem zA_tok (b : Fin 2) (n : Fin 128) (t : Fin 64) (k : Fin 2048) : zA a0 b (64 * n.val + t.val) k = a0 (ix3 b (tok n t) k) :=
  dif_pos (tok n t).isLt

theorem keeps_apply (b : Fin 2) (n : Fin 128) (t : Fin 64) (k : Fin 512) :
    keeps a0 a1 (ix3 b (tok n t) k) = gateAt (zA a0 b) (lA a1) k (64 * n.val + t.val) := by
  unfold gateAt
  rw [zA_tok]
  unfold keeps
  pointwise
  simp only [Cert.Reference4Ideal.Hgrn.bnd_apply]
  rfl
end

/-- A trip's read of its chunk. -/
theorem slice_apply (x : FVec Ideal S128x2x64x4x128 .f32) (start : Fin 5 → Int) (n : Fin 128) (hs : ∀ a, start a = ((![n.val, 0, 0, 0, 0] : Fin 5 → Nat) a : Int))
    (b : Fin 2) (t : Fin 64) (h : Fin 4) (d : Fin 128) :
    shapeCast S2x64x4x128 (Host.dynamicSlice S1x2x64x4x128 x start sliceFits_S128x2x64x4x128_S1x2x64x4x128) shapeCasts_S1x2x64x4x128_S2x64x4x128 (ix4 b t h d)
    = x (ix5 n b t h d) := by
  have hn := n.isLt
  have fits : S128x2x64x4x128.Slices (![n.val, 0, 0, 0, 0] : Fin 5 → Nat) S1x2x64x4x128 := ⟨rfl, fun a => by
    match a with
    | ⟨0, _⟩ => show n.val + 1 ≤ 128; omega
    | ⟨1, _⟩ => show 0 + 2 ≤ 2; omega
    | ⟨2, _⟩ => show 0 + 64 ≤ 64; omega
    | ⟨3, _⟩ => show 0 + 4 ≤ 4; omega
    | ⟨4, _⟩ => show 0 + 128 ≤ 128; omega⟩
  rw [Host.dynamicSlice_eq_extractStridedSlice S1x2x64x4x128 x start _ _ fits hs]
  pointwise

section
variable (V : Valuation τ sig (Elt Ideal)) (n : Fin 128) (hc : V (Proc.devRef .tc main_v50_4) = fun _ => BitVec.ofNat 32 n.val)
include hc

theorem starts (a : Fin 5) : ((![V (Proc.devRef .tc main_v50_4), constantI S_ 32 0#32, constantI S_ 32 0#32, constantI S_ 32 0#32, constantI S_ 32 0#32] : Fin 5 → (⟨S_, .i32⟩ : BufTy).Contents (Elt Ideal)) a (Shape.Idx.first h_S_)).toInt
    = ((![n.val, 0, 0, 0, 0] : Fin 5 → Nat) a : Int) := by
  have hn := n.isLt
  match a with
  | ⟨0, _⟩ =>
    show (V (Proc.devRef .tc main_v50_4) (Shape.Idx.first h_S_) : BitVec 32).toInt = (n.val : Int)
    rw [hc]
    exact toInt_ofNat_of_lt (by omega)
  | ⟨1, _⟩ => rfl
  | ⟨2, _⟩ => rfl
  | ⟨3, _⟩ => rfl
  | ⟨4, _⟩ => rfl

theorem keys_apply (b : Fin 2) (t : Fin 64) (h : Fin 4) (d : Fin 128) :
    res_main_while0b_v52 V (ix4 b t h d) = (V (Proc.devRef .tc main_v50_1) : FVec Ideal S128x2x64x4x128 .f32) (ix5 n b t h d) :=
  slice_apply _ _ n (starts V n hc) b t h d

theorem values_apply (b : Fin 2) (t : Fin 64) (h : Fin 4) (d : Fin 128) :
    res_main_while0b_v53 V (ix4 b t h d) = (V (Proc.devRef .tc main_v50_2) : FVec Ideal S128x2x64x4x128 .f32) (ix5 n b t h d) :=
  slice_apply _ _ n (starts V n hc) b t h d

variable (z : Fin 2 → Nat → Fin 2048 → EReal) (l : Fin 2 → Fin 512 → EReal) (hl : ∀ r k, IsReal (l r k))
  (hk : ∀ (b : Fin 2) (t : Fin 64) (h : Fin 4) (d : Fin 128), (V (Proc.devRef .tc main_v50_1) : FVec Ideal S128x2x64x4x128 .f32) (ix5 n b t h d) = (1 - gateAt (z b) l (col h d) (64 * n.val + t.val) : EReal))
  (hv : ∀ (b : Fin 2) (t : Fin 64) (h : Fin 4) (d : Fin 128), (V (Proc.devRef .tc main_v50_2) : FVec Ideal S128x2x64x4x128 .f32) (ix5 n b t h d) = z b (64 * n.val + t.val) (colI (col h d)))
  (hg : ∀ (b : Fin 2) (t : Fin 64) (h : Fin 4) (d : Fin 128), (V (Proc.devRef .tc main_v50_3) : FVec Ideal S128x2x64x4x128 .f32) (ix5 n b t h d) = Ideal.log (gateAt (z b) l (col h d) (64 * n.val + t.val)))
include hl hg

theorem sums_apply (b : Fin 2) (t : Fin 64) (h : Fin 4) (d : Fin 128) :
    res_main_while0b_v55 V (ix4 b t h d) = (logSum (fun i => (gateAt (z b) l (col h d) i).toReal) (64 * n.val) (t.val + 1) : EReal) := by
  unfold res_main_while0b_v55
  refine (running _ _ (fun i => ?_) b t h d (fun i => (Real.log (gateAt (z b) l (col h d) (64 * n.val + i)).toReal : EReal)) fun s => ?_).trans ?_
  · pointwise
  · refine (slice_apply _ _ n (starts V n hc) b s h d).trans ((hg b s h d).trans ?_)
    exact (congrArg Ideal.log (gateAt_eq (z b) l hl (col h d) _)).trans (log_real (gateAt_pos (z b) l hl (col h d) _))
  · unfold logSum
    generalize t.val + 1 = q
    induction q with
    | zero => rfl
    | succ q ih => rw [Finset.sum_range_succ, Finset.sum_range_succ, EReal.coe_add, ih]

theorem last_apply (b : Fin 2) (h : Fin 4) (d : Fin 128) :
    res_main_while0b_v80 V (ix3 b h d) = (logSum (fun i => (gateAt (z b) l (col h d) i).toReal) (64 * n.val) 64 : EReal) := by
  unfold res_main_while0b_v80
  pointwise
  exact sums_apply V n hc z l hl hg b 63 h d

include hk hv

/-- One trip is sixty-four tokens of the recurrence. -/
theorem step_apply (b : Fin 2) (h : Fin 4) (d j : Fin 128) :
    step_main_v50_5 V (ix4 b h d j) = goOn (z b) l h d j (64 * n.val) 64 ((V (Proc.devRef .tc main_v50_5) : FVec Ideal S2x4x128x128 .f32) (ix4 b h d j)) := by
  unfold step_main_v50_5 goOn
  rw [← chunk _ _ _ (fun i => (gateAt (z b) l (col h d) i).toReal) (gateAt_pos (z b) l hl _) (gateAt_eq (z b) l hl _), Finset.sum_range]
  rw [id_eq]
  pointwise
  simp only [keys_apply V n hc, values_apply V n hc, hk, hv, last_apply V n hc z l hl hg, sums_apply V n hc z l hl hg, exp_real, ← EReal.coe_sub]
end

/-- The loop's state after `n` trips: the counter, the arrays it reads, and the recurrence's state. -/
theorem trips (m : (ℓ : Loc nD τ sig) → Buf (Elt Ideal) ℓ) (c : Dev nD) (hl : ∀ r k, IsReal (lA (arg1 m c) r k)) (n : Nat) (hn : n ≤ 128) :
    let V := STEP^[n] (entryContents preI m c)
    V (Proc.devRef .tc main_v50_4) = (fun _ => BitVec.ofNat 32 n)
    ∧ V (Proc.devRef .tc main_v50_1) = entryContents preI m c (Proc.devRef .tc main_v50_1)
    ∧ V (Proc.devRef .tc main_v50_2) = entryContents preI m c (Proc.devRef .tc main_v50_2)
    ∧ V (Proc.devRef .tc main_v50_3) = entryContents preI m c (Proc.devRef .tc main_v50_3)
    ∧ ∀ (b : Fin 2) (h : Fin 4) (d j : Fin 128), (V (Proc.devRef .tc main_v50_5) : FVec Ideal S2x4x128x128 .f32) (ix4 b h d j)
        = goOn (zA (arg0 m c) b) (lA (arg1 m c)) h d j 0 (64 * n) (arg3 m c (ix4 0 h d j)) := by
  induction n with
  | zero =>
    refine ⟨ctr_entry m c, rfl, rfl, rfl, fun b h d j => ?_⟩
    show (entryContents preI m c (Proc.devRef .tc main_v50_5) : FVec Ideal S2x4x128x128 .f32) (ix4 b h d j) = _
    rw [entry5]
    pointwise
    rfl
  | succ n ih =>
    obtain ⟨e4, e1, e2, e3, e5⟩ := ih (by omega)
    intro V
    have eV : V = STEP (STEP^[n] (entryContents preI m c)) := Function.iterate_succ_apply' STEP n _
    rw [eV]
    refine ⟨?_, (STEP_main_v50_1 _).trans e1, (STEP_main_v50_2 _).trans e2, (STEP_main_v50_3 _).trans e3, fun b h d j => ?_⟩
    · rw [STEP_main_v50_4]
      unfold step_main_v50_4
      rw [e4]
      funext i
      show BitVec.ofNat 32 n + 1#32 = BitVec.ofNat 32 (n + 1)
      rw [BitVec.ofNat_add]
    · rw [STEP_main_v50_5]
      refine (step_apply _ ⟨n, by omega⟩ e4 (zA (arg0 m c)) (lA (arg1 m c)) hl ?_ ?_ ?_ b h d j).trans ?_
      · intro b t h d
        rw [e1, entry1, chunks_apply]
        pointwise
        rw [keeps_apply]
      · intro b t h d
        rw [e2, entry2, chunks_apply, zA_tok]
        pointwise
        rfl
      · intro b t h d
        rw [e3, entry3, chunks_apply]
        pointwise
        rw [keeps_apply]
      · rw [e5, show 64 * (n + 1) = 64 * n + 64 from rfl]
        unfold goOn
        rw [run_add _ _ _ 0 (64 * n) 64, Nat.zero_add]

/-- The reference's final state. -/
theorem state_apply (m : (ℓ : Loc nD τ sig) → Buf (Elt Ideal) ℓ) (c : Dev nD) (hl : ∀ r k, IsReal (lA (arg1 m c) r k))
    (b : Fin 2) (h : Fin 4) (d j : Fin 128) :
    ((STEP^[128] (entryContents preI m c)) (Proc.devRef .tc main_v50_5) : FVec Ideal S2x4x128x128 .f32) (ix4 b h d j)
    = goOn (zA (arg0 m c) b) (lA (arg1 m c)) h d j 0 8192 (arg3 m c (ix4 0 h d j)) :=
  (trips m c hl 128 le_rfl).2.2.2.2 b h d j

end Cert.Reference5Ideal.Hgrn
end
-- ==== Proof.ChunkEqual.lean ====
module
public import proofs.«01_k».proof.Proof.Finite
public import proofs.«01_k».proof.Proof.ChunkArray
public import proofs.«01_k».proof.Proof.ChunkRef
public import proofs.«01_k».proof.Proof.Gen.Pre_finite5
@[expose] public section

/-! The long recurrence's final state and its reference's are the same function of the same arguments, where the bound's
    table holds real numbers. -/

noncomputable section
namespace Cert.Hgrn
open Idealize.ShloMosaic Idealize.ShloMosaic.TcCoe Cert.Moe

/-- What the precondition says: every entry of the table is a real number. -/
theorem all_real5 (a0 : FVec Ideal Cert.Pre_finite5.S2x8192x2048 .f32) (a1 : FVec Ideal Cert.Pre_finite5.S2x512 .f32)
    (a2 : FVec Ideal Cert.Pre_finite5.S1x128 .f32) (a3 : FVec Ideal Cert.Pre_finite5.S1x4x128x128 .f32)
    (h : Cert.Pre_finite5.fn (F := Ideal) a0 a1 a2 a3 = fun _ => 1#1) : ∀ i, IsReal (a1 i) :=
  Cert.Pre_finite.Moe.real_of_all a1 _ _ (congrFun h (fun a : Fin 0 => a.elim0))

open Cert.Reference5Ideal.Gen Cert.Reference5Ideal.Value StableHlo in
theorem long_state (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h1 : ∀ i, IsReal (m ((c : Thread Cert.Kernel5Ideal.nD Cert.Kernel5Ideal.τ).loc Cert.Kernel5Ideal.main_arg1) i))
    (e0 : m ((c : Thread Cert.Kernel5Ideal.nD Cert.Kernel5Ideal.τ).loc Cert.Kernel5Ideal.main_arg0) = Cert.Reference5Ideal.Hgrn.arg0 m' c)
    (e1 : m ((c : Thread Cert.Kernel5Ideal.nD Cert.Kernel5Ideal.τ).loc Cert.Kernel5Ideal.main_arg1) = Cert.Reference5Ideal.Hgrn.arg1 m' c)
    (e3 : m ((c : Thread Cert.Kernel5Ideal.nD Cert.Kernel5Ideal.τ).loc Cert.Kernel5Ideal.main_arg3) = Cert.Reference5Ideal.Hgrn.arg3 m' c) :
    (STEP^[128] (entryContents preI m' c)) (Proc.devRef .tc Cert.Reference5Ideal.main_v50_5)
    = (Cert.Kernel5Ideal.Gen.dats m 0 c).arrAt 5 Cert.Kernel5Ideal.cfg0.N := by
  have hl : ∀ r k, IsReal (Cert.Reference5Ideal.Hgrn.lA (Cert.Reference5Ideal.Hgrn.arg1 m' c) r k) := fun r k => by
    rw [← e1]
    exact h1 _
  rw [Cert.Kernel5Ideal.Value.final5]
  funext q
  obtain ⟨b, h, d, j, rfl⟩ : ∃ (b : Fin 2) (h : Fin 4) (d j : Fin 128), q = (ix4 b h d j : Cert.Kernel5Ideal.S2x4x128x128.Idx) :=
    ⟨q 0, q 1, q 2, q 3, Idealize.ShloMosaic.eq_ix4 q⟩
  refine (Cert.Reference5Ideal.Hgrn.state_apply m' c hl b h d j).trans (Eq.trans ?_ (Cert.Kernel5Ideal.Hgrn.kernel5 m c (fun r k => h1 _) b h d j).symm)
  rw [← e0, ← e1, ← e3]
  rfl

end Cert.Hgrn
end
-- ==== Proof.MetaSum.lean ====
module
public import proofs.«01_k».proof.Proof.HgrnChunk
@[expose] public section

/-! The gated recurrence over a chunk from what its tokens keep, also where a token keeps nothing and its logarithm is
    minus infinity. -/

noncomputable section
namespace Cert.Hgrn
open Idealize.ShloMosaic Cert.Moe Cert.Merge
open scoped BigOperators

/-- The logarithms of what the tokens keep, summed over the first of them. -/
def sumLog (f : Nat → EReal) (n : Nat) : EReal := ∑ i ∈ Finset.range n, Ideal.log (f i)

/-- The state after the first tokens, from the state before them. -/
def after (f v : Nat → EReal) (n : Nat) (s : EReal) : EReal :=
  s * Ideal.exp (sumLog f n) + ∑ i ∈ Finset.range n, v i * ((1 - f i) * Ideal.exp (sumLog f n - sumLog f (i + 1)))

/-! ### What is not plus infinity -/

theorem real_of_ne {x : EReal} (h : x ≠ ⊤) : x = ⊥ ∨ IsReal x := by
  induction x with
  | bot => exact Or.inl rfl
  | top => exact absurd rfl h
  | coe r => exact Or.inr ⟨r, rfl⟩

theorem exp_low {x T : EReal} (h : x ≤ T) : ∃ r : ℝ, 0 ≤ r ∧ Ideal.exp (x - T) = (r : EReal) := by
  induction T with
  | bot => exact ⟨0, le_refl _, by rw [le_bot_iff.mp h, EReal.bot_sub]; rfl⟩
  | top => exact ⟨0, le_refl _, by rw [EReal.sub_top]; rfl⟩
  | coe t =>
    rcases real_of_ne (ne_top_of_le_ne_top (EReal.coe_ne_top t) h) with rfl | ⟨r, rfl⟩
    · exact ⟨0, le_refl _, by rw [EReal.bot_sub]; rfl⟩
    · exact ⟨Real.exp (r - t), (Real.exp_pos _).le, by rw [← EReal.coe_sub, exp_real]⟩

/-- The bound of any table: a real number, or minus infinity where both weights vanish. -/
theorem bound_cases (l : Fin 2 → Fin 512 → EReal) (k : Fin 512) : bound l k = ⊥ ∨ IsReal (bound l k) := by
  have e : top l k = max (l 0 k) (l 1 k) := by
    unfold top
    rw [bits_negInf, show (Finset.univ : Finset (Fin 2)) = {0, 1} from rfl, Finset.fold_insert (by decide), Finset.fold_singleton]
    simp
  obtain ⟨x, px, hx⟩ := exp_low (e ▸ le_max_left _ _ : l 0 k ≤ top l k)
  obtain ⟨y, py, hy⟩ := exp_low (e ▸ le_max_right _ _ : l 1 k ≤ top l k)
  unfold bound
  rw [Fin.sum_univ_two, hx, hy, ← EReal.coe_add]
  by_cases hs : x + y = 0
  · have hd : Ideal.div (x : EReal) ((x + y : ℝ) : EReal) = if (0 : EReal) < x then ⊤ else ⊥ := by
      unfold Ideal.div
      rw [hs, EReal.coe_zero, if_pos rfl]
    have x0 : x = 0 := by linarith
    rw [hd, x0, EReal.coe_zero, if_neg (lt_irrefl _)]
    exact Or.inl rfl
  · exact Or.inr ⟨_, div_real _ _ hs⟩

/-- The kernel's form of what a token keeps, at any table. -/
theorem kept_tanh (l : Fin 2 → Fin 512 → EReal) (k : Fin 512) (x : EReal) :
    bound l k + Ideal.ofBits .f32 1056964608#32 * (1 - bound l k)
        + Ideal.ofBits .f32 1056964608#32 * (1 - bound l k) * Ideal.tanh (Ideal.ofBits .f32 1056964608#32 * x)
      = keep (bound l k) x := by
  rcases bound_cases l k with e | e
  · unfold keep
    rw [e, EReal.bot_add, EReal.bot_add, EReal.bot_add]
  · exact keep_tanh e x

theorem log_ne {x : EReal} (h : x ≠ ⊤) : Ideal.log x ≠ ⊤ := by
  rcases real_of_ne h with rfl | ⟨r, rfl⟩
  · exact bot_ne_top
  · show (if r ≤ 0 then (⊥ : EReal) else (Real.log r : EReal)) ≠ ⊤
    by_cases p : r ≤ 0
    · rw [if_pos p]; exact bot_ne_top
    · rw [if_neg p]; exact EReal.coe_ne_top _

theorem gateAt_ne (z : Nat → Fin 2048 → EReal) (l : Fin 2 → Fin 512 → EReal) (k : Fin 512) (t : Nat) : gateAt z l k t ≠ ⊤ := by
  unfold gateAt keep
  rcases bound_cases l k with e | ⟨b, e⟩
  · rw [e, EReal.bot_add]; exact bot_ne_top
  · obtain ⟨g, -, eg⟩ := gate_real (z t (colF k))
    rw [e, eg, show (1 : EReal) = ((1 : ℝ) : EReal) from EReal.coe_one.symm, ← EReal.coe_sub, ← EReal.coe_mul, ← EReal.coe_add]
    exact EReal.coe_ne_top _

theorem sum_ne {ι : Type} (s : Finset ι) (x : ι → EReal) (h : ∀ i, x i ≠ ⊤) : ∑ i ∈ s, x i ≠ ⊤ := by
  classical
  induction s using Finset.induction_on with
  | empty => rw [Finset.sum_empty]; exact EReal.zero_ne_top
  | insert a s ha ih => rw [Finset.sum_insert ha]; exact EReal.add_ne_top (h a) ih

theorem sum_bot {ι : Type} [Fintype ι] [DecidableEq ι] (x : ι → EReal) (i : ι) (h : x i = ⊥) : ∑ i, x i = ⊥ := by
  rw [← Finset.add_sum_erase _ _ (Finset.mem_univ i), h, EReal.bot_add]

/-! ### The base-2 scale -/

/-- A logarithm's scale to base 2. -/
def scale : EReal := ((Real.log 2)⁻¹ : ℝ)

theorem div_log2 (x : EReal) : Ideal.div x (Ideal.log (Ideal.ofBits .f32 1073741824#32)) = x * scale := by
  rw [bits_two, log_real two_pos]
  unfold Ideal.div scale
  rw [if_neg (by rw [← EReal.coe_zero, EReal.coe_eq_coe_iff]; exact log2_pos.ne'), EReal.coe_inv]

theorem scale_ne {x : EReal} (h : x ≠ ⊤) : x * scale ≠ ⊤ := by
  unfold scale
  rcases real_of_ne h with rfl | ⟨r, rfl⟩
  · rw [EReal.bot_mul_coe_of_pos (inv_pos.mpr log2_pos)]; exact bot_ne_top
  · rw [← EReal.coe_mul]; exact EReal.coe_ne_top _

theorem scale_sum (s : Finset Nat) (x : Nat → EReal) : ∑ i ∈ s, x i * scale = (∑ i ∈ s, x i) * scale := by
  unfold scale
  induction s using Finset.induction_on with
  | empty => rw [Finset.sum_empty, Finset.sum_empty, zero_mul]
  | insert a s ha ih =>
    rw [Finset.sum_insert ha, Finset.sum_insert ha, ih,
      EReal.right_distrib_of_nonneg_of_ne_top (EReal.coe_nonneg.mpr (inv_pos.mpr log2_pos).le) (EReal.coe_ne_top _)]

theorem exp2_scale {x : EReal} (h : x ≠ ⊤) : Ideal.exp2 (x * scale) = Ideal.exp x := by
  unfold scale
  rcases real_of_ne h with rfl | ⟨r, rfl⟩
  · rw [EReal.bot_mul_coe_of_pos (inv_pos.mpr log2_pos)]; rfl
  · rw [← EReal.coe_mul, ← div_eq_mul_inv, exp2_log2, exp_real]

theorem exp2_scale_sub {x y : EReal} (hx : x ≠ ⊤) (hy : y ≠ ⊤) : Ideal.exp2 (x * scale - y * scale) = Ideal.exp (x - y) := by
  unfold scale
  rcases real_of_ne hx with rfl | ⟨r, rfl⟩
  · rw [EReal.bot_mul_coe_of_pos (inv_pos.mpr log2_pos), EReal.bot_sub, EReal.bot_sub]; rfl
  · rcases real_of_ne hy with rfl | ⟨q, rfl⟩
    · rw [EReal.bot_mul_coe_of_pos (inv_pos.mpr log2_pos), ← EReal.coe_mul, EReal.coe_sub_bot, EReal.coe_sub_bot]; rfl
    · rw [← EReal.coe_mul, ← EReal.coe_mul, ← div_eq_mul_inv, ← div_eq_mul_inv, exp2_sub, ← EReal.coe_sub, exp_real]

/-! ### The kernel's sums over a padded chunk -/

/-- The kernel's sum up to a row is the sum, also where an entry is minus infinity. -/
theorem split3_low (x : Fin 128 → EReal) (h : ∀ s, x s ≠ ⊤) (r : Fin 128) :
    split3 (fun s => if s.val ≤ r.val then 1 else 0) x = ∑ s, if s.val ≤ r.val then x s else 0 := by
  unfold split3
  have e : ∀ s : Fin 128, (if s.val ≤ r.val then (1 : EReal) else 0) * x s = if s.val ≤ r.val then x s else 0 := fun s => by
    by_cases hs : s.val ≤ r.val
    · rw [if_pos hs, if_pos hs, one_mul]
    · rw [if_neg hs, if_neg hs, zero_mul]
  by_cases hb : ∃ s : Fin 128, s.val ≤ r.val ∧ x s = ⊥
  · obtain ⟨s, hs, hx⟩ := hb
    rw [sum_bot (fun s : Fin 128 => (if s.val ≤ r.val then (1 : EReal) else 0) * x s) s (by rw [e, if_pos hs, hx]),
      sum_bot (fun s : Fin 128 => if s.val ≤ r.val then x s else 0) s (by rw [if_pos hs, hx]), EReal.bot_add, EReal.bot_add]
  · have z : ∀ s : Fin 128, s.val ≤ r.val → x s - x s = 0 := fun s hs =>
      ((real_of_ne (h s)).resolve_left fun q => hb ⟨s, hs, q⟩).sub_self
    have z2 : ∀ s ∈ Finset.univ, (if s.val ≤ r.val then (1 : EReal) else 0) * (x s - x s) = 0 := fun s _ => by
      by_cases hs : s.val ≤ r.val
      · rw [z s hs, mul_zero]
      · rw [if_neg hs, zero_mul]
    have z3 : ∀ s ∈ Finset.univ, (if s.val ≤ r.val then (1 : EReal) else 0) * (x s - x s - (x s - x s)) = 0 := fun s _ => by
      by_cases hs : s.val ≤ r.val
      · rw [z s hs, sub_zero, mul_zero]
      · rw [if_neg hs, zero_mul]
    rw [Finset.sum_congr rfl fun s _ => e s, Finset.sum_eq_zero z2, Finset.sum_eq_zero z3, add_zero, add_zero]

/-- A sum over a padded range, whose padding adds nothing. -/
theorem padded_sum {M : Type} [AddCommMonoid M] (C n : Nat) (x : Nat → M) :
    (∑ i ∈ Finset.range C, if i < n then x i else 0) = ∑ i ∈ Finset.range (min C n), x i := by
  rw [← Finset.sum_filter]
  refine Finset.sum_congr (Finset.ext fun i => ?_) fun _ _ => rfl
  simp only [Finset.mem_filter, Finset.mem_range]
  omega

/-- The rows up to one of them. -/
theorem upTo (x : Nat → EReal) (r : Fin 128) : (∑ s : Fin 128, if s.val ≤ r.val then x s.val else 0) = ∑ i ∈ Finset.range (r.val + 1), x i := by
  rw [← Finset.sum_range (fun s => if s ≤ r.val then x s else 0)]
  simp only [← Nat.lt_succ_iff]
  rw [padded_sum]
  exact Finset.sum_congr (congrArg Finset.range (Nat.min_eq_right r.isLt)) fun _ _ => rfl

theorem sumLog_ne (f : Nat → EReal) (hf : ∀ t, f t ≠ ⊤) (n : Nat) : sumLog f n ≠ ⊤ := sum_ne _ _ fun i => log_ne (hf i)

/-- The kernel's running sums of a padded chunk, in the base-2 scale. -/
theorem runningPadded (f : Nat → EReal) (hf : ∀ t, f t ≠ ⊤) (n : Nat) (x : Fin 128 → EReal) (hx : ∀ s : Fin 128, s.val < n → x s = f s.val) (r : Fin 128) :
    split3 (fun s => if s.val ≤ r.val then 1 else 0)
      (fun s => if s.val < n then Ideal.div (Ideal.log (x s)) (Ideal.log (Ideal.ofBits .f32 1073741824#32)) else 0)
    = sumLog f (min (r.val + 1) n) * scale := by
  have e : ∀ s : Fin 128, (if s.val < n then Ideal.div (Ideal.log (x s)) (Ideal.log (Ideal.ofBits .f32 1073741824#32)) else 0)
      = if s.val < n then Ideal.log (f s.val) * scale else 0 := fun s => by
    by_cases hs : s.val < n
    · rw [if_pos hs, if_pos hs, hx s hs, div_log2]
    · rw [if_neg hs, if_neg hs]
  simp only [e]
  rw [split3_low]
  · rw [upTo (fun i => if i < n then Ideal.log (f i) * scale else 0) r, padded_sum, scale_sum]
    rfl
  · intro s
    by_cases hs : s.val < n
    · rw [if_pos hs]; exact scale_ne (log_ne (hf _))
    · rw [if_neg hs]; exact EReal.zero_ne_top

/-- A padded chunk of the kernel, as its step computes it, is its tokens of the recurrence. -/
theorem chunkPadded (f v : Nat → EReal) (hf : ∀ t, f t ≠ ⊤) (n : Nat) (hn : n ≤ 128) (s : EReal) (V K : Fin 128 → EReal)
    (hV : ∀ i : Fin 128, V i = if i.val < n then v i.val else 0)
    (hK : ∀ i : Fin 128, i.val < n → K i = (1 - f i.val) * Ideal.exp2 (sumLog f n * scale - sumLog f (i.val + 1) * scale)) :
    s * Ideal.exp2 (sumLog f n * scale) + ∑ i : Fin 128, V i * K i = after f v n s := by
  unfold after
  rw [exp2_scale (sumLog_ne f hf n), ← (congrArg Finset.range (Nat.min_eq_right hn)), ← padded_sum, Finset.sum_range]
  congr 1
  refine Finset.sum_congr rfl fun i _ => ?_
  rw [hV]
  by_cases hi : i.val < n
  · rw [if_pos hi, if_pos hi, hK i hi, exp2_scale_sub (sumLog_ne f hf n) (sumLog_ne f hf _)]
  · rw [if_neg hi, if_neg hi, zero_mul]

end Cert.Hgrn
end
-- ==== Proof.MetaStep.lean ====
module
public import proofs.«01_k».proof.Proof.MetaSum
public import proofs.«01_k».proof.Proof.Gen.Kernel6Ideal.Value
public import Idealize.ShloMosaic.Lib.Pointwise
@[expose] public section

/-! What the recurrence's kernel does to the state with sixteen tokens, padded to a chunk of 128, entry by entry. -/

noncomputable section
namespace Cert.Kernel6Ideal.Hgrn
open Cert.Kernel6Ideal Cert.Kernel6Ideal.Gen Idealize.ShloMosaic Cert.Moe Cert.Merge Cert.Hgrn
open scoped BigOperators

/-- The tokens' values, what they keep, the running sums of its logarithms, the weighed keys and the whole decay. -/
def mtV (z : FVec Ideal S1x16x2048 .f32) : FVec Ideal S128x512 .bf16 := k0_pay24 (k0_pay16 z)
def mtF (l : FVec Ideal S2x512 .f32) (z : FVec Ideal S1x16x2048 .f32) : FVec Ideal S128x512 .f32 := k0_pay20 (k0_pay11 l) (k0_pay15 z) (k0_pay19 l)
def mtB (l : FVec Ideal S2x512 .f32) (z : FVec Ideal S1x16x2048 .f32) : FVec Ideal S128x512 .f32 := k0_pay23 (k0_pay11 l) k0_pay13 (k0_pay15 z) (k0_pay19 l)
def mtL (l : FVec Ideal S2x512 .f32) (z : FVec Ideal S1x16x2048 .f32) : FVec Ideal S1x512 .f32 := k0_pay26 (k0_pay11 l) k0_pay13 (k0_pay15 z) (k0_pay19 l)
def mtK (l : FVec Ideal S2x512 .f32) (z : FVec Ideal S1x16x2048 .f32) : FVec Ideal S128x512 .bf16 :=
  k0_pay40 (k0_pay22 (k0_pay11 l) (k0_pay15 z) (k0_pay19 l)) (mtB l z) (mtL l z)
def mtD (l : FVec Ideal S2x512 .f32) (z : FVec Ideal S1x16x2048 .f32) : FVec Ideal S1x512 .f32 := k0_pay45 (mtL l z)

/-- The four heads' states after the tokens, each transposed. -/
def metaStep (l : FVec Ideal S2x512 .f32) (z : FVec Ideal S1x16x2048 .f32) (w : Fin 4 → FVec Ideal S1x128x128 .f32) : Fin 4 → FVec Ideal S1x128x128 .f32 :=
  ![k0_pay50 (mtV z) (mtK l z) (mtD l z) (k0_pay46 (w 0)), k0_pay53 (mtV z) (mtK l z) (mtD l z) (w 1),
    k0_pay57 (mtV z) (mtK l z) (k0_pay54 (w 2)) (k0_pay56 (mtD l z)), k0_pay60 (mtV z) (mtK l z) (mtD l z) (w 3)]

theorem head0 (c : Fin 128) : col 0 c = ⟨c.val, by omega⟩ := Fin.ext (by show 128 * 0 + c.val = c.val; omega)

section
variable (V K : FVec Ideal S128x512 .bf16) (D : FVec Ideal S1x512 .f32) (s : FVec Ideal S1x128x128 .f32) (v d : Fin 128)

theorem pay50_apply : k0_pay50 V K D (k0_pay46 s) (ix3 0 v d)
    = (s (ix3 0 v d) * D (ix2 0 (col 0 d)) + ∑ i : Fin 128, V (ix2 i (col 0 v)) * K (ix2 i (col 0 d)) : EReal) := by
  unfold k0_pay50 k0_pay46
  pointwise
  simp only [head0]

theorem pay53_apply : k0_pay53 V K D s (ix3 0 v d)
    = (s (ix3 0 v d) * D (ix2 0 (col 1 d)) + ∑ i : Fin 128, V (ix2 i (col 1 v)) * K (ix2 i (col 1 d)) : EReal) := by
  unfold k0_pay53 k0_pay51
  pointwise
  rfl

theorem pay57_apply : k0_pay57 V K (k0_pay54 s) (k0_pay56 D) (ix3 0 v d)
    = (s (ix3 0 v d) * D (ix2 0 (col 2 d)) + ∑ i : Fin 128, V (ix2 i (col 2 v)) * K (ix2 i (col 2 d)) : EReal) := by
  unfold k0_pay57 k0_pay54 k0_pay56
  pointwise
  rfl

theorem pay60_apply : k0_pay60 V K D s (ix3 0 v d)
    = (s (ix3 0 v d) * D (ix2 0 (col 3 d)) + ∑ i : Fin 128, V (ix2 i (col 3 v)) * K (ix2 i (col 3 d)) : EReal) := by
  unfold k0_pay60 k0_pay58
  pointwise
  rfl
end

section
variable (l : FVec Ideal S2x512 .f32) (z : FVec Ideal S1x16x2048 .f32)

abbrev lrow (r : Fin 2) (k : Fin 512) : EReal := l (ix2 r k)

theorem pay10_apply (k : Fin 512) : k0_pay10 (F := Ideal) l (ix2 0 k) = bound (lrow l) k := by
  unfold k0_pay10
  pointwise
  rfl

theorem pay11_apply (k : Fin 512) : k0_pay11 l (ix2 0 k) = (Ideal.ofBits .f32 1056964608#32 * (1 - bound (lrow l) k) : EReal) := by
  unfold k0_pay11
  pointwise
  rw [pay10_apply]

theorem pay19_apply (k : Fin 512) : k0_pay19 (F := Ideal) l (ix2 0 k) = (bound (lrow l) k + Ideal.ofBits .f32 1056964608#32 * (1 - bound (lrow l) k) : EReal) := by
  unfold k0_pay19
  pointwise
  rw [pay10_apply, pay11_apply]

theorem pay14_apply (r : Fin 128) (k : Fin 2048) : k0_pay14 z (ix2 r k) = if h : r.val < 16 then z (ix3 0 ⟨r.val, h⟩ k) else 0 := by
  unfold k0_pay14
  pointwise

theorem pay15_apply (r : Fin 128) (k : Fin 512) : k0_pay15 z (ix2 r k) = if h : r.val < 16 then z (ix3 0 ⟨r.val, h⟩ (colF k)) else 0 := by
  unfold k0_pay15
  pointwise
  exact pay14_apply z _ _

theorem mtV_apply (r : Fin 128) (k : Fin 512) : mtV z (ix2 r k) = if h : r.val < 16 then z (ix3 0 ⟨r.val, h⟩ (colI k)) else 0 := by
  unfold mtV k0_pay24 k0_pay16
  pointwise
  exact pay14_apply z _ _

theorem below : ∀ r s : Fin 128, IntOp.cmpi CmpIPredicate.sle (BitVec.ofNat 32 s.val) (BitVec.ofNat 32 r.val)
    = if s.val ≤ r.val then 1#1 else 0#1 := by decide +kernel

theorem sel {p : Prop} [Decidable p] (x y : EReal) : Scalar.select (if p then 1#1 else 0#1) x y = if p then x else y := by
  by_cases h : p <;> simp [h, Scalar.select]

theorem pay13_apply (r s : Fin 128) : (k0_pay13 : FVec Ideal S128x128 .bf16) (ix2 r s) = if s.val ≤ r.val then 1 else 0 := by
  unfold k0_pay13
  pointwise
  rw [below, sel]

theorem pay21_apply (r : Fin 128) (k : Fin 512) : k0_pay21 (ix2 r k) = if r.val < 16 then 1#1 else 0#1 := by
  unfold k0_pay21
  pointwise
  revert r; decide +kernel

theorem mtF_apply (r : Fin 128) (h : r.val < 16) (k : Fin 512) : mtF l z (ix2 r k) = keep (bound (lrow l) k) (z (ix3 0 ⟨r.val, h⟩ (colF k))) := by
  unfold mtF k0_pay20
  pointwise
  rw [pay11_apply, pay19_apply, pay15_apply, dif_pos h]
  exact kept_tanh (lrow l) k _

theorem mtB_split (r : Fin 128) (k : Fin 512) : mtB l z (ix2 r k) = split3 (fun s => if s.val ≤ r.val then 1 else 0)
    (fun s => if s.val < 16 then Ideal.div (Ideal.log (mtF l z (ix2 s k))) (Ideal.log (Ideal.ofBits .f32 1073741824#32)) else 0) := by
  unfold mtB k0_pay23
  pointwise
  simp only [pay13_apply, pay21_apply, sel]
  unfold split3
  simp only [mul_ite, mul_zero]
  rfl

variable (Z : Nat → Fin 2048 → EReal) (hz : ∀ (s : Fin 16) (k : Fin 2048), z (ix3 0 s k) = Z s.val k)
include hz

theorem mtF_gate (r : Fin 128) (h : r.val < 16) (k : Fin 512) : mtF l z (ix2 r k) = gateAt Z (lrow l) k r.val := by
  rw [mtF_apply l z r h, hz]
  rfl

theorem mtB_apply (r : Fin 128) (k : Fin 512) : mtB l z (ix2 r k) = sumLog (gateAt Z (lrow l) k) (min (r.val + 1) 16) * scale := by
  rw [mtB_split]
  exact runningPadded _ (gateAt_ne Z (lrow l) k) 16 _ (fun s hs => mtF_gate l z Z hz s hs k) r

theorem mtL_apply (k : Fin 512) : mtL l z (ix2 0 k) = sumLog (gateAt Z (lrow l) k) 16 * scale := by
  unfold mtL k0_pay26
  pointwise
  exact mtB_apply l z Z hz (⟨127, by omega⟩ : Fin 128) k

theorem mtD_apply (k : Fin 512) : mtD l z (ix2 0 k) = Ideal.exp2 (sumLog (gateAt Z (lrow l) k) 16 * scale) := by
  unfold mtD k0_pay45
  pointwise
  exact congrArg _ (mtL_apply l z Z hz k)

theorem mtK_apply (r : Fin 128) (h : r.val < 16) (k : Fin 512) : mtK l z (ix2 r k)
    = ((1 - gateAt Z (lrow l) k r.val) * Ideal.exp2 (sumLog (gateAt Z (lrow l) k) 16 * scale - sumLog (gateAt Z (lrow l) k) (r.val + 1) * scale) : EReal) := by
  unfold mtK k0_pay40 k0_pay22
  pointwise
  have e2 := mtF_gate l z Z hz r h k
  unfold mtF at e2
  have e3 := mtB_apply l z Z hz r k
  rw [show min (r.val + 1) 16 = r.val + 1 by omega] at e3
  rw [e3, e2, mtL_apply l z Z hz, pay21_apply, sel, if_pos h]
  rfl

/-- The step advances every head's state by the sixteen tokens. -/
theorem metaStep_apply (w : Fin 4 → FVec Ideal S1x128x128 .f32) (h : Fin 4) (v d : Fin 128) :
    metaStep l z w h (ix3 0 v d) = after (gateAt Z (lrow l) (col h d)) (fun t => Z t (colI (col h v))) 16 (w h (ix3 0 v d)) := by
  have e : metaStep l z w h (ix3 0 v d) = (w h (ix3 0 v d) * mtD l z (ix2 0 (col h d))
      + ∑ i : Fin 128, mtV z (ix2 i (col h v)) * mtK l z (ix2 i (col h d)) : EReal) := by
    match h with
    | 0 => exact pay50_apply ..
    | 1 => exact pay53_apply ..
    | 2 => exact pay57_apply ..
    | 3 => exact pay60_apply ..
  rw [e, mtD_apply l z Z hz]
  refine chunkPadded _ _ (gateAt_ne Z (lrow l) _) 16 (by omega) _ _ _ (fun i => ?_) fun i hi => mtK_apply l z Z hz i hi _
  rw [mtV_apply]
  by_cases hi : i.val < 16
  · rw [dif_pos hi, if_pos hi, hz]
  · rw [dif_neg hi, if_neg hi]
end

end Cert.Kernel6Ideal.Hgrn
end
-- ==== Proof.MetaBlock.lean ====
module
public import proofs.«01_k».proof.Proof.MetaStep
public import proofs.«01_k».proof.Proof.ChunkBlock
@[expose] public section

/-! The state that the recurrence's one grid step writes after the sixteen tokens. -/

noncomputable section
namespace Cert.Kernel6Ideal.Hgrn
open Cert.Kernel6Ideal Cert.Kernel6Ideal.Gen Idealize.ShloMosaic Idealize.ShloMosaic.TcCoe Cert.Moe Cert.Merge Cert.Hgrn

/-- What the step reads: the sixteen tokens, the bound's table, and the four given states, each transposed. -/
def tokens (x : Vec Ideal S1x16x2048 .f32) : FVec Ideal S1x16x2048 .f32 := View.ld (Val := Elt Ideal) x (Rect.unit ![0, 0, 0] ![1, 16, 2048] inb_S1x16x2048_S1x16x2048_0_0_0)
def table (l : Vec Ideal S2x512 .f32) : FVec Ideal S2x512 .f32 := View.ld (Val := Elt Ideal) l (Rect.unit ![0, 0] ![2, 512] inb_S2x512_S2x512_0_0)
def given (x : Vec Ideal S1x4x128x128 .f32) : Fin 4 → FVec Ideal S1x128x128 .f32 :=
  ![k0_pay6 (View.ld (Val := Elt Ideal) x (Rect.unit ![0, 0, 0, 0] ![1, 1, 128, 128] inb_S1x4x128x128_S1x1x128x128_0_0_0_0)),
    k0_pay7 (View.ld (Val := Elt Ideal) x (Rect.unit ![0, 1, 0, 0] ![1, 1, 128, 128] inb_S1x4x128x128_S1x1x128x128_0_1_0_0)),
    k0_pay8 (View.ld (Val := Elt Ideal) x (Rect.unit ![0, 2, 0, 0] ![1, 1, 128, 128] inb_S1x4x128x128_S1x1x128x128_0_2_0_0)),
    k0_pay9 (View.ld (Val := Elt Ideal) x (Rect.unit ![0, 3, 0, 0] ![1, 1, 128, 128] inb_S1x4x128x128_S1x1x128x128_0_3_0_0))]

/-- The four states, turned back. -/
def turned (w : Fin 4 → FVec Ideal S1x128x128 .f32) : Fin 4 → FVec Ideal S1x1x128x128 .f32 := ![k0_pay2 (w 0), k0_pay3 (w 1), k0_pay4 (w 2), k0_pay5 (w 3)]

theorem turned_apply (w : Fin 4 → FVec Ideal S1x128x128 .f32) (h : Fin 4) (d v : Fin 128) : turned w h (ix4 0 0 d v) = w h (ix3 0 v d) := by
  match h with
  | 0 => show k0_pay2 (w 0) (ix4 0 0 d v) = w 0 (ix3 0 v d); unfold k0_pay2; pointwise
  | 1 => show k0_pay3 (w 1) (ix4 0 0 d v) = w 1 (ix3 0 v d); unfold k0_pay3; pointwise
  | 2 => show k0_pay4 (w 2) (ix4 0 0 d v) = w 2 (ix3 0 v d); unfold k0_pay4; pointwise
  | 3 => show k0_pay5 (w 3) (ix4 0 0 d v) = w 3 (ix3 0 v d); unfold k0_pay5; pointwise

theorem pay6_apply (y : FVec Ideal S1x1x128x128 .f32) (v d : Fin 128) : k0_pay6 y (ix3 0 v d) = y (ix4 0 0 d v) := by
  unfold k0_pay6
  pointwise

theorem pay7_apply (y : FVec Ideal S1x1x128x128 .f32) (v d : Fin 128) : k0_pay7 y (ix3 0 v d) = y (ix4 0 0 d v) := by
  unfold k0_pay7
  pointwise

theorem pay8_apply (y : FVec Ideal S1x1x128x128 .f32) (v d : Fin 128) : k0_pay8 y (ix3 0 v d) = y (ix4 0 0 d v) := by
  unfold k0_pay8
  pointwise

theorem pay9_apply (y : FVec Ideal S1x1x128x128 .f32) (v d : Fin 128) : k0_pay9 y (ix3 0 v d) = y (ix4 0 0 d v) := by
  unfold k0_pay9
  pointwise

open Cert.Kernel5Ideal.Hgrn (ld4 canon_turned) in
theorem given_apply (x : Vec Ideal S1x4x128x128 .f32) (h : Fin 4) (v d : Fin 128) : given x h (ix3 0 v d) = x (ix4 0 h d v : S1x4x128x128.Idx) := by
  match h with
  | 0 => exact (pay6_apply _ v d).trans (ld4 inb_S1x4x128x128_S1x1x128x128_0_0_0_0 0 rfl d v x)
  | 1 => exact (pay7_apply _ v d).trans (ld4 inb_S1x4x128x128_S1x1x128x128_0_1_0_0 1 rfl d v x)
  | 2 => exact (pay8_apply _ v d).trans (ld4 inb_S1x4x128x128_S1x1x128x128_0_2_0_0 2 rfl d v x)
  | 3 => exact (pay9_apply _ v d).trans (ld4 inb_S1x4x128x128_S1x1x128x128_0_3_0_0 3 rfl d v x)

theorem table_eq (l : Vec Ideal S2x512 .f32) (r : Fin 2) (k : Fin 512) : table l (ix2 r k) = l (ix2 r k : S2x512.Idx) := by
  refine congrArg l (funext fun a => Fin.ext ?_)
  match a with
  | ⟨0, _⟩ => show 0 + 1 * r.val = r.val; omega
  | ⟨1, _⟩ => show 0 + 1 * k.val = k.val; omega

theorem tokens_eq (x : Vec Ideal S1x16x2048 .f32) (t : Fin 16) (k : Fin 2048) : tokens x (ix3 0 t k) = x (ix3 0 t k : S1x16x2048.Idx) := by
  refine congrArg x (funext fun a => Fin.ext ?_)
  match a with
  | ⟨0, _⟩ => show 0 + 1 * 0 = 0; omega
  | ⟨1, _⟩ => show 0 + 1 * t.val = t.val; omega
  | ⟨2, _⟩ => show 0 + 1 * k.val = k.val; omega

section
variable (c : Dev nD) (i : grid0.Coords) (a2 : Memref sig .tc .vmem S1x16x2048 .f32) (h2 : a2.IsWhole) (a3 : Memref sig .tc .vmem S2x512 .f32) (h3 : a3.IsWhole)
  (a4 : Memref sig .tc .vmem S1x512 .f32) (h4 : a4.IsWhole) (a5 : Memref sig .tc .vmem S1x4x128x128 .f32) (h5 : a5.IsWhole)
  (a6 : Memref sig .tc .vmem S1x16x512 .f32) (h6 : a6.IsWhole) (a7 : Memref sig .tc .vmem S1x4x128x128 .f32) (h7 : a7.IsWhole)
  (a8 : Memref sig .tc .vmem S4x128x128 .f32) (h8 : a8.IsWhole)
  (x0 : Vec Ideal S1x16x2048 .f32) (x1 : Vec Ideal S2x512 .f32) (x2 : Vec Ideal S1x512 .f32) (x3 : Vec Ideal S1x4x128x128 .f32)

set_option maxHeartbeats 2000000 in
theorem written (hc0 : cond0_0 i) (hc1 : cond0_1 i) (h : Fin 4) (d v : Fin 128) :
    out0_A_5 c i a2 h2 a3 h3 a4 h4 a5 h5 a6 h6 a7 h7 a8 h8 hc0 hc1 x0 x1 x2 x3 (ix4 0 h d v : S1x4x128x128.Idx)
      = metaStep (table x1) (tokens x0) (given x3) h (ix3 0 v d) := by
  unfold out0_A_5
  rw [View.read_writes_junk_eq_canon]
  unfold kernelRun0_A
  dsimp only
  sl_unfold_words
  simp only [View.readAt_eq_ld, h2.read_unread, h3.read_unread, h4.read_unread, h5.read_unread]
  simp (discharger := decide) only [View.readCov_cons_toLoadRect, ↓View.readCov_skip]
  exact (Cert.Kernel5Ideal.Hgrn.canon_turned (turned (metaStep (table x1) (tokens x0) (given x3))) _ h d v).trans (turned_apply _ h d v)

/-- The step advances every head's state by the sixteen tokens. -/
theorem written_eq (hc0 : cond0_0 i) (hc1 : cond0_1 i) (Z : Nat → Fin 2048 → EReal)
    (hx : ∀ (s : Fin 16) (k : Fin 2048), x0 (ix3 0 s k : S1x16x2048.Idx) = Z s.val k) (h : Fin 4) (d v : Fin 128) :
    out0_A_5 c i a2 h2 a3 h3 a4 h4 a5 h5 a6 h6 a7 h7 a8 h8 hc0 hc1 x0 x1 x2 x3 (ix4 0 h d v : S1x4x128x128.Idx)
      = after (gateAt Z (fun r k => x1 (ix2 r k : S2x512.Idx)) (col h d)) (fun t => Z t (colI (col h v))) 16 (x3 (ix4 0 h d v : S1x4x128x128.Idx)) := by
  have et : lrow (table x1) = fun r k => x1 (ix2 r k : S2x512.Idx) := funext fun r => funext fun k => table_eq x1 r k
  rw [written, metaStep_apply _ _ Z (fun s k => (tokens_eq x0 s k).trans (hx s k)), et, given_apply]
end

end Cert.Kernel6Ideal.Hgrn
end
-- ==== Proof.MetaArray.lean ====
module
public import proofs.«01_k».proof.Proof.MetaBlock
public import Idealize.ShloMosaic.Lib.StableHlo.ReadAt
@[expose] public section

/-! The state that the meta tokens' recurrence leaves, entry by entry, over the arguments' launch contents. -/

noncomputable section
namespace Cert.Kernel6Ideal.Hgrn
open Cert.Kernel6Ideal Cert.Kernel6Ideal.Gen Idealize.ShloMosaic Idealize.ShloMosaic.TcCoe Cert.Moe Cert.Merge Cert.Hgrn

/-- The one grid point's blocks: the whole of each array. -/
theorem idx_facts : ∀ t : Fin cfg0.N, (win0_0.index t (0 : Fin 3) = 0 ∧ win0_0.index t (1 : Fin 3) = 0 ∧ win0_0.index t (2 : Fin 3) = 0)
    ∧ (win0_1.index t (0 : Fin 2) = 0 ∧ win0_1.index t (1 : Fin 2) = 0)
    ∧ (win0_3.index t (0 : Fin 4) = 0 ∧ win0_3.index t (1 : Fin 4) = 0 ∧ win0_3.index t (2 : Fin 4) = 0 ∧ win0_3.index t (3 : Fin 4) = 0)
    ∧ (win0_5.index t (0 : Fin 4) = 0 ∧ win0_5.index t (1 : Fin 4) = 0 ∧ win0_5.index t (2 : Fin 4) = 0 ∧ win0_5.index t (3 : Fin 4) = 0) :=
  (by decide +kernel : ∀ t : Fin grid0.N, _)

theorem flush5 : ∀ t : Fin cfg0.N, (cfg0.win 5).flush t = true :=
  (by decide +kernel : ∀ t : Fin grid0.N, _)

/-- The grid point. -/
def point : Fin cfg0.N := (⟨0, by decide⟩ : Fin grid0.N)

theorem emb0 (s : Fin 16) (k : Fin 2048) : ((cfg0.win 0).blk point).view.emb (ix3 0 s k : S1x16x2048.Idx) = (ix3 0 s k : S1x16x2048.Idx) := by
  obtain ⟨⟨e0, e1, e2⟩, -⟩ := idx_facts point
  funext a; apply Fin.ext
  match a with
  | ⟨0, _⟩ => show win0_0.index point (0 : Fin 3) * 1 + 1 * 0 = 0; omega
  | ⟨1, _⟩ => show win0_0.index point (1 : Fin 3) * 16 + 1 * s.val = s.val; omega
  | ⟨2, _⟩ => show win0_0.index point (2 : Fin 3) * 2048 + 1 * k.val = k.val; omega

theorem emb1 (r : Fin 2) (k : Fin 512) : ((cfg0.win 1).blk point).view.emb (ix2 r k : S2x512.Idx) = (ix2 r k : S2x512.Idx) := by
  obtain ⟨-, ⟨e0, e1⟩, -⟩ := idx_facts point
  funext a; apply Fin.ext
  match a with
  | ⟨0, _⟩ => show win0_1.index point (0 : Fin 2) * 2 + 1 * r.val = r.val; omega
  | ⟨1, _⟩ => show win0_1.index point (1 : Fin 2) * 512 + 1 * k.val = k.val; omega

theorem emb3 (h : Fin 4) (d v : Fin 128) : ((cfg0.win 3).blk point).view.emb (ix4 0 h d v : S1x4x128x128.Idx) = (ix4 0 h d v : S1x4x128x128.Idx) := by
  obtain ⟨-, -, ⟨e0, e1, e2, e3⟩, -⟩ := idx_facts point
  funext a; apply Fin.ext
  match a with
  | ⟨0, _⟩ => show win0_3.index point (0 : Fin 4) * 1 + 1 * 0 = 0; omega
  | ⟨1, _⟩ => show win0_3.index point (1 : Fin 4) * 4 + 1 * h.val = h.val; omega
  | ⟨2, _⟩ => show win0_3.index point (2 : Fin 4) * 128 + 1 * d.val = d.val; omega
  | ⟨3, _⟩ => show win0_3.index point (3 : Fin 4) * 128 + 1 * v.val = v.val; omega

theorem emb5 (h : Fin 4) (d v : Fin 128) : ((cfg0.win 5).blk point).view.emb (ix4 0 h d v : S1x4x128x128.Idx) = (ix4 0 h d v : S1x4x128x128.Idx) := by
  obtain ⟨-, -, -, ⟨e0, e1, e2, e3⟩⟩ := idx_facts point
  funext a; apply Fin.ext
  match a with
  | ⟨0, _⟩ => show win0_5.index point (0 : Fin 4) * 1 + 1 * 0 = 0; omega
  | ⟨1, _⟩ => show win0_5.index point (1 : Fin 4) * 4 + 1 * h.val = h.val; omega
  | ⟨2, _⟩ => show win0_5.index point (2 : Fin 4) * 128 + 1 * d.val = d.val; omega
  | ⟨3, _⟩ => show win0_5.index point (3 : Fin 4) * 128 + 1 * v.val = v.val; omega

variable (m : (ℓ : Loc nD τ sig) → Buf (Elt Ideal) ℓ) (c : Dev nD)

/-- The arguments' entries: the meta tokens' columns, which stand first, and the bound's table. -/
def aZ (t : Nat) (k : Fin 2048) : EReal := if h : t < 16 then m ((c.tc : Thread nD τ).loc main_arg0) (ix2 ⟨t, by omega⟩ k : S272x2048.Idx) else 0
def aL (r : Fin 2) (k : Fin 512) : EReal := m ((c.tc : Thread nD τ).loc main_arg1) (ix2 r k : S2x512.Idx)

theorem blk0 (s : Fin 16) (k : Fin 2048) : iblk m c 0 point (ix3 0 s k : S1x16x2048.Idx) = aZ m c s.val k := by
  show V m c main_v6 (((cfg0.win 0).blk point).view.emb (ix3 0 s k : S1x16x2048.Idx)) = _
  rw [emb0]
  have hs := s.isLt
  unfold aZ
  rw [dif_pos hs]
  after_reads_at

theorem blk1 (r : Fin 2) (k : Fin 512) : iblk m c 1 point (ix2 r k : S2x512.Idx) = aL m c r k := by
  show V m c main_arg1 (((cfg0.win 1).blk point).view.emb (ix2 r k : S2x512.Idx)) = _
  rw [emb1]
  after_reads_at
  rfl

/-- The state at the start is zero. -/
theorem blk3 (h : Fin 4) (d v : Fin 128) : iblk m c 3 point (ix4 0 h d v : S1x4x128x128.Idx) = (0 : EReal) := by
  show V m c main_v7 (((cfg0.win 3).blk point).view.emb (ix4 0 h d v : S1x4x128x128.Idx)) = _
  rw [emb3]
  after_reads_at

theorem kernel6 (h : Fin 4) (d v : Fin 128) : (dats m 0 c).arrAt 5 cfg0.N (ix4 0 h d v : S1x4x128x128.Idx)
    = after (gateAt (aZ m c) (aL m c) (col h d)) (fun t => aZ m c t (colI (col h v))) 16 0 := by
  have b0 := congrFun (Cert.Kernel6Ideal.Value.blocks5 m c point (flush5 point)) (ix4 0 h d v : S1x4x128x128.Idx)
  rw [Cert.Kernel6Ideal.Value.flushed5_A] at b0
  have b1 : (dats m 0 c).arrAt 5 cfg0.N (((cfg0.win 5).blk point).view.emb (ix4 0 h d v : S1x4x128x128.Idx)) = _ := b0
  rw [emb5] at b1
  have et : (fun r k => (iblk m c 1 point : Vec Ideal S2x512 .f32) (ix2 r k : S2x512.Idx)) = aL m c := funext fun r => funext fun k => blk1 m c r k
  refine b1.trans ((written_eq c _ _ _ _ _ _ _ _ _ _ _ _ _ _ _ _ _ _ _ _ _ (aZ m c) (blk0 m c) h d v).trans ?_)
  rw [et, blk3]

end Cert.Kernel6Ideal.Hgrn
end
-- ==== Proof.MetaRef.lean ====
module
public import proofs.«01_k».proof.Proof.MetaSum
public import proofs.«01_k».proof.Proof.ChunkSum
public import proofs.«01_k».proof.Proof.HgrnRef
public import proofs.«01_k».proof.Proof.Gen.Reference6Ideal.Run
@[expose] public section

/-! The meta tokens' reference: the running sums over its sixteen tokens, and the state after them. -/

noncomputable section
namespace Cert.Reference6Ideal.Hgrn
open Cert.Reference6Ideal Cert.Reference6Ideal.Gen Cert.Reference6Ideal.Value Idealize.ShloMosaic Cert.Moe Cert.Merge Cert.Hgrn
open scoped BigOperators

theorem window16 (n : Fin 16) (a : Fin 4) : (((⟨4, ![1, 16, 1, 1]⟩ : Shape).rowMajor.symm n) a).val = (![0, n.val, 0, 0] : Fin 4 → Nat) a := by
  revert n a; decide +kernel

/-- A sum over a window that ends at a token is the sum over the tokens up to it. -/
theorem window_sum (y : Nat → EReal) (t : Fin 16) :
    (∑ n : Fin 16, if 15 ≤ t.val + n.val then y (t.val + n.val - 15) else 0) = ∑ i ∈ Finset.range (t.val + 1), y i := by
  have ht := t.isLt
  rw [← Finset.sum_range (fun n => if 15 ≤ t.val + n then y (t.val + n - 15) else 0),
    show Finset.range 16 = Finset.range ((15 - t.val) + (t.val + 1)) from congrArg Finset.range (by omega), Finset.sum_range_add, Finset.sum_eq_zero, zero_add]
  · refine Finset.sum_congr rfl fun i _ => ?_
    rw [if_pos (by omega)]
    exact congrArg y (by omega)
  · intro i hi
    have := Finset.mem_range.mp hi
    exact if_neg (by omega)

theorem running (x : FVec Ideal S1x16x4x128 .f32) (v : FVec Ideal S_ .f32) (hv : ∀ i, v i = 0) (t : Fin 16) (h : Fin 4) (d : Fin 128)
    (y : Nat → EReal) (hy : ∀ s : Fin 16, x (ix4 0 s h d) = y s.val) :
    Host.reduceWindowAdd ![1, 16, 1, 1] ![1, 1, 1, 1] ![0, 15, 0, 0] ![0, 0, 0, 0] x v
      reduceWindows_S1x16x4x128_S1x16x4x128_w1s1p0_0_w16s1p15_0_w1s1p0_0_w1s1p0_0 h_S_ (ix4 0 t h d)
    = ∑ i ∈ Finset.range (t.val + 1), y i := by
  have e0 : Host.reduceWindowAdd ![1, 16, 1, 1] ![1, 1, 1, 1] ![0, 15, 0, 0] ![0, 0, 0, 0] x v
      reduceWindows_S1x16x4x128_S1x16x4x128_w1s1p0_0_w16s1p15_0_w1s1p0_0_w1s1p0_0 h_S_ (ix4 0 t h d)
      = Host.reduceWindow (fun a b : EReal => a + b) ![1, 16, 1, 1] ![1, 1, 1, 1] ![0, 15, 0, 0] ![0, 0, 0, 0] x
    (fun _ : (⟨0, ![]⟩ : Shape).Idx => v (Shape.Idx.first h_S_))
      reduceWindows_S1x16x4x128_S1x16x4x128_w1s1p0_0_w16s1p15_0_w1s1p0_0_w1s1p0_0 (by decide) (ix4 0 t h d) := rfl
  rw [e0, hv]
  have key : ∀ n : Fin 16, ∀ (P : Prop) (D : Decidable P) (hP : P ↔ 15 ≤ t.val + n.val) (w : P → EReal)
      (hw : ∀ p, w p = y (t.val + n.val - 15)), (if hin : P then w hin else (0 : EReal))
        = if 15 ≤ t.val + n.val then y (t.val + n.val - 15) else 0 := by
    intro n P D hP w hw
    by_cases q : P
    · rw [dif_pos q, if_pos (hP.mp q), hw]
    · rw [dif_neg q, if_neg (fun z => q (hP.mpr z))]
  have fold : Host.reduceWindow (fun a b : EReal => a + b) ![1, 16, 1, 1] ![1, 1, 1, 1] ![0, 15, 0, 0] ![0, 0, 0, 0] x
    (fun _ : (⟨0, ![]⟩ : Shape).Idx => (0 : EReal)) reduceWindows_S1x16x4x128_S1x16x4x128_w1s1p0_0_w16s1p15_0_w1s1p0_0_w1s1p0_0 (by decide) (ix4 0 t h d)
    = (List.finRange 16).foldl (fun r n => r + if 15 ≤ t.val + n.val then y (t.val + n.val - 15) else 0) 0 := by
    unfold Host.reduceWindow
    dsimp only
    refine congrArg (fun f => (List.finRange 16).foldl f (0 : EReal)) ?_
    funext r n
    refine congrArg (fun y => r + y) (key n _ _ ?_ _ ?_)
    · constructor
      · intro q
        have := (q 1).1
        have e : ((⟨4, ![1, 16, 1, 1]⟩ : Shape).rowMajor.symm n 1).val = n.val := window16 n 1
        change 15 ≤ t.val * 1 + ((⟨4, ![1, 16, 1, 1]⟩ : Shape).rowMajor.symm n 1).val at this
        omega
      · intro q a
        have e : ((⟨4, ![1, 16, 1, 1]⟩ : Shape).rowMajor.symm n a).val = _ := window16 n a
        have ht := t.isLt; have hh := h.isLt; have hd := d.isLt
        have hn : n.val < 16 := n.isLt
        rw [e]
        match a with
        | 0 => exact ⟨by show 0 ≤ _; omega, by show 0 * 1 + 0 - 0 < 1; omega⟩
        | 1 => exact ⟨by show 15 ≤ t.val * 1 + n.val; omega, by show t.val * 1 + n.val - 15 < 16; omega⟩
        | 2 => exact ⟨by show 0 ≤ _; omega, by show h.val * 1 + 0 - 0 < 4; omega⟩
        | 3 => exact ⟨by show 0 ≤ _; omega, by show d.val * 1 + 0 - 0 < 128; omega⟩
    · intro q
      have ht := t.isLt
      have hn : n.val < 16 := n.isLt
      refine Eq.trans (congrArg x (funext fun a => Fin.ext ?_)) (hy ⟨t.val + n.val - 15, by omega⟩)
      have e : ((⟨4, ![1, 16, 1, 1]⟩ : Shape).rowMajor.symm n a).val = _ := window16 n a
      dsimp only
      rw [e]
      match a with
      | 0 => show 0 * 1 + 0 - 0 = 0; omega
      | 1 => show t.val * 1 + n.val - 15 = t.val + n.val - 15; omega
      | 2 => show h.val * 1 + 0 - 0 = h.val; omega
      | 3 => show d.val * 1 + 0 - 0 = d.val; omega
  rw [fold, Cert.Reference5Ideal.Hgrn.fold_sum, window_sum]

/-- The meta tokens' columns. -/
def colsA (a0 : FVec Ideal S272x2048 .f32) : FVec Ideal S1x16x2048 .f32 :=
  broadcastInDim S1x16x2048 ![1, 2] bcast_S16x2048_S1x16x2048_1_2 (extractStridedSlice S16x2048 ![0, 0] a0 slices_S272x2048_S16x2048_0_0)

/-- What each token keeps. -/
def keeps (a0 : FVec Ideal S272x2048 .f32) (a1 : FVec Ideal S2x512 .f32) : FVec Ideal S1x16x512 .f32 :=
  addf (broadcastInDim S1x16x512 ![0, 1, 2] bcast_S1x1x512_S1x16x512_0_1_2 (broadcastInDim S1x1x512 ![2] bcast_S512_S1x1x512_2 (Cert.Reference4Ideal.Hgrn.bnd a1))) (mulf (broadcastInDim S1x16x512 ![0, 1, 2] bcast_S1x1x512_S1x16x512_0_1_2 (broadcastInDim S1x1x512 ![2] bcast_S512_S1x1x512_2 (subf (broadcastInDim S512 ![] bcast_S_S512 (constant S_ .f32 0x3F800000#32)) (Cert.Reference4Ideal.Hgrn.bnd a1)))) (Host.divf (broadcastInDim S1x16x512 ![] bcast_S_S1x16x512 (constant S_ .f32 0x3F800000#32)) (addf (broadcastInDim S1x16x512 ![] bcast_S_S1x16x512 (constant S_ .f32 0x3F800000#32)) (Host.exp (Host.negf (extractStridedSlice S1x16x512 ![0, 0, 512] (colsA a0) slices_S1x16x2048_S1x16x512_0_0_512))))))

/-- The running sums of its logarithms. -/
def cum (a0 : FVec Ideal S272x2048 .f32) (a1 : FVec Ideal S2x512 .f32) : FVec Ideal S1x16x4x128 .f32 :=
  Host.reduceWindowAdd ![1, 16, 1, 1] ![1, 1, 1, 1] ![0, 15, 0, 0] ![0, 0, 0, 0] (shapeCast _ (Host.log (keeps a0 a1)) shapeCasts_S1x16x512_S1x16x4x128) (broadcastInDim S_ ![] bcast_S_S_ (constant S_ .f32 0x00000000#32)) reduceWindows_S1x16x4x128_S1x16x4x128_w1s1p0_0_w16s1p15_0_w1s1p0_0_w1s1p0_0 h_S_

/-- The keys. -/
def keyA (a0 : FVec Ideal S272x2048 .f32) (a1 : FVec Ideal S2x512 .f32) : FVec Ideal S1x16x4x128 .f32 :=
  shapeCast _ (subf (broadcastInDim S1x16x512 ![] bcast_S_S1x16x512 (constant S_ .f32 0x3F800000#32)) (keeps a0 a1)) shapeCasts_S1x16x512_S1x16x4x128

/-- The last running sum. -/
def lastA (a0 : FVec Ideal S272x2048 .f32) (a1 : FVec Ideal S2x512 .f32) : FVec Ideal S1x4x128 .f32 :=
  shapeCast _ (extractStridedSlice S1x1x4x128 ![0, 15, 0, 0] (cum a0 a1) slices_S1x16x4x128_S1x1x4x128_0_15_0_0) shapeCasts_S1x1x4x128_S1x4x128

/-- The values. -/
def vA (a0 : FVec Ideal S272x2048 .f32) : FVec Ideal S1x16x4x128 .f32 :=
  shapeCast _ (extractStridedSlice S1x16x512 ![0, 0, 1024] (colsA a0) slices_S1x16x2048_S1x16x512_0_0_1024) shapeCasts_S1x16x512_S1x16x4x128

/-- The new state. -/
def stateA (a0 : FVec Ideal S272x2048 .f32) (a1 : FVec Ideal S2x512 .f32) : FVec Ideal S1x4x128x128 .f32 :=
  addf (mulf (broadcastInDim S1x4x128x128 ![0, 1, 2, 3] bcast_S1x4x128x1_S1x4x128x128_0_1_2_3 (broadcastInDim S1x4x128x1 ![0, 1, 2] bcast_S1x4x128_S1x4x128x1_0_1_2 (Host.exp (lastA a0 a1)))) (broadcastInDim S1x4x128x128 ![] bcast_S_S1x4x128x128 (constant S_ .f32 0x00000000#32))) (Host.dotGeneral dot_S1x16x4x128_S1x16x4x128_S1x4x128x128_1_1_3_3_02_02 none (mulf (keyA a0 a1) (Host.exp (subf (broadcastInDim S1x16x4x128 ![0, 1, 2, 3] bcast_S1x1x4x128_S1x16x4x128_0_1_2_3 (broadcastInDim S1x1x4x128 ![0, 2, 3] bcast_S1x4x128_S1x1x4x128_0_2_3 (lastA a0 a1))) (cum a0 a1)))) (vA a0))

section
variable (m : (ℓ : Loc nD τ sig) → Buf (Elt Ideal) ℓ) (c : Dev nD)

theorem state_eq : res_main_v79 m c = stateA (m ((c.tc : Thread nD τ).loc main_arg0)) (m ((c.tc : Thread nD τ).loc main_arg1)) := rfl
end

variable (a0 : FVec Ideal S272x2048 .f32) (a1 : FVec Ideal S2x512 .f32)

/-- The meta tokens' columns, by token. -/
def zA (t : Nat) (k : Fin 2048) : EReal := if h : t < 16 then a0 (ix2 ⟨t, by omega⟩ k) else 0
abbrev lA (r : Fin 2) (k : Fin 512) : EReal := a1 (ix2 r k)

theorem zA_tok (t : Fin 16) (k : Fin 2048) : zA a0 t.val k = a0 (ix2 ⟨t.val, by omega⟩ k) := by
  unfold zA
  rw [dif_pos t.isLt]

theorem colsA_apply (t : Fin 16) (k : Fin 2048) : colsA a0 (ix3 0 t k) = zA a0 t.val k := by
  rw [zA_tok]
  unfold colsA
  pointwise

theorem keeps_apply (t : Fin 16) (k : Fin 512) : keeps a0 a1 (ix3 0 t k) = gateAt (zA a0) (lA a1) k t.val := by
  unfold gateAt
  rw [← colsA_apply]
  unfold keeps
  pointwise
  simp only [Cert.Reference4Ideal.Hgrn.bnd_apply]
  rfl

theorem keyA_apply (t : Fin 16) (h : Fin 4) (d : Fin 128) : keyA a0 a1 (ix4 0 t h d) = (1 - gateAt (zA a0) (lA a1) (col h d) t.val : EReal) := by
  rw [← keeps_apply]
  unfold keyA
  pointwise
  simp only [Nat.mul_comm h.val 128]
  rfl

theorem vA_apply (t : Fin 16) (h : Fin 4) (d : Fin 128) : vA a0 (ix4 0 t h d) = zA a0 t.val (colI (col h d)) := by
  rw [← colsA_apply]
  unfold vA
  pointwise
  simp only [Nat.mul_comm h.val 128]
  rfl

theorem cum_apply (t : Fin 16) (h : Fin 4) (d : Fin 128) : cum a0 a1 (ix4 0 t h d) = sumLog (gateAt (zA a0) (lA a1) (col h d)) (t.val + 1) := by
  unfold cum
  refine running _ _ (fun i => ?_) t h d (fun i => Ideal.log (gateAt (zA a0) (lA a1) (col h d) i)) fun s => ?_
  · pointwise
  · refine Eq.trans ?_ (congrArg Ideal.log (keeps_apply a0 a1 s (col h d)))
    pointwise
    simp only [Nat.mul_comm h.val 128]
    rfl

theorem lastA_apply (h : Fin 4) (d : Fin 128) : lastA a0 a1 (ix3 0 h d) = sumLog (gateAt (zA a0) (lA a1) (col h d)) 16 := by
  unfold lastA
  pointwise
  exact cum_apply a0 a1 15 h d

/-- The reference's state is the recurrence's, sixteen tokens from zero. -/
theorem stateA_apply (h : Fin 4) (d j : Fin 128) :
    stateA a0 a1 (ix4 0 h d j) = after (gateAt (zA a0) (lA a1) (col h d)) (fun t => zA a0 t (colI (col h j))) 16 0 := by
  unfold stateA after
  rw [Finset.sum_range]
  pointwise
  simp only [keyA_apply, vA_apply, lastA_apply, cum_apply, mul_zero, zero_mul, zero_add]
  exact Finset.sum_congr rfl fun s _ => mul_comm _ _

end Cert.Reference6Ideal.Hgrn
end
-- ==== Proof.MetaEqual.lean ====
module
public import proofs.«01_k».proof.Proof.MetaArray
public import proofs.«01_k».proof.Proof.MetaRef
@[expose] public section

/-! The state after the meta tokens and its reference's are the same function of the same arguments, whatever they hold. -/

noncomputable section
namespace Cert.Hgrn
open Idealize.ShloMosaic Idealize.ShloMosaic.TcCoe Cert.Moe

theorem meta_state (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (e0 : m ((c : Thread Cert.Kernel6Ideal.nD Cert.Kernel6Ideal.τ).loc Cert.Kernel6Ideal.main_arg0)
      = m' ((c : Thread Cert.Reference6Ideal.nD Cert.Reference6Ideal.τ).loc Cert.Reference6Ideal.main_arg0))
    (e1 : m ((c : Thread Cert.Kernel6Ideal.nD Cert.Kernel6Ideal.τ).loc Cert.Kernel6Ideal.main_arg1)
      = m' ((c : Thread Cert.Reference6Ideal.nD Cert.Reference6Ideal.τ).loc Cert.Reference6Ideal.main_arg1)) :
    Cert.Reference6Ideal.Value.res_main_v79 m' c = (Cert.Kernel6Ideal.Gen.dats m 0 c).arrAt 5 Cert.Kernel6Ideal.cfg0.N := by
  rw [Cert.Reference6Ideal.Hgrn.state_eq]
  funext q
  obtain ⟨b, h, d, j, rfl⟩ : ∃ (b : Fin 1) (h : Fin 4) (d j : Fin 128), q = (ix4 b h d j : Cert.Kernel6Ideal.S1x4x128x128.Idx) :=
    ⟨q 0, q 1, q 2, q 3, Idealize.ShloMosaic.eq_ix4 q⟩
  obtain rfl : b = 0 := Subsingleton.elim _ _
  refine (Cert.Reference6Ideal.Hgrn.stateA_apply _ _ h d j).trans (Eq.trans ?_ (Cert.Kernel6Ideal.Hgrn.kernel6 m c h d j).symm)
  rw [← e0, ← e1]
  rfl

end Cert.Hgrn
end
-- ==== Proof.lean ====
module

public import proofs.«01_k».proof.Proof.Equal
public import proofs.«01_k».proof.Proof.Finite
public import proofs.«01_k».proof.Proof.MergeEqual
public import proofs.«01_k».proof.Proof.InprojEqual
public import proofs.«01_k».proof.Proof.HgrnEqual
public import proofs.«01_k».proof.Proof.ChunkEqual
public import proofs.«01_k».proof.Proof.MetaEqual
public import proofs.«01_k».proof.Proof.Gen.KernelIdeal.Value
public import proofs.«01_k».proof.Proof.Gen.Kernel2Ideal.Value
public import proofs.«01_k».proof.Proof.Gen.Reference2Ideal.Run
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite3
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite4
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite5
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

noncomputable section

/-! The certificate: each program runs, keeps its arguments and leaves every semaphore counter at zero; and the kernel's
    array is the reference's, from arguments that are real numbers. -/

namespace Cert.Proof

open Idealize.ShloMosaic Idealize.ShloMosaic.TcCoe Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

/-- The reference writes no argument and declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ref_finite : Cert.quiescent_ReferenceIdeal_pre_finite := fun m ρ _ => frame_ref m ρ trivial

/-- The two programs leave the same array. -/
theorem same_array : Cert.algebraic_KernelIdeal_ReferenceIdeal_pre_finite := by
  intro m g m' g' hp ha
  refine ⟨fun c => (Cert.KernelIdeal.Gen.dats m 0 c).arrAt 8 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  obtain ⟨r0, r1, r2, r3, r4, r5, r6⟩ := Cert.Pre_finite.Moe.all_real _ _ _ _ _ _ _ _ _ (hp c)
  obtain ⟨e0, e1, e2, e3, e4, e5, e6, e7, e8⟩ := ha c
  exact Cert.Moe.arrays_eq m c (StableHlo.launchContents m' c) (fun _ _ => r0 _) (fun _ => r1 _) (fun _ _ => r2 _) (fun _ => r3 _)
    (fun _ _ => r4 _) (fun _ => r5 _) (fun _ _ _ => r6 _)
    (funext fun _ => funext fun _ => congrFun e0 _) (funext fun _ => congrFun e1 _)
    (funext fun _ => funext fun _ => congrFun e2 _) (funext fun _ => congrFun e3 _)
    (funext fun _ => funext fun _ => congrFun e4 _) (funext fun _ => congrFun e5 _)
    (funext fun _ => funext fun _ => funext fun _ => congrFun e6 _)
    (funext fun _ => funext fun _ => funext fun _ => congrFun e7 _)
    (funext fun _ => funext fun _ => funext fun _ => congrFun e8 _)

theorem frame_kernel2 : Cert.quiescent_Kernel2 := fun m ρ _ => Cert.Kernel2.Gen.frame m ρ

theorem frame_ideal2 : Cert.quiescent_Kernel2Ideal := fun m ρ _ => Cert.Kernel2Ideal.Gen.frame m ρ

theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The merge's two programs leave the same array. -/
theorem same_array2 : Cert.algebraic_Kernel2Ideal_Reference2Ideal := by
  intro m g m' g' _ ha
  refine ⟨fun c => (Cert.Kernel2Ideal.Gen.dats m 0 c).arrAt 8 Cert.Kernel2Ideal.cfg0.N,
    Cert.Kernel2Ideal.Value.run_blocks m g, ?_⟩
  refine (θ_run Cert.Reference2Ideal.defs _ _).mono (fun r h c => ⟨(h c).1.trans ?_, (h c).2⟩)
    (Cert.Reference2Ideal.Value.run (F := Ideal) m' g')
  obtain ⟨e0, e1, e2, e3, e4, e5, e6, e7⟩ := ha c
  refine Eq.trans ?_ (Cert.Merge.arrays_eq m c)
  rw [← e0, ← e1, ← e2, ← e3, ← e4, ← e5, ← e6, ← e7]
  rfl

theorem frame_kernel3 : Cert.quiescent_Kernel3 := fun m ρ _ => Cert.Kernel3.Gen.frame m ρ

theorem frame_ideal3 : Cert.quiescent_Kernel3Ideal := fun m ρ _ => Cert.Kernel3Ideal.Gen.frame m ρ

theorem frame_ideal3_finite : Cert.quiescent_Kernel3Ideal_pre_finite3 := fun m ρ _ => Cert.Kernel3Ideal.Gen.frame m ρ

theorem frame_ref3 : Cert.quiescent_Reference3Ideal := fun m ρ _ =>
  (θ_run Cert.Reference3Ideal.defs _ _).mono
    (fun r h => ⟨fun c => (h c).2.2.2.2.2.2, sem_eq_zero_of_no_sems (by decide) r.2⟩)
    (Cert.Reference3Ideal.Value.run (F := Ideal) m ρ)

theorem frame_ref3_finite : Cert.quiescent_Reference3Ideal_pre_finite3 := fun m ρ _ => frame_ref3 m ρ trivial

set_option maxHeartbeats 2000000 in
/-- The input projection's two programs leave the same six arrays. -/
theorem same_array3 : Cert.algebraic_Kernel3Ideal_Reference3Ideal_pre_finite3 := by
  intro m g m' g' hp ha
  refine ⟨fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    Cert.Kernel3Ideal.Value.run_blocks m g, ?_⟩
  refine (θ_run Cert.Reference3Ideal.defs _ _).mono (fun r h c => ?_) (Cert.Reference3Ideal.Value.run (F := Ideal) m' g')
  obtain ⟨b0, b1, b2, b3⟩ := Cert.Inproj.all_real _ _ _ _ _ _ (hp c)
  have hz := Cert.Inproj.zrow_real m c b0 b1 b2
  have hw : ∀ x k, Cert.Moe.IsReal (Cert.Kernel3Ideal.Inproj.aWin m c x k) := fun x k => b3 _
  obtain ⟨e0, e1, e2, e3, e4, e5⟩ := ha c
  obtain ⟨r0, r1, r2, r3, r4, r5, rest⟩ := h c
  refine ⟨r0.trans ?_, r1.trans ?_, r2.trans ?_, r3.trans ?_, r4.trans ?_, r5.trans ?_, rest⟩
  · refine Eq.trans ?_ (Cert.Inproj.arrays6 m c)
    rw [← e0, ← e1, ← e2, ← e3]
    rfl
  · refine Eq.trans ?_ (Cert.Inproj.arrays7 m c hz hw)
    unfold Cert.Inproj.zz
    rw [← e0, ← e1, ← e2, ← e3, ← e4]
    rfl
  · refine Eq.trans ?_ (Cert.Inproj.arrays8 m c hz hw)
    unfold Cert.Inproj.zz
    rw [← e0, ← e1, ← e2, ← e3, ← e5]
    rfl
  · refine Eq.trans ?_ (Cert.Inproj.arrays9 m c hz hw)
    unfold Cert.Inproj.zz
    rw [← e0, ← e1, ← e2, ← e3, ← e5]
    rfl
  · refine Eq.trans ?_ (Cert.Inproj.arrays10 m c)
    unfold Cert.Inproj.zz
    rw [← e0, ← e1, ← e2, ← e3]
    rfl
  · refine Eq.trans ?_ (Cert.Inproj.arrays11 m c)
    unfold Cert.Inproj.zz
    rw [← e0, ← e1, ← e2, ← e3]
    rfl

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_ideal4_finite : Cert.quiescent_Kernel4Ideal_pre_finite4 := fun m ρ _ => Cert.Kernel4Ideal.Gen.frame m ρ

theorem frame_ref4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem frame_ref4_finite : Cert.quiescent_Reference4Ideal_pre_finite4 := fun m ρ _ => frame_ref4 m ρ trivial

set_option maxHeartbeats 2000000 in
/-- The recurrence's two programs leave the same two arrays. -/
theorem same_array4 : Cert.algebraic_Kernel4Ideal_Reference4Ideal_pre_finite4 := by
  intro m g m' g' hp ha
  refine ⟨fun c => (Cert.Kernel4Ideal.Gen.dats m 0 c).arrAt 4 Cert.Kernel4Ideal.cfg0.N,
    fun c => (Cert.Kernel4Ideal.Gen.dats m 0 c).arrAt 5 Cert.Kernel4Ideal.cfg0.N,
    Cert.Kernel4Ideal.Value.run_blocks m g, ?_⟩
  refine (θ_run Cert.Reference4Ideal.defs _ _).mono (fun r h c => ?_) (Cert.Reference4Ideal.Value.run (F := Ideal) m' g')
  obtain ⟨bq, bg, b1⟩ := Cert.Hgrn.all_real _ _ _ _ (hp c)
  obtain ⟨e0, e1, e2, e3⟩ := ha c
  obtain ⟨r0, r1, rest⟩ := h c
  refine ⟨r0.trans ?_, r1.trans ?_, rest⟩
  · rw [Cert.Reference4Ideal.Hgrn.token_eq]
    refine Eq.trans ?_ (Cert.Hgrn.arrays4 m c b1 bq bg)
    rw [← e0, ← e1, ← e2, ← e3]
  · rw [Cert.Reference4Ideal.Hgrn.state_eq]
    refine Eq.trans ?_ (Cert.Hgrn.arrays5 m c b1)
    rw [← e0, ← e1, ← e3]

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_ideal5_finite : Cert.quiescent_Kernel5Ideal_pre_finite5 := fun m ρ _ => Cert.Kernel5Ideal.Gen.frame m ρ

theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_ref5_finite : Cert.quiescent_Reference5Ideal_pre_finite5 := fun m ρ _ => frame_ref5 m ρ trivial

/-- The long recurrence's two programs leave the same state. -/
theorem same_array5 : Cert.algebraic_Kernel5Ideal_Reference5Ideal_pre_finite5 := by
  intro m g m' g' hp ha
  refine ⟨fun c => (Cert.Kernel5Ideal.Gen.dats m 0 c).arrAt 5 Cert.Kernel5Ideal.cfg0.N,
    (θ_run Cert.Kernel5Ideal.defs _ _).mono (fun r h c => (h c).2) (Cert.Kernel5Ideal.Value.run_blocks m g), ?_⟩
  refine (θ_run Cert.Reference5Ideal.defs _ _).mono (fun r h c => ⟨(h c).1.trans ?_, (h c).2⟩)
    (Cert.Reference5Ideal.Value.run (F := Ideal) m' g')
  obtain ⟨e0, e1, e2, e3⟩ := ha c
  exact Cert.Hgrn.long_state m m' c (Cert.Hgrn.all_real5 _ _ _ _ (hp c)) e0.symm e1.symm e3.symm

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The meta tokens' two programs leave the same state. -/
theorem same_array6 : Cert.algebraic_Kernel6Ideal_Reference6Ideal := by
  intro m g m' g' _ ha
  refine ⟨fun c => (Cert.Kernel6Ideal.Gen.dats m 0 c).arrAt 5 Cert.Kernel6Ideal.cfg0.N,
    (θ_run Cert.Kernel6Ideal.defs _ _).mono (fun r h c => (h c).2) (Cert.Kernel6Ideal.Value.run_blocks m g), ?_⟩
  refine (θ_run Cert.Reference6Ideal.defs _ _).mono (fun r h c => ⟨(h c).1.trans ?_, (h c).2⟩)
    (Cert.Reference6Ideal.Value.run (F := Ideal) m' g')
  obtain ⟨e0, e1, e2⟩ := ha c
  exact Cert.Hgrn.meta_state m m' c e0.symm e1.symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite3.Gen.facts, Cert.Pre_finite4.Gen.facts, Cert.Pre_finite5.Gen.facts,
  frame_kernel, frame_ideal, frame_ideal_finite, frame_ref, frame_ref_finite,
  frame_kernel2, frame_ideal2, frame_ref2, frame_kernel3, frame_ideal3, frame_ideal3_finite, frame_ref3, frame_ref3_finite,
  frame_kernel4, frame_ideal4, frame_ideal4_finite, frame_ref4, frame_ref4_finite,
  frame_kernel5, frame_ideal5, frame_ideal5_finite, frame_ref5, frame_ref5_finite,
  frame_kernel6, frame_ideal6, frame_ref6,
  trivial, same_array, trivial, same_array2, trivial, same_array3, trivial, same_array4,
  trivial, same_array5, trivial, same_array6⟩

end Cert.Proof

end
